-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  bcast_S_S768x8192 : S_.BroadcastsInDim S768x8192 (![] : Fin 0 → Fin S768x8192.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x8192 .f32) (main_arg2 : FVec F S2x512x8x64 .f32) (main_arg3 : FVec F S2x512x8x64 .f32) (main_arg4 : FVec F S8192x768 .f32) : IVec S2x512x768 1 × IVec S768x8192 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x8192 .f32 := Host.absf main_arg1
  let main_cst_0 : FVec F S_ .f32 := constant S_ .f32 0x7F800000#32
  let main_v4 : FVec F S768x8192 .f32 := broadcastInDim S768x8192 ![] bcast_S_S768x8192 main_cst_0
  let main_v5 : IVec S768x8192 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  bcast_S_S768x8192 : S_.BroadcastsInDim S768x8192 (![] : Fin 0 → Fin S768x8192.rank)
  bcast_S_S2x512x128x64 : S_.BroadcastsInDim S2x512x128x64 (![] : Fin 0 → Fin S2x512x128x64.rank)

variable [Facts]

def fn {F : FTy → Type} [FloatOps F] (main_arg0 : FVec F S2x512x768 .f32) (main_arg1 : FVec F S768x8192 .f32) (main_arg2 : FVec F S2x512x128x64 .f32) (main_arg3 : FVec F S2x512x128x64 .f32) (main_arg4 : FVec F S8192x768 .f32) : IVec S2x512x768 1 × IVec S768x8192 1 × IVec S2x512x128x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x8192 .f32 := Host.absf main_arg1
  let main_cst_0 : FVec F S_ .f32 := constant S_ .f32 0x7F800000#32
  let main_v4 : FVec F S768x8192 .f32 := broadcastInDim S768x8192 ![] bcast_S_S768x8192 main_cst_0
  let main_v5 : IVec S768x8192 1 := cmpf .olt main_v3 main_v4
  let main_v6 : FVec F S2x512x128x64 .f32 := Host.absf main_arg2
  let main_cst_1 : FVec F S_ .f32 := constant S_ .f32 0x7F800000#32
  let main_v7 : FVec F S2x512x128x64 .f32 := broadcastInDim S2x512x128x64 ![] bcast_S_S2x512x128x64 main_cst_1
  let main_v8 : IVec S2x512x128x64 1 := cmpf .olt main_v6 main_v7
  (main_v2, main_v5, main_v8)
-- ==== Kernel.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S768x512 : Shape := ⟨2, ![768, 512]⟩
abbrev S512x768 : Shape := ⟨2, ![512, 768]⟩
abbrev S512x512 : Shape := ⟨2, ![512, 512]⟩
abbrev S16x2x32x768 : Shape := ⟨4, ![16, 2, 32, 768]⟩
abbrev S2x32x768 : Shape := ⟨3, ![2, 32, 768]⟩
abbrev S2 : Shape := ⟨1, ![2]⟩
abbrev S32 : Shape := ⟨1, ![32]⟩
abbrev S_ : Shape := ⟨0, ![]⟩
abbrev S1 : Shape := ⟨1, ![1]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1x1x32x768 : Shape := ⟨4, ![1, 1, 32, 768]⟩
abbrev S32x768 : Shape := ⟨2, ![32, 768]⟩
abbrev S1x32x768 : Shape := ⟨3, ![1, 32, 768]⟩

abbrev nBuf : Space → Nat
  | .hbm => 6
  | .vmem => 12
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x8x64, .f32⟩
  | .hbm, ⟨3, _⟩ => ⟨S2x512x8x64, .f32⟩
  | .hbm, ⟨4, _⟩ => ⟨S8192x768, .f32⟩
  | .hbm, ⟨5, _⟩ => ⟨S2x512x768, .f32⟩
  | .local _ .vmem, ⟨0, _⟩ => ⟨S2x512x768, .f32⟩
  | .local _ .vmem, ⟨1, _⟩ => ⟨S2x512x8x64, .f32⟩
  | .local _ .vmem, ⟨2, _⟩ => ⟨S2x512x8x64, .f32⟩
  | .local _ .vmem, ⟨3, _⟩ => ⟨S2x512x768, .f32⟩
  | .local _ .vmem, ⟨4, _⟩ => ⟨S768x512, .f32⟩
  | .local _ .vmem, ⟨5, _⟩ => ⟨S512x768, .f32⟩
  | .local _ .vmem, ⟨6, _⟩ => ⟨S512x768, .bf16⟩
  | .local _ .vmem, ⟨7, _⟩ => ⟨S512x512, .f32⟩
  | .local _ .vmem, ⟨8, _⟩ => ⟨S2x512x768, .bf16⟩
  | .local _ .vmem, ⟨9, _⟩ => ⟨S16x2x32x768, .bf16⟩
  | .local _ .vmem, ⟨10, _⟩ => ⟨S2x32x768, .bf16⟩
  | .local _ .vmem, ⟨11, _⟩ => ⟨S16x2x32x768, .bf16⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v71 : BitVec 32 := Scalar.addi v2 c1_i32_32
  let c16_i32_33 : BitVec 32 := 16#32
  let c0_i32_34 : BitVec 32 := 0#32
  let v72 : BitVec 1 := Scalar.cmpi .eq c16_i32_33 c0_i32_34
  let c1_i32_35 : BitVec 32 := 1#32
  let v73 : BitVec 32 := Scalar.select v72 c1_i32_35 c16_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let c1_i32_40 : BitVec 32 := 1#32
  let v82 : BitVec 32 := Scalar.muli v81 c1_i32_40
  let v83 : BitVec 32 := Scalar.addi c0_i32_41 v82
  v83.toNat
def k0_dev2 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_42 : BitVec 32 := 2#32
  let v84 : BitVec 32 := Scalar.addi v2 c2_i32_42
  let c16_i32_43 : BitVec 32 := 16#32
  let c0_i32_44 : BitVec 32 := 0#32
  let v85 : BitVec 1 := Scalar.cmpi .eq c16_i32_43 c0_i32_44
  let c1_i32_45 : BitVec 32 := 1#32
  let v86 : BitVec 32 := Scalar.select v85 c1_i32_45 c16_i32_43
  let v87 : BitVec 32 := Scalar.remsi v84 v86
  let c0_i32_47 : BitVec 32 := 0#32
  let v89 : BitVec 1 := Scalar.cmpi .slt v87 c0_i32_47
  let c0_i32_48 : BitVec 32 := 0#32
  let v90 : BitVec 1 := Scalar.cmpi .slt v86 c0_i32_48
  let v91 : BitVec 1 := Scalar.xori v89 v90
  let c0_i32_46 : BitVec 32 := 0#32
  let v88 : BitVec 1 := Scalar.cmpi .ne v87 c0_i32_46
  let v92 : BitVec 1 := Scalar.andi v91 v88
  let v93 : BitVec 32 := Scalar.addi v87 v86
  let v94 : BitVec 32 := Scalar.select v92 v93 v87
  let c1_i32_50 : BitVec 32 := 1#32
  let v95 : BitVec 32 := Scalar.muli v94 c1_i32_50
  let v96 : BitVec 32 := Scalar.addi c0_i32_51 v95
  v96.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v97 : BitVec 32 := Scalar.addi v2 c3_i32
  let c16_i32_52 : BitVec 32 := 16#32
  let c0_i32_53 : BitVec 32 := 0#32
  let v98 : BitVec 1 := Scalar.cmpi .eq c16_i32_52 c0_i32_53
  let c1_i32_54 : BitVec 32 := 1#32
  let v99 : BitVec 32 := Scalar.select v98 c1_i32_54 c16_i32_52
  let v100 : BitVec 32 := Scalar.remsi v97 v99
  let c0_i32_56 : BitVec 32 := 0#32
  let v102 : BitVec 1 := Scalar.cmpi .slt v100 c0_i32_56
  let c0_i32_57 : BitVec 32 := 0#32
  let v103 : BitVec 1 := Scalar.cmpi .slt v99 c0_i32_57
  let v104 : BitVec 1 := Scalar.xori v102 v103
  let c0_i32_55 : BitVec 32 := 0#32
  let v101 : BitVec 1 := Scalar.cmpi .ne v100 c0_i32_55
  let v105 : BitVec 1 := Scalar.andi v104 v101
  let v106 : BitVec 32 := Scalar.addi v100 v99
  let v107 : BitVec 32 := Scalar.select v105 v106 v100
  let c1_i32_59 : BitVec 32 := 1#32
  let v108 : BitVec 32 := Scalar.muli v107 c1_i32_59
  let v109 : BitVec 32 := Scalar.addi c0_i32_60 v108
  v109.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_61 : BitVec 32 := 4#32
  let v110 : BitVec 32 := Scalar.addi v2 c4_i32_61
  let c16_i32_62 : BitVec 32 := 16#32
  let c0_i32_63 : BitVec 32 := 0#32
  let v111 : BitVec 1 := Scalar.cmpi .eq c16_i32_62 c0_i32_63
  let c1_i32_64 : BitVec 32 := 1#32
  let v112 : BitVec 32 := Scalar.select v111 c1_i32_64 c16_i32_62
  let v113 : BitVec 32 := Scalar.remsi v110 v112
  let c0_i32_66 : BitVec 32 := 0#32
  let v115 : BitVec 1 := Scalar.cmpi .slt v113 c0_i32_66
  let c0_i32_67 : BitVec 32 := 0#32
  let v116 : BitVec 1 := Scalar.cmpi .slt v112 c0_i32_67
  let v117 : BitVec 1 := Scalar.xori v115 v116
  let c0_i32_65 : BitVec 32 := 0#32
  let v114 : BitVec 1 := Scalar.cmpi .ne v113 c0_i32_65
  let v118 : BitVec 1 := Scalar.andi v117 v114
  let v119 : BitVec 32 := Scalar.addi v113 v112
  let v120 : BitVec 32 := Scalar.select v118 v119 v113
  let c1_i32_69 : BitVec 32 := 1#32
  let v121 : BitVec 32 := Scalar.muli v120 c1_i32_69
  let v122 : BitVec 32 := Scalar.addi c0_i32_70 v121
  v122.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v123 : BitVec 32 := Scalar.addi v2 c5_i32
  let c16_i32_71 : BitVec 32 := 16#32
  let c0_i32_72 : BitVec 32 := 0#32
  let v124 : BitVec 1 := Scalar.cmpi .eq c16_i32_71 c0_i32_72
  let c1_i32_73 : BitVec 32 := 1#32
  let v125 : BitVec 32 := Scalar.select v124 c1_i32_73 c16_i32_71
  let v126 : BitVec 32 := Scalar.remsi v123 v125
  let c0_i32_75 : BitVec 32 := 0#32
  let v128 : BitVec 1 := Scalar.cmpi .slt v126 c0_i32_75
  let c0_i32_76 : BitVec 32 := 0#32
  let v129 : BitVec 1 := Scalar.cmpi .slt v125 c0_i32_76
  let v130 : BitVec 1 := Scalar.xori v128 v129
  let c0_i32_74 : BitVec 32 := 0#32
  let v127 : BitVec 1 := Scalar.cmpi .ne v126 c0_i32_74
  let v131 : BitVec 1 := Scalar.andi v130 v127
  let v132 : BitVec 32 := Scalar.addi v126 v125
  let v133 : BitVec 32 := Scalar.select v131 v132 v126
  let c1_i32_78 : BitVec 32 := 1#32
  let v134 : BitVec 32 := Scalar.muli v133 c1_i32_78
  let v135 : BitVec 32 := Scalar.addi c0_i32_79 v134
  v135.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v136 : BitVec 32 := Scalar.addi v2 c6_i32
  let c16_i32_80 : BitVec 32 := 16#32
  let c0_i32_81 : BitVec 32 := 0#32
  let v137 : BitVec 1 := Scalar.cmpi .eq c16_i32_80 c0_i32_81
  let c1_i32_82 : BitVec 32 := 1#32
  let v138 : BitVec 32 := Scalar.select v137 c1_i32_82 c16_i32_80
  let v139 : BitVec 32 := Scalar.remsi v136 v138
  let c0_i32_84 : BitVec 32 := 0#32
  let v141 : BitVec 1 := Scalar.cmpi .slt v139 c0_i32_84
  let c0_i32_85 : BitVec 32 := 0#32
  let v142 : BitVec 1 := Scalar.cmpi .slt v138 c0_i32_85
  let v143 : BitVec 1 := Scalar.xori v141 v142
  let c0_i32_83 : BitVec 32 := 0#32
  let v140 : BitVec 1 := Scalar.cmpi .ne v139 c0_i32_83
  let v144 : BitVec 1 := Scalar.andi v143 v140
  let v145 : BitVec 32 := Scalar.addi v139 v138
  let v146 : BitVec 32 := Scalar.select v144 v145 v139
  let c1_i32_87 : BitVec 32 := 1#32
  let v147 : BitVec 32 := Scalar.muli v146 c1_i32_87
  let v148 : BitVec 32 := Scalar.addi c0_i32_88 v147
  v148.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v149 : BitVec 32 := Scalar.addi v2 c7_i32
  let c16_i32_89 : BitVec 32 := 16#32
  let c0_i32_90 : BitVec 32 := 0#32
  let v150 : BitVec 1 := Scalar.cmpi .eq c16_i32_89 c0_i32_90
  let c1_i32_91 : BitVec 32 := 1#32
  let v151 : BitVec 32 := Scalar.select v150 c1_i32_91 c16_i32_89
  let v152 : BitVec 32 := Scalar.remsi v149 v151
  let c0_i32_93 : BitVec 32 := 0#32
  let v154 : BitVec 1 := Scalar.cmpi .slt v152 c0_i32_93
  let c0_i32_94 : BitVec 32 := 0#32
  let v155 : BitVec 1 := Scalar.cmpi .slt v151 c0_i32_94
  let v156 : BitVec 1 := Scalar.xori v154 v155
  let c0_i32_92 : BitVec 32 := 0#32
  let v153 : BitVec 1 := Scalar.cmpi .ne v152 c0_i32_92
  let v157 : BitVec 1 := Scalar.andi v156 v153
  let v158 : BitVec 32 := Scalar.addi v152 v151
  let v159 : BitVec 32 := Scalar.select v157 v158 v152
  let c1_i32_96 : BitVec 32 := 1#32
  let v160 : BitVec 32 := Scalar.muli v159 c1_i32_96
  let v161 : BitVec 32 := Scalar.addi c0_i32_97 v160
  v161.toNat
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v162 : BitVec 32 := Scalar.addi v2 c8_i32_98
  let c16_i32_99 : BitVec 32 := 16#32
  let c0_i32_100 : BitVec 32 := 0#32
  let v163 : BitVec 1 := Scalar.cmpi .eq c16_i32_99 c0_i32_100
  let c1_i32_101 : BitVec 32 := 1#32
  let v164 : BitVec 32 := Scalar.select v163 c1_i32_101 c16_i32_99
  let v165 : BitVec 32 := Scalar.remsi v162 v164
  let c0_i32_103 : BitVec 32 := 0#32
  let v167 : BitVec 1 := Scalar.cmpi .slt v165 c0_i32_103
  let c0_i32_104 : BitVec 32 := 0#32
  let v168 : BitVec 1 := Scalar.cmpi .slt v164 c0_i32_104
  let v169 : BitVec 1 := Scalar.xori v167 v168
  let c0_i32_102 : BitVec 32 := 0#32
  let v166 : BitVec 1 := Scalar.cmpi .ne v165 c0_i32_102
  let v170 : BitVec 1 := Scalar.andi v169 v166
  let v171 : BitVec 32 := Scalar.addi v165 v164
  let v172 : BitVec 32 := Scalar.select v170 v171 v165
  let c1_i32_106 : BitVec 32 := 1#32
  let v173 : BitVec 32 := Scalar.muli v172 c1_i32_106
  let v174 : BitVec 32 := Scalar.addi c0_i32_107 v173
  v174.toNat
def k0_dev9 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v175 : BitVec 32 := Scalar.addi v2 c9_i32
  let c16_i32_108 : BitVec 32 := 16#32
  let c0_i32_109 : BitVec 32 := 0#32
  let v176 : BitVec 1 := Scalar.cmpi .eq c16_i32_108 c0_i32_109
  let c1_i32_110 : BitVec 32 := 1#32
  let v177 : BitVec 32 := Scalar.select v176 c1_i32_110 c16_i32_108
  let v178 : BitVec 32 := Scalar.remsi v175 v177
  let c0_i32_112 : BitVec 32 := 0#32
  let v180 : BitVec 1 := Scalar.cmpi .slt v178 c0_i32_112
  let c0_i32_113 : BitVec 32 := 0#32
  let v181 : BitVec 1 := Scalar.cmpi .slt v177 c0_i32_113
  let v182 : BitVec 1 := Scalar.xori v180 v181
  let c0_i32_111 : BitVec 32 := 0#32
  let v179 : BitVec 1 := Scalar.cmpi .ne v178 c0_i32_111
  let v183 : BitVec 1 := Scalar.andi v182 v179
  let v184 : BitVec 32 := Scalar.addi v178 v177
  let v185 : BitVec 32 := Scalar.select v183 v184 v178
  let c1_i32_115 : BitVec 32 := 1#32
  let v186 : BitVec 32 := Scalar.muli v185 c1_i32_115
  let v187 : BitVec 32 := Scalar.addi c0_i32_116 v186
  v187.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v188 : BitVec 32 := Scalar.addi v2 c10_i32
  let c16_i32_117 : BitVec 32 := 16#32
  let c0_i32_118 : BitVec 32 := 0#32
  let v189 : BitVec 1 := Scalar.cmpi .eq c16_i32_117 c0_i32_118
  let c1_i32_119 : BitVec 32 := 1#32
  let v190 : BitVec 32 := Scalar.select v189 c1_i32_119 c16_i32_117
  let v191 : BitVec 32 := Scalar.remsi v188 v190
  let c0_i32_121 : BitVec 32 := 0#32
  let v193 : BitVec 1 := Scalar.cmpi .slt v191 c0_i32_121
  let c0_i32_122 : BitVec 32 := 0#32
  let v194 : BitVec 1 := Scalar.cmpi .slt v190 c0_i32_122
  let v195 : BitVec 1 := Scalar.xori v193 v194
  let c0_i32_120 : BitVec 32 := 0#32
  let v192 : BitVec 1 := Scalar.cmpi .ne v191 c0_i32_120
  let v196 : BitVec 1 := Scalar.andi v195 v192
  let v197 : BitVec 32 := Scalar.addi v191 v190
  let v198 : BitVec 32 := Scalar.select v196 v197 v191
  let c1_i32_124 : BitVec 32 := 1#32
  let v199 : BitVec 32 := Scalar.muli v198 c1_i32_124
  let v200 : BitVec 32 := Scalar.addi c0_i32_125 v199
  v200.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v201 : BitVec 32 := Scalar.addi v2 c11_i32
  let c16_i32_126 : BitVec 32 := 16#32
  let c0_i32_127 : BitVec 32 := 0#32
  let v202 : BitVec 1 := Scalar.cmpi .eq c16_i32_126 c0_i32_127
  let c1_i32_128 : BitVec 32 := 1#32
  let v203 : BitVec 32 := Scalar.select v202 c1_i32_128 c16_i32_126
  let v204 : BitVec 32 := Scalar.remsi v201 v203
  let c0_i32_130 : BitVec 32 := 0#32
  let v206 : BitVec 1 := Scalar.cmpi .slt v204 c0_i32_130
  let c0_i32_131 : BitVec 32 := 0#32
  let v207 : BitVec 1 := Scalar.cmpi .slt v203 c0_i32_131
  let v208 : BitVec 1 := Scalar.xori v206 v207
  let c0_i32_129 : BitVec 32 := 0#32
  let v205 : BitVec 1 := Scalar.cmpi .ne v204 c0_i32_129
  let v209 : BitVec 1 := Scalar.andi v208 v205
  let v210 : BitVec 32 := Scalar.addi v204 v203
  let v211 : BitVec 32 := Scalar.select v209 v210 v204
  let c1_i32_133 : BitVec 32 := 1#32
  let v212 : BitVec 32 := Scalar.muli v211 c1_i32_133
  let v213 : BitVec 32 := Scalar.addi c0_i32_134 v212
  v213.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v214 : BitVec 32 := Scalar.addi v2 c12_i32
  let c16_i32_135 : BitVec 32 := 16#32
  let c0_i32_136 : BitVec 32 := 0#32
  let v215 : BitVec 1 := Scalar.cmpi .eq c16_i32_135 c0_i32_136
  let c1_i32_137 : BitVec 32 := 1#32
  let v216 : BitVec 32 := Scalar.select v215 c1_i32_137 c16_i32_135
  let v217 : BitVec 32 := Scalar.remsi v214 v216
  let c0_i32_139 : BitVec 32 := 0#32
  let v219 : BitVec 1 := Scalar.cmpi .slt v217 c0_i32_139
  let c0_i32_140 : BitVec 32 := 0#32
  let v220 : BitVec 1 := Scalar.cmpi .slt v216 c0_i32_140
  let v221 : BitVec 1 := Scalar.xori v219 v220
  let c0_i32_138 : BitVec 32 := 0#32
  let v218 : BitVec 1 := Scalar.cmpi .ne v217 c0_i32_138
  let v222 : BitVec 1 := Scalar.andi v221 v218
  let v223 : BitVec 32 := Scalar.addi v217 v216
  let v224 : BitVec 32 := Scalar.select v222 v223 v217
  let c1_i32_142 : BitVec 32 := 1#32
  let v225 : BitVec 32 := Scalar.muli v224 c1_i32_142
  let v226 : BitVec 32 := Scalar.addi c0_i32_143 v225
  v226.toNat
def k0_dev13 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v227 : BitVec 32 := Scalar.addi v2 c13_i32
  let c16_i32_144 : BitVec 32 := 16#32
  let c0_i32_145 : BitVec 32 := 0#32
  let v228 : BitVec 1 := Scalar.cmpi .eq c16_i32_144 c0_i32_145
  let c1_i32_146 : BitVec 32 := 1#32
  let v229 : BitVec 32 := Scalar.select v228 c1_i32_146 c16_i32_144
  let v230 : BitVec 32 := Scalar.remsi v227 v229
  let c0_i32_148 : BitVec 32 := 0#32
  let v232 : BitVec 1 := Scalar.cmpi .slt v230 c0_i32_148
  let c0_i32_149 : BitVec 32 := 0#32
  let v233 : BitVec 1 := Scalar.cmpi .slt v229 c0_i32_149
  let v234 : BitVec 1 := Scalar.xori v232 v233
  let c0_i32_147 : BitVec 32 := 0#32
  let v231 : BitVec 1 := Scalar.cmpi .ne v230 c0_i32_147
  let v235 : BitVec 1 := Scalar.andi v234 v231
  let v236 : BitVec 32 := Scalar.addi v230 v229
  let v237 : BitVec 32 := Scalar.select v235 v236 v230
  let c1_i32_151 : BitVec 32 := 1#32
  let v238 : BitVec 32 := Scalar.muli v237 c1_i32_151
  let v239 : BitVec 32 := Scalar.addi c0_i32_152 v238
  v239.toNat
def k0_dev14 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v240 : BitVec 32 := Scalar.addi v2 c14_i32
  let c16_i32_153 : BitVec 32 := 16#32
  let c0_i32_154 : BitVec 32 := 0#32
  let v241 : BitVec 1 := Scalar.cmpi .eq c16_i32_153 c0_i32_154
  let c1_i32_155 : BitVec 32 := 1#32
  let v242 : BitVec 32 := Scalar.select v241 c1_i32_155 c16_i32_153
  let v243 : BitVec 32 := Scalar.remsi v240 v242
  let c0_i32_157 : BitVec 32 := 0#32
  let v245 : BitVec 1 := Scalar.cmpi .slt v243 c0_i32_157
  let c0_i32_158 : BitVec 32 := 0#32
  let v246 : BitVec 1 := Scalar.cmpi .slt v242 c0_i32_158
  let v247 : BitVec 1 := Scalar.xori v245 v246
  let c0_i32_156 : BitVec 32 := 0#32
  let v244 : BitVec 1 := Scalar.cmpi .ne v243 c0_i32_156
  let v248 : BitVec 1 := Scalar.andi v247 v244
  let v249 : BitVec 32 := Scalar.addi v243 v242
  let v250 : BitVec 32 := Scalar.select v248 v249 v243
  let c1_i32_160 : BitVec 32 := 1#32
  let v251 : BitVec 32 := Scalar.muli v250 c1_i32_160
  let v252 : BitVec 32 := Scalar.addi c0_i32_161 v251
  v252.toNat
def k0_dev15 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v253 : BitVec 32 := Scalar.addi v2 c15_i32
  let c16_i32_162 : BitVec 32 := 16#32
  let c0_i32_163 : BitVec 32 := 0#32
  let v254 : BitVec 1 := Scalar.cmpi .eq c16_i32_162 c0_i32_163
  let c1_i32_164 : BitVec 32 := 1#32
  let v255 : BitVec 32 := Scalar.select v254 c1_i32_164 c16_i32_162
  let v256 : BitVec 32 := Scalar.remsi v253 v255
  let c0_i32_166 : BitVec 32 := 0#32
  let v258 : BitVec 1 := Scalar.cmpi .slt v256 c0_i32_166
  let c0_i32_167 : BitVec 32 := 0#32
  let v259 : BitVec 1 := Scalar.cmpi .slt v255 c0_i32_167
  let v260 : BitVec 1 := Scalar.xori v258 v259
  let c0_i32_165 : BitVec 32 := 0#32
  let v257 : BitVec 1 := Scalar.cmpi .ne v256 c0_i32_165
  let v261 : BitVec 1 := Scalar.andi v260 v257
  let v262 : BitVec 32 := Scalar.addi v256 v255
  let v263 : BitVec 32 := Scalar.select v261 v262 v256
  let c1_i32_169 : BitVec 32 := 1#32
  let v264 : BitVec 32 := Scalar.muli v263 c1_i32_169
  let v265 : BitVec 32 := Scalar.addi c0_i32_170 v264
  v265.toNat
def k0_off1 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v266 : BitVec 32 := Scalar.muli v2 c512_i32
  ![0, v266.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_172 : BitVec 32 := 512#32
  let v267 : BitVec 32 := Scalar.muli v2 c512_i32_172
  let c0_i32_176 : BitVec 32 := 0#32
  ![v267.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_331 : BitVec 32 := 0#32
  let v531 : BitVec 1 := Scalar.cmpi .ne v2 c0_i32_331
  let v532 : BitVec 32 := Scalar.extui v531
  let c0_i32_335 : BitVec 32 := 0#32
  let v533 : BitVec 1 := Scalar.cmpi .ne v532 c0_i32_335
  v533

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_329 : BitVec 32 := 2#32
  let v529 : BitVec 32 := Scalar.muli v2 c2_i32_329
  let c0_i32_330 : BitVec 32 := 0#32
  let v530 : BitVec 32 := Scalar.addi v529 c0_i32_330
  ![v530.toNat]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_333 : BitVec 32 := 0#32
  let c0_i32_1545 : BitVec 32 := 0#32
  let c0_i32_1546 : BitVec 32 := 0#32
  ![v2.toNat, 0, 0, 0]
def k0_dev16 : Nat :=
  let c0_i32_1544 : BitVec 32 := 0#32
  let c0_i32_1542 : BitVec 32 := 0#32
  let c1_i32_1543 : BitVec 32 := 1#32
  let v1645 : BitVec 32 := Scalar.muli c0_i32_1542 c1_i32_1543
  let v1646 : BitVec 32 := Scalar.addi c0_i32_1544 v1645
  v1646.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_338 : BitVec 32 := 1#32
  let v536 : BitVec 1 := Scalar.cmpi .ne v2 c1_i32_338
  let v537 : BitVec 32 := Scalar.extui v536
  let c0_i32_342 : BitVec 32 := 0#32
  let v538 : BitVec 1 := Scalar.cmpi .ne v537 c0_i32_342
  v538

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_336 : BitVec 32 := 2#32
  let v534 : BitVec 32 := Scalar.muli v2 c2_i32_336
  let c0_i32_337 : BitVec 32 := 0#32
  let v535 : BitVec 32 := Scalar.addi v534 c0_i32_337
  ![v535.toNat]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_340 : BitVec 32 := 0#32
  let c0_i32_1545 : BitVec 32 := 0#32
  let c0_i32_1546 : BitVec 32 := 0#32
  ![v2.toNat, 0, 0, 0]
def k0_dev17 : Nat :=
  let c0_i32_1544 : BitVec 32 := 0#32
  let c1_i32_1542 : BitVec 32 := 1#32
  let c1_i32_1543 : BitVec 32 := 1#32
  let v1645 : BitVec 32 := Scalar.muli c1_i32_1542 c1_i32_1543
  let v1646 : BitVec 32 := Scalar.addi c0_i32_1544 v1645
  v1646.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_345 : BitVec 32 := 3#32
  let v541 : BitVec 1 := Scalar.cmpi .ne v2 c3_i32_345
  let v542 : BitVec 32 := Scalar.extui v541
  let c0_i32_349 : BitVec 32 := 0#32
  let v543 : BitVec 1 := Scalar.cmpi .ne v542 c0_i32_349
  v543

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_343 : BitVec 32 := 2#32
  let v539 : BitVec 32 := Scalar.muli v2 c2_i32_343
  let c0_i32_344 : BitVec 32 := 0#32
  let v540 : BitVec 32 := Scalar.addi v539 c0_i32_344
  ![v540.toNat]
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_347 : BitVec 32 := 0#32
  let c0_i32_1545 : BitVec 32 := 0#32
  let c0_i32_1546 : BitVec 32 := 0#32
  ![v2.toNat, 0, 0, 0]
def k0_dev18 : Nat :=
  let c0_i32_1544 : BitVec 32 := 0#32
  let c3_i32_1542 : BitVec 32 := 3#32
  let c1_i32_1543 : BitVec 32 := 1#32
  let v1645 : BitVec 32 := Scalar.muli c3_i32_1542 c1_i32_1543
  let v1646 : BitVec 32 := Scalar.addi c0_i32_1544 v1645
  v1646.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_352 : BitVec 32 := 2#32
  let v546 : BitVec 1 := Scalar.cmpi .ne v2 c2_i32_352
  let v547 : BitVec 32 := Scalar.extui v546
  let c0_i32_356 : BitVec 32 := 0#32
  let v548 : BitVec 1 := Scalar.cmpi .ne v547 c0_i32_356
  v548

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_350 : BitVec 32 := 2#32
  let v544 : BitVec 32 := Scalar.muli v2 c2_i32_350
  let c0_i32_351 : BitVec 32 := 0#32
  let v545 : BitVec 32 := Scalar.addi v544 c0_i32_351
  ![v545.toNat]
def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_354 : BitVec 32 := 0#32
  let c0_i32_1545 : BitVec 32 := 0#32
  let c0_i32_1546 : BitVec 32 := 0#32
  ![v2.toNat, 0, 0, 0]
def k0_dev19 : Nat :=
  let c0_i32_1544 : BitVec 32 := 0#32
  let c2_i32_1542 : BitVec 32 := 2#32
  let c1_i32_1543 : BitVec 32 := 1#32
  let v1645 : BitVec 32 := Scalar.muli c2_i32_1542 c1_i32_1543
  let v1646 : BitVec 32 := Scalar.addi c0_i32_1544 v1645
  v1646.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_359 : BitVec 32 := 4#32
  let v551 : BitVec 1 := Scalar.cmpi .ne v2 c4_i32_359
  let v552 : BitVec 32 := Scalar.extui v551
  let c0_i32_363 : BitVec 32 := 0#32
  let v553 : BitVec 1 := Scalar.cmpi .ne v552 c0_i32_363
  v553

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_357 : BitVec 32 := 2#32
  let v549 : BitVec 32 := Scalar.muli v2 c2_i32_357
  let c0_i32_358 : BitVec 32 := 0#32
  let v550 : BitVec 32 := Scalar.addi v549 c0_i32_358
  ![v550.toNat]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_361 : BitVec 32 := 0#32
  let c0_i32_1545 : BitVec 32 := 0#32
  let c0_i32_1546 : BitVec 32 := 0#32
  ![v2.toNat, 0, 0, 0]
def k0_dev20 : Nat :=
  let c0_i32_1544 : BitVec 32 := 0#32
  let c4_i32_1542 : BitVec 32 := 4#32
  let c1_i32_1543 : BitVec 32 := 1#32
  let v1645 : BitVec 32 := Scalar.muli c4_i32_1542 c1_i32_1543
  let v1646 : BitVec 32 := Scalar.addi c0_i32_1544 v1645
  v1646.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_366 : BitVec 32 := 5#32
  let v556 : BitVec 1 := Scalar.cmpi .ne v2 c5_i32_366
  let v557 : BitVec 32 := Scalar.extui v556
  let c0_i32_370 : BitVec 32 := 0#32
  let v558 : BitVec 1 := Scalar.cmpi .ne v557 c0_i32_370
  v558

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_364 : BitVec 32 := 2#32
  let v554 : BitVec 32 := Scalar.muli v2 c2_i32_364
  let c0_i32_365 : BitVec 32 := 0#32
  let v555 : BitVec 32 := Scalar.addi v554 c0_i32_365
  ![v555.toNat]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_368 : BitVec 32 := 0#32
  let c0_i32_1545 : BitVec 32 := 0#32
  let c0_i32_1546 : BitVec 32 := 0#32
  ![v2.toNat, 0, 0, 0]
def k0_dev21 : Nat :=
  let c0_i32_1544 : BitVec 32 := 0#32
  let c5_i32_1542 : BitVec 32 := 5#32
  let c1_i32_1543 : BitVec 32 := 1#32
  let v1645 : BitVec 32 := Scalar.muli c5_i32_1542 c1_i32_1543
  let v1646 : BitVec 32 := Scalar.addi c0_i32_1544 v1645
  v1646.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_373 : BitVec 32 := 7#32
  let v561 : BitVec 1 := Scalar.cmpi .ne v2 c7_i32_373
  let v562 : BitVec 32 := Scalar.extui v561
  let c0_i32_377 : BitVec 32 := 0#32
  let v563 : BitVec 1 := Scalar.cmpi .ne v562 c0_i32_377
  v563

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_371 : BitVec 32 := 2#32
  let v559 : BitVec 32 := Scalar.muli v2 c2_i32_371
  let c0_i32_372 : BitVec 32 := 0#32
  let v560 : BitVec 32 := Scalar.addi v559 c0_i32_372
  ![v560.toNat]
def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_375 : BitVec 32 := 0#32
  let c0_i32_1545 : BitVec 32 := 0#32
  let c0_i32_1546 : BitVec 32 := 0#32
  ![v2.toNat, 0, 0, 0]
def k0_dev22 : Nat :=
  let c0_i32_1544 : BitVec 32 := 0#32
  let c7_i32_1542 : BitVec 32 := 7#32
  let c1_i32_1543 : BitVec 32 := 1#32
  let v1645 : BitVec 32 := Scalar.muli c7_i32_1542 c1_i32_1543
  let v1646 : BitVec 32 := Scalar.addi c0_i32_1544 v1645
  v1646.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_380 : BitVec 32 := 6#32
  let v566 : BitVec 1 := Scalar.cmpi .ne v2 c6_i32_380
  let v567 : BitVec 32 := Scalar.extui v566
  let c0_i32_384 : BitVec 32 := 0#32
  let v568 : BitVec 1 := Scalar.cmpi .ne v567 c0_i32_384
  v568

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_378 : BitVec 32 := 2#32
  let v564 : BitVec 32 := Scalar.muli v2 c2_i32_378
  let c0_i32_379 : BitVec 32 := 0#32
  let v565 : BitVec 32 := Scalar.addi v564 c0_i32_379
  ![v565.toNat]
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_382 : BitVec 32 := 0#32
  let c0_i32_1545 : BitVec 32 := 0#32
  let c0_i32_1546 : BitVec 32 := 0#32
  ![v2.toNat, 0, 0, 0]
def k0_dev23 : Nat :=
  let c0_i32_1544 : BitVec 32 := 0#32
  let c6_i32_1542 : BitVec 32 := 6#32
  let c1_i32_1543 : BitVec 32 := 1#32
  let v1645 : BitVec 32 := Scalar.muli c6_i32_1542 c1_i32_1543
  let v1646 : BitVec 32 := Scalar.addi c0_i32_1544 v1645
  v1646.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_387 : BitVec 32 := 8#32
  let v571 : BitVec 1 := Scalar.cmpi .ne v2 c8_i32_387
  let v572 : BitVec 32 := Scalar.extui v571
  let c0_i32_391 : BitVec 32 := 0#32
  let v573 : BitVec 1 := Scalar.cmpi .ne v572 c0_i32_391
  v573

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_385 : BitVec 32 := 2#32
  let v569 : BitVec 32 := Scalar.muli v2 c2_i32_385
  let c0_i32_386 : BitVec 32 := 0#32
  let v570 : BitVec 32 := Scalar.addi v569 c0_i32_386
  ![v570.toNat]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_389 : BitVec 32 := 0#32
  let c0_i32_1545 : BitVec 32 := 0#32
  let c0_i32_1546 : BitVec 32 := 0#32
  ![v2.toNat, 0, 0, 0]
def k0_dev24 : Nat :=
  let c0_i32_1544 : BitVec 32 := 0#32
  let c8_i32_1542 : BitVec 32 := 8#32
  let c1_i32_1543 : BitVec 32 := 1#32
  let v1645 : BitVec 32 := Scalar.muli c8_i32_1542 c1_i32_1543
  let v1646 : BitVec 32 := Scalar.addi c0_i32_1544 v1645
  v1646.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_394 : BitVec 32 := 9#32
  let v576 : BitVec 1 := Scalar.cmpi .ne v2 c9_i32_394
  let v577 : BitVec 32 := Scalar.extui v576
  let c0_i32_397 : BitVec 32 := 0#32
  let v578 : BitVec 1 := Scalar.cmpi .ne v577 c0_i32_397
  v578

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_392 : BitVec 32 := 2#32
  let v574 : BitVec 32 := Scalar.muli v2 c2_i32_392
  let c0_i32_393 : BitVec 32 := 0#32
  let v575 : BitVec 32 := Scalar.addi v574 c0_i32_393
  ![v575.toNat]
def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_396 : BitVec 32 := 0#32
  let c0_i32_1545 : BitVec 32 := 0#32
  let c0_i32_1546 : BitVec 32 := 0#32
  ![v2.toNat, 0, 0, 0]
def k0_dev25 : Nat :=
  let c0_i32_1544 : BitVec 32 := 0#32
  let c9_i32_1542 : BitVec 32 := 9#32
  let c1_i32_1543 : BitVec 32 := 1#32
  let v1645 : BitVec 32 := Scalar.muli c9_i32_1542 c1_i32_1543
  let v1646 : BitVec 32 := Scalar.addi c0_i32_1544 v1645
  v1646.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_400 : BitVec 32 := 11#32
  let v581 : BitVec 1 := Scalar.cmpi .ne v2 c11_i32_400
  let v582 : BitVec 32 := Scalar.extui v581
  let c0_i32_403 : BitVec 32 := 0#32
  let v583 : BitVec 1 := Scalar.cmpi .ne v582 c0_i32_403
  v583

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_398 : BitVec 32 := 2#32
  let v579 : BitVec 32 := Scalar.muli v2 c2_i32_398
  let c0_i32_399 : BitVec 32 := 0#32
  let v580 : BitVec 32 := Scalar.addi v579 c0_i32_399
  ![v580.toNat]
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_402 : BitVec 32 := 0#32
  let c0_i32_1545 : BitVec 32 := 0#32
  let c0_i32_1546 : BitVec 32 := 0#32
  ![v2.toNat, 0, 0, 0]
def k0_dev26 : Nat :=
  let c0_i32_1544 : BitVec 32 := 0#32
  let c11_i32_1542 : BitVec 32 := 11#32
  let c1_i32_1543 : BitVec 32 := 1#32
  let v1645 : BitVec 32 := Scalar.muli c11_i32_1542 c1_i32_1543
  let v1646 : BitVec 32 := Scalar.addi c0_i32_1544 v1645
  v1646.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_406 : BitVec 32 := 10#32
  let v586 : BitVec 1 := Scalar.cmpi .ne v2 c10_i32_406
  let v587 : BitVec 32 := Scalar.extui v586
  let c0_i32_409 : BitVec 32 := 0#32
  let v588 : BitVec 1 := Scalar.cmpi .ne v587 c0_i32_409
  v588

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_404 : BitVec 32 := 2#32
  let v584 : BitVec 32 := Scalar.muli v2 c2_i32_404
  let c0_i32_405 : BitVec 32 := 0#32
  let v585 : BitVec 32 := Scalar.addi v584 c0_i32_405
  ![v585.toNat]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_408 : BitVec 32 := 0#32
  let c0_i32_1545 : BitVec 32 := 0#32
  let c0_i32_1546 : BitVec 32 := 0#32
  ![v2.toNat, 0, 0, 0]
def k0_dev27 : Nat :=
  let c0_i32_1544 : BitVec 32 := 0#32
  let c10_i32_1542 : BitVec 32 := 10#32
  let c1_i32_1543 : BitVec 32 := 1#32
  let v1645 : BitVec 32 := Scalar.muli c10_i32_1542 c1_i32_1543
  let v1646 : BitVec 32 := Scalar.addi c0_i32_1544 v1645
  v1646.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_412 : BitVec 32 := 12#32
  let v591 : BitVec 1 := Scalar.cmpi .ne v2 c12_i32_412
  let v592 : BitVec 32 := Scalar.extui v591
  let c0_i32_415 : BitVec 32 := 0#32
  let v593 : BitVec 1 := Scalar.cmpi .ne v592 c0_i32_415
  v593

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_410 : BitVec 32 := 2#32
  let v589 : BitVec 32 := Scalar.muli v2 c2_i32_410
  let c0_i32_411 : BitVec 32 := 0#32
  let v590 : BitVec 32 := Scalar.addi v589 c0_i32_411
  ![v590.toNat]
def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_414 : BitVec 32 := 0#32
  let c0_i32_1545 : BitVec 32 := 0#32
  let c0_i32_1546 : BitVec 32 := 0#32
  ![v2.toNat, 0, 0, 0]
def k0_dev28 : Nat :=
  let c0_i32_1544 : BitVec 32 := 0#32
  let c12_i32_1542 : BitVec 32 := 12#32
  let c1_i32_1543 : BitVec 32 := 1#32
  let v1645 : BitVec 32 := Scalar.muli c12_i32_1542 c1_i32_1543
  let v1646 : BitVec 32 := Scalar.addi c0_i32_1544 v1645
  v1646.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_418 : BitVec 32 := 13#32
  let v596 : BitVec 1 := Scalar.cmpi .ne v2 c13_i32_418
  let v597 : BitVec 32 := Scalar.extui v596
  let c0_i32_421 : BitVec 32 := 0#32
  let v598 : BitVec 1 := Scalar.cmpi .ne v597 c0_i32_421
  v598

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_416 : BitVec 32 := 2#32
  let v594 : BitVec 32 := Scalar.muli v2 c2_i32_416
  let c0_i32_417 : BitVec 32 := 0#32
  let v595 : BitVec 32 := Scalar.addi v594 c0_i32_417
  ![v595.toNat]
def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_420 : BitVec 32 := 0#32
  let c0_i32_1545 : BitVec 32 := 0#32
  let c0_i32_1546 : BitVec 32 := 0#32
  ![v2.toNat, 0, 0, 0]
def k0_dev29 : Nat :=
  let c0_i32_1544 : BitVec 32 := 0#32
  let c13_i32_1542 : BitVec 32 := 13#32
  let c1_i32_1543 : BitVec 32 := 1#32
  let v1645 : BitVec 32 := Scalar.muli c13_i32_1542 c1_i32_1543
  let v1646 : BitVec 32 := Scalar.addi c0_i32_1544 v1645
  v1646.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_424 : BitVec 32 := 15#32
  let v601 : BitVec 1 := Scalar.cmpi .ne v2 c15_i32_424
  let v602 : BitVec 32 := Scalar.extui v601
  let c0_i32_427 : BitVec 32 := 0#32
  let v603 : BitVec 1 := Scalar.cmpi .ne v602 c0_i32_427
  v603

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_422 : BitVec 32 := 2#32
  let v599 : BitVec 32 := Scalar.muli v2 c2_i32_422
  let c0_i32_423 : BitVec 32 := 0#32
  let v600 : BitVec 32 := Scalar.addi v599 c0_i32_423
  ![v600.toNat]
def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_426 : BitVec 32 := 0#32
  let c0_i32_1545 : BitVec 32 := 0#32
  let c0_i32_1546 : BitVec 32 := 0#32
  ![v2.toNat, 0, 0, 0]
def k0_dev30 : Nat :=
  let c0_i32_1544 : BitVec 32 := 0#32
  let c15_i32_1542 : BitVec 32 := 15#32
  let c1_i32_1543 : BitVec 32 := 1#32
  let v1645 : BitVec 32 := Scalar.muli c15_i32_1542 c1_i32_1543
  let v1646 : BitVec 32 := Scalar.addi c0_i32_1544 v1645
  v1646.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_430 : BitVec 32 := 14#32
  let v606 : BitVec 1 := Scalar.cmpi .ne v2 c14_i32_430
  let v607 : BitVec 32 := Scalar.extui v606
  let c0_i32_433 : BitVec 32 := 0#32
  let v608 : BitVec 1 := Scalar.cmpi .ne v607 c0_i32_433
  v608

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_428 : BitVec 32 := 2#32
  let v604 : BitVec 32 := Scalar.muli v2 c2_i32_428
  let c0_i32_429 : BitVec 32 := 0#32
  let v605 : BitVec 32 := Scalar.addi v604 c0_i32_429
  ![v605.toNat]
def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_432 : BitVec 32 := 0#32
  let c0_i32_1545 : BitVec 32 := 0#32
  let c0_i32_1546 : BitVec 32 := 0#32
  ![v2.toNat, 0, 0, 0]
def k0_dev31 : Nat :=
  let c0_i32_1544 : BitVec 32 := 0#32
  let c14_i32_1542 : BitVec 32 := 14#32
  let c1_i32_1543 : BitVec 32 := 1#32
  let v1645 : BitVec 32 := Scalar.muli c14_i32_1542 c1_i32_1543
  let v1646 : BitVec 32 := Scalar.addi c0_i32_1544 v1645
  v1646.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let v775 : BitVec 1 := Scalar.cmpi .ne v2 c0_i32_570
  let v776 : BitVec 32 := Scalar.extui v775
  let c0_i32_574 : BitVec 32 := 0#32
  let v777 : BitVec 1 := Scalar.cmpi .ne v776 c0_i32_574
  v777

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_568 : BitVec 32 := 2#32
  let v773 : BitVec 32 := Scalar.muli v2 c2_i32_568
  let c1_i32_569 : BitVec 32 := 1#32
  let v774 : BitVec 32 := Scalar.addi v773 c1_i32_569
  ![v774.toNat]
def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_572 : BitVec 32 := 1#32
  let c0_i32_1545 : BitVec 32 := 0#32
  let c0_i32_1546 : BitVec 32 := 0#32
  ![v2.toNat, 1, 0, 0]
def k0_dev32 : Nat :=
  let c0_i32_1544 : BitVec 32 := 0#32
  let c0_i32_1542 : BitVec 32 := 0#32
  let c1_i32_1543 : BitVec 32 := 1#32
  let v1645 : BitVec 32 := Scalar.muli c0_i32_1542 c1_i32_1543
  let v1646 : BitVec 32 := Scalar.addi c0_i32_1544 v1645
  v1646.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_577 : BitVec 32 := 1#32
  let v780 : BitVec 1 := Scalar.cmpi .ne v2 c1_i32_577
  let v781 : BitVec 32 := Scalar.extui v780
  let c0_i32_581 : BitVec 32 := 0#32
  let v782 : BitVec 1 := Scalar.cmpi .ne v781 c0_i32_581
  v782

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_575 : BitVec 32 := 2#32
  let v778 : BitVec 32 := Scalar.muli v2 c2_i32_575
  let c1_i32_576 : BitVec 32 := 1#32
  let v779 : BitVec 32 := Scalar.addi v778 c1_i32_576
  ![v779.toNat]
def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_579 : BitVec 32 := 1#32
  let c0_i32_1545 : BitVec 32 := 0#32
  let c0_i32_1546 : BitVec 32 := 0#32
  ![v2.toNat, 1, 0, 0]
def k0_dev33 : Nat :=
  let c0_i32_1544 : BitVec 32 := 0#32
  let c1_i32_1542 : BitVec 32 := 1#32
  let c1_i32_1543 : BitVec 32 := 1#32
  let v1645 : BitVec 32 := Scalar.muli c1_i32_1542 c1_i32_1543
  let v1646 : BitVec 32 := Scalar.addi c0_i32_1544 v1645
  v1646.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_584 : BitVec 32 := 3#32
  let v785 : BitVec 1 := Scalar.cmpi .ne v2 c3_i32_584
  let v786 : BitVec 32 := Scalar.extui v785
  let c0_i32_588 : BitVec 32 := 0#32
  let v787 : BitVec 1 := Scalar.cmpi .ne v786 c0_i32_588
  v787

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_582 : BitVec 32 := 2#32
  let v783 : BitVec 32 := Scalar.muli v2 c2_i32_582
  let c1_i32_583 : BitVec 32 := 1#32
  let v784 : BitVec 32 := Scalar.addi v783 c1_i32_583
  ![v784.toNat]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_586 : BitVec 32 := 1#32
  let c0_i32_1545 : BitVec 32 := 0#32
  let c0_i32_1546 : BitVec 32 := 0#32
  ![v2.toNat, 1, 0, 0]
def k0_dev34 : Nat :=
  let c0_i32_1544 : BitVec 32 := 0#32
  let c3_i32_1542 : BitVec 32 := 3#32
  let c1_i32_1543 : BitVec 32 := 1#32
  let v1645 : BitVec 32 := Scalar.muli c3_i32_1542 c1_i32_1543
  let v1646 : BitVec 32 := Scalar.addi c0_i32_1544 v1645
  v1646.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_591 : BitVec 32 := 2#32
  let v790 : BitVec 1 := Scalar.cmpi .ne v2 c2_i32_591
  let v791 : BitVec 32 := Scalar.extui v790
  let c0_i32_595 : BitVec 32 := 0#32
  let v792 : BitVec 1 := Scalar.cmpi .ne v791 c0_i32_595
  v792

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_589 : BitVec 32 := 2#32
  let v788 : BitVec 32 := Scalar.muli v2 c2_i32_589
  let c1_i32_590 : BitVec 32 := 1#32
  let v789 : BitVec 32 := Scalar.addi v788 c1_i32_590
  ![v789.toNat]
def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_593 : BitVec 32 := 1#32
  let c0_i32_1545 : BitVec 32 := 0#32
  let c0_i32_1546 : BitVec 32 := 0#32
  ![v2.toNat, 1, 0, 0]
def k0_dev35 : Nat :=
  let c0_i32_1544 : BitVec 32 := 0#32
  let c2_i32_1542 : BitVec 32 := 2#32
  let c1_i32_1543 : BitVec 32 := 1#32
  let v1645 : BitVec 32 := Scalar.muli c2_i32_1542 c1_i32_1543
  let v1646 : BitVec 32 := Scalar.addi c0_i32_1544 v1645
  v1646.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_598 : BitVec 32 := 4#32
  let v795 : BitVec 1 := Scalar.cmpi .ne v2 c4_i32_598
  let v796 : BitVec 32 := Scalar.extui v795
  let c0_i32_602 : BitVec 32 := 0#32
  let v797 : BitVec 1 := Scalar.cmpi .ne v796 c0_i32_602
  v797

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_596 : BitVec 32 := 2#32
  let v793 : BitVec 32 := Scalar.muli v2 c2_i32_596
  let c1_i32_597 : BitVec 32 := 1#32
  let v794 : BitVec 32 := Scalar.addi v793 c1_i32_597
  ![v794.toNat]
def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_600 : BitVec 32 := 1#32
  let c0_i32_1545 : BitVec 32 := 0#32
  let c0_i32_1546 : BitVec 32 := 0#32
  ![v2.toNat, 1, 0, 0]
def k0_dev36 : Nat :=
  let c0_i32_1544 : BitVec 32 := 0#32
  let c4_i32_1542 : BitVec 32 := 4#32
  let c1_i32_1543 : BitVec 32 := 1#32
  let v1645 : BitVec 32 := Scalar.muli c4_i32_1542 c1_i32_1543
  let v1646 : BitVec 32 := Scalar.addi c0_i32_1544 v1645
  v1646.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_605 : BitVec 32 := 5#32
  let v800 : BitVec 1 := Scalar.cmpi .ne v2 c5_i32_605
  let v801 : BitVec 32 := Scalar.extui v800
  let c0_i32_609 : BitVec 32 := 0#32
  let v802 : BitVec 1 := Scalar.cmpi .ne v801 c0_i32_609
  v802

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_603 : BitVec 32 := 2#32
  let v798 : BitVec 32 := Scalar.muli v2 c2_i32_603
  let c1_i32_604 : BitVec 32 := 1#32
  let v799 : BitVec 32 := Scalar.addi v798 c1_i32_604
  ![v799.toNat]
def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_607 : BitVec 32 := 1#32
  let c0_i32_1545 : BitVec 32 := 0#32
  let c0_i32_1546 : BitVec 32 := 0#32
  ![v2.toNat, 1, 0, 0]
def k0_dev37 : Nat :=
  let c0_i32_1544 : BitVec 32 := 0#32
  let c5_i32_1542 : BitVec 32 := 5#32
  let c1_i32_1543 : BitVec 32 := 1#32
  let v1645 : BitVec 32 := Scalar.muli c5_i32_1542 c1_i32_1543
  let v1646 : BitVec 32 := Scalar.addi c0_i32_1544 v1645
  v1646.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_612 : BitVec 32 := 7#32
  let v805 : BitVec 1 := Scalar.cmpi .ne v2 c7_i32_612
  let v806 : BitVec 32 := Scalar.extui v805
  let c0_i32_616 : BitVec 32 := 0#32
  let v807 : BitVec 1 := Scalar.cmpi .ne v806 c0_i32_616
  v807

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_610 : BitVec 32 := 2#32
  let v803 : BitVec 32 := Scalar.muli v2 c2_i32_610
  let c1_i32_611 : BitVec 32 := 1#32
  let v804 : BitVec 32 := Scalar.addi v803 c1_i32_611
  ![v804.toNat]
def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_614 : BitVec 32 := 1#32
  let c0_i32_1545 : BitVec 32 := 0#32
  let c0_i32_1546 : BitVec 32 := 0#32
  ![v2.toNat, 1, 0, 0]
def k0_dev38 : Nat :=
  let c0_i32_1544 : BitVec 32 := 0#32
  let c7_i32_1542 : BitVec 32 := 7#32
  let c1_i32_1543 : BitVec 32 := 1#32
  let v1645 : BitVec 32 := Scalar.muli c7_i32_1542 c1_i32_1543
  let v1646 : BitVec 32 := Scalar.addi c0_i32_1544 v1645
  v1646.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_619 : BitVec 32 := 6#32
  let v810 : BitVec 1 := Scalar.cmpi .ne v2 c6_i32_619
  let v811 : BitVec 32 := Scalar.extui v810
  let c0_i32_623 : BitVec 32 := 0#32
  let v812 : BitVec 1 := Scalar.cmpi .ne v811 c0_i32_623
  v812

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_617 : BitVec 32 := 2#32
  let v808 : BitVec 32 := Scalar.muli v2 c2_i32_617
  let c1_i32_618 : BitVec 32 := 1#32
  let v809 : BitVec 32 := Scalar.addi v808 c1_i32_618
  ![v809.toNat]
def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_621 : BitVec 32 := 1#32
  let c0_i32_1545 : BitVec 32 := 0#32
  let c0_i32_1546 : BitVec 32 := 0#32
  ![v2.toNat, 1, 0, 0]
def k0_dev39 : Nat :=
  let c0_i32_1544 : BitVec 32 := 0#32
  let c6_i32_1542 : BitVec 32 := 6#32
  let c1_i32_1543 : BitVec 32 := 1#32
  let v1645 : BitVec 32 := Scalar.muli c6_i32_1542 c1_i32_1543
  let v1646 : BitVec 32 := Scalar.addi c0_i32_1544 v1645
  v1646.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_626 : BitVec 32 := 8#32
  let v815 : BitVec 1 := Scalar.cmpi .ne v2 c8_i32_626
  let v816 : BitVec 32 := Scalar.extui v815
  let c0_i32_629 : BitVec 32 := 0#32
  let v817 : BitVec 1 := Scalar.cmpi .ne v816 c0_i32_629
  v817

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_624 : BitVec 32 := 2#32
  let v813 : BitVec 32 := Scalar.muli v2 c2_i32_624
  let c1_i32_625 : BitVec 32 := 1#32
  let v814 : BitVec 32 := Scalar.addi v813 c1_i32_625
  ![v814.toNat]
def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_628 : BitVec 32 := 1#32
  let c0_i32_1545 : BitVec 32 := 0#32
  let c0_i32_1546 : BitVec 32 := 0#32
  ![v2.toNat, 1, 0, 0]
def k0_dev40 : Nat :=
  let c0_i32_1544 : BitVec 32 := 0#32
  let c8_i32_1542 : BitVec 32 := 8#32
  let c1_i32_1543 : BitVec 32 := 1#32
  let v1645 : BitVec 32 := Scalar.muli c8_i32_1542 c1_i32_1543
  let v1646 : BitVec 32 := Scalar.addi c0_i32_1544 v1645
  v1646.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_632 : BitVec 32 := 9#32
  let v820 : BitVec 1 := Scalar.cmpi .ne v2 c9_i32_632
  let v821 : BitVec 32 := Scalar.extui v820
  let c0_i32_635 : BitVec 32 := 0#32
  let v822 : BitVec 1 := Scalar.cmpi .ne v821 c0_i32_635
  v822

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_630 : BitVec 32 := 2#32
  let v818 : BitVec 32 := Scalar.muli v2 c2_i32_630
  let c1_i32_631 : BitVec 32 := 1#32
  let v819 : BitVec 32 := Scalar.addi v818 c1_i32_631
  ![v819.toNat]
def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_634 : BitVec 32 := 1#32
  let c0_i32_1545 : BitVec 32 := 0#32
  let c0_i32_1546 : BitVec 32 := 0#32
  ![v2.toNat, 1, 0, 0]
def k0_dev41 : Nat :=
  let c0_i32_1544 : BitVec 32 := 0#32
  let c9_i32_1542 : BitVec 32 := 9#32
  let c1_i32_1543 : BitVec 32 := 1#32
  let v1645 : BitVec 32 := Scalar.muli c9_i32_1542 c1_i32_1543
  let v1646 : BitVec 32 := Scalar.addi c0_i32_1544 v1645
  v1646.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_638 : BitVec 32 := 11#32
  let v825 : BitVec 1 := Scalar.cmpi .ne v2 c11_i32_638
  let v826 : BitVec 32 := Scalar.extui v825
  let c0_i32_641 : BitVec 32 := 0#32
  let v827 : BitVec 1 := Scalar.cmpi .ne v826 c0_i32_641
  v827

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_636 : BitVec 32 := 2#32
  let v823 : BitVec 32 := Scalar.muli v2 c2_i32_636
  let c1_i32_637 : BitVec 32 := 1#32
  let v824 : BitVec 32 := Scalar.addi v823 c1_i32_637
  ![v824.toNat]
def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_640 : BitVec 32 := 1#32
  let c0_i32_1545 : BitVec 32 := 0#32
  let c0_i32_1546 : BitVec 32 := 0#32
  ![v2.toNat, 1, 0, 0]
def k0_dev42 : Nat :=
  let c0_i32_1544 : BitVec 32 := 0#32
  let c11_i32_1542 : BitVec 32 := 11#32
  let c1_i32_1543 : BitVec 32 := 1#32
  let v1645 : BitVec 32 := Scalar.muli c11_i32_1542 c1_i32_1543
  let v1646 : BitVec 32 := Scalar.addi c0_i32_1544 v1645
  v1646.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_644 : BitVec 32 := 10#32
  let v830 : BitVec 1 := Scalar.cmpi .ne v2 c10_i32_644
  let v831 : BitVec 32 := Scalar.extui v830
  let c0_i32_647 : BitVec 32 := 0#32
  let v832 : BitVec 1 := Scalar.cmpi .ne v831 c0_i32_647
  v832

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_642 : BitVec 32 := 2#32
  let v828 : BitVec 32 := Scalar.muli v2 c2_i32_642
  let c1_i32_643 : BitVec 32 := 1#32
  let v829 : BitVec 32 := Scalar.addi v828 c1_i32_643
  ![v829.toNat]
def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_646 : BitVec 32 := 1#32
  let c0_i32_1545 : BitVec 32 := 0#32
  let c0_i32_1546 : BitVec 32 := 0#32
  ![v2.toNat, 1, 0, 0]
def k0_dev43 : Nat :=
  let c0_i32_1544 : BitVec 32 := 0#32
  let c10_i32_1542 : BitVec 32 := 10#32
  let c1_i32_1543 : BitVec 32 := 1#32
  let v1645 : BitVec 32 := Scalar.muli c10_i32_1542 c1_i32_1543
  let v1646 : BitVec 32 := Scalar.addi c0_i32_1544 v1645
  v1646.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_650 : BitVec 32 := 12#32
  let v835 : BitVec 1 := Scalar.cmpi .ne v2 c12_i32_650
  let v836 : BitVec 32 := Scalar.extui v835
  let c0_i32_653 : BitVec 32 := 0#32
  let v837 : BitVec 1 := Scalar.cmpi .ne v836 c0_i32_653
  v837

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_648 : BitVec 32 := 2#32
  let v833 : BitVec 32 := Scalar.muli v2 c2_i32_648
  let c1_i32_649 : BitVec 32 := 1#32
  let v834 : BitVec 32 := Scalar.addi v833 c1_i32_649
  ![v834.toNat]
def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_652 : BitVec 32 := 1#32
  let c0_i32_1545 : BitVec 32 := 0#32
  let c0_i32_1546 : BitVec 32 := 0#32
  ![v2.toNat, 1, 0, 0]
def k0_dev44 : Nat :=
  let c0_i32_1544 : BitVec 32 := 0#32
  let c12_i32_1542 : BitVec 32 := 12#32
  let c1_i32_1543 : BitVec 32 := 1#32
  let v1645 : BitVec 32 := Scalar.muli c12_i32_1542 c1_i32_1543
  let v1646 : BitVec 32 := Scalar.addi c0_i32_1544 v1645
  v1646.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_656 : BitVec 32 := 13#32
  let v840 : BitVec 1 := Scalar.cmpi .ne v2 c13_i32_656
  let v841 : BitVec 32 := Scalar.extui v840
  let c0_i32_659 : BitVec 32 := 0#32
  let v842 : BitVec 1 := Scalar.cmpi .ne v841 c0_i32_659
  v842

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_654 : BitVec 32 := 2#32
  let v838 : BitVec 32 := Scalar.muli v2 c2_i32_654
  let c1_i32_655 : BitVec 32 := 1#32
  let v839 : BitVec 32 := Scalar.addi v838 c1_i32_655
  ![v839.toNat]
def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_658 : BitVec 32 := 1#32
  let c0_i32_1545 : BitVec 32 := 0#32
  let c0_i32_1546 : BitVec 32 := 0#32
  ![v2.toNat, 1, 0, 0]
def k0_dev45 : Nat :=
  let c0_i32_1544 : BitVec 32 := 0#32
  let c13_i32_1542 : BitVec 32 := 13#32
  let c1_i32_1543 : BitVec 32 := 1#32
  let v1645 : BitVec 32 := Scalar.muli c13_i32_1542 c1_i32_1543
  let v1646 : BitVec 32 := Scalar.addi c0_i32_1544 v1645
  v1646.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_662 : BitVec 32 := 15#32
  let v845 : BitVec 1 := Scalar.cmpi .ne v2 c15_i32_662
  let v846 : BitVec 32 := Scalar.extui v845
  let c0_i32_665 : BitVec 32 := 0#32
  let v847 : BitVec 1 := Scalar.cmpi .ne v846 c0_i32_665
  v847

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_660 : BitVec 32 := 2#32
  let v843 : BitVec 32 := Scalar.muli v2 c2_i32_660
  let c1_i32_661 : BitVec 32 := 1#32
  let v844 : BitVec 32 := Scalar.addi v843 c1_i32_661
  ![v844.toNat]
def k0_off64 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_664 : BitVec 32 := 1#32
  let c0_i32_1545 : BitVec 32 := 0#32
  let c0_i32_1546 : BitVec 32 := 0#32
  ![v2.toNat, 1, 0, 0]
def k0_dev46 : Nat :=
  let c0_i32_1544 : BitVec 32 := 0#32
  let c15_i32_1542 : BitVec 32 := 15#32
  let c1_i32_1543 : BitVec 32 := 1#32
  let v1645 : BitVec 32 := Scalar.muli c15_i32_1542 c1_i32_1543
  let v1646 : BitVec 32 := Scalar.addi c0_i32_1544 v1645
  v1646.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_668 : BitVec 32 := 14#32
  let v850 : BitVec 1 := Scalar.cmpi .ne v2 c14_i32_668
  let v851 : BitVec 32 := Scalar.extui v850
  let c0_i32_671 : BitVec 32 := 0#32
  let v852 : BitVec 1 := Scalar.cmpi .ne v851 c0_i32_671
  v852

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_666 : BitVec 32 := 2#32
  let v848 : BitVec 32 := Scalar.muli v2 c2_i32_666
  let c1_i32_667 : BitVec 32 := 1#32
  let v849 : BitVec 32 := Scalar.addi v848 c1_i32_667
  ![v849.toNat]
def k0_off66 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_670 : BitVec 32 := 1#32
  let c0_i32_1545 : BitVec 32 := 0#32
  let c0_i32_1546 : BitVec 32 := 0#32
  ![v2.toNat, 1, 0, 0]
def k0_dev47 : Nat :=
  let c0_i32_1544 : BitVec 32 := 0#32
  let c14_i32_1542 : BitVec 32 := 14#32
  let c1_i32_1543 : BitVec 32 := 1#32
  let v1645 : BitVec 32 := Scalar.muli c14_i32_1542 c1_i32_1543
  let v1646 : BitVec 32 := Scalar.addi c0_i32_1544 v1645
  v1646.toNat
def k0_off67 (d0 : Dev nD) : Fin 3 → Nat :=
  let c0_704 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let c1_i32_12 : BitVec 32 := 1#32
  let c0_i32_13 : BitVec 32 := 0#32
  let v33 : BitVec 32 := Scalar.select v32 c1_i32_12 c0_i32_13
  let c2_i32_17 : BitVec 32 := 2#32
  let c2_i32_14 : BitVec 32 := 2#32
  let v34 : BitVec 1 := Scalar.cmpi .sge v12 c2_i32_14
  let c1_i32_15 : BitVec 32 := 1#32
  let c0_i32_16 : BitVec 32 := 0#32
  let v35 : BitVec 32 := Scalar.select v34 c1_i32_15 c0_i32_16
  let v36 : BitVec 32 := Scalar.muli c2_i32_17 v35
  let v37 : BitVec 32 := Scalar.addi v33 v36
  let c4_i32_24 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v29 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.muli c4_i32_24 v47
  let v49 : BitVec 32 := Scalar.addi v37 v48
  let c8_i32 : BitVec 32 := 8#32
  let c0_i32_26 : BitVec 32 := 0#32
  let v51 : BitVec 1 := Scalar.cmpi .sgt v29 c0_i32_26
  let v52 : BitVec 32 := Scalar.extui v51
  let c0_i32_27 : BitVec 32 := 0#32
  let v53 : BitVec 1 := Scalar.cmpi .slt v29 c0_i32_27
  let v54 : BitVec 32 := Scalar.extui v53
  let v55 : BitVec 32 := Scalar.subi v52 v54
  let c2_i32_25 : BitVec 32 := 2#32
  let c0_i32_28 : BitVec 32 := 0#32
  let v56 : BitVec 1 := Scalar.cmpi .sgt c2_i32_25 c0_i32_28
  let v57 : BitVec 32 := Scalar.extui v56
  let c0_i32_29 : BitVec 32 := 0#32
  let v58 : BitVec 1 := Scalar.cmpi .slt c2_i32_25 c0_i32_29
  let v59 : BitVec 32 := Scalar.extui v58
  let v60 : BitVec 32 := Scalar.subi v57 v59
  let v61 : BitVec 1 := Scalar.cmpi .ne v55 v60
  let v62 : BitVec 32 := Scalar.remsi v29 c2_i32_25
  let c0_i32_30 : BitVec 32 := 0#32
  let v63 : BitVec 1 := Scalar.cmpi .ne v62 c0_i32_30
  let v64 : BitVec 1 := Scalar.andi v61 v63
  let v50 : BitVec 32 := Scalar.divsi v29 c2_i32_25
  let c1_i32_31 : BitVec 32 := 1#32
  let v65 : BitVec 32 := Scalar.subi v50 c1_i32_31
  let v66 : BitVec 32 := Scalar.select v64 v65 v50
  let v67 : BitVec 32 := Scalar.muli c8_i32 v66
  let v68 : BitVec 32 := Scalar.addi v49 v67
  let c32_i32 : BitVec 32 := 32#32
  let v69 : BitVec 32 := Scalar.muli v68 c32_i32
  let v901 : Index := Scalar.indexCast v69
  let c0_705 : Index := 0#32
  ![0, v901.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_801 : BitVec 32 := 0#32
  let v1027 : BitVec 1 := Scalar.cmpi .ne v2 c0_i32_801
  let v1028 : BitVec 32 := Scalar.extui v1027
  let c0_i32_805 : BitVec 32 := 0#32
  let v1029 : BitVec 1 := Scalar.cmpi .ne v1028 c0_i32_805
  v1029

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_799 : BitVec 32 := 2#32
  let v1025 : BitVec 32 := Scalar.muli v2 c2_i32_799
  let c0_i32_800 : BitVec 32 := 0#32
  let v1026 : BitVec 32 := Scalar.addi v1025 c0_i32_800
  ![v1026.toNat]
def k0_off69 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_803 : BitVec 32 := 0#32
  let c0_i32_1545 : BitVec 32 := 0#32
  let c0_i32_1546 : BitVec 32 := 0#32
  ![v2.toNat, 0, 0, 0]
def k0_dev48 : Nat :=
  let c0_i32_1544 : BitVec 32 := 0#32
  let c0_i32_1542 : BitVec 32 := 0#32
  let c1_i32_1543 : BitVec 32 := 1#32
  let v1645 : BitVec 32 := Scalar.muli c0_i32_1542 c1_i32_1543
  let v1646 : BitVec 32 := Scalar.addi c0_i32_1544 v1645
  v1646.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_808 : BitVec 32 := 1#32
  let v1032 : BitVec 1 := Scalar.cmpi .ne v2 c1_i32_808
  let v1033 : BitVec 32 := Scalar.extui v1032
  let c0_i32_812 : BitVec 32 := 0#32
  let v1034 : BitVec 1 := Scalar.cmpi .ne v1033 c0_i32_812
  v1034

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_806 : BitVec 32 := 2#32
  let v1030 : BitVec 32 := Scalar.muli v2 c2_i32_806
  let c0_i32_807 : BitVec 32 := 0#32
  let v1031 : BitVec 32 := Scalar.addi v1030 c0_i32_807
  ![v1031.toNat]
def k0_off71 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_810 : BitVec 32 := 0#32
  let c0_i32_1545 : BitVec 32 := 0#32
  let c0_i32_1546 : BitVec 32 := 0#32
  ![v2.toNat, 0, 0, 0]
def k0_dev49 : Nat :=
  let c0_i32_1544 : BitVec 32 := 0#32
  let c1_i32_1542 : BitVec 32 := 1#32
  let c1_i32_1543 : BitVec 32 := 1#32
  let v1645 : BitVec 32 := Scalar.muli c1_i32_1542 c1_i32_1543
  let v1646 : BitVec 32 := Scalar.addi c0_i32_1544 v1645
  v1646.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_815 : BitVec 32 := 2#32
  let v1037 : BitVec 1 := Scalar.cmpi .ne v2 c2_i32_815
  let v1038 : BitVec 32 := Scalar.extui v1037
  let c0_i32_819 : BitVec 32 := 0#32
  let v1039 : BitVec 1 := Scalar.cmpi .ne v1038 c0_i32_819
  v1039

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_813 : BitVec 32 := 2#32
  let v1035 : BitVec 32 := Scalar.muli v2 c2_i32_813
  let c0_i32_814 : BitVec 32 := 0#32
  let v1036 : BitVec 32 := Scalar.addi v1035 c0_i32_814
  ![v1036.toNat]
def k0_off73 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_817 : BitVec 32 := 0#32
  let c0_i32_1545 : BitVec 32 := 0#32
  let c0_i32_1546 : BitVec 32 := 0#32
  ![v2.toNat, 0, 0, 0]
def k0_dev50 : Nat :=
  let c0_i32_1544 : BitVec 32 := 0#32
  let c2_i32_1542 : BitVec 32 := 2#32
  let c1_i32_1543 : BitVec 32 := 1#32
  let v1645 : BitVec 32 := Scalar.muli c2_i32_1542 c1_i32_1543
  let v1646 : BitVec 32 := Scalar.addi c0_i32_1544 v1645
  v1646.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_822 : BitVec 32 := 3#32
  let v1042 : BitVec 1 := Scalar.cmpi .ne v2 c3_i32_822
  let v1043 : BitVec 32 := Scalar.extui v1042
  let c0_i32_826 : BitVec 32 := 0#32
  let v1044 : BitVec 1 := Scalar.cmpi .ne v1043 c0_i32_826
  v1044

def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_820 : BitVec 32 := 2#32
  let v1040 : BitVec 32 := Scalar.muli v2 c2_i32_820
  let c0_i32_821 : BitVec 32 := 0#32
  let v1041 : BitVec 32 := Scalar.addi v1040 c0_i32_821
  ![v1041.toNat]
def k0_off75 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_824 : BitVec 32 := 0#32
  let c0_i32_1545 : BitVec 32 := 0#32
  let c0_i32_1546 : BitVec 32 := 0#32
  ![v2.toNat, 0, 0, 0]
def k0_dev51 : Nat :=
  let c0_i32_1544 : BitVec 32 := 0#32
  let c3_i32_1542 : BitVec 32 := 3#32
  let c1_i32_1543 : BitVec 32 := 1#32
  let v1645 : BitVec 32 := Scalar.muli c3_i32_1542 c1_i32_1543
  let v1646 : BitVec 32 := Scalar.addi c0_i32_1544 v1645
  v1646.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_829 : BitVec 32 := 4#32
  let v1047 : BitVec 1 := Scalar.cmpi .ne v2 c4_i32_829
  let v1048 : BitVec 32 := Scalar.extui v1047
  let c0_i32_833 : BitVec 32 := 0#32
  let v1049 : BitVec 1 := Scalar.cmpi .ne v1048 c0_i32_833
  v1049

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_827 : BitVec 32 := 2#32
  let v1045 : BitVec 32 := Scalar.muli v2 c2_i32_827
  let c0_i32_828 : BitVec 32 := 0#32
  let v1046 : BitVec 32 := Scalar.addi v1045 c0_i32_828
  ![v1046.toNat]
def k0_off77 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_831 : BitVec 32 := 0#32
  let c0_i32_1545 : BitVec 32 := 0#32
  let c0_i32_1546 : BitVec 32 := 0#32
  ![v2.toNat, 0, 0, 0]
def k0_dev52 : Nat :=
  let c0_i32_1544 : BitVec 32 := 0#32
  let c4_i32_1542 : BitVec 32 := 4#32
  let c1_i32_1543 : BitVec 32 := 1#32
  let v1645 : BitVec 32 := Scalar.muli c4_i32_1542 c1_i32_1543
  let v1646 : BitVec 32 := Scalar.addi c0_i32_1544 v1645
  v1646.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_836 : BitVec 32 := 5#32
  let v1052 : BitVec 1 := Scalar.cmpi .ne v2 c5_i32_836
  let v1053 : BitVec 32 := Scalar.extui v1052
  let c0_i32_840 : BitVec 32 := 0#32
  let v1054 : BitVec 1 := Scalar.cmpi .ne v1053 c0_i32_840
  v1054

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_834 : BitVec 32 := 2#32
  let v1050 : BitVec 32 := Scalar.muli v2 c2_i32_834
  let c0_i32_835 : BitVec 32 := 0#32
  let v1051 : BitVec 32 := Scalar.addi v1050 c0_i32_835
  ![v1051.toNat]
def k0_off79 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_838 : BitVec 32 := 0#32
  let c0_i32_1545 : BitVec 32 := 0#32
  let c0_i32_1546 : BitVec 32 := 0#32
  ![v2.toNat, 0, 0, 0]
def k0_dev53 : Nat :=
  let c0_i32_1544 : BitVec 32 := 0#32
  let c5_i32_1542 : BitVec 32 := 5#32
  let c1_i32_1543 : BitVec 32 := 1#32
  let v1645 : BitVec 32 := Scalar.muli c5_i32_1542 c1_i32_1543
  let v1646 : BitVec 32 := Scalar.addi c0_i32_1544 v1645
  v1646.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_843 : BitVec 32 := 6#32
  let v1057 : BitVec 1 := Scalar.cmpi .ne v2 c6_i32_843
  let v1058 : BitVec 32 := Scalar.extui v1057
  let c0_i32_847 : BitVec 32 := 0#32
  let v1059 : BitVec 1 := Scalar.cmpi .ne v1058 c0_i32_847
  v1059

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_841 : BitVec 32 := 2#32
  let v1055 : BitVec 32 := Scalar.muli v2 c2_i32_841
  let c0_i32_842 : BitVec 32 := 0#32
  let v1056 : BitVec 32 := Scalar.addi v1055 c0_i32_842
  ![v1056.toNat]
def k0_off81 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_845 : BitVec 32 := 0#32
  let c0_i32_1545 : BitVec 32 := 0#32
  let c0_i32_1546 : BitVec 32 := 0#32
  ![v2.toNat, 0, 0, 0]
def k0_dev54 : Nat :=
  let c0_i32_1544 : BitVec 32 := 0#32
  let c6_i32_1542 : BitVec 32 := 6#32
  let c1_i32_1543 : BitVec 32 := 1#32
  let v1645 : BitVec 32 := Scalar.muli c6_i32_1542 c1_i32_1543
  let v1646 : BitVec 32 := Scalar.addi c0_i32_1544 v1645
  v1646.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_850 : BitVec 32 := 7#32
  let v1062 : BitVec 1 := Scalar.cmpi .ne v2 c7_i32_850
  let v1063 : BitVec 32 := Scalar.extui v1062
  let c0_i32_854 : BitVec 32 := 0#32
  let v1064 : BitVec 1 := Scalar.cmpi .ne v1063 c0_i32_854
  v1064

def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_848 : BitVec 32 := 2#32
  let v1060 : BitVec 32 := Scalar.muli v2 c2_i32_848
  let c0_i32_849 : BitVec 32 := 0#32
  let v1061 : BitVec 32 := Scalar.addi v1060 c0_i32_849
  ![v1061.toNat]
def k0_off83 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_852 : BitVec 32 := 0#32
  let c0_i32_1545 : BitVec 32 := 0#32
  let c0_i32_1546 : BitVec 32 := 0#32
  ![v2.toNat, 0, 0, 0]
def k0_dev55 : Nat :=
  let c0_i32_1544 : BitVec 32 := 0#32
  let c7_i32_1542 : BitVec 32 := 7#32
  let c1_i32_1543 : BitVec 32 := 1#32
  let v1645 : BitVec 32 := Scalar.muli c7_i32_1542 c1_i32_1543
  let v1646 : BitVec 32 := Scalar.addi c0_i32_1544 v1645
  v1646.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_857 : BitVec 32 := 8#32
  let v1067 : BitVec 1 := Scalar.cmpi .ne v2 c8_i32_857
  let v1068 : BitVec 32 := Scalar.extui v1067
  let c0_i32_861 : BitVec 32 := 0#32
  let v1069 : BitVec 1 := Scalar.cmpi .ne v1068 c0_i32_861
  v1069

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_855 : BitVec 32 := 2#32
  let v1065 : BitVec 32 := Scalar.muli v2 c2_i32_855
  let c0_i32_856 : BitVec 32 := 0#32
  let v1066 : BitVec 32 := Scalar.addi v1065 c0_i32_856
  ![v1066.toNat]
def k0_off85 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_859 : BitVec 32 := 0#32
  let c0_i32_1545 : BitVec 32 := 0#32
  let c0_i32_1546 : BitVec 32 := 0#32
  ![v2.toNat, 0, 0, 0]
def k0_dev56 : Nat :=
  let c0_i32_1544 : BitVec 32 := 0#32
  let c8_i32_1542 : BitVec 32 := 8#32
  let c1_i32_1543 : BitVec 32 := 1#32
  let v1645 : BitVec 32 := Scalar.muli c8_i32_1542 c1_i32_1543
  let v1646 : BitVec 32 := Scalar.addi c0_i32_1544 v1645
  v1646.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_864 : BitVec 32 := 9#32
  let v1072 : BitVec 1 := Scalar.cmpi .ne v2 c9_i32_864
  let v1073 : BitVec 32 := Scalar.extui v1072
  let c0_i32_868 : BitVec 32 := 0#32
  let v1074 : BitVec 1 := Scalar.cmpi .ne v1073 c0_i32_868
  v1074

def k0_off86 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_862 : BitVec 32 := 2#32
  let v1070 : BitVec 32 := Scalar.muli v2 c2_i32_862
  let c0_i32_863 : BitVec 32 := 0#32
  let v1071 : BitVec 32 := Scalar.addi v1070 c0_i32_863
  ![v1071.toNat]
def k0_off87 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_866 : BitVec 32 := 0#32
  let c0_i32_1545 : BitVec 32 := 0#32
  let c0_i32_1546 : BitVec 32 := 0#32
  ![v2.toNat, 0, 0, 0]
def k0_dev57 : Nat :=
  let c0_i32_1544 : BitVec 32 := 0#32
  let c9_i32_1542 : BitVec 32 := 9#32
  let c1_i32_1543 : BitVec 32 := 1#32
  let v1645 : BitVec 32 := Scalar.muli c9_i32_1542 c1_i32_1543
  let v1646 : BitVec 32 := Scalar.addi c0_i32_1544 v1645
  v1646.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_871 : BitVec 32 := 10#32
  let v1077 : BitVec 1 := Scalar.cmpi .ne v2 c10_i32_871
  let v1078 : BitVec 32 := Scalar.extui v1077
  let c0_i32_875 : BitVec 32 := 0#32
  let v1079 : BitVec 1 := Scalar.cmpi .ne v1078 c0_i32_875
  v1079

def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_869 : BitVec 32 := 2#32
  let v1075 : BitVec 32 := Scalar.muli v2 c2_i32_869
  let c0_i32_870 : BitVec 32 := 0#32
  let v1076 : BitVec 32 := Scalar.addi v1075 c0_i32_870
  ![v1076.toNat]
def k0_off89 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_873 : BitVec 32 := 0#32
  let c0_i32_1545 : BitVec 32 := 0#32
  let c0_i32_1546 : BitVec 32 := 0#32
  ![v2.toNat, 0, 0, 0]
def k0_dev58 : Nat :=
  let c0_i32_1544 : BitVec 32 := 0#32
  let c10_i32_1542 : BitVec 32 := 10#32
  let c1_i32_1543 : BitVec 32 := 1#32
  let v1645 : BitVec 32 := Scalar.muli c10_i32_1542 c1_i32_1543
  let v1646 : BitVec 32 := Scalar.addi c0_i32_1544 v1645
  v1646.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_878 : BitVec 32 := 11#32
  let v1082 : BitVec 1 := Scalar.cmpi .ne v2 c11_i32_878
  let v1083 : BitVec 32 := Scalar.extui v1082
  let c0_i32_882 : BitVec 32 := 0#32
  let v1084 : BitVec 1 := Scalar.cmpi .ne v1083 c0_i32_882
  v1084

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_876 : BitVec 32 := 2#32
  let v1080 : BitVec 32 := Scalar.muli v2 c2_i32_876
  let c0_i32_877 : BitVec 32 := 0#32
  let v1081 : BitVec 32 := Scalar.addi v1080 c0_i32_877
  ![v1081.toNat]
def k0_off91 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_880 : BitVec 32 := 0#32
  let c0_i32_1545 : BitVec 32 := 0#32
  let c0_i32_1546 : BitVec 32 := 0#32
  ![v2.toNat, 0, 0, 0]
def k0_dev59 : Nat :=
  let c0_i32_1544 : BitVec 32 := 0#32
  let c11_i32_1542 : BitVec 32 := 11#32
  let c1_i32_1543 : BitVec 32 := 1#32
  let v1645 : BitVec 32 := Scalar.muli c11_i32_1542 c1_i32_1543
  let v1646 : BitVec 32 := Scalar.addi c0_i32_1544 v1645
  v1646.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_885 : BitVec 32 := 12#32
  let v1087 : BitVec 1 := Scalar.cmpi .ne v2 c12_i32_885
  let v1088 : BitVec 32 := Scalar.extui v1087
  let c0_i32_889 : BitVec 32 := 0#32
  let v1089 : BitVec 1 := Scalar.cmpi .ne v1088 c0_i32_889
  v1089

def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_883 : BitVec 32 := 2#32
  let v1085 : BitVec 32 := Scalar.muli v2 c2_i32_883
  let c0_i32_884 : BitVec 32 := 0#32
  let v1086 : BitVec 32 := Scalar.addi v1085 c0_i32_884
  ![v1086.toNat]
def k0_off93 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_887 : BitVec 32 := 0#32
  let c0_i32_1545 : BitVec 32 := 0#32
  let c0_i32_1546 : BitVec 32 := 0#32
  ![v2.toNat, 0, 0, 0]
def k0_dev60 : Nat :=
  let c0_i32_1544 : BitVec 32 := 0#32
  let c12_i32_1542 : BitVec 32 := 12#32
  let c1_i32_1543 : BitVec 32 := 1#32
  let v1645 : BitVec 32 := Scalar.muli c12_i32_1542 c1_i32_1543
  let v1646 : BitVec 32 := Scalar.addi c0_i32_1544 v1645
  v1646.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_892 : BitVec 32 := 13#32
  let v1092 : BitVec 1 := Scalar.cmpi .ne v2 c13_i32_892
  let v1093 : BitVec 32 := Scalar.extui v1092
  let c0_i32_896 : BitVec 32 := 0#32
  let v1094 : BitVec 1 := Scalar.cmpi .ne v1093 c0_i32_896
  v1094

def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_890 : BitVec 32 := 2#32
  let v1090 : BitVec 32 := Scalar.muli v2 c2_i32_890
  let c0_i32_891 : BitVec 32 := 0#32
  let v1091 : BitVec 32 := Scalar.addi v1090 c0_i32_891
  ![v1091.toNat]
def k0_off95 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_894 : BitVec 32 := 0#32
  let c0_i32_1545 : BitVec 32 := 0#32
  let c0_i32_1546 : BitVec 32 := 0#32
  ![v2.toNat, 0, 0, 0]
def k0_dev61 : Nat :=
  let c0_i32_1544 : BitVec 32 := 0#32
  let c13_i32_1542 : BitVec 32 := 13#32
  let c1_i32_1543 : BitVec 32 := 1#32
  let v1645 : BitVec 32 := Scalar.muli c13_i32_1542 c1_i32_1543
  let v1646 : BitVec 32 := Scalar.addi c0_i32_1544 v1645
  v1646.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_899 : BitVec 32 := 14#32
  let v1097 : BitVec 1 := Scalar.cmpi .ne v2 c14_i32_899
  let v1098 : BitVec 32 := Scalar.extui v1097
  let c0_i32_903 : BitVec 32 := 0#32
  let v1099 : BitVec 1 := Scalar.cmpi .ne v1098 c0_i32_903
  v1099

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_897 : BitVec 32 := 2#32
  let v1095 : BitVec 32 := Scalar.muli v2 c2_i32_897
  let c0_i32_898 : BitVec 32 := 0#32
  let v1096 : BitVec 32 := Scalar.addi v1095 c0_i32_898
  ![v1096.toNat]
def k0_off97 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_901 : BitVec 32 := 0#32
  let c0_i32_1545 : BitVec 32 := 0#32
  let c0_i32_1546 : BitVec 32 := 0#32
  ![v2.toNat, 0, 0, 0]
def k0_dev62 : Nat :=
  let c0_i32_1544 : BitVec 32 := 0#32
  let c14_i32_1542 : BitVec 32 := 14#32
  let c1_i32_1543 : BitVec 32 := 1#32
  let v1645 : BitVec 32 := Scalar.muli c14_i32_1542 c1_i32_1543
  let v1646 : BitVec 32 := Scalar.addi c0_i32_1544 v1645
  v1646.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_906 : BitVec 32 := 15#32
  let v1102 : BitVec 1 := Scalar.cmpi .ne v2 c15_i32_906
  let v1103 : BitVec 32 := Scalar.extui v1102
  let c0_i32_910 : BitVec 32 := 0#32
  let v1104 : BitVec 1 := Scalar.cmpi .ne v1103 c0_i32_910
  v1104

def k0_off98 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_904 : BitVec 32 := 2#32
  let v1100 : BitVec 32 := Scalar.muli v2 c2_i32_904
  let c0_i32_905 : BitVec 32 := 0#32
  let v1101 : BitVec 32 := Scalar.addi v1100 c0_i32_905
  ![v1101.toNat]
def k0_off99 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_908 : BitVec 32 := 0#32
  let c0_i32_1545 : BitVec 32 := 0#32
  let c0_i32_1546 : BitVec 32 := 0#32
  ![v2.toNat, 0, 0, 0]
def k0_dev63 : Nat :=
  let c0_i32_1544 : BitVec 32 := 0#32
  let c15_i32_1542 : BitVec 32 := 15#32
  let c1_i32_1543 : BitVec 32 := 1#32
  let v1645 : BitVec 32 := Scalar.muli c15_i32_1542 c1_i32_1543
  let v1646 : BitVec 32 := Scalar.addi c0_i32_1544 v1645
  v1646.toNat
def k0_off100 (d0 : Dev nD) : Fin 3 → Nat :=
  let c1_943 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let c1_i32_12 : BitVec 32 := 1#32
  let c0_i32_13 : BitVec 32 := 0#32
  let v33 : BitVec 32 := Scalar.select v32 c1_i32_12 c0_i32_13
  let c2_i32_17 : BitVec 32 := 2#32
  let c2_i32_14 : BitVec 32 := 2#32
  let v34 : BitVec 1 := Scalar.cmpi .sge v12 c2_i32_14
  let c1_i32_15 : BitVec 32 := 1#32
  let c0_i32_16 : BitVec 32 := 0#32
  let v35 : BitVec 32 := Scalar.select v34 c1_i32_15 c0_i32_16
  let v36 : BitVec 32 := Scalar.muli c2_i32_17 v35
  let v37 : BitVec 32 := Scalar.addi v33 v36
  let c4_i32_24 : BitVec 32 := 4#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi v29 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let v48 : BitVec 32 := Scalar.muli c4_i32_24 v47
  let v49 : BitVec 32 := Scalar.addi v37 v48
  let c8_i32 : BitVec 32 := 8#32
  let c0_i32_26 : BitVec 32 := 0#32
  let v51 : BitVec 1 := Scalar.cmpi .sgt v29 c0_i32_26
  let v52 : BitVec 32 := Scalar.extui v51
  let c0_i32_27 : BitVec 32 := 0#32
  let v53 : BitVec 1 := Scalar.cmpi .slt v29 c0_i32_27
  let v54 : BitVec 32 := Scalar.extui v53
  let v55 : BitVec 32 := Scalar.subi v52 v54
  let c2_i32_25 : BitVec 32 := 2#32
  let c0_i32_28 : BitVec 32 := 0#32
  let v56 : BitVec 1 := Scalar.cmpi .sgt c2_i32_25 c0_i32_28
  let v57 : BitVec 32 := Scalar.extui v56
  let c0_i32_29 : BitVec 32 := 0#32
  let v58 : BitVec 1 := Scalar.cmpi .slt c2_i32_25 c0_i32_29
  let v59 : BitVec 32 := Scalar.extui v58
  let v60 : BitVec 32 := Scalar.subi v57 v59
  let v61 : BitVec 1 := Scalar.cmpi .ne v55 v60
  let v62 : BitVec 32 := Scalar.remsi v29 c2_i32_25
  let c0_i32_30 : BitVec 32 := 0#32
  let v63 : BitVec 1 := Scalar.cmpi .ne v62 c0_i32_30
  let v64 : BitVec 1 := Scalar.andi v61 v63
  let v50 : BitVec 32 := Scalar.divsi v29 c2_i32_25
  let c1_i32_31 : BitVec 32 := 1#32
  let v65 : BitVec 32 := Scalar.subi v50 c1_i32_31
  let v66 : BitVec 32 := Scalar.select v64 v65 v50
  let v67 : BitVec 32 := Scalar.muli c8_i32 v66
  let v68 : BitVec 32 := Scalar.addi v49 v67
  let c32_i32 : BitVec 32 := 32#32
  let v69 : BitVec 32 := Scalar.muli v68 c32_i32
  let v1153 : Index := Scalar.indexCast v69
  let c0_944 : Index := 0#32
  ![1, v1153.toNat, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1048 : BitVec 32 := 0#32
  let v1279 : BitVec 1 := Scalar.cmpi .ne v2 c0_i32_1048
  let v1280 : BitVec 32 := Scalar.extui v1279
  let c0_i32_1052 : BitVec 32 := 0#32
  let v1281 : BitVec 1 := Scalar.cmpi .ne v1280 c0_i32_1052
  v1281

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1046 : BitVec 32 := 2#32
  let v1277 : BitVec 32 := Scalar.muli v2 c2_i32_1046
  let c1_i32_1047 : BitVec 32 := 1#32
  let v1278 : BitVec 32 := Scalar.addi v1277 c1_i32_1047
  ![v1278.toNat]
def k0_off102 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1050 : BitVec 32 := 1#32
  let c0_i32_1545 : BitVec 32 := 0#32
  let c0_i32_1546 : BitVec 32 := 0#32
  ![v2.toNat, 1, 0, 0]
def k0_dev64 : Nat :=
  let c0_i32_1544 : BitVec 32 := 0#32
  let c0_i32_1542 : BitVec 32 := 0#32
  let c1_i32_1543 : BitVec 32 := 1#32
  let v1645 : BitVec 32 := Scalar.muli c0_i32_1542 c1_i32_1543
  let v1646 : BitVec 32 := Scalar.addi c0_i32_1544 v1645
  v1646.toNat
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1055 : BitVec 32 := 1#32
  let v1284 : BitVec 1 := Scalar.cmpi .ne v2 c1_i32_1055
  let v1285 : BitVec 32 := Scalar.extui v1284
  let c0_i32_1059 : BitVec 32 := 0#32
  let v1286 : BitVec 1 := Scalar.cmpi .ne v1285 c0_i32_1059
  v1286

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1053 : BitVec 32 := 2#32
  let v1282 : BitVec 32 := Scalar.muli v2 c2_i32_1053
  let c1_i32_1054 : BitVec 32 := 1#32
  let v1283 : BitVec 32 := Scalar.addi v1282 c1_i32_1054
  ![v1283.toNat]
def k0_off104 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1057 : BitVec 32 := 1#32
  let c0_i32_1545 : BitVec 32 := 0#32
  let c0_i32_1546 : BitVec 32 := 0#32
  ![v2.toNat, 1, 0, 0]
def k0_dev65 : Nat :=
  let c0_i32_1544 : BitVec 32 := 0#32
  let c1_i32_1542 : BitVec 32 := 1#32
  let c1_i32_1543 : BitVec 32 := 1#32
  let v1645 : BitVec 32 := Scalar.muli c1_i32_1542 c1_i32_1543
  let v1646 : BitVec 32 := Scalar.addi c0_i32_1544 v1645
  v1646.toNat
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1062 : BitVec 32 := 2#32
  let v1289 : BitVec 1 := Scalar.cmpi .ne v2 c2_i32_1062
  let v1290 : BitVec 32 := Scalar.extui v1289
  let c0_i32_1066 : BitVec 32 := 0#32
  let v1291 : BitVec 1 := Scalar.cmpi .ne v1290 c0_i32_1066
  v1291

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1060 : BitVec 32 := 2#32
  let v1287 : BitVec 32 := Scalar.muli v2 c2_i32_1060
  let c1_i32_1061 : BitVec 32 := 1#32
  let v1288 : BitVec 32 := Scalar.addi v1287 c1_i32_1061
  ![v1288.toNat]
def k0_off106 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1064 : BitVec 32 := 1#32
  let c0_i32_1545 : BitVec 32 := 0#32
  let c0_i32_1546 : BitVec 32 := 0#32
  ![v2.toNat, 1, 0, 0]
def k0_dev66 : Nat :=
  let c0_i32_1544 : BitVec 32 := 0#32
  let c2_i32_1542 : BitVec 32 := 2#32
  let c1_i32_1543 : BitVec 32 := 1#32
  let v1645 : BitVec 32 := Scalar.muli c2_i32_1542 c1_i32_1543
  let v1646 : BitVec 32 := Scalar.addi c0_i32_1544 v1645
  v1646.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1069 : BitVec 32 := 3#32
  let v1294 : BitVec 1 := Scalar.cmpi .ne v2 c3_i32_1069
  let v1295 : BitVec 32 := Scalar.extui v1294
  let c0_i32_1073 : BitVec 32 := 0#32
  let v1296 : BitVec 1 := Scalar.cmpi .ne v1295 c0_i32_1073
  v1296

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1067 : BitVec 32 := 2#32
  let v1292 : BitVec 32 := Scalar.muli v2 c2_i32_1067
  let c1_i32_1068 : BitVec 32 := 1#32
  let v1293 : BitVec 32 := Scalar.addi v1292 c1_i32_1068
  ![v1293.toNat]
def k0_off108 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1071 : BitVec 32 := 1#32
  let c0_i32_1545 : BitVec 32 := 0#32
  let c0_i32_1546 : BitVec 32 := 0#32
  ![v2.toNat, 1, 0, 0]
def k0_dev67 : Nat :=
  let c0_i32_1544 : BitVec 32 := 0#32
  let c3_i32_1542 : BitVec 32 := 3#32
  let c1_i32_1543 : BitVec 32 := 1#32
  let v1645 : BitVec 32 := Scalar.muli c3_i32_1542 c1_i32_1543
  let v1646 : BitVec 32 := Scalar.addi c0_i32_1544 v1645
  v1646.toNat
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1076 : BitVec 32 := 4#32
  let v1299 : BitVec 1 := Scalar.cmpi .ne v2 c4_i32_1076
  let v1300 : BitVec 32 := Scalar.extui v1299
  let c0_i32_1080 : BitVec 32 := 0#32
  let v1301 : BitVec 1 := Scalar.cmpi .ne v1300 c0_i32_1080
  v1301

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1074 : BitVec 32 := 2#32
  let v1297 : BitVec 32 := Scalar.muli v2 c2_i32_1074
  let c1_i32_1075 : BitVec 32 := 1#32
  let v1298 : BitVec 32 := Scalar.addi v1297 c1_i32_1075
  ![v1298.toNat]
def k0_off110 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1078 : BitVec 32 := 1#32
  let c0_i32_1545 : BitVec 32 := 0#32
  let c0_i32_1546 : BitVec 32 := 0#32
  ![v2.toNat, 1, 0, 0]
def k0_dev68 : Nat :=
  let c0_i32_1544 : BitVec 32 := 0#32
  let c4_i32_1542 : BitVec 32 := 4#32
  let c1_i32_1543 : BitVec 32 := 1#32
  let v1645 : BitVec 32 := Scalar.muli c4_i32_1542 c1_i32_1543
  let v1646 : BitVec 32 := Scalar.addi c0_i32_1544 v1645
  v1646.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1083 : BitVec 32 := 5#32
  let v1304 : BitVec 1 := Scalar.cmpi .ne v2 c5_i32_1083
  let v1305 : BitVec 32 := Scalar.extui v1304
  let c0_i32_1087 : BitVec 32 := 0#32
  let v1306 : BitVec 1 := Scalar.cmpi .ne v1305 c0_i32_1087
  v1306

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1081 : BitVec 32 := 2#32
  let v1302 : BitVec 32 := Scalar.muli v2 c2_i32_1081
  let c1_i32_1082 : BitVec 32 := 1#32
  let v1303 : BitVec 32 := Scalar.addi v1302 c1_i32_1082
  ![v1303.toNat]
def k0_off112 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1085 : BitVec 32 := 1#32
  let c0_i32_1545 : BitVec 32 := 0#32
  let c0_i32_1546 : BitVec 32 := 0#32
  ![v2.toNat, 1, 0, 0]
def k0_dev69 : Nat :=
  let c0_i32_1544 : BitVec 32 := 0#32
  let c5_i32_1542 : BitVec 32 := 5#32
  let c1_i32_1543 : BitVec 32 := 1#32
  let v1645 : BitVec 32 := Scalar.muli c5_i32_1542 c1_i32_1543
  let v1646 : BitVec 32 := Scalar.addi c0_i32_1544 v1645
  v1646.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1090 : BitVec 32 := 6#32
  let v1309 : BitVec 1 := Scalar.cmpi .ne v2 c6_i32_1090
  let v1310 : BitVec 32 := Scalar.extui v1309
  let c0_i32_1094 : BitVec 32 := 0#32
  let v1311 : BitVec 1 := Scalar.cmpi .ne v1310 c0_i32_1094
  v1311

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1088 : BitVec 32 := 2#32
  let v1307 : BitVec 32 := Scalar.muli v2 c2_i32_1088
  let c1_i32_1089 : BitVec 32 := 1#32
  let v1308 : BitVec 32 := Scalar.addi v1307 c1_i32_1089
  ![v1308.toNat]
def k0_off114 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1092 : BitVec 32 := 1#32
  let c0_i32_1545 : BitVec 32 := 0#32
  let c0_i32_1546 : BitVec 32 := 0#32
  ![v2.toNat, 1, 0, 0]
def k0_dev70 : Nat :=
  let c0_i32_1544 : BitVec 32 := 0#32
  let c6_i32_1542 : BitVec 32 := 6#32
  let c1_i32_1543 : BitVec 32 := 1#32
  let v1645 : BitVec 32 := Scalar.muli c6_i32_1542 c1_i32_1543
  let v1646 : BitVec 32 := Scalar.addi c0_i32_1544 v1645
  v1646.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1097 : BitVec 32 := 7#32
  let v1314 : BitVec 1 := Scalar.cmpi .ne v2 c7_i32_1097
  let v1315 : BitVec 32 := Scalar.extui v1314
  let c0_i32_1101 : BitVec 32 := 0#32
  let v1316 : BitVec 1 := Scalar.cmpi .ne v1315 c0_i32_1101
  v1316

def k0_off115 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1095 : BitVec 32 := 2#32
  let v1312 : BitVec 32 := Scalar.muli v2 c2_i32_1095
  let c1_i32_1096 : BitVec 32 := 1#32
  let v1313 : BitVec 32 := Scalar.addi v1312 c1_i32_1096
  ![v1313.toNat]
def k0_off116 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1099 : BitVec 32 := 1#32
  let c0_i32_1545 : BitVec 32 := 0#32
  let c0_i32_1546 : BitVec 32 := 0#32
  ![v2.toNat, 1, 0, 0]
def k0_dev71 : Nat :=
  let c0_i32_1544 : BitVec 32 := 0#32
  let c7_i32_1542 : BitVec 32 := 7#32
  let c1_i32_1543 : BitVec 32 := 1#32
  let v1645 : BitVec 32 := Scalar.muli c7_i32_1542 c1_i32_1543
  let v1646 : BitVec 32 := Scalar.addi c0_i32_1544 v1645
  v1646.toNat
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1104 : BitVec 32 := 8#32
  let v1319 : BitVec 1 := Scalar.cmpi .ne v2 c8_i32_1104
  let v1320 : BitVec 32 := Scalar.extui v1319
  let c0_i32_1108 : BitVec 32 := 0#32
  let v1321 : BitVec 1 := Scalar.cmpi .ne v1320 c0_i32_1108
  v1321

def k0_off117 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1102 : BitVec 32 := 2#32
  let v1317 : BitVec 32 := Scalar.muli v2 c2_i32_1102
  let c1_i32_1103 : BitVec 32 := 1#32
  let v1318 : BitVec 32 := Scalar.addi v1317 c1_i32_1103
  ![v1318.toNat]
def k0_off118 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1106 : BitVec 32 := 1#32
  let c0_i32_1545 : BitVec 32 := 0#32
  let c0_i32_1546 : BitVec 32 := 0#32
  ![v2.toNat, 1, 0, 0]
def k0_dev72 : Nat :=
  let c0_i32_1544 : BitVec 32 := 0#32
  let c8_i32_1542 : BitVec 32 := 8#32
  let c1_i32_1543 : BitVec 32 := 1#32
  let v1645 : BitVec 32 := Scalar.muli c8_i32_1542 c1_i32_1543
  let v1646 : BitVec 32 := Scalar.addi c0_i32_1544 v1645
  v1646.toNat
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1111 : BitVec 32 := 9#32
  let v1324 : BitVec 1 := Scalar.cmpi .ne v2 c9_i32_1111
  let v1325 : BitVec 32 := Scalar.extui v1324
  let c0_i32_1115 : BitVec 32 := 0#32
  let v1326 : BitVec 1 := Scalar.cmpi .ne v1325 c0_i32_1115
  v1326

def k0_off119 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1109 : BitVec 32 := 2#32
  let v1322 : BitVec 32 := Scalar.muli v2 c2_i32_1109
  let c1_i32_1110 : BitVec 32 := 1#32
  let v1323 : BitVec 32 := Scalar.addi v1322 c1_i32_1110
  ![v1323.toNat]
def k0_off120 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1113 : BitVec 32 := 1#32
  let c0_i32_1545 : BitVec 32 := 0#32
  let c0_i32_1546 : BitVec 32 := 0#32
  ![v2.toNat, 1, 0, 0]
def k0_dev73 : Nat :=
  let c0_i32_1544 : BitVec 32 := 0#32
  let c9_i32_1542 : BitVec 32 := 9#32
  let c1_i32_1543 : BitVec 32 := 1#32
  let v1645 : BitVec 32 := Scalar.muli c9_i32_1542 c1_i32_1543
  let v1646 : BitVec 32 := Scalar.addi c0_i32_1544 v1645
  v1646.toNat
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1118 : BitVec 32 := 10#32
  let v1329 : BitVec 1 := Scalar.cmpi .ne v2 c10_i32_1118
  let v1330 : BitVec 32 := Scalar.extui v1329
  let c0_i32_1122 : BitVec 32 := 0#32
  let v1331 : BitVec 1 := Scalar.cmpi .ne v1330 c0_i32_1122
  v1331

def k0_off121 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1116 : BitVec 32 := 2#32
  let v1327 : BitVec 32 := Scalar.muli v2 c2_i32_1116
  let c1_i32_1117 : BitVec 32 := 1#32
  let v1328 : BitVec 32 := Scalar.addi v1327 c1_i32_1117
  ![v1328.toNat]
def k0_off122 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1120 : BitVec 32 := 1#32
  let c0_i32_1545 : BitVec 32 := 0#32
  let c0_i32_1546 : BitVec 32 := 0#32
  ![v2.toNat, 1, 0, 0]
def k0_dev74 : Nat :=
  let c0_i32_1544 : BitVec 32 := 0#32
  let c10_i32_1542 : BitVec 32 := 10#32
  let c1_i32_1543 : BitVec 32 := 1#32
  let v1645 : BitVec 32 := Scalar.muli c10_i32_1542 c1_i32_1543
  let v1646 : BitVec 32 := Scalar.addi c0_i32_1544 v1645
  v1646.toNat
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1125 : BitVec 32 := 11#32
  let v1334 : BitVec 1 := Scalar.cmpi .ne v2 c11_i32_1125
  let v1335 : BitVec 32 := Scalar.extui v1334
  let c0_i32_1129 : BitVec 32 := 0#32
  let v1336 : BitVec 1 := Scalar.cmpi .ne v1335 c0_i32_1129
  v1336

def k0_off123 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1123 : BitVec 32 := 2#32
  let v1332 : BitVec 32 := Scalar.muli v2 c2_i32_1123
  let c1_i32_1124 : BitVec 32 := 1#32
  let v1333 : BitVec 32 := Scalar.addi v1332 c1_i32_1124
  ![v1333.toNat]
def k0_off124 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1127 : BitVec 32 := 1#32
  let c0_i32_1545 : BitVec 32 := 0#32
  let c0_i32_1546 : BitVec 32 := 0#32
  ![v2.toNat, 1, 0, 0]
def k0_dev75 : Nat :=
  let c0_i32_1544 : BitVec 32 := 0#32
  let c11_i32_1542 : BitVec 32 := 11#32
  let c1_i32_1543 : BitVec 32 := 1#32
  let v1645 : BitVec 32 := Scalar.muli c11_i32_1542 c1_i32_1543
  let v1646 : BitVec 32 := Scalar.addi c0_i32_1544 v1645
  v1646.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1132 : BitVec 32 := 12#32
  let v1339 : BitVec 1 := Scalar.cmpi .ne v2 c12_i32_1132
  let v1340 : BitVec 32 := Scalar.extui v1339
  let c0_i32_1136 : BitVec 32 := 0#32
  let v1341 : BitVec 1 := Scalar.cmpi .ne v1340 c0_i32_1136
  v1341

def k0_off125 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1130 : BitVec 32 := 2#32
  let v1337 : BitVec 32 := Scalar.muli v2 c2_i32_1130
  let c1_i32_1131 : BitVec 32 := 1#32
  let v1338 : BitVec 32 := Scalar.addi v1337 c1_i32_1131
  ![v1338.toNat]
def k0_off126 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1134 : BitVec 32 := 1#32
  let c0_i32_1545 : BitVec 32 := 0#32
  let c0_i32_1546 : BitVec 32 := 0#32
  ![v2.toNat, 1, 0, 0]
def k0_dev76 : Nat :=
  let c0_i32_1544 : BitVec 32 := 0#32
  let c12_i32_1542 : BitVec 32 := 12#32
  let c1_i32_1543 : BitVec 32 := 1#32
  let v1645 : BitVec 32 := Scalar.muli c12_i32_1542 c1_i32_1543
  let v1646 : BitVec 32 := Scalar.addi c0_i32_1544 v1645
  v1646.toNat
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1139 : BitVec 32 := 13#32
  let v1344 : BitVec 1 := Scalar.cmpi .ne v2 c13_i32_1139
  let v1345 : BitVec 32 := Scalar.extui v1344
  let c0_i32_1143 : BitVec 32 := 0#32
  let v1346 : BitVec 1 := Scalar.cmpi .ne v1345 c0_i32_1143
  v1346

def k0_off127 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1137 : BitVec 32 := 2#32
  let v1342 : BitVec 32 := Scalar.muli v2 c2_i32_1137
  let c1_i32_1138 : BitVec 32 := 1#32
  let v1343 : BitVec 32 := Scalar.addi v1342 c1_i32_1138
  ![v1343.toNat]
def k0_off128 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1141 : BitVec 32 := 1#32
  let c0_i32_1545 : BitVec 32 := 0#32
  let c0_i32_1546 : BitVec 32 := 0#32
  ![v2.toNat, 1, 0, 0]
def k0_dev77 : Nat :=
  let c0_i32_1544 : BitVec 32 := 0#32
  let c13_i32_1542 : BitVec 32 := 13#32
  let c1_i32_1543 : BitVec 32 := 1#32
  let v1645 : BitVec 32 := Scalar.muli c13_i32_1542 c1_i32_1543
  let v1646 : BitVec 32 := Scalar.addi c0_i32_1544 v1645
  v1646.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1146 : BitVec 32 := 14#32
  let v1349 : BitVec 1 := Scalar.cmpi .ne v2 c14_i32_1146
  let v1350 : BitVec 32 := Scalar.extui v1349
  let c0_i32_1150 : BitVec 32 := 0#32
  let v1351 : BitVec 1 := Scalar.cmpi .ne v1350 c0_i32_1150
  v1351

def k0_off129 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1144 : BitVec 32 := 2#32
  let v1347 : BitVec 32 := Scalar.muli v2 c2_i32_1144
  let c1_i32_1145 : BitVec 32 := 1#32
  let v1348 : BitVec 32 := Scalar.addi v1347 c1_i32_1145
  ![v1348.toNat]
def k0_off130 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1148 : BitVec 32 := 1#32
  let c0_i32_1545 : BitVec 32 := 0#32
  let c0_i32_1546 : BitVec 32 := 0#32
  ![v2.toNat, 1, 0, 0]
def k0_dev78 : Nat :=
  let c0_i32_1544 : BitVec 32 := 0#32
  let c14_i32_1542 : BitVec 32 := 14#32
  let c1_i32_1543 : BitVec 32 := 1#32
  let v1645 : BitVec 32 := Scalar.muli c14_i32_1542 c1_i32_1543
  let v1646 : BitVec 32 := Scalar.addi c0_i32_1544 v1645
  v1646.toNat
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1153 : BitVec 32 := 15#32
  let v1354 : BitVec 1 := Scalar.cmpi .ne v2 c15_i32_1153
  let v1355 : BitVec 32 := Scalar.extui v1354
  let c0_i32_1157 : BitVec 32 := 0#32
  let v1356 : BitVec 1 := Scalar.cmpi .ne v1355 c0_i32_1157
  v1356

def k0_off131 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1151 : BitVec 32 := 2#32
  let v1352 : BitVec 32 := Scalar.muli v2 c2_i32_1151
  let c1_i32_1152 : BitVec 32 := 1#32
  let v1353 : BitVec 32 := Scalar.addi v1352 c1_i32_1152
  ![v1353.toNat]
def k0_off132 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1155 : BitVec 32 := 1#32
  let c0_i32_1545 : BitVec 32 := 0#32
  let c0_i32_1546 : BitVec 32 := 0#32
  ![v2.toNat, 1, 0, 0]
def k0_dev79 : Nat :=
  let c0_i32_1544 : BitVec 32 := 0#32
  let c15_i32_1542 : BitVec 32 := 15#32
  let c1_i32_1543 : BitVec 32 := 1#32
  let v1645 : BitVec 32 := Scalar.muli c15_i32_1542 c1_i32_1543
  let v1646 : BitVec 32 := Scalar.addi c0_i32_1544 v1645
  v1646.toNat
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1222 : BitVec 32 := 0#32
  let v1453 : BitVec 1 := Scalar.cmpi .ne v2 c0_i32_1222
  let v1454 : BitVec 32 := Scalar.extui v1453
  let c0_i32_1226 : BitVec 32 := 0#32
  let v1455 : BitVec 1 := Scalar.cmpi .ne v1454 c0_i32_1226
  v1455

def k0_off133 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1223 : BitVec 32 := 0#32
  let c0_i32_1546 : BitVec 32 := 0#32
  let c0_i32_1547 : BitVec 32 := 0#32
  ![v2.toNat, 0, 0, 0]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1227 : BitVec 32 := 1#32
  let v1456 : BitVec 1 := Scalar.cmpi .ne v2 c1_i32_1227
  let v1457 : BitVec 32 := Scalar.extui v1456
  let c0_i32_1231 : BitVec 32 := 0#32
  let v1458 : BitVec 1 := Scalar.cmpi .ne v1457 c0_i32_1231
  v1458

def k0_off134 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1228 : BitVec 32 := 0#32
  let c0_i32_1546 : BitVec 32 := 0#32
  let c0_i32_1547 : BitVec 32 := 0#32
  ![v2.toNat, 0, 0, 0]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1232 : BitVec 32 := 3#32
  let v1459 : BitVec 1 := Scalar.cmpi .ne v2 c3_i32_1232
  let v1460 : BitVec 32 := Scalar.extui v1459
  let c0_i32_1236 : BitVec 32 := 0#32
  let v1461 : BitVec 1 := Scalar.cmpi .ne v1460 c0_i32_1236
  v1461

def k0_off135 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1233 : BitVec 32 := 0#32
  let c0_i32_1546 : BitVec 32 := 0#32
  let c0_i32_1547 : BitVec 32 := 0#32
  ![v2.toNat, 0, 0, 0]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1237 : BitVec 32 := 2#32
  let v1462 : BitVec 1 := Scalar.cmpi .ne v2 c2_i32_1237
  let v1463 : BitVec 32 := Scalar.extui v1462
  let c0_i32_1241 : BitVec 32 := 0#32
  let v1464 : BitVec 1 := Scalar.cmpi .ne v1463 c0_i32_1241
  v1464

def k0_off136 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1238 : BitVec 32 := 0#32
  let c0_i32_1545 : BitVec 32 := 0#32
  let c0_i32_1546 : BitVec 32 := 0#32
  ![v2.toNat, 0, 0, 0]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1242 : BitVec 32 := 4#32
  let v1465 : BitVec 1 := Scalar.cmpi .ne v2 c4_i32_1242
  let v1466 : BitVec 32 := Scalar.extui v1465
  let c0_i32_1246 : BitVec 32 := 0#32
  let v1467 : BitVec 1 := Scalar.cmpi .ne v1466 c0_i32_1246
  v1467

def k0_off137 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1243 : BitVec 32 := 0#32
  let c0_i32_1545 : BitVec 32 := 0#32
  let c0_i32_1546 : BitVec 32 := 0#32
  ![v2.toNat, 0, 0, 0]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1247 : BitVec 32 := 5#32
  let v1468 : BitVec 1 := Scalar.cmpi .ne v2 c5_i32_1247
  let v1469 : BitVec 32 := Scalar.extui v1468
  let c0_i32_1251 : BitVec 32 := 0#32
  let v1470 : BitVec 1 := Scalar.cmpi .ne v1469 c0_i32_1251
  v1470

def k0_off138 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1248 : BitVec 32 := 0#32
  let c0_i32_1545 : BitVec 32 := 0#32
  let c0_i32_1546 : BitVec 32 := 0#32
  ![v2.toNat, 0, 0, 0]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1252 : BitVec 32 := 7#32
  let v1471 : BitVec 1 := Scalar.cmpi .ne v2 c7_i32_1252
  let v1472 : BitVec 32 := Scalar.extui v1471
  let c0_i32_1256 : BitVec 32 := 0#32
  let v1473 : BitVec 1 := Scalar.cmpi .ne v1472 c0_i32_1256
  v1473

def k0_off139 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1253 : BitVec 32 := 0#32
  let c0_i32_1545 : BitVec 32 := 0#32
  let c0_i32_1546 : BitVec 32 := 0#32
  ![v2.toNat, 0, 0, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1257 : BitVec 32 := 6#32
  let v1474 : BitVec 1 := Scalar.cmpi .ne v2 c6_i32_1257
  let v1475 : BitVec 32 := Scalar.extui v1474
  let c0_i32_1261 : BitVec 32 := 0#32
  let v1476 : BitVec 1 := Scalar.cmpi .ne v1475 c0_i32_1261
  v1476

def k0_off140 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1258 : BitVec 32 := 0#32
  let c0_i32_1545 : BitVec 32 := 0#32
  let c0_i32_1546 : BitVec 32 := 0#32
  ![v2.toNat, 0, 0, 0]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1262 : BitVec 32 := 8#32
  let v1477 : BitVec 1 := Scalar.cmpi .ne v2 c8_i32_1262
  let v1478 : BitVec 32 := Scalar.extui v1477
  let c0_i32_1266 : BitVec 32 := 0#32
  let v1479 : BitVec 1 := Scalar.cmpi .ne v1478 c0_i32_1266
  v1479

def k0_off141 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1263 : BitVec 32 := 0#32
  let c0_i32_1545 : BitVec 32 := 0#32
  let c0_i32_1546 : BitVec 32 := 0#32
  ![v2.toNat, 0, 0, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1267 : BitVec 32 := 9#32
  let v1480 : BitVec 1 := Scalar.cmpi .ne v2 c9_i32_1267
  let v1481 : BitVec 32 := Scalar.extui v1480
  let c0_i32_1271 : BitVec 32 := 0#32
  let v1482 : BitVec 1 := Scalar.cmpi .ne v1481 c0_i32_1271
  v1482

def k0_off142 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1268 : BitVec 32 := 0#32
  let c0_i32_1545 : BitVec 32 := 0#32
  let c0_i32_1546 : BitVec 32 := 0#32
  ![v2.toNat, 0, 0, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1272 : BitVec 32 := 11#32
  let v1483 : BitVec 1 := Scalar.cmpi .ne v2 c11_i32_1272
  let v1484 : BitVec 32 := Scalar.extui v1483
  let c0_i32_1276 : BitVec 32 := 0#32
  let v1485 : BitVec 1 := Scalar.cmpi .ne v1484 c0_i32_1276
  v1485

def k0_off143 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1273 : BitVec 32 := 0#32
  let c0_i32_1545 : BitVec 32 := 0#32
  let c0_i32_1546 : BitVec 32 := 0#32
  ![v2.toNat, 0, 0, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1277 : BitVec 32 := 10#32
  let v1486 : BitVec 1 := Scalar.cmpi .ne v2 c10_i32_1277
  let v1487 : BitVec 32 := Scalar.extui v1486
  let c0_i32_1281 : BitVec 32 := 0#32
  let v1488 : BitVec 1 := Scalar.cmpi .ne v1487 c0_i32_1281
  v1488

def k0_off144 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1278 : BitVec 32 := 0#32
  let c0_i32_1545 : BitVec 32 := 0#32
  let c0_i32_1546 : BitVec 32 := 0#32
  ![v2.toNat, 0, 0, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1282 : BitVec 32 := 12#32
  let v1489 : BitVec 1 := Scalar.cmpi .ne v2 c12_i32_1282
  let v1490 : BitVec 32 := Scalar.extui v1489
  let c0_i32_1286 : BitVec 32 := 0#32
  let v1491 : BitVec 1 := Scalar.cmpi .ne v1490 c0_i32_1286
  v1491

def k0_off145 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1283 : BitVec 32 := 0#32
  let c0_i32_1545 : BitVec 32 := 0#32
  let c0_i32_1546 : BitVec 32 := 0#32
  ![v2.toNat, 0, 0, 0]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1287 : BitVec 32 := 13#32
  let v1492 : BitVec 1 := Scalar.cmpi .ne v2 c13_i32_1287
  let v1493 : BitVec 32 := Scalar.extui v1492
  let c0_i32_1291 : BitVec 32 := 0#32
  let v1494 : BitVec 1 := Scalar.cmpi .ne v1493 c0_i32_1291
  v1494

def k0_off146 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1288 : BitVec 32 := 0#32
  let c0_i32_1545 : BitVec 32 := 0#32
  let c0_i32_1546 : BitVec 32 := 0#32
  ![v2.toNat, 0, 0, 0]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1292 : BitVec 32 := 15#32
  let v1495 : BitVec 1 := Scalar.cmpi .ne v2 c15_i32_1292
  let v1496 : BitVec 32 := Scalar.extui v1495
  let c0_i32_1296 : BitVec 32 := 0#32
  let v1497 : BitVec 1 := Scalar.cmpi .ne v1496 c0_i32_1296
  v1497

def k0_off147 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1293 : BitVec 32 := 0#32
  let c0_i32_1545 : BitVec 32 := 0#32
  let c0_i32_1546 : BitVec 32 := 0#32
  ![v2.toNat, 0, 0, 0]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1297 : BitVec 32 := 14#32
  let v1498 : BitVec 1 := Scalar.cmpi .ne v2 c14_i32_1297
  let v1499 : BitVec 32 := Scalar.extui v1498
  let c0_i32_1301 : BitVec 32 := 0#32
  let v1500 : BitVec 1 := Scalar.cmpi .ne v1499 c0_i32_1301
  v1500

def k0_off148 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1298 : BitVec 32 := 0#32
  let c0_i32_1545 : BitVec 32 := 0#32
  let c0_i32_1546 : BitVec 32 := 0#32
  ![v2.toNat, 0, 0, 0]
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let v1501 : BitVec 1 := Scalar.cmpi .ne v2 c0_i32_1302
  let v1502 : BitVec 32 := Scalar.extui v1501
  let c0_i32_1306 : BitVec 32 := 0#32
  let v1503 : BitVec 1 := Scalar.cmpi .ne v1502 c0_i32_1306
  v1503

def k0_off149 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1303 : BitVec 32 := 1#32
  let c0_i32_1546 : BitVec 32 := 0#32
  let c0_i32_1547 : BitVec 32 := 0#32
  ![v2.toNat, 1, 0, 0]
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1307 : BitVec 32 := 1#32
  let v1504 : BitVec 1 := Scalar.cmpi .ne v2 c1_i32_1307
  let v1505 : BitVec 32 := Scalar.extui v1504
  let c0_i32_1311 : BitVec 32 := 0#32
  let v1506 : BitVec 1 := Scalar.cmpi .ne v1505 c0_i32_1311
  v1506

def k0_off150 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1308 : BitVec 32 := 1#32
  let c0_i32_1546 : BitVec 32 := 0#32
  let c0_i32_1547 : BitVec 32 := 0#32
  ![v2.toNat, 1, 0, 0]
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1312 : BitVec 32 := 3#32
  let v1507 : BitVec 1 := Scalar.cmpi .ne v2 c3_i32_1312
  let v1508 : BitVec 32 := Scalar.extui v1507
  let c0_i32_1316 : BitVec 32 := 0#32
  let v1509 : BitVec 1 := Scalar.cmpi .ne v1508 c0_i32_1316
  v1509

def k0_off151 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1313 : BitVec 32 := 1#32
  let c0_i32_1546 : BitVec 32 := 0#32
  let c0_i32_1547 : BitVec 32 := 0#32
  ![v2.toNat, 1, 0, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1317 : BitVec 32 := 2#32
  let v1510 : BitVec 1 := Scalar.cmpi .ne v2 c2_i32_1317
  let v1511 : BitVec 32 := Scalar.extui v1510
  let c0_i32_1321 : BitVec 32 := 0#32
  let v1512 : BitVec 1 := Scalar.cmpi .ne v1511 c0_i32_1321
  v1512

def k0_off152 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1318 : BitVec 32 := 1#32
  let c0_i32_1545 : BitVec 32 := 0#32
  let c0_i32_1546 : BitVec 32 := 0#32
  ![v2.toNat, 1, 0, 0]
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1322 : BitVec 32 := 4#32
  let v1513 : BitVec 1 := Scalar.cmpi .ne v2 c4_i32_1322
  let v1514 : BitVec 32 := Scalar.extui v1513
  let c0_i32_1326 : BitVec 32 := 0#32
  let v1515 : BitVec 1 := Scalar.cmpi .ne v1514 c0_i32_1326
  v1515

def k0_off153 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1323 : BitVec 32 := 1#32
  let c0_i32_1545 : BitVec 32 := 0#32
  let c0_i32_1546 : BitVec 32 := 0#32
  ![v2.toNat, 1, 0, 0]
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1327 : BitVec 32 := 5#32
  let v1516 : BitVec 1 := Scalar.cmpi .ne v2 c5_i32_1327
  let v1517 : BitVec 32 := Scalar.extui v1516
  let c0_i32_1331 : BitVec 32 := 0#32
  let v1518 : BitVec 1 := Scalar.cmpi .ne v1517 c0_i32_1331
  v1518

def k0_off154 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1328 : BitVec 32 := 1#32
  let c0_i32_1545 : BitVec 32 := 0#32
  let c0_i32_1546 : BitVec 32 := 0#32
  ![v2.toNat, 1, 0, 0]
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1332 : BitVec 32 := 7#32
  let v1519 : BitVec 1 := Scalar.cmpi .ne v2 c7_i32_1332
  let v1520 : BitVec 32 := Scalar.extui v1519
  let c0_i32_1336 : BitVec 32 := 0#32
  let v1521 : BitVec 1 := Scalar.cmpi .ne v1520 c0_i32_1336
  v1521

def k0_off155 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1333 : BitVec 32 := 1#32
  let c0_i32_1545 : BitVec 32 := 0#32
  let c0_i32_1546 : BitVec 32 := 0#32
  ![v2.toNat, 1, 0, 0]
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1337 : BitVec 32 := 6#32
  let v1522 : BitVec 1 := Scalar.cmpi .ne v2 c6_i32_1337
  let v1523 : BitVec 32 := Scalar.extui v1522
  let c0_i32_1341 : BitVec 32 := 0#32
  let v1524 : BitVec 1 := Scalar.cmpi .ne v1523 c0_i32_1341
  v1524

def k0_off156 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1338 : BitVec 32 := 1#32
  let c0_i32_1545 : BitVec 32 := 0#32
  let c0_i32_1546 : BitVec 32 := 0#32
  ![v2.toNat, 1, 0, 0]
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1342 : BitVec 32 := 8#32
  let v1525 : BitVec 1 := Scalar.cmpi .ne v2 c8_i32_1342
  let v1526 : BitVec 32 := Scalar.extui v1525
  let c0_i32_1346 : BitVec 32 := 0#32
  let v1527 : BitVec 1 := Scalar.cmpi .ne v1526 c0_i32_1346
  v1527

def k0_off157 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1343 : BitVec 32 := 1#32
  let c0_i32_1545 : BitVec 32 := 0#32
  let c0_i32_1546 : BitVec 32 := 0#32
  ![v2.toNat, 1, 0, 0]
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1347 : BitVec 32 := 9#32
  let v1528 : BitVec 1 := Scalar.cmpi .ne v2 c9_i32_1347
  let v1529 : BitVec 32 := Scalar.extui v1528
  let c0_i32_1351 : BitVec 32 := 0#32
  let v1530 : BitVec 1 := Scalar.cmpi .ne v1529 c0_i32_1351
  v1530

def k0_off158 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1348 : BitVec 32 := 1#32
  let c0_i32_1545 : BitVec 32 := 0#32
  let c0_i32_1546 : BitVec 32 := 0#32
  ![v2.toNat, 1, 0, 0]
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1352 : BitVec 32 := 11#32
  let v1531 : BitVec 1 := Scalar.cmpi .ne v2 c11_i32_1352
  let v1532 : BitVec 32 := Scalar.extui v1531
  let c0_i32_1356 : BitVec 32 := 0#32
  let v1533 : BitVec 1 := Scalar.cmpi .ne v1532 c0_i32_1356
  v1533

def k0_off159 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1353 : BitVec 32 := 1#32
  let c0_i32_1545 : BitVec 32 := 0#32
  let c0_i32_1546 : BitVec 32 := 0#32
  ![v2.toNat, 1, 0, 0]
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1357 : BitVec 32 := 10#32
  let v1534 : BitVec 1 := Scalar.cmpi .ne v2 c10_i32_1357
  let v1535 : BitVec 32 := Scalar.extui v1534
  let c0_i32_1361 : BitVec 32 := 0#32
  let v1536 : BitVec 1 := Scalar.cmpi .ne v1535 c0_i32_1361
  v1536

def k0_off160 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1358 : BitVec 32 := 1#32
  let c0_i32_1545 : BitVec 32 := 0#32
  let c0_i32_1546 : BitVec 32 := 0#32
  ![v2.toNat, 1, 0, 0]
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1362 : BitVec 32 := 12#32
  let v1537 : BitVec 1 := Scalar.cmpi .ne v2 c12_i32_1362
  let v1538 : BitVec 32 := Scalar.extui v1537
  let c0_i32_1366 : BitVec 32 := 0#32
  let v1539 : BitVec 1 := Scalar.cmpi .ne v1538 c0_i32_1366
  v1539

def k0_off161 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1363 : BitVec 32 := 1#32
  let c0_i32_1545 : BitVec 32 := 0#32
  let c0_i32_1546 : BitVec 32 := 0#32
  ![v2.toNat, 1, 0, 0]
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1367 : BitVec 32 := 13#32
  let v1540 : BitVec 1 := Scalar.cmpi .ne v2 c13_i32_1367
  let v1541 : BitVec 32 := Scalar.extui v1540
  let c0_i32_1371 : BitVec 32 := 0#32
  let v1542 : BitVec 1 := Scalar.cmpi .ne v1541 c0_i32_1371
  v1542

def k0_off162 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1368 : BitVec 32 := 1#32
  let c0_i32_1545 : BitVec 32 := 0#32
  let c0_i32_1546 : BitVec 32 := 0#32
  ![v2.toNat, 1, 0, 0]
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1372 : BitVec 32 := 15#32
  let v1543 : BitVec 1 := Scalar.cmpi .ne v2 c15_i32_1372
  let v1544 : BitVec 32 := Scalar.extui v1543
  let c0_i32_1376 : BitVec 32 := 0#32
  let v1545 : BitVec 1 := Scalar.cmpi .ne v1544 c0_i32_1376
  v1545

def k0_off163 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1373 : BitVec 32 := 1#32
  let c0_i32_1545 : BitVec 32 := 0#32
  let c0_i32_1546 : BitVec 32 := 0#32
  ![v2.toNat, 1, 0, 0]
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1377 : BitVec 32 := 14#32
  let v1546 : BitVec 1 := Scalar.cmpi .ne v2 c14_i32_1377
  let v1547 : BitVec 32 := Scalar.extui v1546
  let c0_i32_1381 : BitVec 32 := 0#32
  let v1548 : BitVec 1 := Scalar.cmpi .ne v1547 c0_i32_1381
  v1548

def k0_off164 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1378 : BitVec 32 := 1#32
  let c0_i32_1545 : BitVec 32 := 0#32
  let c0_i32_1546 : BitVec 32 := 0#32
  ![v2.toNat, 1, 0, 0]
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1382 : BitVec 32 := 0#32
  let v1549 : BitVec 1 := Scalar.cmpi .ne v2 c0_i32_1382
  let v1550 : BitVec 32 := Scalar.extui v1549
  let c0_i32_1386 : BitVec 32 := 0#32
  let v1551 : BitVec 1 := Scalar.cmpi .ne v1550 c0_i32_1386
  v1551

def k0_off165 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1383 : BitVec 32 := 0#32
  let c0_i32_1546 : BitVec 32 := 0#32
  let c0_i32_1547 : BitVec 32 := 0#32
  ![v2.toNat, 0, 0, 0]
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1387 : BitVec 32 := 1#32
  let v1552 : BitVec 1 := Scalar.cmpi .ne v2 c1_i32_1387
  let v1553 : BitVec 32 := Scalar.extui v1552
  let c0_i32_1391 : BitVec 32 := 0#32
  let v1554 : BitVec 1 := Scalar.cmpi .ne v1553 c0_i32_1391
  v1554

def k0_off166 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1388 : BitVec 32 := 0#32
  let c0_i32_1546 : BitVec 32 := 0#32
  let c0_i32_1547 : BitVec 32 := 0#32
  ![v2.toNat, 0, 0, 0]
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1392 : BitVec 32 := 2#32
  let v1555 : BitVec 1 := Scalar.cmpi .ne v2 c2_i32_1392
  let v1556 : BitVec 32 := Scalar.extui v1555
  let c0_i32_1396 : BitVec 32 := 0#32
  let v1557 : BitVec 1 := Scalar.cmpi .ne v1556 c0_i32_1396
  v1557

def k0_off167 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1393 : BitVec 32 := 0#32
  let c0_i32_1546 : BitVec 32 := 0#32
  let c0_i32_1547 : BitVec 32 := 0#32
  ![v2.toNat, 0, 0, 0]
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1397 : BitVec 32 := 3#32
  let v1558 : BitVec 1 := Scalar.cmpi .ne v2 c3_i32_1397
  let v1559 : BitVec 32 := Scalar.extui v1558
  let c0_i32_1401 : BitVec 32 := 0#32
  let v1560 : BitVec 1 := Scalar.cmpi .ne v1559 c0_i32_1401
  v1560

def k0_off168 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1398 : BitVec 32 := 0#32
  let c0_i32_1546 : BitVec 32 := 0#32
  let c0_i32_1547 : BitVec 32 := 0#32
  ![v2.toNat, 0, 0, 0]
def k0_cond165 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1402 : BitVec 32 := 4#32
  let v1561 : BitVec 1 := Scalar.cmpi .ne v2 c4_i32_1402
  let v1562 : BitVec 32 := Scalar.extui v1561
  let c0_i32_1406 : BitVec 32 := 0#32
  let v1563 : BitVec 1 := Scalar.cmpi .ne v1562 c0_i32_1406
  v1563

def k0_off169 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1403 : BitVec 32 := 0#32
  let c0_i32_1546 : BitVec 32 := 0#32
  let c0_i32_1547 : BitVec 32 := 0#32
  ![v2.toNat, 0, 0, 0]
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1407 : BitVec 32 := 5#32
  let v1564 : BitVec 1 := Scalar.cmpi .ne v2 c5_i32_1407
  let v1565 : BitVec 32 := Scalar.extui v1564
  let c0_i32_1411 : BitVec 32 := 0#32
  let v1566 : BitVec 1 := Scalar.cmpi .ne v1565 c0_i32_1411
  v1566

def k0_off170 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1408 : BitVec 32 := 0#32
  let c0_i32_1546 : BitVec 32 := 0#32
  let c0_i32_1547 : BitVec 32 := 0#32
  ![v2.toNat, 0, 0, 0]
def k0_cond167 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1412 : BitVec 32 := 6#32
  let v1567 : BitVec 1 := Scalar.cmpi .ne v2 c6_i32_1412
  let v1568 : BitVec 32 := Scalar.extui v1567
  let c0_i32_1416 : BitVec 32 := 0#32
  let v1569 : BitVec 1 := Scalar.cmpi .ne v1568 c0_i32_1416
  v1569

def k0_off171 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1413 : BitVec 32 := 0#32
  let c0_i32_1546 : BitVec 32 := 0#32
  let c0_i32_1547 : BitVec 32 := 0#32
  ![v2.toNat, 0, 0, 0]
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1417 : BitVec 32 := 7#32
  let v1570 : BitVec 1 := Scalar.cmpi .ne v2 c7_i32_1417
  let v1571 : BitVec 32 := Scalar.extui v1570
  let c0_i32_1421 : BitVec 32 := 0#32
  let v1572 : BitVec 1 := Scalar.cmpi .ne v1571 c0_i32_1421
  v1572

def k0_off172 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1418 : BitVec 32 := 0#32
  let c0_i32_1546 : BitVec 32 := 0#32
  let c0_i32_1547 : BitVec 32 := 0#32
  ![v2.toNat, 0, 0, 0]
def k0_cond169 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1422 : BitVec 32 := 8#32
  let v1573 : BitVec 1 := Scalar.cmpi .ne v2 c8_i32_1422
  let v1574 : BitVec 32 := Scalar.extui v1573
  let c0_i32_1426 : BitVec 32 := 0#32
  let v1575 : BitVec 1 := Scalar.cmpi .ne v1574 c0_i32_1426
  v1575

def k0_off173 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1423 : BitVec 32 := 0#32
  let c0_i32_1546 : BitVec 32 := 0#32
  let c0_i32_1547 : BitVec 32 := 0#32
  ![v2.toNat, 0, 0, 0]
def k0_cond170 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1427 : BitVec 32 := 9#32
  let v1576 : BitVec 1 := Scalar.cmpi .ne v2 c9_i32_1427
  let v1577 : BitVec 32 := Scalar.extui v1576
  let c0_i32_1431 : BitVec 32 := 0#32
  let v1578 : BitVec 1 := Scalar.cmpi .ne v1577 c0_i32_1431
  v1578

def k0_off174 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1428 : BitVec 32 := 0#32
  let c0_i32_1546 : BitVec 32 := 0#32
  let c0_i32_1547 : BitVec 32 := 0#32
  ![v2.toNat, 0, 0, 0]
def k0_cond171 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1432 : BitVec 32 := 10#32
  let v1579 : BitVec 1 := Scalar.cmpi .ne v2 c10_i32_1432
  let v1580 : BitVec 32 := Scalar.extui v1579
  let c0_i32_1436 : BitVec 32 := 0#32
  let v1581 : BitVec 1 := Scalar.cmpi .ne v1580 c0_i32_1436
  v1581

def k0_off175 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1433 : BitVec 32 := 0#32
  let c0_i32_1546 : BitVec 32 := 0#32
  let c0_i32_1547 : BitVec 32 := 0#32
  ![v2.toNat, 0, 0, 0]
def k0_cond172 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1437 : BitVec 32 := 11#32
  let v1582 : BitVec 1 := Scalar.cmpi .ne v2 c11_i32_1437
  let v1583 : BitVec 32 := Scalar.extui v1582
  let c0_i32_1441 : BitVec 32 := 0#32
  let v1584 : BitVec 1 := Scalar.cmpi .ne v1583 c0_i32_1441
  v1584

def k0_off176 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1438 : BitVec 32 := 0#32
  let c0_i32_1546 : BitVec 32 := 0#32
  let c0_i32_1547 : BitVec 32 := 0#32
  ![v2.toNat, 0, 0, 0]
def k0_cond173 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1442 : BitVec 32 := 12#32
  let v1585 : BitVec 1 := Scalar.cmpi .ne v2 c12_i32_1442
  let v1586 : BitVec 32 := Scalar.extui v1585
  let c0_i32_1446 : BitVec 32 := 0#32
  let v1587 : BitVec 1 := Scalar.cmpi .ne v1586 c0_i32_1446
  v1587

def k0_off177 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1443 : BitVec 32 := 0#32
  let c0_i32_1546 : BitVec 32 := 0#32
  let c0_i32_1547 : BitVec 32 := 0#32
  ![v2.toNat, 0, 0, 0]
def k0_cond174 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1447 : BitVec 32 := 13#32
  let v1588 : BitVec 1 := Scalar.cmpi .ne v2 c13_i32_1447
  let v1589 : BitVec 32 := Scalar.extui v1588
  let c0_i32_1451 : BitVec 32 := 0#32
  let v1590 : BitVec 1 := Scalar.cmpi .ne v1589 c0_i32_1451
  v1590

def k0_off178 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1448 : BitVec 32 := 0#32
  let c0_i32_1546 : BitVec 32 := 0#32
  let c0_i32_1547 : BitVec 32 := 0#32
  ![v2.toNat, 0, 0, 0]
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1452 : BitVec 32 := 14#32
  let v1591 : BitVec 1 := Scalar.cmpi .ne v2 c14_i32_1452
  let v1592 : BitVec 32 := Scalar.extui v1591
  let c0_i32_1456 : BitVec 32 := 0#32
  let v1593 : BitVec 1 := Scalar.cmpi .ne v1592 c0_i32_1456
  v1593

def k0_off179 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1453 : BitVec 32 := 0#32
  let c0_i32_1546 : BitVec 32 := 0#32
  let c0_i32_1547 : BitVec 32 := 0#32
  ![v2.toNat, 0, 0, 0]
def k0_cond176 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1457 : BitVec 32 := 15#32
  let v1594 : BitVec 1 := Scalar.cmpi .ne v2 c15_i32_1457
  let v1595 : BitVec 32 := Scalar.extui v1594
  let c0_i32_1461 : BitVec 32 := 0#32
  let v1596 : BitVec 1 := Scalar.cmpi .ne v1595 c0_i32_1461
  v1596

def k0_off180 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1458 : BitVec 32 := 0#32
  let c0_i32_1546 : BitVec 32 := 0#32
  let c0_i32_1547 : BitVec 32 := 0#32
  ![v2.toNat, 0, 0, 0]
def k0_cond177 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1462 : BitVec 32 := 0#32
  let v1597 : BitVec 1 := Scalar.cmpi .ne v2 c0_i32_1462
  let v1598 : BitVec 32 := Scalar.extui v1597
  let c0_i32_1466 : BitVec 32 := 0#32
  let v1599 : BitVec 1 := Scalar.cmpi .ne v1598 c0_i32_1466
  v1599

def k0_off181 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1463 : BitVec 32 := 1#32
  let c0_i32_1546 : BitVec 32 := 0#32
  let c0_i32_1547 : BitVec 32 := 0#32
  ![v2.toNat, 1, 0, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1467 : BitVec 32 := 1#32
  let v1600 : BitVec 1 := Scalar.cmpi .ne v2 c1_i32_1467
  let v1601 : BitVec 32 := Scalar.extui v1600
  let c0_i32_1471 : BitVec 32 := 0#32
  let v1602 : BitVec 1 := Scalar.cmpi .ne v1601 c0_i32_1471
  v1602

def k0_off182 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1468 : BitVec 32 := 1#32
  let c0_i32_1546 : BitVec 32 := 0#32
  let c0_i32_1547 : BitVec 32 := 0#32
  ![v2.toNat, 1, 0, 0]
def k0_cond179 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1472 : BitVec 32 := 2#32
  let v1603 : BitVec 1 := Scalar.cmpi .ne v2 c2_i32_1472
  let v1604 : BitVec 32 := Scalar.extui v1603
  let c0_i32_1476 : BitVec 32 := 0#32
  let v1605 : BitVec 1 := Scalar.cmpi .ne v1604 c0_i32_1476
  v1605

def k0_off183 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1473 : BitVec 32 := 1#32
  let c0_i32_1546 : BitVec 32 := 0#32
  let c0_i32_1547 : BitVec 32 := 0#32
  ![v2.toNat, 1, 0, 0]
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1477 : BitVec 32 := 3#32
  let v1606 : BitVec 1 := Scalar.cmpi .ne v2 c3_i32_1477
  let v1607 : BitVec 32 := Scalar.extui v1606
  let c0_i32_1481 : BitVec 32 := 0#32
  let v1608 : BitVec 1 := Scalar.cmpi .ne v1607 c0_i32_1481
  v1608

def k0_off184 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1478 : BitVec 32 := 1#32
  let c0_i32_1546 : BitVec 32 := 0#32
  let c0_i32_1547 : BitVec 32 := 0#32
  ![v2.toNat, 1, 0, 0]
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1482 : BitVec 32 := 4#32
  let v1609 : BitVec 1 := Scalar.cmpi .ne v2 c4_i32_1482
  let v1610 : BitVec 32 := Scalar.extui v1609
  let c0_i32_1486 : BitVec 32 := 0#32
  let v1611 : BitVec 1 := Scalar.cmpi .ne v1610 c0_i32_1486
  v1611

def k0_off185 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1483 : BitVec 32 := 1#32
  let c0_i32_1546 : BitVec 32 := 0#32
  let c0_i32_1547 : BitVec 32 := 0#32
  ![v2.toNat, 1, 0, 0]
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1487 : BitVec 32 := 5#32
  let v1612 : BitVec 1 := Scalar.cmpi .ne v2 c5_i32_1487
  let v1613 : BitVec 32 := Scalar.extui v1612
  let c0_i32_1491 : BitVec 32 := 0#32
  let v1614 : BitVec 1 := Scalar.cmpi .ne v1613 c0_i32_1491
  v1614

def k0_off186 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1488 : BitVec 32 := 1#32
  let c0_i32_1546 : BitVec 32 := 0#32
  let c0_i32_1547 : BitVec 32 := 0#32
  ![v2.toNat, 1, 0, 0]
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1492 : BitVec 32 := 6#32
  let v1615 : BitVec 1 := Scalar.cmpi .ne v2 c6_i32_1492
  let v1616 : BitVec 32 := Scalar.extui v1615
  let c0_i32_1496 : BitVec 32 := 0#32
  let v1617 : BitVec 1 := Scalar.cmpi .ne v1616 c0_i32_1496
  v1617

def k0_off187 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1493 : BitVec 32 := 1#32
  let c0_i32_1546 : BitVec 32 := 0#32
  let c0_i32_1547 : BitVec 32 := 0#32
  ![v2.toNat, 1, 0, 0]
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1497 : BitVec 32 := 7#32
  let v1618 : BitVec 1 := Scalar.cmpi .ne v2 c7_i32_1497
  let v1619 : BitVec 32 := Scalar.extui v1618
  let c0_i32_1501 : BitVec 32 := 0#32
  let v1620 : BitVec 1 := Scalar.cmpi .ne v1619 c0_i32_1501
  v1620

def k0_off188 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1498 : BitVec 32 := 1#32
  let c0_i32_1546 : BitVec 32 := 0#32
  let c0_i32_1547 : BitVec 32 := 0#32
  ![v2.toNat, 1, 0, 0]
def k0_cond185 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1502 : BitVec 32 := 8#32
  let v1621 : BitVec 1 := Scalar.cmpi .ne v2 c8_i32_1502
  let v1622 : BitVec 32 := Scalar.extui v1621
  let c0_i32_1506 : BitVec 32 := 0#32
  let v1623 : BitVec 1 := Scalar.cmpi .ne v1622 c0_i32_1506
  v1623

def k0_off189 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1503 : BitVec 32 := 1#32
  let c0_i32_1546 : BitVec 32 := 0#32
  let c0_i32_1547 : BitVec 32 := 0#32
  ![v2.toNat, 1, 0, 0]
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1507 : BitVec 32 := 9#32
  let v1624 : BitVec 1 := Scalar.cmpi .ne v2 c9_i32_1507
  let v1625 : BitVec 32 := Scalar.extui v1624
  let c0_i32_1511 : BitVec 32 := 0#32
  let v1626 : BitVec 1 := Scalar.cmpi .ne v1625 c0_i32_1511
  v1626

def k0_off190 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1508 : BitVec 32 := 1#32
  let c0_i32_1546 : BitVec 32 := 0#32
  let c0_i32_1547 : BitVec 32 := 0#32
  ![v2.toNat, 1, 0, 0]
def k0_cond187 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1512 : BitVec 32 := 10#32
  let v1627 : BitVec 1 := Scalar.cmpi .ne v2 c10_i32_1512
  let v1628 : BitVec 32 := Scalar.extui v1627
  let c0_i32_1516 : BitVec 32 := 0#32
  let v1629 : BitVec 1 := Scalar.cmpi .ne v1628 c0_i32_1516
  v1629

def k0_off191 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1513 : BitVec 32 := 1#32
  let c0_i32_1546 : BitVec 32 := 0#32
  let c0_i32_1547 : BitVec 32 := 0#32
  ![v2.toNat, 1, 0, 0]
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1517 : BitVec 32 := 11#32
  let v1630 : BitVec 1 := Scalar.cmpi .ne v2 c11_i32_1517
  let v1631 : BitVec 32 := Scalar.extui v1630
  let c0_i32_1521 : BitVec 32 := 0#32
  let v1632 : BitVec 1 := Scalar.cmpi .ne v1631 c0_i32_1521
  v1632

def k0_off192 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1518 : BitVec 32 := 1#32
  let c0_i32_1546 : BitVec 32 := 0#32
  let c0_i32_1547 : BitVec 32 := 0#32
  ![v2.toNat, 1, 0, 0]
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1522 : BitVec 32 := 12#32
  let v1633 : BitVec 1 := Scalar.cmpi .ne v2 c12_i32_1522
  let v1634 : BitVec 32 := Scalar.extui v1633
  let c0_i32_1526 : BitVec 32 := 0#32
  let v1635 : BitVec 1 := Scalar.cmpi .ne v1634 c0_i32_1526
  v1635

def k0_off193 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1523 : BitVec 32 := 1#32
  let c0_i32_1546 : BitVec 32 := 0#32
  let c0_i32_1547 : BitVec 32 := 0#32
  ![v2.toNat, 1, 0, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1527 : BitVec 32 := 13#32
  let v1636 : BitVec 1 := Scalar.cmpi .ne v2 c13_i32_1527
  let v1637 : BitVec 32 := Scalar.extui v1636
  let c0_i32_1531 : BitVec 32 := 0#32
  let v1638 : BitVec 1 := Scalar.cmpi .ne v1637 c0_i32_1531
  v1638

def k0_off194 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1528 : BitVec 32 := 1#32
  let c0_i32_1546 : BitVec 32 := 0#32
  let c0_i32_1547 : BitVec 32 := 0#32
  ![v2.toNat, 1, 0, 0]
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1532 : BitVec 32 := 14#32
  let v1639 : BitVec 1 := Scalar.cmpi .ne v2 c14_i32_1532
  let v1640 : BitVec 32 := Scalar.extui v1639
  let c0_i32_1536 : BitVec 32 := 0#32
  let v1641 : BitVec 1 := Scalar.cmpi .ne v1640 c0_i32_1536
  v1641

def k0_off195 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1533 : BitVec 32 := 1#32
  let c0_i32_1546 : BitVec 32 := 0#32
  let c0_i32_1547 : BitVec 32 := 0#32
  ![v2.toNat, 1, 0, 0]
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1537 : BitVec 32 := 15#32
  let v1642 : BitVec 1 := Scalar.cmpi .ne v2 c15_i32_1537
  let v1643 : BitVec 32 := Scalar.extui v1642
  let c0_i32_1541 : BitVec 32 := 0#32
  let v1644 : BitVec 1 := Scalar.cmpi .ne v1643 c0_i32_1541
  v1644

def k0_off196 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1538 : BitVec 32 := 1#32
  let c0_i32_1546 : BitVec 32 := 0#32
  let c0_i32_1547 : BitVec 32 := 0#32
  ![v2.toNat, 1, 0, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S2x128x512x512, .f32⟩
  | .hbm, ⟨85, _⟩ => ⟨S_, .f32⟩
  | .hbm, ⟨86, _⟩ => ⟨S2x128x512x512, .f32⟩
  | .hbm, ⟨87, _⟩ => ⟨S2x128x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S2x128x512x512, .i1⟩
  | .hbm, ⟨92, _⟩ => ⟨S2x128x512x512, .f32⟩
  | .hbm, ⟨93, _⟩ => ⟨S2x128x512x512, .f32⟩
  | .hbm, ⟨94, _⟩ => ⟨S_, .f32⟩
  | .hbm, ⟨95, _⟩ => ⟨S2x128x512, .f32⟩
  | .hbm, ⟨96, _⟩ => ⟨S2x128x512x1, .f32⟩
  | .hbm, ⟨97, _⟩ => ⟨S2x128x512x512, .f32⟩
  | .hbm, ⟨98, _⟩ => ⟨S2x128x512x512, .f32⟩
  | .hbm, ⟨99, _⟩ => ⟨S2x128x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x128x512, .f32⟩
  | .hbm, ⟨105, _⟩ => ⟨S2x128x512x1, .f32⟩
  | .hbm, ⟨106, _⟩ => ⟨S_, .f32⟩
  | .hbm, ⟨107, _⟩ => ⟨S_, .f32⟩
  | .hbm, ⟨108, _⟩ => ⟨S2x128x512x1, .i1⟩
  | .hbm, ⟨109, _⟩ => ⟨S2x128x512x1, .f32⟩
  | .hbm, ⟨110, _⟩ => ⟨S2x128x512x1, .f32⟩
  | .hbm, ⟨111, _⟩ => ⟨S2x128x512x512, .f32⟩
  | .hbm, ⟨112, _⟩ => ⟨S2x128x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x128x512x512, .i1⟩
  | .hbm, ⟨117, _⟩ => ⟨S2x128x512x512, .f32⟩
  | .hbm, ⟨118, _⟩ => ⟨S2x128x512x512, .f32⟩
  | .hbm, ⟨119, _⟩ => ⟨S2x128x64x512, .f32⟩
  | .hbm, ⟨120, _⟩ => ⟨S2x512x128x64, .f32⟩
  | .hbm, ⟨121, _⟩ => ⟨S2x512x8192, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Protocol.lean ====
/-
# The kernel's exchange: cells, regions, and what each signal or transfer hands over

Every device `c` has these semaphore cells:
* the runtime's barrier: each other device `d` signals one unit, and hands over `d`'s landing slots for `c`'s data;
* two cells for its own copies of the weights;
* for each chunk of rows `k` and batch `b`, the send cell of the exchange of partial sums, and, for each device `s`, the receive cell of it;
* the same two families for the broadcast of the reduced rows.
Each cell has one round. What a receive cell hands over is the landing slot holding the sender's data, by value.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs -/

abbrev xM : Memref sig .tc .vmem S2x512x768 .f32 := Memref.whole cc0_stg0_0
abbrev kM : Memref sig .tc .vmem S2x512x8x64 .f32 := Memref.whole cc0_stg1_0
abbrev vM : Memref sig .tc .vmem S2x512x8x64 .f32 := Memref.whole cc0_stg2_0
abbrev oM : Memref sig .tc .vmem S2x512x768 .f32 := Memref.whole cc0_stg3_0
abbrev wqH : Memref sig .tc .hbm S768x8192 .f32 := Memref.whole main_arg1
abbrev woH : Memref sig .tc .hbm S8192x768 .f32 := Memref.whole main_arg4
abbrev wqM : Memref sig .tc .vmem S768x512 .f32 := Memref.whole cc0_scratch0
abbrev woM : Memref sig .tc .vmem S512x768 .f32 := Memref.whole cc0_scratch1
abbrev wbM : Memref sig .tc .vmem S512x768 .bf16 := Memref.whole cc0_scratch2
abbrev ctxM : Memref sig .tc .vmem S512x512 .f32 := Memref.whole cc0_scratch3
abbrev partM : Memref sig .tc .vmem S2x512x768 .bf16 := Memref.whole cc0_scratch4
abbrev aM : Memref sig .tc .vmem S16x2x32x768 .bf16 := Memref.whole cc0_scratch5
abbrev stM : Memref sig .tc .vmem S2x32x768 .bf16 := Memref.whole cc0_scratch6
abbrev bM : Memref sig .tc .vmem S16x2x32x768 .bf16 := Memref.whole cc0_scratch7

theorem chunk_inb (b : Fin 2) (k : Fin 16) : ∀ i, (![b.val, 32 * k.val, 0] : Fin 3 → ℕ) i + S1x32x768.size i ≤ S2x512x768.size i := by
  revert b k; decide
theorem slot_inb (s : Fin 16) (b : Fin 2) : ∀ i, (![s.val, b.val, 0, 0] : Fin 4 → ℕ) i + S1x1x32x768.size i ≤ S16x2x32x768.size i := by
  revert b s; decide
theorem stage_inb (b : Fin 2) : ∀ i, (![b.val, 0, 0] : Fin 3 → ℕ) i + S1x32x768.size i ≤ S2x32x768.size i := by
  revert b; decide
theorem batch_inb (b : Fin 2) : ∀ i, (![b.val, 0, 0] : Fin 3 → ℕ) i + S1x512x768.size i ≤ S2x512x768.size i := by
  revert b; decide

abbrev chunkR (p : Fin 2 × Fin 16) : Rect S2x512x768 := Rect.unit ![p.1.val, 32 * p.2.val, 0] S1x32x768.size (chunk_inb p.1 p.2)
abbrev slotR (p : Fin 16 × Fin 2) : Rect S16x2x32x768 := Rect.unit ![p.1.val, p.2.val, 0, 0] S1x1x32x768.size (slot_inb p.1 p.2)
abbrev stageR (b : Fin 2) : Rect S2x32x768 := Rect.unit ![b.val, 0, 0] S1x32x768.size (stage_inb b)
abbrev batchR (b : Fin 2) : Rect S2x512x768 := Rect.unit ![b.val, 0, 0] S1x512x768.size (batch_inb b)

/-- Rows `32 k … 32 k + 31` of batch `b` of the partial sums. -/
abbrev partC (b : Fin 2) (k : Fin 16) : Memref sig .tc .vmem S32x768 .bf16 :=
  (partM.slice (chunkR (b, k)) (fun _ => rfl)).squeeze S32x768 squeezes_S1x32x768_S32x768
/-- The landing slot for device `s`'s partial rows of batch `b`. -/
abbrev slotA (s : Fin 16) (b : Fin 2) : Memref sig .tc .vmem S32x768 .bf16 :=
  (aM.slice (slotR (s, b)) (fun _ => rfl)).squeeze S32x768 squeezes_S1x1x32x768_S32x768
/-- The reduced rows of batch `b`, staged for the broadcast. -/
abbrev stgC (b : Fin 2) : Memref sig .tc .vmem S32x768 .bf16 :=
  (stM.slice (stageR b) (fun _ => rfl)).squeeze S32x768 squeezes_S1x32x768_S32x768
/-- The landing slot for device `s`'s reduced rows of batch `b`. -/
abbrev slotB (s : Fin 16) (b : Fin 2) : Memref sig .tc .vmem S32x768 .bf16 :=
  (bM.slice (slotR (s, b)) (fun _ => rfl)).squeeze S32x768 squeezes_S1x1x32x768_S32x768

/-! ## The cells -/

abbrev barS : Sem sig := (SemArray.scalar (sig.barrier 0 rfl) : Sems sig S_).sem

/-- The kernel's own DMA semaphores: the two weight copies', then send/receive of the exchange and of the broadcast, each per chunk or device and batch. -/
abbrev OK : Type := Fin 2 ⊕ (Fin 4 × Fin 16 × Fin 2)
abbrev CK : Type := Option OK

def osem : OK → SemLoc sig
  | .inl j => .dma ⟨4 + j.val, by have := j.isLt; show 4 + j.val < 134; omega⟩
  | .inr (t, i, b) => .dma ⟨6 + 32 * t.val + (2 * i.val + b.val), by
      have := t.isLt; have := i.isLt; have := b.isLt; show _ < 134; omega⟩
def csem : CK → SemLoc sig
  | none => .reg barS
  | some k => osem k

abbrev kcell (c : Dev nD) (k : CK) : GSem nD τ sig := ((c : Thread nD τ), csem k)

abbrev barC (c : Dev nD) : GSem nD τ sig := kcell c none
abbrev locC (c : Dev nD) (j : Fin 2) : GSem nD τ sig := kcell c (some (.inl j))
abbrev sAC (c : Dev nD) (k : Fin 16) (b : Fin 2) : GSem nD τ sig := kcell c (some (.inr (0, k, b)))
abbrev rAC (c : Dev nD) (s : Fin 16) (b : Fin 2) : GSem nD τ sig := kcell c (some (.inr (1, s, b)))
abbrev sBC (c : Dev nD) (k : Fin 16) (b : Fin 2) : GSem nD τ sig := kcell c (some (.inr (2, k, b)))
abbrev rBC (c : Dev nD) (s : Fin 16) (b : Fin 2) : GSem nD τ sig := kcell c (some (.inr (3, s, b)))

/-- Which of the cells a semaphore is. -/
def dec : SemLoc sig → Option CK
  | .reg s => if s = barS then some none else none
  | .dma q =>
    if q.val < 4 then none
    else if h : q.val < 6 then some (some (.inl ⟨q.val - 4, by omega⟩))
    else some (some (.inr (⟨(q.val - 6) / 32, by have h' : q.val < 134 := q.isLt; omega⟩, ⟨(q.val - 6) % 32 / 2, by omega⟩, ⟨(q.val - 6) % 2, by omega⟩)))

theorem dec_csem (k : CK) : dec (csem k) = some k := by
  rcases k with _ | j | ⟨t, i, b⟩
  · show (if barS = barS then some none else none) = _; rw [if_pos rfl]
  · revert j; decide
  · have ht := t.isLt; have hi := i.isLt; have hb := b.isLt
    unfold dec csem osem
    dsimp only
    rw [if_neg (by omega), dif_neg (by omega)]
    congr 4
    · apply Fin.ext; dsimp only; omega
    · congr 1
      · apply Fin.ext; dsimp only; omega
      · apply Fin.ext; dsimp only; omega

theorem csem_injective : Function.Injective csem := fun a b h => by
  have := congrArg dec h; rw [dec_csem, dec_csem] at this; exact Option.some.inj this

theorem kcell_injective : Function.Injective (fun ck : Dev nD × CK => kcell ck.1 ck.2) := by
  rintro ⟨c, k⟩ ⟨c', k'⟩ h
  have h1 : c = c' := congrArg (fun g : GSem nD τ sig => g.1.1) h
  have h2 : k = k' := csem_injective (congrArg Prod.snd h)
  subst h1; subst h2; rfl

/-! ## Who owns which rows -/

/-- The device that reduces rows `32 k …`. -/
def owner (k : Fin 16) : Dev nD := ![0, 1, 3, 2, 4, 5, 7, 6, 8, 9, 11, 10, 12, 13, 15, 14] k
/-- The chunk of rows that device `c` reduces. -/
def mine (c : Dev nD) : Fin 16 := ![0, 1, 3, 2, 4, 5, 7, 6, 8, 9, 11, 10, 12, 13, 15, 14] c
theorem owner_mine (c : Dev nD) : owner (mine c) = c := by revert c; decide
theorem mine_owner (k : Fin 16) : mine (owner k) = k := by revert k; decide
def ownerEquiv : Fin 16 ≃ Dev nD := ⟨owner, mine, mine_owner, owner_mine⟩

/-! ## Contents -/

/-- What the exchange moves: the weight blocks each device copies, its partial rows per batch and chunk, its reduced rows per batch. -/
structure Cont (F : FTy → Type) where
  wq : Dev nD → Vec F S768x512 .f32
  wo : Dev nD → Vec F S512x768 .f32
  pv : Dev nD → Fin 2 → Fin 16 → Vec F S32x768 .bf16
  rv : Dev nD → Fin 2 → Vec F S32x768 .bf16

/-- A memref owned at contents not named. -/
def anyAt (c : Dev nD) {sp : Space} {s : Shape} {e : EltTy} (m : Memref sig .tc sp s e) : sProp 𝕄 :=
  iprop(∃ X, owns (c : Thread nD τ) m fullShare X)
instance anyAt_storable (c : Dev nD) {sp : Space} {s : Shape} {e : EltTy} (m : Memref sig .tc sp s e) :
    BI.Storable (upEmb : UEmb _ 𝕄) (anyAt (F := F) c m) := by unfold anyAt; infer_instance

/-- The `i`-th of sixteen equal parts of the read share of the staged rows (the last keeps the rest). -/
abbrev bshare (i : Fin 16) : PosShare TreeShare   := Transfers.shareTokN fullShare i.val

/-- What a signal by `d` of `c`'s barrier hands over: `d`'s landing slots for `c`'s data. -/
def barPay (c d : Dev nD) : sProp 𝕄 :=
  iprop((anyAt d (slotA c 0) ∗ anyAt d (slotA c 1)) ∗ (anyAt d (slotB c 0) ∗ anyAt d (slotB c 1)))
instance barPay_storable (c d : Dev nD) : BI.Storable (upEmb : UEmb _ 𝕄) (barPay (F := F) c d) := by unfold barPay; infer_instance

variable (D : Cont F)

def locPay (c : Dev nD) (j : Fin 2) : sProp 𝕄 :=
  if j = 0 then owns (c : Thread nD τ) wqM fullShare (D.wq c) else owns (c : Thread nD τ) woM fullShare (D.wo c)
def xferPay (c : Dev nD) (t : Fin 4) (i : Fin 16) (b : Fin 2) : sProp 𝕄 :=
  if t = 0 then anyAt c (partC b i)
  else if t = 1 then owns (c : Thread nD τ) (slotA i b) fullShare (D.pv i b (mine c))
  else if t = 2 then owns (c : Thread nD τ) (stgC b) (bshare i) (D.rv c b)
  else owns (c : Thread nD τ) (slotB i b) fullShare (D.rv i b)
instance locPay_storable (c : Dev nD) (j : Fin 2) : BI.Storable (upEmb : UEmb _ 𝕄) (locPay D c j) := by
  unfold locPay; split <;> infer_instance
instance xferPay_storable (c : Dev nD) (t : Fin 4) (i : Fin 16) (b : Fin 2) : BI.Storable (upEmb : UEmb _ 𝕄) (xferPay D c t i b) := by
  unfold xferPay; (repeat' split) <;> infer_instance

/-! ## The schedule -/

abbrev NA : ℕ := (slotA 0 0).view.dmaCredit
abbrev NB : ℕ := (slotB 0 0).view.dmaCredit
abbrev NQ : ℕ := wqM.view.dmaCredit
abbrev NO : ℕ := woM.view.dmaCredit
theorem NA_pos : 0 < NA := View.dmaCredit_pos _ (by decide)
theorem NB_pos : 0 < NB := View.dmaCredit_pos _ (by decide)
theorem NQ_pos : 0 < NQ := View.dmaCredit_pos _ (by decide)
theorem NO_pos : 0 < NO := View.dmaCredit_pos _ (by decide)

/-- Which device's data a cell of device `c` never sees: its own. -/
def skip (c : Dev nD) (t : Fin 4) (i : Fin 16) : Prop := if t = 0 then owner i = c else i = c
instance (c : Dev nD) (t : Fin 4) (i : Fin 16) : Decidable (skip c t i) := by unfold skip; split <;> infer_instance

def kduties (c : Dev nD) : CK → Finset (Fin 16)
  | none => Finset.univ.erase c
  | some (.inl _) => {0}
  | some (.inr (t, i, _)) => if skip c t i then ∅ else {0}
def kamount : CK → ℕ
  | none => 1
  | some (.inl j) => if j = 0 then NQ else NO
  | some (.inr (t, _, _)) => if t = 0 ∨ t = 1 then NA else NB
def kpay (c : Dev nD) (d : Fin 16) : CK → sProp 𝕄
  | none => barPay c d
  | some (.inl j) => locPay D c j
  | some (.inr (t, i, b)) => xferPay D c t i b
instance kpay_storable (c : Dev nD) (d : Fin 16) (k : CK) : BI.Storable (upEmb : UEmb _ 𝕄) (kpay D c d k) := by
  rcases k with _ | j | ⟨t, i, b⟩ <;> (dsimp only [kpay]; infer_instance)

theorem kamount_pos (k : CK) : 0 < kamount k := by
  rcases k with _ | j | ⟨t, i, b⟩
  · exact Nat.one_pos
  · dsimp only [kamount]; split
    · exact NQ_pos
    · exact NO_pos
  · dsimp only [kamount]; split
    · exact NA_pos
    · exact NB_pos

def Rd : Rounds.Schedule (GSem nD τ sig) (Fin 16) 𝕄 where
  duties g r := if r = 0 ∧ g.1.2 = .tc then (match dec g.2 with | some k => kduties g.1.1 k | none => ∅) else ∅
  unitless _ := False
  amount g _ _ := match dec g.2 with | some k => kamount k | none => 1
  payload g _ d := match dec g.2 with | some k => kpay D g.1.1 d k | none => iprop(emp)
  amount_pos g _ _ _ := by
    cases dec g.2 with
    | none => exact Nat.one_pos
    | some k => exact kamount_pos k

instance Rd_payload_storable (g : GSem nD τ sig) (r : ℕ) (d : Fin 16) : BI.Storable (upEmb : UEmb _ 𝕄) ((Rd D).payload g r d) := by
  show BI.Storable upEmb (match dec g.2 with | some k => kpay D g.1.1 d k | none => iprop(emp))
  split <;> infer_instance

theorem duties_k (c : Dev nD) (k : CK) : (Rd D).duties (kcell c k) 0 = kduties c k := by
  dsimp only [Rd]; rw [if_pos ⟨rfl, rfl⟩, dec_csem]
theorem duties_later (g : GSem nD τ sig) : ∀ r, 1 ≤ r → (Rd D).duties g r = ∅ :=
  fun r hr => by dsimp only [Rd]; rw [if_neg fun h => by omega]
theorem amount_k (c : Dev nD) (k : CK) (d : Fin 16) : (Rd D).amount (kcell c k) 0 d = kamount k := by
  dsimp only [Rd]; rw [dec_csem]
theorem payload_k (c : Dev nD) (k : CK) (d : Fin 16) : (Rd D).payload (kcell c k) 0 d = kpay D c d k := by
  dsimp only [Rd]; rw [dec_csem]

theorem expect_bar (c : Dev nD) : (Rd D).expect (barC c) 0 = 15 := by
  unfold Schedule.expect Schedule.amountOf
  rw [duties_k, Finset.sum_congr rfl fun d _ => amount_k D c none d]
  revert c; decide
theorem expect_one (c : Dev nD) (k : CK) (h : kduties c k = {0}) : (Rd D).expect (kcell c k) 0 = kamount k := by
  unfold Schedule.expect Schedule.amountOf
  rw [duties_k, h, Finset.sum_singleton, amount_k]

theorem rest_bar (c : Dev nD) : bigSep ((Rd D).duties (barC c) 0 \ ∅) (fun d => (Rd D).payload (barC c) 0 d)
    = bigSep (Finset.univ.erase c) fun d => barPay (F := F) c d := by
  rw [Finset.sdiff_empty, duties_k]
  exact bigSep_congr fun d _ => payload_k D c none d
theorem rest_one (c : Dev nD) (k : CK) (h : kduties c k = {0}) :
    bigSep ((Rd D).duties (kcell c k) 0 \ ∅) (fun d => (Rd D).payload (kcell c k) 0 d) = kpay D c 0 k := by
  rw [Finset.sdiff_empty, duties_k, h, bigSep_singleton, payload_k]

/-! ## What each device owes, and the levels -/

abbrev OT : Type := CellTallies nD τ sig Unit

/-- The device `k` places after `c` round the ring. -/
def hop (c : Dev nD) (k : Fin 16) : Dev nD := (show Fin 16 from c) + k
theorem hop_ne (c : Dev nD) (k : Fin 16) (h : k ≠ 0) : c ≠ hop c k := by revert c k; decide
/-- Signals of the barriers from the `n`-th device after `c` on. -/
def OB (c : Dev nD) (n : ℕ) : OT := ∑ k : Fin 16 with n ≤ k.val ∧ k ≠ 0, tallyAt (barC (hop c k)) () 1
/-- Chunks of batch `b` from `n` on. -/
def OA (c : Dev nD) (b : Fin 2) (n : ℕ) : OT := ∑ k : Fin 16 with n ≤ k.val ∧ owner k ≠ c, tallyAt (rAC (owner k) c b) () NA
/-- The broadcast of batch `b` to the devices from `n` on. -/
def OC (c : Dev nD) (b : Fin 2) (n : ℕ) : OT := ∑ d : Fin 16 with n ≤ d.val ∧ d ≠ c, tallyAt (rBC d c b) () NB

theorem sum_from_skip {A : Type} [AddCommMonoid A] {p : Fin 16 → Prop} [DecidablePred p] (f : Fin 16 → A) (d : Fin 16) (h : ¬ p d) :
    (∑ k : Fin 16 with d.val ≤ k.val ∧ p k, f k) = ∑ k : Fin 16 with d.val + 1 ≤ k.val ∧ p k, f k := by
  refine Finset.sum_congr ?_ fun _ _ => rfl
  ext k; simp only [Finset.mem_filter, Finset.mem_univ, true_and]
  refine and_congr_left fun hk => ?_
  constructor
  · intro hle
    rcases Nat.lt_or_eq_of_le hle with h' | h'
    · exact h'
    · exact absurd hk (by rw [← Fin.ext h']; exact h)
  · intro hle; omega
theorem sum_from_pop {A : Type} [AddCommMonoid A] {p : Fin 16 → Prop} [DecidablePred p] (f : Fin 16 → A) (d : Fin 16) (h : p d) :
    (∑ k : Fin 16 with d.val ≤ k.val ∧ p k, f k) = (∑ k : Fin 16 with d.val + 1 ≤ k.val ∧ p k, f k) + f d := by
  have : (Finset.univ.filter fun k : Fin 16 => d.val ≤ k.val ∧ p k) = insert d (Finset.univ.filter fun k : Fin 16 => d.val + 1 ≤ k.val ∧ p k) := by
    ext k; simp only [Finset.mem_filter, Finset.mem_univ, true_and, Finset.mem_insert]
    constructor
    · rintro ⟨hle, hk⟩
      rcases Nat.lt_or_eq_of_le hle with h' | h'
      · exact .inr ⟨h', hk⟩
      · exact .inl (Fin.ext h'.symm)
    · rintro (rfl | ⟨hle, hk⟩)
      · exact ⟨le_rfl, h⟩
      · exact ⟨by omega, hk⟩
  rw [this, Finset.sum_insert (by simp), add_comm]
theorem sum_from_end {A : Type} [AddCommMonoid A] {p : Fin 16 → Prop} [DecidablePred p] (f : Fin 16 → A) :
    (∑ k : Fin 16 with 16 ≤ k.val ∧ p k, f k) = 0 := by
  rw [Finset.filter_false_of_mem (fun k _ h => by have := k.isLt; omega)]; exact Finset.sum_empty

/-- What device `c` owes from its broadcasts on. -/
def O₃ (c : Dev nD) : OT := OC c 1 0
def O₂ (c : Dev nD) : OT := OC c 0 0 + O₃ c
def O₁ (c : Dev nD) : OT := OA c 0 0 + (OA c 1 0 + O₂ c)
def O₀ (c : Dev nD) : OT := OB c 0 + O₁ c

def L (g : GSem nD τ sig) : Finset Unit := if g.1.2 = .tc then {()} else ∅
def klv : CK → ℕ
  | none => 1
  | some (.inl _) => 0
  | some (.inr (t, _, _)) => if t = 1 then 2 else if t = 3 then 3 else 0
def lv (g : GSem nD τ sig) (_ : Unit) : ℕ := match dec g.2 with | some k => klv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell c k) u = klv k := by unfold lv; rw [dec_csem]

theorem tally_sum_pos {S : Finset (Fin 16)} {f : Fin 16 → GSem nD τ sig} {n : ℕ} {g : GSem nD τ sig} {u : Unit}
    (h : 0 < (∑ k ∈ S, (tallyAt (f k) () n : OT)) g u) : ∃ k ∈ S, g = f k := by
  by_contra hn
  push Not at hn
  rw [Finset.sum_apply, Finsupp.finset_sum_apply, Finset.sum_eq_zero fun k hk => by
    rw [tallyAt_apply, if_neg (fun h' => hn k hk h'.1)]] at h
  exact Nat.lt_irrefl 0 h

theorem add_pos_cases {O O' : OT} {g : GSem nD τ sig} {u : Unit} (h : 0 < (O + O') g u) : 0 < O g u ∨ 0 < O' g u := by
  rw [Pi.add_apply, Finsupp.add_apply] at h; omega

/-- Everything owed in `O` is to a TensorCore cell of the kernel at level above `n`. -/
def Above (n : ℕ) (O : OT) : Prop := ∀ g u, 0 < O g u → ∃ c k, g = kcell c k ∧ n < klv k

theorem Above.add {n : ℕ} {O O' : OT} (h : Above n O) (h' : Above n O') : Above n (O + O') := fun g u hg =>
  (add_pos_cases hg).elim (h g u) (h' g u)
theorem Above.zero (n : ℕ) : Above n 0 := fun g u hg => absurd hg (Nat.lt_irrefl 0)
theorem above_OB (c : Dev nD) (n : ℕ) : Above 0 (OB c n) := fun g u hg => by
  obtain ⟨d, -, rfl⟩ := tally_sum_pos hg; exact ⟨hop c d, none, rfl, Nat.one_pos⟩
theorem above_OA (c : Dev nD) (b : Fin 2) (n : ℕ) : Above 1 (OA c b n) := fun g u hg => by
  obtain ⟨d, -, rfl⟩ := tally_sum_pos hg; exact ⟨_, _, rfl, (by decide : 1 < 2)⟩
theorem above_OC (c : Dev nD) (b : Fin 2) (n : ℕ) : Above 2 (OC c b n) := fun g u hg => by
  obtain ⟨d, -, rfl⟩ := tally_sum_pos hg; exact ⟨_, _, rfl, (by decide : 2 < 3)⟩
theorem Above.le {n n' : ℕ} {O : OT} (h : Above n O) (hn : n' ≤ n) : Above n' O := fun g u hg => by
  obtain ⟨c, k, rfl, hk⟩ := h g u hg; exact ⟨c, k, rfl, Nat.lt_of_le_of_lt hn hk⟩
theorem above_O₃ (c : Dev nD) : Above 2 (O₃ c) := above_OC c 1 0
theorem above_O₂ (c : Dev nD) : Above 2 (O₂ c) := (above_OC c 0 0).add (above_O₃ c)
theorem above_O₁ (c : Dev nD) : Above 1 (O₁ c) :=
  (above_OA c 0 0).add ((above_OA c 1 0).add ((above_O₂ c).le (by decide)))
theorem above_O₀ (c : Dev nD) : Above 0 (O₀ c) := (above_OB c 0).add ((above_O₁ c).le (by decide))

/-- A wait at a cell of level at most `n` is allowed while all that is owed is above `n`. -/
theorem mayWait_above (c : Dev nD) (sm : SemLoc sig) (n : ℕ) (hsm : lv ((c : Thread nD τ), sm) () ≤ n) {O : OT} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hsm)
    (fun g u hg => by obtain ⟨c', k, rfl, hk⟩ := hO g u hg; rw [lv_k]; exact hk)

/-! ## The common context -/

variable (K : Dev nD × CK → ℕ)

/-- All invariants, that round 0 of every cell is reached, the levels. -/
def ctx : sProp 𝕄 :=
  iprop((bigSep Finset.univ fun ck : Dev nD × CK => cellInv ER (Rd D) (K ck) (kcell ck.1 ck.2))
    ∗ (bigSep Finset.univ fun ck : Dev nD × CK => reached ER (kcell ck.1 ck.2) 0) ∗ levAts L lv)
instance ctx_persistent : BI.Persistent (ctx D K) := by unfold ctx; infer_instance

theorem inv_at (ck : Dev nD × CK) :
    (bigSep Finset.univ fun ck : Dev nD × CK => (cellInv ER (Rd D) (K ck) (kcell ck.1 ck.2) : sProp 𝕄)) ⊢ cellInv ER (Rd D) (K ck) (kcell ck.1 ck.2) :=
  bigSep_elim (Finset.mem_univ ck)
theorem reached_at (ck : Dev nD × CK) :
    (bigSep Finset.univ fun ck : Dev nD × CK => (reached ER (kcell ck.1 ck.2) 0 : sProp 𝕄)) ⊢ reached ER (kcell ck.1 ck.2) 0 :=
  bigSep_elim (Finset.mem_univ ck)
theorem ctx_inv (c : Dev nD) (k : CK) : ctx D K ⊢ cellInv ER (Rd D) (K (c, k)) (kcell c k) := by
  unfold ctx; iintro ⟨HI, -, -⟩
  iapply (inv_at D K (c, k)); iexact HI
theorem ctx_reached (c : Dev nD) (k : CK) : ctx D K ⊢ reached ER (kcell c k) 0 := by
  unfold ctx; iintro ⟨-, HR, -⟩
  iapply (reached_at (F := F) (c, k)); iexact HR
theorem ctx_wait (c : Dev nD) (sm : SemLoc sig) (n : ℕ) (hsm : lv ((c : Thread nD τ), sm) () ≤ n) {O : OT} (hO : Above n O) :
    ctx D K ⊢ MayWait (c : Thread nD τ) sm () O := by
  unfold ctx; iintro ⟨-, -, HL⟩; iapply (mayWait_above c sm n hsm hO); iexact HL

/-- What is owed, whatever waits are behind. -/
def owing (c : Dev nD) (O : OT) : sProp 𝕄 := iprop(∃ W : Waits sig Unit, owes (c : Thread nD τ) O W)
/-- A cell of `c` at the end of its rounds. -/
def ended (c : Dev nD) (k : CK) : sProp 𝕄 := iprop(∃ R, ⌜∀ r, R ≤ r → (Rd D).duties (kcell c k) r = ∅⌝ ∗ atPos ER (kcell c k) R ∅ 0)

theorem ended_one (c : Dev nD) (k : CK) : (atPos ER (kcell c k) (0 + 1) ∅ 0 : sProp 𝕄) ⊢ ended D c k := by
  unfold ended; iintro H; iexists 1; isplitr
  · ipureintro; exact duties_later D _
  · iexact H
theorem ended_skip (c : Dev nD) (k : CK) (h : kduties c k = ∅) : (atPos ER (kcell c k) 0 ∅ 0 : sProp 𝕄) ⊢ ended D c k := by
  unfold ended; iintro H; iexists 0; isplitr
  · ipureintro; intro r _
    rcases Nat.eq_zero_or_pos r with rfl | hr
    · rw [duties_k, h]
    · exact duties_later D _ r hr
  · iexact H

end Cert.Exchange

end
-- ==== Proof.Sends.lean ====
/-
# One remote transfer, as the exchange uses it

A transfer from `c` to `c'` takes the source and its landing slot, and pays the send cell of `c` and the receive cell of `c'`.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The semaphore a slice names -/

theorem sem_at32 (base : ℕ) (h : base + S32.numel ≤ 134) {off : Fin 1 → ℕ} (inb : ∀ i, off i + S1.size i ≤ S32.size i) (n : ℕ) (hn : off = ![n])
    (hlt : base + n < 134) :
    (((SemArray.consecutive base S32 h : DmaSems sig S32).slice (Rect.unit (s := S32) off S1.size inb)).squeeze S_ squeezes_S1_S_).sem = ⟨base + n, hlt⟩ := by
  subst hn
  apply Fin.ext
  show base + (S32.rowMajor ((Rect.unit (s := S32) ![n] S1.size inb).emb (Shape.reshapeEquiv squeezes_S1_S_.numel_eq fun i => i.elim0))).val = base + n
  congr 1
  generalize Shape.reshapeEquiv squeezes_S1_S_.numel_eq (fun i => i.elim0) = j
  refine (Shape.rowMajor_val_one _).trans ?_
  have hj : (j 0).val < 1 := (j 0).isLt
  show n + 1 * (j 0).val = n
  omega

omit [FloatOps F] in
theorem owns_mk (c : Dev nD) {sp : Space} {s : Shape} {e : EltTy} (m : Memref sig .tc sp s e) (q : PosShare TreeShare) (f : Buf (Elt F) (m.view.loc (c : Thread nD τ))) (X : Vec F s e)
    (h : m.view.read (Elt F) f = X) : (m.view.loc (c : Thread nD τ) ↦[m.view.set]{q} f : sProp 𝕄) ⊢ owns (c : Thread nD τ) m q X := by
  unfold owns; iintro H; iexists f; isplitr
  · ipureintro; exact h
  · iexact H

/-! ## The transfer -/

variable (D : Cont F) (K : Dev nD × CK → ℕ)

theorem send_core (c c' : Dev nD) (k₁ k₂ : CK) (N : ℕ) {sp sp' : Space} {s : Shape} {e : EltTy}
    {src : Memref sig .tc sp s e} {dst : Memref sig .tc sp' s e} {q : PosShare TreeShare} (X : Vec F s e)
    {sS sR : SemLoc sig} (hsS : sS = csem k₁) (hsR : sR = csem k₂)
    {hsc : dst.view.ref.isScScratch = false} {hsrc : src.view.WordExact} {hdst : dst.view.WordExact}
    {hsem : DmaTarget.Typed sp sR (.remote (Dev.tc c' : Thread nD τ) dst sS hsc)}
    (hd₁ : kduties c k₁ = {0}) (hd₂ : kduties c' k₂ = {0}) (hk₁ : kamount k₁ = N) (hk₂ : kamount k₂ = N)
    (hN : dst.view.amount sR = N) (O : OT)
    (hp₁ : owns (c : Thread nD τ) src q X ⊢ kpay D c 0 k₁)
    (hp₂ : owns (c' : Thread nD τ) dst fullShare X ⊢ kpay D c' 0 k₂)
    {α : Type} {Q : α → sProp 𝕄} {rest : PUnit → Prog (TpuEff nD τ sig (Elt F) Λ₀ .tc) α} :
    iprop(ctx D K ∗ owns (c : Thread nD τ) src q X ∗ anyAt c' dst ∗ dutyTok ER (kcell c k₁) 0 0 ∗ dutyTok ER (kcell c' k₂) 0 0
        ∗ owing c (O + tallyAt (kcell c' k₂) () N))
      ⊢ iprop(((cred (tallyAt (kcell c k₁) () N) ∗ owing c O) -∗ WP c (rest ⟨⟩) Q)
          -∗ WP c (.op (.enqueueDma src (.remote (Dev.tc c' : Thread nD τ) dst sS hsc) sR hsrc hdst hsem) rest) Q) := by
  subst hsS; subst hsR
  unfold anyAt owing owns
  iintro ⟨#Hctx, ⟨%fs, %hfs, Hs⟩, ⟨%Y, %fd, %hfd, Hd⟩, Ht1, Ht2, %W, HO⟩ Hk
  iapply (Rounds.wp_send_pointsTo 𝒱₀ ER (Rd D) (c : Thread nD τ) none (κ₁ := K (c, k₁)) (κ₂ := K (c', k₂))
    (r₁ := 0) (r₂ := 0) (d₁ := 0) (d₂ := 0) (fd := fd)
    (by rw [duties_k, hd₁]; exact Finset.mem_singleton_self _) (by rw [duties_k, hd₂]; exact Finset.mem_singleton_self _)
    () () N hN ((amount_k D c k₁ 0).trans hk₁) ((amount_k D c' k₂ 0).trans hk₂) O rfl (W := W)
    (by rw [payload_k]; exact (owns_mk c src q _ _ hfs).trans hp₁)
    (by rw [payload_k]; exact (owns_mk c' dst fullShare _ _ (by rw [View.read_write_univ]; exact hfs)).trans hp₂)) $$ [Hs Hd Ht1 Ht2 HO]
  · isplitr; · iapply (ctx_inv D K c k₁); iexact Hctx
    isplitr; · iapply (ctx_inv D K c' k₂); iexact Hctx
    isplitl [Hs]; · iexact Hs
    isplitl [Hd]; · iexact Hd
    isplitl [HO]; · iexact HO
    isplitl [Ht1]; · iexact Ht1
    isplitr; · iapply (ctx_reached D K c k₁); iexact Hctx
    isplitl [Ht2]; · iexact Ht2
    iapply (ctx_reached D K c' k₂); iexact Hctx
  iintro ⟨Hc, HO⟩
  iapply Hk
  isplitl [Hc]; · iexact Hc
  iexists W; iexact HO

end Cert.Exchange

end
-- ==== Proof.Access.lean ====
/-
# Loads, stores and waits on owned memrefs
-/
module

public import proofs.«01_k».proof.Proof.Sends

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Squeezes -/

omit [FloatOps F] in
theorem owns_unsqueeze (c : Dev nD) {sp : Space} {s s' : Shape} {e : EltTy} (m : Memref sig .tc sp s e) (h : s.Squeezes s') (q : PosShare TreeShare) (X : Vec F s' e) :
    (owns (c : Thread nD τ) (m.squeeze s' h) q X : sProp 𝕄) ⊢ owns (c : Thread nD τ) m q (shapeCast s X h.numel_eq.symm) := by
  unfold owns; iintro ⟨%f, %hf, H⟩; iexists f; isplitr
  · ipureintro; subst hf; funext j
    show m.view.read (Elt F) f j = m.view.read (Elt F) f (Shape.reshapeEquiv h.numel_eq (Shape.reshapeEquiv h.numel_eq.symm j))
    rw [Shape.reshapeEquiv_reshapeEquiv, Shape.reshapeEquiv_self]
  · rw [show (m.squeeze s' h).view.set = m.view.set from View.set_reshape _ _]; iexact H
omit [FloatOps F] in
theorem owns_squeeze (c : Dev nD) {sp : Space} {s s' : Shape} {e : EltTy} (m : Memref sig .tc sp s e) (h : s.Squeezes s') (q : PosShare TreeShare) (X : Vec F s e) :
    (owns (c : Thread nD τ) m q X : sProp 𝕄) ⊢ owns (c : Thread nD τ) (m.squeeze s' h) q (shapeCast s' X h.numel_eq) := by
  unfold owns; iintro ⟨%f, %hf, H⟩; iexists f; isplitr
  · ipureintro; subst hf; rfl
  · rw [show (m.squeeze s' h).view.set = m.view.set from View.set_reshape _ _]; iexact H
omit [FloatOps F] in
theorem shapeCast_back {s s' : Shape} {e : EltTy} (X : Vec F s' e) (h : s'.numel = s.numel) (h' : s.numel = s'.numel) : shapeCast s' (shapeCast s X h'.symm.symm) h = X := by
  funext j; show X _ = _
  rw [Shape.reshapeEquiv_reshapeEquiv, Shape.reshapeEquiv_self]

/-! ## Loads and stores -/

/-- A load through a rectangle of a memref owned whole. -/
theorem load_owns (c : Dev nD) {cs : CoreSpace} {s : Shape} {e : EltTy} {m : Memref sig .tc cs s e} {r : Rect s} {hl : m.view.LoadsAt r.toLoadRect}
    {α : Type} {Q : α → sProp 𝕄} {k : (r.shape.Idx → Elt F e) → Prog (TpuEff nD τ sig (Elt F) Λ₀ .tc) α} (q : PosShare TreeShare) (X : Vec F s e) :
    (owns (c : Thread nD τ) m q X : sProp 𝕄)
      ⊢ iprop((owns (c : Thread nD τ) m q X -∗ WP c (k fun j => X (r.emb j)) Q) -∗ WP c (.op (.load m r.toLoadRect hl) k) Q) := by
  unfold owns; iintro ⟨%f, %hf, H⟩ Hk
  iapply (wp_load 𝒱₀ (c : Thread nD τ) none Set.univ (m := m) (View.setOn_subset_set _ _)) $$ H
  iintro H
  subst hf
  iapply Hk; iexists f; isplitr
  · ipureintro; rfl
  · iexact H

/-- A load of exactly a slice owned. -/
theorem load_slice (c : Dev nD) {cs : CoreSpace} {s : Shape} {e : EltTy} {m : Memref sig .tc cs s e} {r : Rect s} {hr : ∀ a, r.stride a = 1} {hl : m.view.LoadsAt r.toLoadRect}
    {α : Type} {Q : α → sProp 𝕄} {k : (r.shape.Idx → Elt F e) → Prog (TpuEff nD τ sig (Elt F) Λ₀ .tc) α} (q : PosShare TreeShare) (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns; iintro ⟨%f, %hf, H⟩ Hk
  iapply (wp_load_rect 𝒱₀ (c : Thread nD τ) none Set.univ (m := m) (r := r) (S := (m.slice r hr).view.set) (Finset.Subset.refl _)) $$ H
  iintro H
  subst hf
  iapply Hk; iexists f; isplitr
  · ipureintro; rfl
  · iexact H

/-- A store through a rectangle of a memref owned whole. -/
theorem store_owns (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} (X : Vec F s e) :
    (owns (c : Thread nD τ) m fullShare X : sProp 𝕄)
      ⊢ iprop((owns (c : Thread nD τ) m fullShare (r.overlay X w) -∗ WP c (k ⟨⟩) Q) -∗ WP c (.op (.store m r w Finset.univ hx hm) k) Q) := by
  unfold owns; iintro ⟨%f, %hf, H⟩ Hk
  iapply (wp_store 𝒱₀ (c : Thread nD τ) none Set.univ (m := m) (r := r) (Mk := Finset.univ) (S := m.view.set) (View.set_slice_subset _ _)) $$ H
  iintro H
  subst hf
  iapply Hk; iexists _; isplitr
  rotate_left
  · iexact H
  ipureintro; funext j
  by_cases hj : j ∈ r.set
  · obtain ⟨i, rfl⟩ := r.exists_idx_of_mem hj
    rw [show r.overlay (m.view.read (Elt F) f) w (r.idx i) = w i from Rect.overlay_emb r _ _ i]
    exact View.read_write_of_mem (v := m.access r) _ w (Finset.mem_univ i)
  · rw [Rect.overlay_of_not_mem _ _ _ hj, View.read_apply, View.read_apply, View.write_of_not_mem]
    intro h
    have h : m.view.emb j ∈ (m.view.slice r).set := h
    rw [View.set_slice] at h
    obtain ⟨x, hx', hxx⟩ := Finset.mem_map.mp h
    exact hj (m.view.emb.injective hxx ▸ hx')

/-! ## The waits -/

variable (D : Cont F) (K : Dev nD × CK → ℕ)

/-- A wait for a transfer's whole credit at a cell with one duty. -/
theorem wait_core (c : Dev nD) (k : CK) (N : ℕ) (hd : kduties c k = {0}) (hk : kamount k = N) (O : OT) (n : ℕ) (hlv : klv k ≤ n) (hO : Above n O)
    {sem : DmaSem sig} (hs : SemLoc.dma sem = csem k) {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {α : Type} {Q : α → sProp 𝕄} {rest : PUnit → Prog (TpuEff nD τ sig (Elt F) Λ₀ .tc) α} :
    iprop(ctx D K ∗ cred (tallyAt (kcell c k) () N) ∗ atPos ER (kcell c k) 0 ∅ 0 ∗ owing c O)
      ⊢ iprop(((kpay D c 0 k ∗ ended D c k ∗ owing c O) -∗ WP c (rest ⟨⟩) Q) -∗ WP c (.op (.waitDma2 sem src dst hsrc hdst) rest) Q) := by
  subst hN
  have hmw : ctx D K ⊢ MayWait (c : Thread nD τ) (SemLoc.dma sem) () O :=
    ctx_wait D K c (SemLoc.dma sem) n (by rw [hs]; exact (lv_k c k ()).trans_le hlv) hO
  unfold owing
  iintro ⟨#Hctx, Hc, Hat, %W, HO⟩ Hk
  unfold kcell
  rw [← hs]
  iapply (Rounds.wp_wait_rest_token 𝒱₀ ER (Rd D) (c : Thread nD τ) none (κ := K (c, k))
      (wpE_waitDma2_eq 𝒱₀ (c : Thread nD τ) none Set.univ) (Set.mem_univ _) () (O := O) (W := W) (R := 0) (m := 0) (T := ∅)
      (by rw [Nat.zero_add, hs]; exact (hk.symm.trans (expect_one D c k hd).symm))) $$ [Hc Hat HO]
  · isplitr; · rw [hs]; iapply (ctx_inv D K c k); iexact Hctx
    isplitl [Hc]; · iexact Hc
    isplitl [HO]; · iexact HO
    isplitr
    · iapply hmw; iexact Hctx
    iexact Hat
  iintro ⟨HO, Hat, -, Hp⟩
  rw [hs]
  iapply Hk
  isplitl [Hp]; · iapply (Entails.of_eq (rest_one D c k hd)); iexact Hp
  isplitl [Hat]; · iapply (ended_one D c k); iexact Hat
  iexists _; iexact HO

/-- The wait for the other devices' signals of the barrier. -/
theorem wait_bar (c : Dev nD) (O : OT) (hO : Above 1 O)
    {α : Type} {Q : α → sProp 𝕄} {rest : PUnit → Prog (TpuEff nD τ sig (Elt F) Λ₀ .tc) α} :
    iprop(ctx D K ∗ cred (tallyAt (barC c) () 15) ∗ atPos ER (barC c) 0 ∅ 0 ∗ owing c O)
      ⊢ iprop((((bigSep (Finset.univ.erase c) fun d => barPay c d) ∗ ended D c none ∗ owing c O) -∗ WP c (rest ⟨⟩) Q)
          -∗ WP c (semWaitWord barS 15#32 >>= rest) Q) := by
  have hmw : ctx D K ⊢ MayWait (c : Thread nD τ) (SemLoc.reg barS) () O :=
    ctx_wait D K c (SemLoc.reg barS) 1 (lv_k c none ()).le hO
  unfold owing
  iintro ⟨#Hctx, Hc, Hat, %W, HO⟩ Hk
  rw [show (semWaitWord barS 15#32 >>= rest : Prog (TpuEff nD τ sig (Elt F) Λ₀ .tc) α) = .op (.semWait barS (15#32).toInt) rest from rfl]
  iapply (Rounds.wp_wait_rest_token 𝒱₀ ER (Rd D) (c : Thread nD τ) none (κ := K (c, none))
      (wpE_semWait_eq 𝒱₀ (c : Thread nD τ) none Set.univ) (Set.mem_univ _) () (O := O) (W := W) (R := 0) (m := 0) (T := ∅)
      (by rw [Nat.zero_add]; exact (expect_bar D c).symm)) $$ [Hc Hat HO]
  · isplitr; · iapply (ctx_inv D K c none); iexact Hctx
    isplitl [Hc]; · iexact Hc
    isplitl [HO]; · iexact HO
    isplitr
    · iapply hmw; iexact Hctx
    iexact Hat
  iintro ⟨HO, Hat, -, Hp⟩
  iapply Hk
  isplitl [Hp]; · iapply (Entails.of_eq (rest_bar D c)); iexact Hp
  isplitl [Hat]; · iapply (ended_one D c none); iexact Hat
  iexists _; iexact HO

/-- One signal of another device's barrier. -/
theorem signal_core (c c' : Dev nD) (hne : c ≠ c') (O : OT)
    {α : Type} {Q : α → sProp 𝕄} {rest : PUnit → Prog (TpuEff nD τ sig (Elt F) Λ₀ .tc) α} :
    iprop(ctx D K ∗ barPay c' c ∗ dutyTok ER (barC c') 0 c ∗ owing c (O + tallyAt (barC c') () 1))
      ⊢ iprop((owing c O -∗ WP c (rest ⟨⟩) Q) -∗ WP c (semSignalWord c' barS 1#32 >>= rest) Q) := by
  have hpay : (Rd D).payload ((c' : Thread nD τ), SemLoc.reg barS) 0 c ⊣⊢ barPay (F := F) c' c :=
    ⟨Entails.of_eq (payload_k D c' none c), Entails.of_eq (payload_k D c' none c).symm⟩
  unfold owing
  iintro ⟨#Hctx, Hp, Ht, %W, HO⟩ Hk
  rw [show (semSignalWord c' barS 1#32 >>= rest : Prog (TpuEff nD τ sig (Elt F) Λ₀ .tc) α) = .op (.semSignal (c' : Thread nD τ) barS (1#32).toInt) rest from rfl]
  iapply (Rounds.wp_signal 𝒱₀ ER (Rd D) (c : Thread nD τ) none (dst := (c' : Thread nD τ)) (κ := K (c', none))
      (d := c) (Eq.subst (motive := fun S : Finset (Fin 16) => c ∈ S) (duties_k D c' none).symm (Finset.mem_erase.mpr ⟨hne, Finset.mem_univ _⟩)) ((amount_k D c' none c).trans (by decide)) () O rfl)
    $$ [HO Ht Hp]
  · isplitr; · iapply (ctx_inv D K c' none); iexact Hctx
    isplitl [HO]; · iexact HO
    isplitl [Ht]; · iexact Ht
    isplitl [Hp]; · iapply (hpay.2); iexact Hp
    iapply (ctx_reached D K c' none); iexact Hctx
  iintro HO
  iapply Hk
  iexists W; iexact HO

end Cert.Exchange

end
-- ==== Proof.Steps.lean ====
/-
# The repeated steps of the exchange

Sixteen items, handled in order, one per chunk of rows or per device; the device's own is passed over. A state names how many are done.
-/
module

public import proofs.«01_k».proof.Proof.Access

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- The first `n` items done (`B`), the others to do (`A`). -/
def fam (n : ℕ) (A B : Fin 16 → sProp 𝕄) : sProp 𝕄 := bigSep Finset.univ fun k : Fin 16 => if k.val < n then B k else A k

omit [FloatOps F] in
theorem fam_zero (A B : Fin 16 → sProp 𝕄) : fam 0 A B = bigSep Finset.univ A :=
  bigSep_congr fun k _ => if_neg (Nat.not_lt_zero _)
omit [FloatOps F] in
theorem fam_all (A B : Fin 16 → sProp 𝕄) : fam 16 A B = bigSep Finset.univ B :=
  bigSep_congr fun k _ => if_pos k.isLt
omit [FloatOps F] in
theorem fam_step (A B : Fin 16 → sProp 𝕄) (n : ℕ) (hn : n < 16) :
    fam n A B ⊢ iprop(A ⟨n, hn⟩ ∗ (B ⟨n, hn⟩ -∗ fam (n + 1) A B)) := by
  have h : (bigSep (Finset.univ.erase (⟨n, hn⟩ : Fin 16)) fun k : Fin 16 => if k.val < n then B k else A k)
      = bigSep (Finset.univ.erase (⟨n, hn⟩ : Fin 16)) fun k : Fin 16 => if k.val < n + 1 then B k else A k :=
    bigSep_congr fun k hk => by
      have hne : k.val ≠ n := fun h => (Finset.mem_erase.mp hk).1 (Fin.ext h)
      by_cases hlt : k.val < n
      · rw [if_pos hlt, if_pos (by omega)]
      · rw [if_neg hlt, if_neg (by omega)]
  unfold fam
  rw [bigSep_univ_at _ (⟨n, hn⟩ : Fin 16), bigSep_univ_at (fun k : Fin 16 => if k.val < n + 1 then B k else A k) (⟨n, hn⟩ : Fin 16), h]
  dsimp only
  rw [if_neg (Nat.lt_irrefl n), if_pos (Nat.lt_succ_self n)]
  iintro ⟨HA, HR⟩
  isplitl [HA]; · iexact HA
  iintro HB
  isplitl [HB]; · iexact HB
  iexact HR

variable (D : Cont F) (K : Dev nD × CK → ℕ)

/-! ## The signals -/

def sigItem (c : Dev nD) (k : Fin 16) : sProp 𝕄 :=
  if k = 0 then iprop(emp) else iprop(dutyTok ER (barC (hop c k)) 0 c ∗ barPay (hop c k) c)
def StSig (c : Dev nD) (n : ℕ) (R : sProp 𝕄) : sProp 𝕄 :=
  iprop(ctx D K ∗ fam n (sigItem c) (fun _ => iprop(emp)) ∗ owing c (OB c n + O₁ c) ∗ R)

theorem sig_step (c : Dev nD) (n : ℕ) (hn : n < 16) (hn0 : n ≠ 0) (R : sProp 𝕄) (dv : Dev nD → ℕ) (dl : dv c < nD) (hdv : ∀ c, dv c = (hop c ⟨n, hn⟩).val)
    {α : Type} {Q : α → sProp 𝕄} {rest : PUnit → Prog (TpuEff nD τ sig (Elt F) Λ₀ .tc) α}
    (hr : StSig D K c (n + 1) R ⊢ WP c (rest ⟨⟩) Q) :
    StSig D K c n R ⊢ WP c (semSignalWord (⟨dv c, dl⟩ : Dev nD) (SemArray.scalar (sig.barrier 0 rfl) : Sems sig S_).sem 1#32 >>= rest) Q := by
  have hd : (⟨dv c, dl⟩ : Dev nD) = hop c ⟨n, hn⟩ := Fin.ext (hdv c)
  have hk : (⟨n, hn⟩ : Fin 16) ≠ 0 := fun h => hn0 (congrArg Fin.val h)
  have hO : OB c n + O₁ c = (OB c (n + 1) + O₁ c) + tallyAt (barC (hop c ⟨n, hn⟩)) () 1 := by
    have h := sum_from_pop (p := fun k : Fin 16 => k ≠ 0) (fun k => (tallyAt (barC (hop c k)) () 1 : OT)) ⟨n, hn⟩ hk
    exact (congrArg (· + O₁ c) h).trans (add_right_comm _ _ _)
  have hA : sigItem (F := F) c ⟨n, hn⟩ ⊢ iprop(dutyTok ER (barC (hop c ⟨n, hn⟩)) 0 c ∗ barPay (hop c ⟨n, hn⟩) c) :=
    Entails.of_eq (if_neg hk)
  rw [hd]
  unfold StSig
  rw [hO]
  iintro ⟨#Hctx, HF, HO, HR⟩
  ihave H := (fam_step (sigItem c) (fun _ => iprop(emp)) n hn) $$ HF
  icases H with ⟨HA, Hcl⟩
  ihave HA := hA $$ HA
  icases HA with ⟨Ht, Hp⟩
  iapply (signal_core D K c (hop c ⟨n, hn⟩) (hop_ne c _ hk) (OB c (n + 1) + O₁ c)) $$ [Hp Ht HO]
  · isplitr; · iexact Hctx
    isplitl [Hp]; · iexact Hp
    isplitl [Ht]; · iexact Ht
    iexact HO
  iintro HO
  iapply hr
  unfold StSig
  isplitr; · iexact Hctx
  isplitl [Hcl]; · iapply Hcl; iempintro
  isplitl [HO]; · iexact HO
  iexact HR

/-! ## The sends of the exchange -/

def sendAItem (c : Dev nD) (b : Fin 2) (k : Fin 16) : sProp 𝕄 :=
  iprop(owns (c : Thread nD τ) (partC b k) fullShare (D.pv c b k)
    ∗ if owner k = c then iprop(emp) else iprop(anyAt (owner k) (slotA c b) ∗ dutyTok ER (sAC c k b) 0 0 ∗ dutyTok ER (rAC (owner k) c b) 0 0))
def sentAItem (c : Dev nD) (b : Fin 2) (k : Fin 16) : sProp 𝕄 :=
  if owner k = c then owns (c : Thread nD τ) (partC b k) fullShare (D.pv c b k) else cred (tallyAt (sAC c k b) () NA)
def StA (c : Dev nD) (b : Fin 2) (O : OT) (n : ℕ) (R : sProp 𝕄) : sProp 𝕄 :=
  iprop(ctx D K ∗ fam n (sendAItem D c b) (sentAItem D c b) ∗ owing c (OA c b n + O) ∗ R)

theorem kduties_xfer (c : Dev nD) (t : Fin 4) (i : Fin 16) (b : Fin 2) (h : ¬ skip c t i) : kduties c (some (.inr (t, i, b))) = {0} := if_neg h
theorem kduties_skip (c : Dev nD) (t : Fin 4) (i : Fin 16) (b : Fin 2) (h : skip c t i) : kduties c (some (.inr (t, i, b))) = ∅ := if_pos h

theorem skip_sA (c : Dev nD) (k : Fin 16) : skip c 0 k = (owner k = c) := if_pos rfl
theorem skip_rA (c : Dev nD) (k : Fin 16) : skip c 1 k = (k = c) := if_neg (by decide)
theorem skip_sB (c : Dev nD) (k : Fin 16) : skip c 2 k = (k = c) := if_neg (by decide)
theorem skip_rB (c : Dev nD) (k : Fin 16) : skip c 3 k = (k = c) := if_neg (by decide)
theorem kamount_sA (k : Fin 16) (b : Fin 2) : kamount (some (.inr (0, k, b))) = NA := by
  dsimp only [kamount]; rw [if_pos (by decide)]
theorem kamount_rA (k : Fin 16) (b : Fin 2) : kamount (some (.inr (1, k, b))) = NA := by
  dsimp only [kamount]; rw [if_pos (by decide)]
theorem kamount_sB (k : Fin 16) (b : Fin 2) : kamount (some (.inr (2, k, b))) = NB := by
  dsimp only [kamount]; rw [if_neg (by decide)]
theorem kamount_rB (k : Fin 16) (b : Fin 2) : kamount (some (.inr (3, k, b))) = NB := by
  dsimp only [kamount]; rw [if_neg (by decide)]
variable (D : Cont F) (K : Dev nD × CK → ℕ)
theorem kpay_sA (c : Dev nD) (k : Fin 16) (b : Fin 2) : kpay D c 0 (some (.inr (0, k, b))) = anyAt c (partC b k) := by
  dsimp only [kpay]; unfold xferPay; rw [if_pos rfl]
theorem kpay_rA (c : Dev nD) (k : Fin 16) (b : Fin 2) : kpay D c 0 (some (.inr (1, k, b))) = owns (c : Thread nD τ) (slotA k b) fullShare (D.pv k b (mine c)) := by
  dsimp only [kpay]; unfold xferPay; rw [if_neg (by decide), if_pos rfl]
theorem kpay_sB (c : Dev nD) (k : Fin 16) (b : Fin 2) : kpay D c 0 (some (.inr (2, k, b))) = owns (c : Thread nD τ) (stgC b) (bshare k) (D.rv c b) := by
  dsimp only [kpay]; unfold xferPay; rw [if_neg (by decide), if_neg (by decide), if_pos rfl]
theorem kpay_rB (c : Dev nD) (k : Fin 16) (b : Fin 2) : kpay D c 0 (some (.inr (3, k, b))) = owns (c : Thread nD τ) (slotB k b) fullShare (D.rv k b) := by
  dsimp only [kpay]; unfold xferPay; rw [if_neg (by decide), if_neg (by decide), if_neg (by decide)]
theorem amount_slotA {off : Fin 4 → ℕ} {inb : ∀ i, off i + S1x1x32x768.size i ≤ S16x2x32x768.size i} (h : off = off) (sm : DmaSem sig) :
    ((aM.slice (Rect.unit (s := S16x2x32x768) off S1x1x32x768.size inb) (fun _ => rfl)).squeeze S32x768 squeezes_S1x1x32x768_S32x768).view.amount (.dma sm) = NA := rfl
theorem amount_slotB {off : Fin 4 → ℕ} {inb : ∀ i, off i + S1x1x32x768.size i ≤ S16x2x32x768.size i} (h : off = off) (sm : DmaSem sig) :
    ((bM.slice (Rect.unit (s := S16x2x32x768) off S1x1x32x768.size inb) (fun _ => rfl)).squeeze S32x768 squeezes_S1x1x32x768_S32x768).view.amount (.dma sm) = NB := rfl

/-- A memref of a chunk, a landing slot or the staged rows, at an offset computed by the body. -/
abbrev chunkAt (off : Fin 3 → ℕ) (inb : ∀ i, off i + S1x32x768.size i ≤ S2x512x768.size i) : Memref sig .tc .vmem S32x768 .bf16 :=
  (partM.slice (Rect.unit (s := S2x512x768) off S1x32x768.size inb) (fun _ => rfl)).squeeze S32x768 squeezes_S1x32x768_S32x768
abbrev slotAAt (off : Fin 4 → ℕ) (inb : ∀ i, off i + S1x1x32x768.size i ≤ S16x2x32x768.size i) : Memref sig .tc .vmem S32x768 .bf16 :=
  (aM.slice (Rect.unit (s := S16x2x32x768) off S1x1x32x768.size inb) (fun _ => rfl)).squeeze S32x768 squeezes_S1x1x32x768_S32x768
abbrev stgAt (off : Fin 3 → ℕ) (inb : ∀ i, off i + S1x32x768.size i ≤ S2x32x768.size i) : Memref sig .tc .vmem S32x768 .bf16 :=
  (stM.slice (Rect.unit (s := S2x32x768) off S1x32x768.size inb) (fun _ => rfl)).squeeze S32x768 squeezes_S1x32x768_S32x768
abbrev slotBAt (off : Fin 4 → ℕ) (inb : ∀ i, off i + S1x1x32x768.size i ≤ S16x2x32x768.size i) : Memref sig .tc .vmem S32x768 .bf16 :=
  (bM.slice (Rect.unit (s := S16x2x32x768) off S1x1x32x768.size inb) (fun _ => rfl)).squeeze S32x768 squeezes_S1x1x32x768_S32x768
abbrev semAt (A : DmaSems sig S32) (off : Fin 1 → ℕ) (inb : ∀ i, off i + S1.size i ≤ S32.size i) : DmaSem sig :=
  ((A.slice (Rect.unit (s := S32) off S1.size inb)).squeeze S_ squeezes_S1_S_).sem

theorem sA_sem {off : Fin 1 → ℕ} {inb : ∀ i, off i + S1.size i ≤ S32.size i} (k : Fin 16) (b : Fin 2) (h : off = ![2 * k.val + b.val]) :
    SemLoc.dma (semAt cc0_scratch9 off inb) = csem (some (.inr (0, k, b))) :=
  congrArg SemLoc.dma (sem_at32 6 hcc0_scratch9 inb _ h (by have := k.isLt; have := b.isLt; omega))
theorem rA_sem {off : Fin 1 → ℕ} {inb : ∀ i, off i + S1.size i ≤ S32.size i} (k : Fin 16) (b : Fin 2) (h : off = ![2 * k.val + b.val]) :
    SemLoc.dma (semAt cc0_scratch10 off inb) = csem (some (.inr (1, k, b))) :=
  congrArg SemLoc.dma (sem_at32 38 hcc0_scratch10 inb _ h (by have := k.isLt; have := b.isLt; omega))
theorem sB_sem {off : Fin 1 → ℕ} {inb : ∀ i, off i + S1.size i ≤ S32.size i} (k : Fin 16) (b : Fin 2) (h : off = ![2 * k.val + b.val]) :
    SemLoc.dma (semAt cc0_scratch11 off inb) = csem (some (.inr (2, k, b))) :=
  congrArg SemLoc.dma (sem_at32 70 hcc0_scratch11 inb _ h (by have := k.isLt; have := b.isLt; omega))
theorem rB_sem {off : Fin 1 → ℕ} {inb : ∀ i, off i + S1.size i ≤ S32.size i} (k : Fin 16) (b : Fin 2) (h : off = ![2 * k.val + b.val]) :
    SemLoc.dma (semAt cc0_scratch12 off inb) = csem (some (.inr (3, k, b))) :=
  congrArg SemLoc.dma (sem_at32 102 hcc0_scratch12 inb _ h (by have := k.isLt; have := b.isLt; omega))

/-- The operation sends chunk `n` of batch `b` of the partial sums to the device that owns it. -/
def SendsA (c : Dev nD) (b : Fin 2) (n : ℕ) (hn : n < 16) (op : TpuEff nD τ sig (Elt F) Λ₀ .tc PUnit) : Prop :=
  ∀ (O : OT) (α : Type) (Q : α → sProp 𝕄) (rest : PUnit → Prog (TpuEff nD τ sig (Elt F) Λ₀ .tc) α), owner ⟨n, hn⟩ ≠ c →
    iprop(ctx D K ∗ owns (c : Thread nD τ) (partC b ⟨n, hn⟩) fullShare (D.pv c b ⟨n, hn⟩) ∗ anyAt (owner ⟨n, hn⟩) (slotA c b)
        ∗ dutyTok ER (sAC c ⟨n, hn⟩ b) 0 0 ∗ dutyTok ER (rAC (owner ⟨n, hn⟩) c b) 0 0
        ∗ owing c (O + tallyAt (rAC (owner ⟨n, hn⟩) c b) () NA))
      ⊢ iprop(((cred (tallyAt (sAC c ⟨n, hn⟩ b) () NA) ∗ owing c O) -∗ WP c (rest ⟨⟩) Q) -∗ WP c (.op op rest) Q)

theorem sendsA (c : Dev nD) (b : Fin 2) (n : ℕ) (hn : n < 16) {off₁ : Fin 3 → ℕ} {inb₁ : ∀ i, off₁ i + S1x32x768.size i ≤ S2x512x768.size i}
    {off₂ : Fin 4 → ℕ} {inb₂ : ∀ i, off₂ i + S1x1x32x768.size i ≤ S16x2x32x768.size i} {dv : ℕ} {dl : dv < nD}
    {off₃ : Fin 1 → ℕ} {inb₃ : ∀ i, off₃ i + S1.size i ≤ S32.size i} {off₄ : Fin 1 → ℕ} {inb₄ : ∀ i, off₄ i + S1.size i ≤ S32.size i}
    {p₁ p₂ p₃} (h₁ : off₁ = ![b.val, 32 * n, 0]) (hdv : dv = (owner ⟨n, hn⟩).val) (h₃ : off₃ = ![2 * n + b.val])
    (h₂ : off₂ = ![c.val, b.val, 0, 0]) (h₄ : off₄ = ![2 * c.val + b.val]) :
    SendsA D K c b n hn (.enqueueDma (chunkAt off₁ inb₁)
        (.remote (Dev.tc (⟨dv, dl⟩ : Dev nD)) (slotAAt off₂ inb₂) (.dma (semAt cc0_scratch9 off₃ inb₃)) rfl)
        (.dma (semAt cc0_scratch10 off₄ inb₄)) p₁ p₂ p₃) := by
  subst h₁; subst hdv; subst h₂
  intro O α Q rest hne
  exact send_core D K c (owner ⟨n, hn⟩) _ _ NA (D.pv c b ⟨n, hn⟩)
    (sA_sem (inb := inb₃) ⟨n, hn⟩ b h₃) (rA_sem (inb := inb₄) c b h₄)
    (kduties_xfer c 0 ⟨n, hn⟩ b (by rw [skip_sA]; exact hne)) (kduties_xfer (owner ⟨n, hn⟩) 1 c b (by rw [skip_rA]; exact hne.symm))
    (kamount_sA _ _) (kamount_rA _ _) (amount_slotA rfl _) O
    (by rw [kpay_sA]; unfold anyAt; iintro H; iexists _; iexact H) (by rw [kpay_rA, mine_owner])

theorem sendA_step (c : Dev nD) (b : Fin 2) (O : OT) (n : ℕ) (hn : n < 16) (R : sProp 𝕄)
    {C : Prop} {inst : Decidable C} {op : C → TpuEff nD τ sig (Elt F) Λ₀ .tc PUnit}
    {α : Type} {Q : α → sProp 𝕄} {rest : Prog (TpuEff nD τ sig (Elt F) Λ₀ .tc) α}
    (hr : StA D K c b O (n + 1) R ⊢ WP c rest Q)
    (hC : C ↔ owner ⟨n, hn⟩ ≠ c) (hop : ∀ h : C, SendsA D K c b n hn (op h)) :
    StA D K c b O n R ⊢ WP c (dite C (fun h => Prog.lift (op h) >>= fun _ => rest) (fun _ => rest)) Q := by
  unfold StA
  by_cases hc : C
  · rw [dif_pos hc]
    have hne := hC.mp hc
    have hO : OA c b n + O = (OA c b (n + 1) + O) + tallyAt (rAC (owner ⟨n, hn⟩) c b) () NA := by
      have h := sum_from_pop (p := fun k : Fin 16 => owner k ≠ c) (fun k => (tallyAt (rAC (owner k) c b) () NA : OT)) ⟨n, hn⟩ hne
      exact (congrArg (· + O) h).trans (add_right_comm _ _ _)
    have hA : sendAItem D c b ⟨n, hn⟩ ⊢ iprop(owns (c : Thread nD τ) (partC b ⟨n, hn⟩) fullShare (D.pv c b ⟨n, hn⟩) ∗ anyAt (owner ⟨n, hn⟩) (slotA c b)
        ∗ dutyTok ER (sAC c ⟨n, hn⟩ b) 0 0 ∗ dutyTok ER (rAC (owner ⟨n, hn⟩) c b) 0 0) := by
      unfold sendAItem; rw [if_neg hne]
    have hB : cred (tallyAt (sAC c ⟨n, hn⟩ b) () NA) ⊢ sentAItem D c b ⟨n, hn⟩ := by unfold sentAItem; rw [if_neg hne]
    rw [hO]
    iintro ⟨#Hctx, HF, HO, HR⟩
    ihave H := (fam_step (sendAItem D c b) (sentAItem D c b) n hn) $$ HF
    icases H with ⟨HA, Hcl⟩
    ihave HA := hA $$ HA
    icases HA with ⟨Hs, Hd, Ht1, Ht2⟩
    rw [show ((Prog.lift (op hc) >>= fun _ => rest : Prog (TpuEff nD τ sig (Elt F) Λ₀ .tc) α)) = .op (op hc) (fun _ => rest) from rfl]
    iapply (hop hc (OA c b (n + 1) + O) α Q (fun _ => rest) hne) $$ [Hs Hd Ht1 Ht2 HO]
    · isplitr; · iexact Hctx
      isplitl [Hs]; · iexact Hs
      isplitl [Hd]; · iexact Hd
      isplitl [Ht1]; · iexact Ht1
      isplitl [Ht2]; · iexact Ht2
      iexact HO
    iintro ⟨Hc, HO⟩
    iapply hr
    unfold StA
    isplitr; · iexact Hctx
    isplitl [Hcl Hc]
    · iapply Hcl; iapply hB; iexact Hc
    isplitl [HO]; · iexact HO
    iexact HR
  · rw [dif_neg hc]
    have he : owner ⟨n, hn⟩ = c := not_not.mp (fun h => hc (hC.mpr h))
    have hO : OA c b n = OA c b (n + 1) :=
      sum_from_skip (p := fun k : Fin 16 => owner k ≠ c) (fun k => (tallyAt (rAC (owner k) c b) () NA : OT)) ⟨n, hn⟩ (not_not.mpr he)
    have hA : sendAItem D c b ⟨n, hn⟩ ⊢ sentAItem D c b ⟨n, hn⟩ := by
      unfold sendAItem sentAItem; rw [if_pos he, if_pos he]; iintro ⟨H, -⟩; iexact H
    rw [hO]
    iintro ⟨#Hctx, HF, HO, HR⟩
    ihave H := (fam_step (sendAItem D c b) (sentAItem D c b) n hn) $$ HF
    icases H with ⟨HA, Hcl⟩
    iapply hr
    unfold StA
    isplitr; · iexact Hctx
    isplitl [Hcl HA]
    · iapply Hcl; iapply hA; iexact HA
    isplitl [HO]; · iexact HO
    iexact HR

end Cert.Exchange

end
-- ==== Proof.Moves.lean ====
/-
# The other repeated steps: waits and the broadcast's sends
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sequencing -/

theorem seq (c : Dev nD) {α β : Type} {P : sProp 𝕄} {p : Prog (TpuEff nD τ sig (Elt F) Λ₀ .tc) β} {k : β → Prog (TpuEff nD τ sig (Elt F) Λ₀ .tc) α} {Q : α → sProp 𝕄}
    (h : P ⊢ WP c p (fun a => WP c (k a) Q)) : P ⊢ WP c (p >>= k) Q :=
  h.trans (Entails.of_eq (wp_bind ..).symm)
theorem wp_end (c : Dev nD) {α : Type} {P : sProp 𝕄} {a : α} {Q : α → sProp 𝕄} (h : P ⊢ Q a) : P ⊢ WP c (pure a : Prog (TpuEff nD τ sig (Elt F) Λ₀ .tc) α) Q := by
  rw [Prog.pure_eq_ret]
  exact h.trans ((show Q a ⊢ iprop(|={Set.univ}=> Q a) by iintro H; imodintro; iexact H).trans (Entails.of_eq (wp_ret ..).symm))
theorem wp_end' (c : Dev nD) {α : Type} {P : sProp 𝕄} {a : α} {Q : α → sProp 𝕄} (h : P ⊢ Q a) : P ⊢ WP c (Prog.ret a : Prog (TpuEff nD τ sig (Elt F) Λ₀ .tc) α) Q :=
  wp_end c h

/-- An operation that gives back what it reads, with value `v`. -/
def Loads (c : Dev nD) (P : sProp 𝕄) {β : Type} (v : β) (op : TpuEff nD τ sig (Elt F) Λ₀ .tc β) : Prop :=
  ∀ (α : Type) (Q : α → sProp 𝕄) (rest : β → Prog (TpuEff nD τ sig (Elt F) Λ₀ .tc) α), P ⊢ iprop((P -∗ WP c (rest v) Q) -∗ WP c (.op op rest) Q)
/-- An operation that reads what is there, whatever it is. -/
def LoadsAny (c : Dev nD) (P : sProp 𝕄) {β : Type} (op : TpuEff nD τ sig (Elt F) Λ₀ .tc β) : Prop :=
  ∀ (α : Type) (Q : α → sProp 𝕄) (rest : Prog (TpuEff nD τ sig (Elt F) Λ₀ .tc) α), P ⊢ iprop((P -∗ WP c rest Q) -∗ WP c (.op op (fun _ => rest)) Q)
/-- An operation that turns one state of a memref into another. -/
def Turns (c : Dev nD) (P P' : sProp 𝕄) (op : TpuEff nD τ sig (Elt F) Λ₀ .tc PUnit) : Prop :=
  ∀ (α : Type) (Q : α → sProp 𝕄) (rest : PUnit → Prog (TpuEff nD τ sig (Elt F) Λ₀ .tc) α), P ⊢ iprop((P' -∗ WP c (rest ⟨⟩) Q) -∗ WP c (.op op rest) Q)

theorem load_step (c : Dev nD) {α β : Type} {Q : α → sProp 𝕄} {op : TpuEff nD τ sig (Elt F) Λ₀ .tc β} {k : β → Prog (TpuEff nD τ sig (Elt F) Λ₀ .tc) α} {S : sProp 𝕄} (P R : sProp 𝕄) (v : β)
    (hS : S ⊢ iprop(P ∗ (P -∗ S))) (hop : Loads c P v op) (hr : S ⊢ WP c (k v) Q) : S ⊢ WP c (Prog.lift op >>= k) Q := by
  refine hS.trans ?_
  iintro ⟨HP, Hcl⟩
  iapply (hop α Q k) $$ HP
  iintro HP
  iapply hr; iapply Hcl; iexact HP
theorem dead_step (c : Dev nD) {α β : Type} {Q : α → sProp 𝕄} {op : TpuEff nD τ sig (Elt F) Λ₀ .tc β} {k : Prog (TpuEff nD τ sig (Elt F) Λ₀ .tc) α} {P R : sProp 𝕄}
    (hop : LoadsAny c P op) (hr : iprop(P ∗ R) ⊢ WP c k Q) : iprop(P ∗ R) ⊢ WP c (Prog.lift op >>= fun _ => k) Q := by
  iintro ⟨HP, HR⟩
  iapply (hop α Q k) $$ HP
  iintro HP
  iapply hr; isplitl [HP]; · iexact HP
  iexact HR
theorem turn_step (c : Dev nD) {α : Type} {Q : α → sProp 𝕄} {op : TpuEff nD τ sig (Elt F) Λ₀ .tc PUnit} {k : PUnit → Prog (TpuEff nD τ sig (Elt F) Λ₀ .tc) α} {P P' R : sProp 𝕄}
    (hop : Turns c P P' op) (hr : iprop(P' ∗ R) ⊢ WP c (k ⟨⟩) Q) : iprop(P ∗ R) ⊢ WP c (Prog.lift op >>= k) Q := by
  iintro ⟨HP, HR⟩
  iapply (hop α Q k) $$ HP
  iintro HP
  iapply hr; isplitl [HP]; · iexact HP
  iexact HR

/-! ## Waits -/

variable (D : Cont F) (K : Dev nD × CK → ℕ)

def WaitsAt (c : Dev nD) (k : CK) (op : TpuEff nD τ sig (Elt F) Λ₀ .tc PUnit) : Prop :=
  ∀ (O : OT) (n : ℕ) (α : Type) (Q : α → sProp 𝕄) (rest : PUnit → Prog (TpuEff nD τ sig (Elt F) Λ₀ .tc) α), klv k ≤ n → Above n O → kduties c k = {0} →
    iprop(ctx D K ∗ cred (tallyAt (kcell c k) () (kamount k)) ∗ atPos ER (kcell c k) 0 ∅ 0 ∗ owing c O)
      ⊢ iprop(((kpay D c 0 k ∗ ended D c k ∗ owing c O) -∗ WP c (rest ⟨⟩) Q) -∗ WP c (.op op rest) Q)

theorem waitsAt (c : Dev nD) (k : CK) {sem : DmaSem sig} (hs : SemLoc.dma sem = csem k) {sp sp' : Space} {s s' : Shape} {e e' : EltTy} {κ' : Kind} {src : Memref sig .tc sp' s' e'} {dst : Memref sig κ' sp s e}
    {hsrc : src.view.WordExact} {hdst : dst.view.WordExact} (hN : dst.view.dmaCredit = kamount k) : WaitsAt D K c k (.waitDma2 sem src dst hsrc hdst) :=
  fun O n α Q rest hlv hO hd => wait_core D K c k (kamount k) hd rfl O n hlv hO hs hN

/-- A state in which `n` of sixteen items are done. -/
def GSt (c : Dev nD) (A B : Fin 16 → sProp 𝕄) (O : OT) (n : ℕ) (R : sProp 𝕄) : sProp 𝕄 := iprop(ctx D K ∗ fam n A B ∗ owing c O ∗ R)

theorem wait_step (c : Dev nD) (A B : Fin 16 → sProp 𝕄) (O : OT) (n : ℕ) (hn : n < 16) (R : sProp 𝕄) (k : CK) (m : ℕ) (hlv : klv k ≤ m) (hO : Above m O)
    {C : Prop} {inst : Decidable C} {op : C → TpuEff nD τ sig (Elt F) Λ₀ .tc PUnit}
    {α : Type} {Q : α → sProp 𝕄} {rest : Prog (TpuEff nD τ sig (Elt F) Λ₀ .tc) α}
    (hd : C → kduties c k = {0})
    (hA : C → A ⟨n, hn⟩ ⊢ iprop(cred (tallyAt (kcell c k) () (kamount k)) ∗ atPos ER (kcell c k) 0 ∅ 0))
    (hB : C → iprop(kpay D c 0 k ∗ ended D c k) ⊢ B ⟨n, hn⟩)
    (hAB : ¬ C → A ⟨n, hn⟩ ⊢ B ⟨n, hn⟩) (hop : ∀ h : C, WaitsAt D K c k (op h))
    (hr : GSt D K c A B O (n + 1) R ⊢ WP c rest Q) :
    GSt D K c A B O n R ⊢ WP c (dite C (fun h => Prog.lift (op h) >>= fun _ => rest) (fun _ => rest)) Q := by
  unfold GSt
  by_cases hc : C
  · rw [dif_pos hc]
    have hA := hA hc
    have hB := hB hc
    iintro ⟨#Hctx, HF, HO, HR⟩
    ihave H := (fam_step A B n hn) $$ HF
    icases H with ⟨HA, Hcl⟩
    ihave HA := hA $$ HA
    icases HA with ⟨Hc, Hat⟩
    rw [show ((Prog.lift (op hc) >>= fun _ => rest : Prog (TpuEff nD τ sig (Elt F) Λ₀ .tc) α)) = .op (op hc) (fun _ => rest) from rfl]
    iapply (hop hc O m α Q (fun _ => rest) hlv hO (hd hc)) $$ [Hc Hat HO]
    · isplitr; · iexact Hctx
      isplitl [Hc]; · iexact Hc
      isplitl [Hat]; · iexact Hat
      iexact HO
    iintro ⟨Hp, He, HO⟩
    iapply hr
    unfold GSt
    isplitr; · iexact Hctx
    isplitl [Hcl Hp He]
    · iapply Hcl; iapply hB; isplitl [Hp]; · iexact Hp
      iexact He
    isplitl [HO]; · iexact HO
    iexact HR
  · rw [dif_neg hc]
    have hAB := hAB hc
    iintro ⟨#Hctx, HF, HO, HR⟩
    ihave H := (fam_step A B n hn) $$ HF
    icases H with ⟨HA, Hcl⟩
    iapply hr
    unfold GSt
    isplitr; · iexact Hctx
    isplitl [Hcl HA]
    · iapply Hcl; iapply hAB; iexact HA
    isplitl [HO]; · iexact HO
    iexact HR

/-! ### The rows arriving in the exchange -/

variable (X : Fin 2 → Vec F S32x768 .bf16)

/-- What lies in landing slot `s` of batch `b` after the exchange: the device's own slot keeps what it held (`X`). -/
def landed (c : Dev nD) (b : Fin 2) (s : Fin 16) : Vec F S32x768 .bf16 := if s = c then X b else D.pv s b (mine c)
def waitAItem (c : Dev nD) (b : Fin 2) (s : Fin 16) : sProp 𝕄 :=
  if s = c then iprop(owns (c : Thread nD τ) (slotA s b) fullShare (X b) ∗ atPos ER (rAC c s b) 0 ∅ 0)
  else iprop(cred (tallyAt (rAC c s b) () NA) ∗ atPos ER (rAC c s b) 0 ∅ 0)
def gotAItem (c : Dev nD) (b : Fin 2) (s : Fin 16) : sProp 𝕄 :=
  iprop(owns (c : Thread nD τ) (slotA s b) fullShare (landed D X c b s) ∗ ended D c (some (.inr (1, s, b))))
abbrev StRA (c : Dev nD) (b : Fin 2) (O : OT) (n : ℕ) (R : sProp 𝕄) : sProp 𝕄 := GSt D K c (waitAItem X c b) (gotAItem D X c b) O n R

theorem recvA_step (c : Dev nD) (b : Fin 2) (O : OT) (hO : Above 2 O) (n : ℕ) (hn : n < 16) (R : sProp 𝕄)
    {C : Prop} {inst : Decidable C} {op : C → TpuEff nD τ sig (Elt F) Λ₀ .tc PUnit}
    {α : Type} {Q : α → sProp 𝕄} {rest : Prog (TpuEff nD τ sig (Elt F) Λ₀ .tc) α}
    (hr : StRA D K X c b O (n + 1) R ⊢ WP c rest Q)
    (hC : C ↔ (⟨n, hn⟩ : Fin 16) ≠ c) (hop : ∀ h : C, WaitsAt D K c (some (.inr (1, ⟨n, hn⟩, b))) (op h)) :
    StRA D K X c b O n R ⊢ WP c (dite C (fun h => Prog.lift (op h) >>= fun _ => rest) (fun _ => rest)) Q := by
  refine wait_step D K c _ _ O n hn R (some (.inr (1, ⟨n, hn⟩, b))) 2 (by dsimp only [klv]; decide) hO (fun h => kduties_xfer c 1 _ b (by rw [skip_rA]; exact hC.mp h)) (fun h => ?_) (fun h => ?_) (fun h => ?_) hop hr
  · unfold waitAItem; rw [if_neg (hC.mp h), kamount_rA]
  · unfold gotAItem landed; rw [if_neg (hC.mp h), kpay_rA]
  · have he : (⟨n, hn⟩ : Fin 16) = c := not_not.mp (fun h' => h (hC.mpr h'))
    have hk := ended_skip D c (some (.inr (1, ⟨n, hn⟩, b))) (kduties_skip c 1 _ b (by rw [skip_rA]; exact he))
    unfold waitAItem gotAItem landed; rw [if_pos he, if_pos he]
    iintro ⟨H, Ha⟩
    isplitl [H]; · iexact H
    iapply hk; iexact Ha

/-! ### The send waits -/

def waitSAItem (c : Dev nD) (b : Fin 2) (k : Fin 16) : sProp 𝕄 := iprop(sentAItem D c b k ∗ atPos ER (sAC c k b) 0 ∅ 0)
def doneSAItem (c : Dev nD) (b : Fin 2) (k : Fin 16) : sProp 𝕄 := iprop(anyAt c (partC b k) ∗ ended D c (some (.inr (0, k, b))))
abbrev StSA (c : Dev nD) (b : Fin 2) (n : ℕ) (R : sProp 𝕄) : sProp 𝕄 := GSt D K c (waitSAItem D c b) (doneSAItem D c b) 0 n R

theorem doneA_step (c : Dev nD) (b : Fin 2) (n : ℕ) (hn : n < 16) (R : sProp 𝕄)
    {C : Prop} {inst : Decidable C} {op : C → TpuEff nD τ sig (Elt F) Λ₀ .tc PUnit}
    {α : Type} {Q : α → sProp 𝕄} {rest : Prog (TpuEff nD τ sig (Elt F) Λ₀ .tc) α}
    (hr : StSA D K c b (n + 1) R ⊢ WP c rest Q)
    (hC : C ↔ owner ⟨n, hn⟩ ≠ c) (hop : ∀ h : C, WaitsAt D K c (some (.inr (0, ⟨n, hn⟩, b))) (op h)) :
    StSA D K c b n R ⊢ WP c (dite C (fun h => Prog.lift (op h) >>= fun _ => rest) (fun _ => rest)) Q := by
  refine wait_step D K c _ _ 0 n hn R (some (.inr (0, ⟨n, hn⟩, b))) 0 (by dsimp only [klv]; decide) (Above.zero 0) (fun h => kduties_xfer c 0 _ b (by rw [skip_sA]; exact hC.mp h)) (fun h => ?_) (fun h => ?_) (fun h => ?_) hop hr
  · unfold waitSAItem sentAItem; rw [if_neg (hC.mp h), kamount_sA]
  · unfold doneSAItem; rw [kpay_sA]
  · have he : owner ⟨n, hn⟩ = c := not_not.mp (fun h' => h (hC.mpr h'))
    have hk := ended_skip D c (some (.inr (0, ⟨n, hn⟩, b))) (kduties_skip c 0 _ b (by rw [skip_sA]; exact he))
    unfold waitSAItem doneSAItem sentAItem anyAt; rw [if_pos he]
    iintro ⟨H, Ha⟩
    isplitl [H]; · iexists _; iexact H
    iapply hk; iexact Ha

/-! ## The broadcast -/

def sendBItem (c : Dev nD) (b : Fin 2) (d : Fin 16) : sProp 𝕄 :=
  iprop(owns (c : Thread nD τ) (stgC b) (bshare d) (D.rv c b)
    ∗ if d = c then iprop(emp) else iprop(anyAt d (slotB c b) ∗ dutyTok ER (sBC c d b) 0 0 ∗ dutyTok ER (rBC d c b) 0 0))
def sentBItem (c : Dev nD) (b : Fin 2) (d : Fin 16) : sProp 𝕄 :=
  if d = c then owns (c : Thread nD τ) (stgC b) (bshare d) (D.rv c b) else cred (tallyAt (sBC c d b) () NB)
def StB (c : Dev nD) (b : Fin 2) (O : OT) (n : ℕ) (R : sProp 𝕄) : sProp 𝕄 :=
  iprop(ctx D K ∗ fam n (sendBItem D c b) (sentBItem D c b) ∗ owing c (OC c b n + O) ∗ R)

/-- The operation sends the reduced rows of batch `b` to device `n`. -/
def SendsB (c : Dev nD) (b : Fin 2) (n : ℕ) (hn : n < 16) (op : TpuEff nD τ sig (Elt F) Λ₀ .tc PUnit) : Prop :=
  ∀ (O : OT) (α : Type) (Q : α → sProp 𝕄) (rest : PUnit → Prog (TpuEff nD τ sig (Elt F) Λ₀ .tc) α), (⟨n, hn⟩ : Fin 16) ≠ c →
    iprop(ctx D K ∗ owns (c : Thread nD τ) (stgC b) (bshare ⟨n, hn⟩) (D.rv c b) ∗ anyAt (⟨n, hn⟩ : Fin 16) (slotB c b)
        ∗ dutyTok ER (sBC c ⟨n, hn⟩ b) 0 0 ∗ dutyTok ER (rBC (⟨n, hn⟩ : Fin 16) c b) 0 0
        ∗ owing c (O + tallyAt (rBC (⟨n, hn⟩ : Fin 16) c b) () NB))
      ⊢ iprop(((cred (tallyAt (sBC c ⟨n, hn⟩ b) () NB) ∗ owing c O) -∗ WP c (rest ⟨⟩) Q) -∗ WP c (.op op rest) Q)

theorem sendsB (c : Dev nD) (b : Fin 2) (n : ℕ) (hn : n < 16) {off₁ : Fin 3 → ℕ} {inb₁ : ∀ i, off₁ i + S1x32x768.size i ≤ S2x32x768.size i}
    {off₂ : Fin 4 → ℕ} {inb₂ : ∀ i, off₂ i + S1x1x32x768.size i ≤ S16x2x32x768.size i} {dv : ℕ} {dl : dv < nD}
    {off₃ : Fin 1 → ℕ} {inb₃ : ∀ i, off₃ i + S1.size i ≤ S32.size i} {off₄ : Fin 1 → ℕ} {inb₄ : ∀ i, off₄ i + S1.size i ≤ S32.size i}
    {p₁ p₂ p₃} (h₁ : off₁ = ![b.val, 0, 0]) (hdv : dv = n) (h₃ : off₃ = ![2 * n + b.val])
    (h₂ : off₂ = ![c.val, b.val, 0, 0]) (h₄ : off₄ = ![2 * c.val + b.val]) :
    SendsB D K c b n hn (.enqueueDma (stgAt off₁ inb₁)
        (.remote (Dev.tc (⟨dv, dl⟩ : Dev nD)) (slotBAt off₂ inb₂) (.dma (semAt cc0_scratch11 off₃ inb₃)) rfl)
        (.dma (semAt cc0_scratch12 off₄ inb₄)) p₁ p₂ p₃) := by
  subst h₁; subst hdv; subst h₂
  intro O α Q rest hne
  exact send_core D K c (⟨dv, hn⟩ : Fin 16) _ _ NB (D.rv c b)
    (sB_sem (inb := inb₃) ⟨dv, hn⟩ b h₃) (rB_sem (inb := inb₄) c b h₄)
    (kduties_xfer c 2 ⟨dv, hn⟩ b (by rw [skip_sB]; exact hne)) (kduties_xfer (⟨dv, hn⟩ : Fin 16) 3 c b (by rw [skip_rB]; exact hne.symm))
    (kamount_sB _ _) (kamount_rB _ _) (amount_slotB rfl _) O
    (by rw [kpay_sB]) (by rw [kpay_rB])

theorem sendB_step (c : Dev nD) (b : Fin 2) (O : OT) (n : ℕ) (hn : n < 16) (R : sProp 𝕄)
    {C : Prop} {inst : Decidable C} {op : C → TpuEff nD τ sig (Elt F) Λ₀ .tc PUnit}
    {α : Type} {Q : α → sProp 𝕄} {rest : Prog (TpuEff nD τ sig (Elt F) Λ₀ .tc) α}
    (hr : StB D K c b O (n + 1) R ⊢ WP c rest Q)
    (hC : C ↔ (⟨n, hn⟩ : Fin 16) ≠ c) (hop : ∀ h : C, SendsB D K c b n hn (op h)) :
    StB D K c b O n R ⊢ WP c (dite C (fun h => Prog.lift (op h) >>= fun _ => rest) (fun _ => rest)) Q := by
  unfold StB
  by_cases hc : C
  · rw [dif_pos hc]
    have hne := hC.mp hc
    have hO : OC c b n + O = (OC c b (n + 1) + O) + tallyAt (rBC (⟨n, hn⟩ : Fin 16) c b) () NB := by
      have h := sum_from_pop (p := fun k : Fin 16 => k ≠ c) (fun k => (tallyAt (rBC k c b) () NB : OT)) ⟨n, hn⟩ hne
      exact (congrArg (· + O) h).trans (add_right_comm _ _ _)
    have hA : sendBItem D c b ⟨n, hn⟩ ⊢ iprop(owns (c : Thread nD τ) (stgC b) (bshare ⟨n, hn⟩) (D.rv c b) ∗ anyAt (⟨n, hn⟩ : Fin 16) (slotB c b)
        ∗ dutyTok ER (sBC c ⟨n, hn⟩ b) 0 0 ∗ dutyTok ER (rBC (⟨n, hn⟩ : Fin 16) c b) 0 0) := by
      unfold sendBItem; rw [if_neg hne]
    have hB : cred (tallyAt (sBC c ⟨n, hn⟩ b) () NB) ⊢ sentBItem D c b ⟨n, hn⟩ := by unfold sentBItem; rw [if_neg hne]
    rw [hO]
    iintro ⟨#Hctx, HF, HO, HR⟩
    ihave H := (fam_step (sendBItem D c b) (sentBItem D c b) n hn) $$ HF
    icases H with ⟨HA, Hcl⟩
    ihave HA := hA $$ HA
    icases HA with ⟨Hs, Hd, Ht1, Ht2⟩
    rw [show ((Prog.lift (op hc) >>= fun _ => rest : Prog (TpuEff nD τ sig (Elt F) Λ₀ .tc) α)) = .op (op hc) (fun _ => rest) from rfl]
    iapply (hop hc (OC c b (n + 1) + O) α Q (fun _ => rest) hne) $$ [Hs Hd Ht1 Ht2 HO]
    · isplitr; · iexact Hctx
      isplitl [Hs]; · iexact Hs
      isplitl [Hd]; · iexact Hd
      isplitl [Ht1]; · iexact Ht1
      isplitl [Ht2]; · iexact Ht2
      iexact HO
    iintro ⟨Hc, HO⟩
    iapply hr
    unfold StB
    isplitr; · iexact Hctx
    isplitl [Hcl Hc]
    · iapply Hcl; iapply hB; iexact Hc
    isplitl [HO]; · iexact HO
    iexact HR
  · rw [dif_neg hc]
    have he : (⟨n, hn⟩ : Fin 16) = c := not_not.mp (fun h => hc (hC.mpr h))
    have hO : OC c b n = OC c b (n + 1) :=
      sum_from_skip (p := fun k : Fin 16 => k ≠ c) (fun k => (tallyAt (rBC k c b) () NB : OT)) ⟨n, hn⟩ (not_not.mpr he)
    have hA : sendBItem D c b ⟨n, hn⟩ ⊢ sentBItem D c b ⟨n, hn⟩ := by
      unfold sendBItem sentBItem; rw [if_pos he, if_pos he]; iintro ⟨H, -⟩; iexact H
    rw [hO]
    iintro ⟨#Hctx, HF, HO, HR⟩
    ihave H := (fam_step (sendBItem D c b) (sentBItem D c b) n hn) $$ HF
    icases H with ⟨HA, Hcl⟩
    iapply hr
    unfold StB
    isplitr; · iexact Hctx
    isplitl [Hcl HA]
    · iapply Hcl; iapply hA; iexact HA
    isplitl [HO]; · iexact HO
    iexact HR

def waitSBItem (c : Dev nD) (b : Fin 2) (d : Fin 16) : sProp 𝕄 := iprop(sentBItem D c b d ∗ atPos ER (sBC c d b) 0 ∅ 0)
def doneSBItem (c : Dev nD) (b : Fin 2) (d : Fin 16) : sProp 𝕄 := iprop(owns (c : Thread nD τ) (stgC b) (bshare d) (D.rv c b) ∗ ended D c (some (.inr (2, d, b))))
abbrev StSB (c : Dev nD) (b : Fin 2) (n : ℕ) (R : sProp 𝕄) : sProp 𝕄 := GSt D K c (waitSBItem D c b) (doneSBItem D c b) 0 n R

theorem doneB_step (c : Dev nD) (b : Fin 2) (n : ℕ) (hn : n < 16) (R : sProp 𝕄)
    {C : Prop} {inst : Decidable C} {op : C → TpuEff nD τ sig (Elt F) Λ₀ .tc PUnit}
    {α : Type} {Q : α → sProp 𝕄} {rest : Prog (TpuEff nD τ sig (Elt F) Λ₀ .tc) α}
    (hr : StSB D K c b (n + 1) R ⊢ WP c rest Q)
    (hC : C ↔ (⟨n, hn⟩ : Fin 16) ≠ c) (hop : ∀ h : C, WaitsAt D K c (some (.inr (2, ⟨n, hn⟩, b))) (op h)) :
    StSB D K c b n R ⊢ WP c (dite C (fun h => Prog.lift (op h) >>= fun _ => rest) (fun _ => rest)) Q := by
  refine wait_step D K c _ _ 0 n hn R (some (.inr (2, ⟨n, hn⟩, b))) 0 (by dsimp only [klv]; decide) (Above.zero 0) (fun h => kduties_xfer c 2 _ b (by rw [skip_sB]; exact hC.mp h)) (fun h => ?_) (fun h => ?_) (fun h => ?_) hop hr
  · unfold waitSBItem sentBItem; rw [if_neg (hC.mp h), kamount_sB]
  · unfold doneSBItem; rw [kpay_sB]
  · have he : (⟨n, hn⟩ : Fin 16) = c := not_not.mp (fun h' => h (hC.mpr h'))
    have hk := ended_skip D c (some (.inr (2, ⟨n, hn⟩, b))) (kduties_skip c 2 _ b (by rw [skip_sB]; exact he))
    unfold waitSBItem doneSBItem sentBItem; rw [if_pos he]
    iintro ⟨H, Ha⟩
    isplitl [H]; · iexact H
    iapply hk; iexact Ha

end Cert.Exchange

end
-- ==== Proof.Pieces.lean ====
/-
# Pieces of the buffers

The chunks, slots and batches the exchange moves, as rectangles; splitting a buffer into them and joining it back; loads and stores of one piece.
-/
module

public import proofs.«01_k».proof.Proof.Moves
public import Idealize.ShloMosaic.Lib.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles -/

section Geometry

theorem chunk_disj : ∀ p p' : Fin 2 × Fin 16, p ≠ p' → Disjoint (chunkR p).set (chunkR p').set := by
  rintro ⟨b, k⟩ ⟨b', k'⟩ h
  refine Finset.disjoint_left.mpr fun i hi hi' => h ?_
  have h := Rect.mem_set_unit.mp hi; have h' := Rect.mem_set_unit.mp hi'
  have e0 : b.val ≤ (i 0).val ∧ (i 0).val < b.val + 1 := h 0
  have e0' : b'.val ≤ (i 0).val ∧ (i 0).val < b'.val + 1 := h' 0
  have e1 : 32 * k.val ≤ (i 1).val ∧ (i 1).val < 32 * k.val + 32 := h 1
  have e1' : 32 * k'.val ≤ (i 1).val ∧ (i 1).val < 32 * k'.val + 32 := h' 1
  exact Prod.ext (Fin.ext (by dsimp only; omega)) (Fin.ext (by dsimp only; omega))
theorem chunk_cov : (Finset.univ : Finset (Fin 2 × Fin 16)).biUnion (fun p => (chunkR p).set) = Finset.univ := by
  refine Finset.eq_univ_iff_forall.mpr fun i => Finset.mem_biUnion.mpr ?_
  have h0 : (i 0).val < 2 := (i 0).isLt
  have h1 : (i 1).val < 512 := (i 1).isLt
  have h2 : (i 2).val < 768 := (i 2).isLt
  refine ⟨(⟨(i 0).val, h0⟩, ⟨(i 1).val / 32, by omega⟩), Finset.mem_univ _, Rect.mem_set_unit.mpr fun a => ?_⟩
  fin_cases a
  · exact ⟨Nat.le_refl _, Nat.lt_succ_self _⟩
  · exact ⟨by show 32 * ((i 1).val / 32) ≤ (i 1).val; omega, by show (i 1).val < 32 * ((i 1).val / 32) + 32; omega⟩
  · exact ⟨Nat.zero_le _, by show (i 2).val < 0 + 768; omega⟩
theorem slot_disj : ∀ p p' : Fin 16 × Fin 2, p ≠ p' → Disjoint (slotR p).set (slotR p').set := by
  rintro ⟨k, b⟩ ⟨k', b'⟩ h
  refine Finset.disjoint_left.mpr fun i hi hi' => h ?_
  have h := Rect.mem_set_unit.mp hi; have h' := Rect.mem_set_unit.mp hi'
  have e0 : k.val ≤ (i 0).val ∧ (i 0).val < k.val + 1 := h 0
  have e0' : k'.val ≤ (i 0).val ∧ (i 0).val < k'.val + 1 := h' 0
  have e1 : b.val ≤ (i 1).val ∧ (i 1).val < b.val + 1 := h 1
  have e1' : b'.val ≤ (i 1).val ∧ (i 1).val < b'.val + 1 := h' 1
  exact Prod.ext (Fin.ext (by dsimp only; omega)) (Fin.ext (by dsimp only; omega))
theorem slot_cov : (Finset.univ : Finset (Fin 16 × Fin 2)).biUnion (fun p => (slotR p).set) = Finset.univ := by
  refine Finset.eq_univ_iff_forall.mpr fun i => Finset.mem_biUnion.mpr ?_
  have h0 : (i 0).val < 16 := (i 0).isLt
  have h1 : (i 1).val < 2 := (i 1).isLt
  have h2 : (i 2).val < 32 := (i 2).isLt
  have h3 : (i 3).val < 768 := (i 3).isLt
  refine ⟨(⟨(i 0).val, h0⟩, ⟨(i 1).val, h1⟩), Finset.mem_univ _, Rect.mem_set_unit.mpr fun a => ?_⟩
  fin_cases a
  · exact ⟨Nat.le_refl _, Nat.lt_succ_self _⟩
  · exact ⟨Nat.le_refl _, Nat.lt_succ_self _⟩
  · exact ⟨Nat.zero_le _, by show (i 2).val < 0 + 32; omega⟩
  · exact ⟨Nat.zero_le _, by show (i 3).val < 0 + 768; omega⟩
theorem stage_disj : ∀ p p' : Fin 2, p ≠ p' → Disjoint (stageR p).set (stageR p').set := by
  rintro b b' h
  refine Finset.disjoint_left.mpr fun i hi hi' => h ?_
  have h := Rect.mem_set_unit.mp hi; have h' := Rect.mem_set_unit.mp hi'
  have e1 : b.val ≤ (i 0).val ∧ (i 0).val < b.val + 1 := h 0
  have e1' : b'.val ≤ (i 0).val ∧ (i 0).val < b'.val + 1 := h' 0
  exact Fin.ext (by omega)
theorem stage_cov : (Finset.univ : Finset (Fin 2)).biUnion (fun p => (stageR p).set) = Finset.univ := by
  refine Finset.eq_univ_iff_forall.mpr fun i => Finset.mem_biUnion.mpr ?_
  have h0 : (i 0).val < 2 := (i 0).isLt
  have h1 : (i 1).val < 32 := (i 1).isLt
  have h2 : (i 2).val < 768 := (i 2).isLt
  refine ⟨⟨(i 0).val, h0⟩, Finset.mem_univ _, Rect.mem_set_unit.mpr fun a => ?_⟩
  fin_cases a
  · exact ⟨Nat.le_refl _, Nat.lt_succ_self _⟩
  · exact ⟨Nat.zero_le _, by show (i 1).val < 0 + 32; omega⟩
  · exact ⟨Nat.zero_le _, by show (i 2).val < 0 + 768; omega⟩
theorem batch_disj : ∀ p p' : Fin 2, p ≠ p' → Disjoint (batchR p).set (batchR p').set := by
  rintro b b' h
  refine Finset.disjoint_left.mpr fun i hi hi' => h ?_
  have h := Rect.mem_set_unit.mp hi; have h' := Rect.mem_set_unit.mp hi'
  have e1 : b.val ≤ (i 0).val ∧ (i 0).val < b.val + 1 := h 0
  have e1' : b'.val ≤ (i 0).val ∧ (i 0).val < b'.val + 1 := h' 0
  exact Fin.ext (by omega)
theorem batch_cov : (Finset.univ : Finset (Fin 2)).biUnion (fun p => (batchR p).set) = Finset.univ := by
  refine Finset.eq_univ_iff_forall.mpr fun i => Finset.mem_biUnion.mpr ?_
  have h0 : (i 0).val < 2 := (i 0).isLt
  have h1 : (i 1).val < 512 := (i 1).isLt
  have h2 : (i 2).val < 768 := (i 2).isLt
  refine ⟨⟨(i 0).val, h0⟩, Finset.mem_univ _, Rect.mem_set_unit.mpr fun a => ?_⟩
  fin_cases a
  · exact ⟨Nat.le_refl _, Nat.lt_succ_self _⟩
  · exact ⟨Nat.zero_le _, by show (i 1).val < 0 + 512; omega⟩
  · exact ⟨Nat.zero_le _, by show (i 2).val < 0 + 768; omega⟩

theorem sub_inb (k : Fin 16) : ∀ i, (![0, 32 * k.val, 0] : Fin 3 → ℕ) i + S1x32x768.size i ≤ S1x512x768.size i := by
  revert k; decide
/-- Rows `32 k …` of one batch. -/
abbrev subR (k : Fin 16) : Rect S1x512x768 := Rect.unit ![0, 32 * k.val, 0] S1x32x768.size (sub_inb k)
theorem sub_disj : ∀ p p' : Fin 16, p ≠ p' → Disjoint (subR p).set (subR p').set := by
  rintro b b' h
  refine Finset.disjoint_left.mpr fun i hi hi' => h ?_
  have h := Rect.mem_set_unit.mp hi; have h' := Rect.mem_set_unit.mp hi'
  have e1 : 32 * b.val ≤ (i 1).val ∧ (i 1).val < 32 * b.val + 32 := h 1
  have e1' : 32 * b'.val ≤ (i 1).val ∧ (i 1).val < 32 * b'.val + 32 := h' 1
  exact Fin.ext (by omega)
theorem sub_cov : (Finset.univ : Finset (Fin 16)).biUnion (fun p => (subR p).set) = Finset.univ := by
  refine Finset.eq_univ_iff_forall.mpr fun i => Finset.mem_biUnion.mpr ?_
  have h0 : (i 0).val < 1 := (i 0).isLt
  have h1 : (i 1).val < 512 := (i 1).isLt
  have h2 : (i 2).val < 768 := (i 2).isLt
  refine ⟨⟨(i 1).val / 32, by omega⟩, Finset.mem_univ _, Rect.mem_set_unit.mpr fun a => ?_⟩
  fin_cases a
  · exact ⟨Nat.zero_le _, by show (i 0).val < 0 + 1; omega⟩
  · exact ⟨by show 32 * ((i 1).val / 32) ≤ (i 1).val; omega, by show (i 1).val < 32 * ((i 1).val / 32) + 32; omega⟩
  · exact ⟨Nat.zero_le _, by show (i 2).val < 0 + 768; omega⟩

end Geometry

omit [FloatOps F] in
theorem bmono {T : Type} {s : Finset T} {Φ Ψ : T → sProp 𝕄} (h : ∀ i ∈ s, Φ i ⊢ Ψ i) : bigSep s Φ ⊢ bigSep s Ψ := bigSep_mono h

/-! ## Splitting and joining at contents not named -/

omit [FloatOps F] in
theorem any_split (c : Dev nD) {sp : Space} {s : Shape} {e : EltTy} (m : Memref sig .tc sp s e) {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    anyAt (F := F) c m ⊢ bigSep Finset.univ fun t => anyAt (F := F) c (m.slice (r t) (hr t)) := by
  unfold anyAt
  iintro ⟨%X, H⟩
  ihave H := (owns_rects (c : Thread nD τ) m fullShare r hr hd hcov X) $$ H
  iapply (bmono (s := (Finset.univ : Finset T)) (fun t _ => show (owns (c : Thread nD τ) (m.slice (r t) (hr t)) fullShare (fun j => X ((r t).emb j)) : sProp 𝕄)
    ⊢ iprop(∃ Y, owns (c : Thread nD τ) (m.slice (r t) (hr t)) fullShare Y) by iintro H; iexists _; iexact H)) $$ H

omit [FloatOps F] in
theorem any_join (c : Dev nD) {sp : Space} {s : Shape} {e : EltTy} (m : Memref sig .tc sp s e) {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) (f₀ : Buf (Elt F) (m.view.loc (c : Thread nD τ))) :
    (bigSep Finset.univ fun t => anyAt (F := F) c (m.slice (r t) (hr t))) ⊢ anyAt (F := F) c m := by
  have h1 : (bigSep Finset.univ fun t => anyAt (F := F) c (m.slice (r t) (hr t)))
      ⊢ bigSep Finset.univ fun t => iprop(∃ f, m.view.loc (c : Thread nD τ) ↦[(m.view.slice (r t)).set]{fullShare} f) :=
    bmono (s := (Finset.univ : Finset T)) fun t _ => by
      unfold anyAt owns
      iintro ⟨%X, %f, -, H⟩; iexists f; iexact H
  have hset : (Finset.univ : Finset T).biUnion (fun t => (m.view.slice (r t)).set) = m.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  have hdis : ∀ t t' : T, t ≠ t' → Disjoint (m.view.slice (r t)).set (m.view.slice (r t')).set := fun t t' htt => by
    rw [View.set_slice, View.set_slice]; exact (Finset.disjoint_map _).mpr (hd t t' htt)
  have h2 : (bigSep Finset.univ fun t => iprop(∃ f, m.view.loc (c : Thread nD τ) ↦[(m.view.slice (r t)).set]{fullShare} f) : sProp 𝕄)
      ⊢ iprop(∃ g, m.view.loc (c : Thread nD τ) ↦[m.view.set]{fullShare} g) :=
    Ring.pointsTo_sub_blocks_join_exists (ℓ := m.view.loc (c : Thread nD τ)) (fun t => (m.view.slice (r t)).set) hdis m.view.set hset f₀
  refine (h1.trans h2).trans ?_
  unfold anyAt
  iintro ⟨%g, H⟩
  iexists (m.view.read (Elt F) g)
  iapply (owns_mk c m fullShare g _ rfl); iexact H

omit [FloatOps F] in
theorem any_squeeze (c : Dev nD) {sp : Space} {s s' : Shape} {e : EltTy} (m : Memref sig .tc sp s e) (h : s.Squeezes s') :
    anyAt (F := F) c m ⊢ anyAt (F := F) c (m.squeeze s' h) := by
  unfold anyAt; iintro ⟨%X, H⟩; iexists _; iapply (owns_squeeze c m h fullShare X); iexact H
omit [FloatOps F] in
theorem any_unsqueeze (c : Dev nD) {sp : Space} {s s' : Shape} {e : EltTy} (m : Memref sig .tc sp s e) (h : s.Squeezes s') :
    anyAt (F := F) c (m.squeeze s' h) ⊢ anyAt (F := F) c m := by
  unfold anyAt; iintro ⟨%X, H⟩; iexists _; iapply (owns_unsqueeze c m h fullShare X); iexact H

/-! ## Loads and stores of slices -/

theorem loads_squeezed (c : Dev nD) {cs : CoreSpace} {s s' : Shape} {e : EltTy} {m : Memref sig .tc cs s e} {r : Rect s} {hr : ∀ a, r.stride a = 1} {h : r.shape.Squeezes s'} {hl : m.view.LoadsAt r.toLoadRect} (q : PosShare TreeShare) (X : Vec F s' e) :
    Loads c (owns (c : Thread nD τ) ((m.slice r hr).squeeze s' h) q X) (shapeCast r.shape X h.numel_eq.symm) (.load m r.toLoadRect hl) := by
  intro α Q rest
  iintro H Hk
  ihave H := (owns_unsqueeze c (m.slice r hr) h q X) $$ H
  iapply (load_slice c (hr := hr) q (shapeCast r.shape X h.numel_eq.symm)) $$ H
  iintro H
  iapply Hk
  ihave H := (owns_squeeze c (m.slice r hr) h q _) $$ H
  rw [shapeCast_back X h.numel_eq h.numel_eq.symm]
  iexact H

theorem loads_whole (c : Dev nD) {cs : CoreSpace} {s : Shape} {e : EltTy} {m : Memref sig .tc cs s e} {r : Rect s} {hl : m.view.LoadsAt r.toLoadRect} (q : PosShare TreeShare) (X : Vec F s e) :
    Loads c (owns (c : Thread nD τ) m q X) (fun j => X (r.emb j)) (.load m r.toLoadRect hl) :=
  fun α Q rest => load_owns c q X

theorem loadsAny_slice (c : Dev nD) {cs : CoreSpace} {s : Shape} {e : EltTy} {m : Memref sig .tc cs s e} {r : Rect s} {hr : ∀ a, r.stride a = 1} {hl : m.view.LoadsAt r.toLoadRect} :
    LoadsAny (F := F) c (anyAt c (m.slice r hr)) (.load m r.toLoadRect hl) := by
  intro α Q rest
  unfold anyAt
  iintro ⟨%X, H⟩ Hk
  iapply (load_slice c (hr := hr) fullShare X) $$ H
  iintro H
  iapply Hk; iexists X; iexact H

theorem loadsAny_whole (c : Dev nD) {cs : CoreSpace} {s : Shape} {e : EltTy} {m : Memref sig .tc cs s e} {r : Rect s} {hl : m.view.LoadsAt r.toLoadRect} :
    LoadsAny (F := F) c (anyAt c m) (.load m r.toLoadRect hl) := by
  intro α Q rest
  unfold anyAt
  iintro ⟨%X, H⟩ Hk
  iapply (load_owns c fullShare X) $$ H
  iintro H
  iapply Hk; iexists X; iexact H

/-- A store of exactly a slice. -/
theorem stores_slice (c : Dev nD) {cs : CoreSpace} {s : Shape} {e : EltTy} {m : Memref sig .tc cs s e} {r : Rect s} {hr : ∀ a, r.stride a = 1} {w : r.shape.Idx → Elt F e}
    {hx : (m.access r).Stores Finset.univ} {hm : (Finset.univ : Finset r.shape.Idx) = Finset.univ ∨ ∀ a, r.stride a = 1} :
    Turns c (anyAt c (m.slice r hr)) (owns (c : Thread nD τ) (m.slice r hr) fullShare w) (.store m r w Finset.univ hx hm) := by
  intro α Q rest
  unfold anyAt owns; iintro ⟨%X, %f, %hf, H⟩ Hk
  iapply (wp_store 𝒱₀ (c : Thread nD τ) none Set.univ (m := m) (r := r) (Mk := Finset.univ) (S := (m.slice r hr).view.set) (Finset.Subset.refl _)) $$ H
  iintro H
  iapply Hk; iexists _; isplitr
  rotate_left
  · iexact H
  ipureintro
  exact View.read_write_univ (v := m.access r) _ _

/-- A store of the whole of a memref. -/
theorem stores_whole (c : Dev nD) {cs : CoreSpace} {s : Shape} {e : EltTy} {m : Memref sig .tc cs s e} {off : Fin s.rank → ℕ} {inb : ∀ a, off a + s.size a ≤ s.size a} {w : s.Idx → Elt F e}
    {hx : (m.access (Rect.unit off s.size inb)).Stores Finset.univ} {hm : (Finset.univ : Finset s.Idx) = Finset.univ ∨ ∀ a, (Rect.unit off s.size inb).stride a = 1} :
    Turns c (anyAt c m) (owns (c : Thread nD τ) m fullShare w) (.store m (Rect.unit off s.size inb) w Finset.univ hx hm) := by
  intro α Q rest
  have he : ∀ j : s.Idx, (Rect.unit off s.size inb).emb j = j := fun j => funext fun a => Fin.ext (by
    show off a + 1 * (j a).val = (j a).val
    have := inb a; omega)
  unfold anyAt
  iintro ⟨%X, H⟩ Hk
  iapply (store_owns c X) $$ H
  iintro H
  iapply Hk
  rw [show (Rect.unit off s.size inb).overlay X w = w from funext fun j => by
    have h := Rect.overlay_emb (Rect.unit off s.size inb) X w j
    rw [he] at h; exact h]
  iexact H

theorem whole_emb {s : Shape} {off : Fin s.rank → ℕ} {inb : ∀ a, off a + s.size a ≤ s.size a} (j : s.Idx) : (Rect.unit off s.size inb).emb j = j :=
  funext fun a => Fin.ext (by
    show off a + 1 * (j a).val = (j a).val
    have := inb a; omega)

/-! ## The partial rows of a batch, chunk by chunk -/

omit [FloatOps F] in
theorem part_chunks (c : Dev nD) (b : Fin 2) (W : Vec F S1x512x768 .bf16) :
    (owns (c : Thread nD τ) (partM.slice (batchR b) (fun _ => rfl)) fullShare W : sProp 𝕄)
      ⊢ bigSep Finset.univ fun k : Fin 16 => owns (c : Thread nD τ) (partC b k) fullShare (shapeCast S32x768 (fun j : S1x32x768.Idx => W ((subR k).emb j)) squeezes_S1x32x768_S32x768.numel_eq) := by
  refine (owns_rects (c : Thread nD τ) _ fullShare subR (fun _ _ => rfl) sub_disj sub_cov W).trans ?_
  refine bmono (s := (Finset.univ : Finset (Fin 16))) fun k _ => ?_
  refine BIBase.Entails.trans ?_ (owns_squeeze c (partM.slice (chunkR (b, k)) (fun _ => rfl)) squeezes_S1x32x768_S32x768 fullShare (fun j : S1x32x768.Idx => W ((subR k).emb j)))
  have hemb : ∀ j : S1x32x768.Idx, (batchR b).emb ((subR k).emb j) = (chunkR (b, k)).emb j := fun j => funext fun a => Fin.ext (by
    show (![b.val, 0, 0] : Fin 3 → ℕ) a + 1 * ((![0, 32 * k.val, 0] : Fin 3 → ℕ) a + 1 * (j a).val) = (![b.val, 32 * k.val, 0] : Fin 3 → ℕ) a + 1 * (j a).val
    fin_cases a
    · show b.val + 1 * (0 + 1 * (j 0).val) = b.val + 1 * (j 0).val; omega
    · show 0 + 1 * (32 * k.val + 1 * (j 1).val) = 32 * k.val + 1 * (j 1).val; omega
    · show 0 + 1 * (0 + 1 * (j 2).val) = 0 + 1 * (j 2).val; omega)
  unfold owns
  iintro ⟨%f, %hf, H⟩
  iexists f
  isplitr
  · ipureintro
    refine Eq.trans (funext fun j => ?_) hf
    show f ((chunkR (b, k)).emb j) = f ((batchR b).emb ((subR k).emb j))
    rw [hemb j]
  · rw [show (((partM.slice (batchR b) (fun _ => rfl)).slice (subR k) (fun _ => rfl)).view.set) = (partM.slice (chunkR (b, k)) (fun _ => rfl)).view.set from by
      ext i
      unfold View.set
      rw [Finset.mem_map, Finset.mem_map]
      constructor
      · rintro ⟨j, -, rfl⟩; exact ⟨j, Finset.mem_univ _, (hemb j).symm⟩
      · rintro ⟨j, -, rfl⟩; exact ⟨j, Finset.mem_univ _, hemb j⟩]
    iexact H

/-! ## The rows written out -/

/-- The result's chunks for which `P` holds are at their values. -/
def outAt (c : Dev nD) (V : Fin 2 → Fin 16 → Vec F S1x32x768 .f32) (P : Fin 2 → Fin 16 → Prop) : sProp 𝕄 :=
  iprop(∃ Y : Vec F S2x512x768 .f32, ⌜∀ b k, P b k → ∀ j, Y ((chunkR (b, k)).emb j) = V b k j⌝ ∗ owns (c : Thread nD τ) oM fullShare Y)

theorem loadsAny_out (c : Dev nD) (V : Fin 2 → Fin 16 → Vec F S1x32x768 .f32) (P : Fin 2 → Fin 16 → Prop) {r : Rect S2x512x768} {hl : oM.view.LoadsAt r.toLoadRect} :
    LoadsAny c (outAt c V P) (.load oM r.toLoadRect hl) := by
  intro α Q rest
  unfold outAt
  iintro ⟨%Y, %hY, H⟩ Hk
  iapply (load_owns c fullShare Y) $$ H
  iintro H
  iapply Hk; iexists Y; isplitr
  · ipureintro; exact hY
  · iexact H

theorem stores_out (c : Dev nD) (V : Fin 2 → Fin 16 → Vec F S1x32x768 .f32) (P P' : Fin 2 → Fin 16 → Prop) (b : Fin 2) (k : Fin 16) {off : Fin 3 → ℕ} {inb : ∀ a, off a + S1x32x768.size a ≤ S2x512x768.size a}
    (h : off = ![b.val, 32 * k.val, 0]) {w : S1x32x768.Idx → Elt F .f32}
    {hx : (oM.access (Rect.unit (s := S2x512x768) off S1x32x768.size inb)).Stores Finset.univ} {hm : (Finset.univ : Finset S1x32x768.Idx) = Finset.univ ∨ ∀ a, (Rect.unit (s := S2x512x768) off S1x32x768.size inb).stride a = 1}
    (hw : w = V b k) (hP : ∀ b' k', P' b' k' → P b' k' ∨ (b', k') = (b, k)) :
    Turns c (outAt c V P) (outAt c V P') (.store oM (Rect.unit (s := S2x512x768) off S1x32x768.size inb) w Finset.univ hx hm) := by
  subst h
  intro α Q rest
  unfold outAt
  iintro ⟨%Y, %hY, H⟩ Hk
  iapply (store_owns c Y) $$ H
  iintro H
  iapply Hk; iexists _; isplitr
  rotate_left
  · iexact H
  ipureintro
  intro b' k' hp j
  by_cases he : (b', k') = (b, k)
  · obtain ⟨rfl, rfl⟩ := Prod.mk.inj he
    rw [← hw]; exact Rect.overlay_emb (chunkR (b', k')) Y w j
  · rcases hP b' k' hp with hp | h
    · rw [← hY b' k' hp j]
      refine Rect.overlay_of_not_mem _ _ _ fun hm => ?_
      exact Finset.disjoint_left.mp (chunk_disj _ _ he) (by rw [← Rect.map_emb_univ]; exact Finset.mem_map_of_mem _ (Finset.mem_univ j)) hm
    · exact absurd h he

end Cert.Exchange

end
-- ==== Proof.Values.lean ====
/-
# What each device computes

The kernel's values as plain functions of what each device holds: the query, one head's attention, the partial rows, the reduced rows.
-/
module

public import proofs.«01_k».proof.Proof.Pieces
public import Idealize.ShloMosaic.Lib.ValueIdx

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem head_inb (b : Fin 2) (h : Fin 8) : ∀ i, (![b.val, 0, h.val, 0] : Fin 4 → ℕ) i + S1x512x1x64.size i ≤ S2x512x8x64.size i := by
  revert b h; decide
theorem col_inb (h : Fin 8) : ∀ i, (![0, 64 * h.val] : Fin 2 → ℕ) i + S512x64.size i ≤ S512x512.size i := by
  revert h; decide
/-- Head `h` of batch `b`. -/
abbrev headR (b : Fin 2) (h : Fin 8) : Rect S2x512x8x64 := Rect.unit ![b.val, 0, h.val, 0] S1x512x1x64.size (head_inb b h)
/-- The columns of head `h`. -/
abbrev colR (h : Fin 8) : Rect S512x512 := Rect.unit ![0, 64 * h.val] S512x64.size (col_inb h)
theorem col_slices (h : Fin 8) : S512x512.Slices ![0, 64 * h.val] S512x64 := by revert h; decide

/-- What the devices hold: the staged inputs and each device's blocks of the two weight matrices. -/
structure Inp (F : FTy → Type) where
  x : Dev nD → Vec F S2x512x768 .f32
  kk : Dev nD → Vec F S2x512x8x64 .f32
  vv : Dev nD → Vec F S2x512x8x64 .f32
  wq : Dev nD → Vec F S768x512 .f32
  wo : Dev nD → Vec F S512x768 .f32

/-- Which positions attend to which. -/
def maskV : IVec S512x512 1 :=
  k0_pay10 (k0_pay7 (iota .tc S512x512 32 [0] iota_S512x512_d0_w32) 64#32 k0_pay3 k0_pay4 (Scalar.extui (Scalar.cmpi .sgt 64#32 0#32)))
    (k0_pay8 (iota .tc S512x512 32 [0] iota_S512x512_d0_w32) 64#32 k0_pay3 k0_pay4 (Scalar.extui (Scalar.cmpi .sgt 64#32 0#32)))
    (Scalar.select (Scalar.cmpi .eq 3#32 0#32) 1#32 3#32) k0_pay9

/-- One head's attention: scores, masked, exponentiated, applied to the values, divided by their sum. -/
def headV (mask : IVec S512x512 1) (q : FVec F S512x64 .f32) (K V : Vec F S1x512x1x64 .f32) : FVec F S512x64 .f32 :=
  let e : FVec F S512x512 .f32 := exp (select mask (matmul dot_S512x64_S512x64_S512x512_1_1_0_0_n_n none q (shapeCast S512x64 K shapeCasts_S1x512x1x64_S512x64) (constant S512x512 .f32 0x00000000#32))
    (broadcast S512x512 (Scalar.ofBits .f32 0xCE6E6B28#32)))
  mulf (matmul dot_S512x512_S512x64_S512x64_1_0_0_1_n_n none e (shapeCast S512x64 V shapeCasts_S1x512x1x64_S512x64) (constant S512x64 .f32 0x00000000#32))
    (broadcastTo S512x64 (divf (broadcast S512x1 (Scalar.ofBits .f32 0x3F800000#32)) (shapeCast S512x1 (multiReduction .add [1] S512 e 0x00000000#32 reduces_S512x512_S512 (.inl rfl) rfl) shapeCasts_S512_S512x1)) broadcasts_S512x1_S512x64)

variable (I : Inp F)

def xB (c : Dev nD) (b : Fin 2) : Vec F S1x512x768 .f32 := fun j => I.x c ((batchR b).emb j)
def kB (c : Dev nD) (b : Fin 2) (h : Fin 8) : Vec F S1x512x1x64 .f32 := fun j => I.kk c ((headR b h).emb j)
def vB (c : Dev nD) (b : Fin 2) (h : Fin 8) : Vec F S1x512x1x64 .f32 := fun j => I.vv c ((headR b h).emb j)
def wqS (c : Dev nD) : Vec F S768x512 .f32 := k0_pay1 (I.wq c)
def wbS (c : Dev nD) : Vec F S512x768 .bf16 := k0_pay2 (I.wo c)
def qV (c : Dev nD) (b : Fin 2) : FVec F S512x512 .f32 := k0_pay11 (xB I c b) (wqS I c)
/-- What is stored for head `h` of batch `b`. -/
def hs (c : Dev nD) (b : Fin 2) (h : Fin 8) : FVec F S512x64 .f32 :=
  shapeCast S512x64 (headV maskV (extractStridedSlice S512x64 ![0, 64 * h.val] (qV I c b) (col_slices h)) (kB I c b h) (vB I c b h)) shapeCasts_S512x64_S512x64
/-- The heads side by side. -/
def ctxOf (f : Fin 8 → FVec F S512x64 .f32) : Vec F S512x512 .f32 := fun i =>
  f ⟨(i 1).val / 64, by have h : (i 1).val < 512 := (i 1).isLt; omega⟩
    (ValueIdx.ix2 (⟨(i 0).val, (i 0).isLt⟩ : Fin 512) (⟨(i 1).val % 64, by omega⟩ : Fin 64))
def partW (c : Dev nD) (b : Fin 2) : FVec F S1x512x768 .bf16 := k0_pay27 (ctxOf (hs I c b)) (wbS I c)
def pvV (c : Dev nD) (b : Fin 2) (k : Fin 16) : Vec F S32x768 .bf16 :=
  shapeCast S32x768 (fun j : S1x32x768.Idx => partW I c b ((subR k).emb j)) squeezes_S1x32x768_S32x768.numel_eq

/-! ## The reduction -/

/-- The number a device knows itself by. -/
def v2w (c : Dev nD) : BitVec 32 := Scalar.remsi (Scalar.divsi (Dev.word c) 1#32) 16#32

/-- One more slot added, or nothing for the device's own. -/
def addSlot (v : BitVec 32) (n : ℕ) (acc : FVec F S32x768 .f32) (X : Vec F S1x1x32x768 .bf16) : FVec F S32x768 .f32 :=
  addf acc (Scalar.select (Scalar.cmpi .eq v (BitVec.ofNat 32 n)) (broadcast S32x768 (Scalar.ofBits .f32 0x00000000#32))
    (extf .f32 (shapeCast S32x768 X shapeCasts_S1x1x32x768_S32x768) bitsLt_bf16_f32))
def accN (v : BitVec 32) (own : Vec F S1x32x768 .bf16) (sl : Fin 16 → Vec F S1x1x32x768 .bf16) : (n : ℕ) → n ≤ 16 → FVec F S32x768 .f32
  | 0, _ => extf .f32 (shapeCast S32x768 own shapeCasts_S1x32x768_S32x768) bitsLt_bf16_f32
  | n + 1, h => addSlot v n (accN v own sl n (by omega)) (sl ⟨n, h⟩)
def accV (v : BitVec 32) (own : Vec F S1x32x768 .bf16) (sl : Fin 16 → Vec F S1x1x32x768 .bf16) : FVec F S32x768 .f32 := accN v own sl 16 le_rfl

theorem acc0 (v : BitVec 32) (own : Vec F S1x32x768 .bf16) (sl : Fin 16 → Vec F S1x1x32x768 .bf16) :
    k0_pay51 v (k0_pay49 v (k0_pay48 v (k0_pay46 v own (sl 0) (sl 1) (sl 2)) (Scalar.cmpi .eq v 3#32) (k0_pay47 (sl 3)) (sl 4) (sl 5) (sl 6) (sl 7)) (Scalar.cmpi .eq v 8#32) (sl 8) (sl 9) (sl 10) (sl 11))
      (k0_pay50 v (sl 12)) (sl 13) (sl 14) (sl 15) = accV v own sl := rfl
theorem acc1 (v : BitVec 32) (own : Vec F S1x32x768 .bf16) (sl : Fin 16 → Vec F S1x1x32x768 .bf16) :
    k0_pay59 v (k0_pay58 v (k0_pay55 v (k0_pay54 v own (sl 0) (sl 1) (sl 2) (sl 3)) (Scalar.cmpi .eq v 4#32) (sl 4) (sl 5) (sl 6) (sl 7)) (Scalar.cmpi .eq v 8#32) (k0_pay56 (sl 8)) (k0_pay57 (F := F)) (sl 9) (sl 10) (sl 11) (sl 12))
      (Scalar.cmpi .eq v 13#32) (sl 13) (sl 14) (sl 15) = accV v own sl := rfl

/-- The rows of the partial sums the device keeps for itself. -/
def ownV (c : Dev nD) (b : Fin 2) : Vec F S1x32x768 .bf16 := shapeCast S1x32x768 (pvV I c b (mine c)) squeezes_S1x32x768_S32x768.numel_eq.symm
def slV (c : Dev nD) (b : Fin 2) (s : Fin 16) : Vec F S1x1x32x768 .bf16 := shapeCast S1x1x32x768 (pvV I s b (mine c)) squeezes_S1x1x32x768_S32x768.numel_eq.symm
/-- The reduced rows. -/
def redV (c : Dev nD) (b : Fin 2) : FVec F S32x768 .f32 := accV (v2w c) (ownV I c b) (slV I c b)
def rvV (c : Dev nD) (b : Fin 2) : Vec F S32x768 .bf16 :=
  shapeCast S32x768 (shapeCast S1x32x768 (truncf .bf16 (redV I c b) bitsLt_bf16_f32) shapeCasts_S32x768_S1x32x768) squeezes_S1x32x768_S32x768.numel_eq
/-- The rows of the result: the device's own at full width, the others as broadcast. -/
def outV (c : Dev nD) (b : Fin 2) (k : Fin 16) : Vec F S1x32x768 .f32 :=
  if k = mine c then shapeCast S1x32x768 (redV I c b) shapeCasts_S32x768_S1x32x768
  else k0_pay62 (shapeCast S1x1x32x768 (rvV I (owner k) b) squeezes_S1x1x32x768_S32x768.numel_eq.symm)

def cont : Cont F := ⟨I.wq, I.wo, pvV I, rvV I⟩

theorem v2w_eq (c : Dev nD) : Scalar.cmpi .eq (v2w c) (BitVec.ofNat 32 c.val) = 1#1 := by revert c; decide +kernel
theorem addSlot_own (c : Dev nD) (acc : FVec F S32x768 .f32) (X X' : Vec F S1x1x32x768 .bf16) : addSlot (v2w c) c.val acc X = addSlot (v2w c) c.val acc X' := by
  unfold addSlot; rw [v2w_eq]; rfl
theorem accN_congr (c : Dev nD) (own : Vec F S1x32x768 .bf16) (sl sl' : Fin 16 → Vec F S1x1x32x768 .bf16) (h : ∀ s, s ≠ c → sl s = sl' s) :
    ∀ n hn, accN (v2w c) own sl n hn = accN (v2w c) own sl' n hn
  | 0, _ => rfl
  | n + 1, hn => by
    show addSlot (v2w c) n (accN (v2w c) own sl n _) (sl ⟨n, hn⟩) = addSlot (v2w c) n (accN (v2w c) own sl' n _) (sl' ⟨n, hn⟩)
    rw [accN_congr c own sl sl' h n]
    by_cases he : (⟨n, hn⟩ : Fin 16) = c
    · have hv : n = c.val := congrArg Fin.val he
      subst hv; exact addSlot_own c _ _ _
    · rw [h _ he]
/-- What lies in the device's own slot does not matter. -/
theorem acc_landed (X : Fin 2 → Vec F S32x768 .bf16) (c : Dev nD) (b : Fin 2) :
    accV (v2w c) (ownV I c b) (fun s => shapeCast S1x1x32x768 (landed (cont I) X c b s) squeezes_S1x1x32x768_S32x768.numel_eq.symm) = redV I c b :=
  accN_congr c _ _ _ (fun s h => by unfold landed; rw [if_neg h]; rfl) 16 _

end Cert.Exchange

end
-- ==== Proof.Compute.lean ====
/-
# The steps of the attention itself

Loads of the staged inputs, the heads stored side by side, and the partial rows of one batch.
-/
module

public import proofs.«01_k».proof.Proof.Values

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first `n` heads are in place. -/
def CtxAt (c : Dev nD) (n : ℕ) (f : Fin 8 → FVec F S512x64 .f32) : sProp 𝕄 :=
  iprop(∃ Y : Vec F S512x512 .f32, ⌜∀ h : Fin 8, h.val < n → ∀ j, Y ((colR h).emb j) = f h j⌝ ∗ owns (c : Thread nD τ) ctxM fullShare Y)

theorem loadsAny_ctx (c : Dev nD) (n : ℕ) (f : Fin 8 → FVec F S512x64 .f32) {r : Rect S512x512} {hl : ctxM.view.LoadsAt r.toLoadRect} :
    LoadsAny c (CtxAt c n f) (.load ctxM r.toLoadRect hl) := by
  intro α Q rest
  unfold CtxAt
  iintro ⟨%Y, %hY, H⟩ Hk
  iapply (load_owns c fullShare Y) $$ H
  iintro H
  iapply Hk; iexists Y; isplitr
  · ipureintro; exact hY
  · iexact H

theorem col_disj (h h' : Fin 8) (hne : h ≠ h') : Disjoint (colR h).set (colR h').set := by
  refine Finset.disjoint_left.mpr fun i hi hi' => hne ?_
  have h := Rect.mem_set_unit.mp hi; have h' := Rect.mem_set_unit.mp hi'
  have e1 := h 1
  have e1' := h' 1
  have e1 : 64 * _ ≤ (i 1).val ∧ (i 1).val < 64 * _ + 64 := h 1
  have e1' : 64 * _ ≤ (i 1).val ∧ (i 1).val < 64 * _ + 64 := h' 1
  exact Fin.ext (by omega)

theorem stores_ctx (c : Dev nD) (f : Fin 8 → FVec F S512x64 .f32) (n : Fin 8) {off : Fin 2 → ℕ} {inb : ∀ a, off a + S512x64.size a ≤ S512x512.size a}
    (h : off = ![0, 64 * n.val]) {w : S512x64.Idx → Elt F .f32}
    {hx : (ctxM.access (Rect.unit (s := S512x512) off S512x64.size inb)).Stores Finset.univ} {hm : (Finset.univ : Finset S512x64.Idx) = Finset.univ ∨ ∀ a, (Rect.unit (s := S512x512) off S512x64.size inb).stride a = 1}
    (hw : w = f n) :
    Turns c (CtxAt c n.val f) (CtxAt c (n.val + 1) f) (.store ctxM (Rect.unit (s := S512x512) off S512x64.size inb) w Finset.univ hx hm) := by
  subst h
  intro α Q rest
  unfold CtxAt
  iintro ⟨%Y, %hY, H⟩ Hk
  iapply (store_owns c Y) $$ H
  iintro H
  iapply Hk; iexists _; isplitr
  rotate_left
  · iexact H
  ipureintro
  intro h' hp j
  by_cases he : h' = n
  · subst he
    rw [← hw]; exact Rect.overlay_emb (colR h') Y w j
  · rw [← hY h' (by have : h'.val ≠ n.val := fun e => he (Fin.ext e); omega) j]
    refine Rect.overlay_of_not_mem _ _ _ fun hm => ?_
    exact Finset.disjoint_left.mp (col_disj _ _ he) (by rw [← Rect.map_emb_univ]; exact Finset.mem_map_of_mem _ (Finset.mem_univ j)) hm

theorem ctx_all (f : Fin 8 → FVec F S512x64 .f32) (Y : Vec F S512x512 .f32) (hY : ∀ h : Fin 8, h.val < 8 → ∀ j, Y ((colR h).emb j) = f h j) : Y = ctxOf f := by
  funext i
  have h1 : (i 1).val < 512 := (i 1).isLt
  refine Eq.trans (congrArg Y ?_) (hY ⟨(i 1).val / 64, by omega⟩ (by dsimp only; omega) (ValueIdx.ix2 (⟨(i 0).val, (i 0).isLt⟩ : Fin 512) (⟨(i 1).val % 64, by omega⟩ : Fin 64)))
  funext a
  refine Fin.ext ?_
  fin_cases a
  · show (i 0).val = 0 + 1 * (i 0).val; omega
  · show (i 1).val = 64 * ((i 1).val / 64) + 1 * ((i 1).val % 64); omega

theorem loads_all (c : Dev nD) {cs : CoreSpace} {s : Shape} {e : EltTy} {m : Memref sig .tc cs s e} {off : Fin s.rank → ℕ} {inb : ∀ a, off a + s.size a ≤ s.size a}
    {hl : m.view.LoadsAt (Rect.unit off s.size inb).toLoadRect} (q : PosShare TreeShare) (X : Vec F s e) :
    Loads c (owns (c : Thread nD τ) m q X) X (.load m (Rect.unit off s.size inb).toLoadRect hl) := by
  have h := loads_whole (m := m) (r := Rect.unit off s.size inb) (hl := hl) c q X
  rw [show (fun j => X ((Rect.unit off s.size inb).emb j)) = X from funext fun j => congrArg X (whole_emb j)] at h
  exact h

theorem loads_ctx (c : Dev nD) (f : Fin 8 → FVec F S512x64 .f32) {off : Fin 2 → ℕ} {inb : ∀ a, off a + S512x512.size a ≤ S512x512.size a}
    {hl : ctxM.view.LoadsAt (Rect.unit (s := S512x512) off S512x512.size inb).toLoadRect} :
    Loads c (CtxAt c 8 f) (ctxOf f) (.load ctxM (Rect.unit (s := S512x512) off S512x512.size inb).toLoadRect hl) := by
  intro α Q rest
  unfold CtxAt
  iintro ⟨%Y, %hY, H⟩ Hk
  have hYf := ctx_all f Y hY
  subst hYf
  iapply (loads_all (hl := hl) c fullShare (ctxOf f) α Q rest) $$ H
  iintro H
  iapply Hk; iexists _; isplitr
  · ipureintro; exact hY
  · iexact H

variable (I : Inp F)

/-- While a batch is computed: the inputs, and the first `n` heads. -/
def StC (c : Dev nD) (n : ℕ) (f : Fin 8 → FVec F S512x64 .f32) (R : sProp 𝕄) : sProp 𝕄 :=
  iprop(CtxAt c n f ∗ owns (c : Thread nD τ) xM fullShare (I.x c) ∗ owns (c : Thread nD τ) kM fullShare (I.kk c) ∗ owns (c : Thread nD τ) vM fullShare (I.vv c)
    ∗ owns (c : Thread nD τ) wqM fullShare (wqS I c) ∗ owns (c : Thread nD τ) wbM fullShare (wbS I c) ∗ R)

theorem ldX (c : Dev nD) (n : ℕ) (f : Fin 8 → FVec F S512x64 .f32) (R : sProp 𝕄) {α : Type} {Q : α → sProp 𝕄} (b : Fin 2) {off : Fin 3 → ℕ} {inb : ∀ a, off a + S1x512x768.size a ≤ S2x512x768.size a} {hl : xM.view.LoadsAt (Rect.unit (s := S2x512x768) off S1x512x768.size inb).toLoadRect}
    {k : Vec F S1x512x768 .f32 → Prog (TpuEff nD τ sig (Elt F) Λ₀ .tc) α}
    (ho : off = ![b.val, 0, 0]) (hr : StC I c n f R ⊢ WP c (k (xB I c b)) Q) :
    StC I c n f R ⊢ WP c (Prog.lift (.load xM (Rect.unit (s := S2x512x768) off S1x512x768.size inb).toLoadRect hl) >>= k) Q := by
  subst ho
  refine load_step c (owns (c : Thread nD τ) xM fullShare (I.x c)) iprop(emp) _ ?_ (loads_whole (r := batchR b) c fullShare (I.x c)) hr
  unfold StC
  iintro ⟨Hc, Hx, HR⟩
  isplitl [Hx]; · iexact Hx
  iintro Hx
  isplitl [Hc]; · iexact Hc
  isplitl [Hx]; · iexact Hx
  iexact HR

theorem ldK (c : Dev nD) (n : ℕ) (f : Fin 8 → FVec F S512x64 .f32) (R : sProp 𝕄) {α : Type} {Q : α → sProp 𝕄} (b : Fin 2) (h : Fin 8) {off : Fin 4 → ℕ} {inb : ∀ a, off a + S1x512x1x64.size a ≤ S2x512x8x64.size a} {hl : kM.view.LoadsAt (Rect.unit (s := S2x512x8x64) off S1x512x1x64.size inb).toLoadRect}
    {k : Vec F S1x512x1x64 .f32 → Prog (TpuEff nD τ sig (Elt F) Λ₀ .tc) α}
    (ho : off = ![b.val, 0, h.val, 0]) (hr : StC I c n f R ⊢ WP c (k (kB I c b h)) Q) :
    StC I c n f R ⊢ WP c (Prog.lift (.load kM (Rect.unit (s := S2x512x8x64) off S1x512x1x64.size inb).toLoadRect hl) >>= k) Q := by
  subst ho
  refine load_step c (owns (c : Thread nD τ) kM fullShare (I.kk c)) iprop(emp) _ ?_ (loads_whole (r := headR b h) c fullShare (I.kk c)) hr
  unfold StC
  iintro ⟨Hc, Hx, Hk, HR⟩
  isplitl [Hk]; · iexact Hk
  iintro Hk
  isplitl [Hc]; · iexact Hc
  isplitl [Hx]; · iexact Hx
  isplitl [Hk]; · iexact Hk
  iexact HR

theorem ldV (c : Dev nD) (n : ℕ) (f : Fin 8 → FVec F S512x64 .f32) (R : sProp 𝕄) {α : Type} {Q : α → sProp 𝕄} (b : Fin 2) (h : Fin 8) {off : Fin 4 → ℕ} {inb : ∀ a, off a + S1x512x1x64.size a ≤ S2x512x8x64.size a} {hl : vM.view.LoadsAt (Rect.unit (s := S2x512x8x64) off S1x512x1x64.size inb).toLoadRect}
    {k : Vec F S1x512x1x64 .f32 → Prog (TpuEff nD τ sig (Elt F) Λ₀ .tc) α}
    (ho : off = ![b.val, 0, h.val, 0]) (hr : StC I c n f R ⊢ WP c (k (vB I c b h)) Q) :
    StC I c n f R ⊢ WP c (Prog.lift (.load vM (Rect.unit (s := S2x512x8x64) off S1x512x1x64.size inb).toLoadRect hl) >>= k) Q := by
  subst ho
  refine load_step c (owns (c : Thread nD τ) vM fullShare (I.vv c)) iprop(emp) _ ?_ (loads_whole (r := headR b h) c fullShare (I.vv c)) hr
  unfold StC
  iintro ⟨Hc, Hx, Hk, Hv, HR⟩
  isplitl [Hv]; · iexact Hv
  iintro Hv
  isplitl [Hc]; · iexact Hc
  isplitl [Hx]; · iexact Hx
  isplitl [Hk]; · iexact Hk
  isplitl [Hv]; · iexact Hv
  iexact HR

theorem ldWq (c : Dev nD) (n : ℕ) (f : Fin 8 → FVec F S512x64 .f32) (R : sProp 𝕄) {α : Type} {Q : α → sProp 𝕄} {off : Fin 2 → ℕ} {inb : ∀ a, off a + S768x512.size a ≤ S768x512.size a} {hl : wqM.view.LoadsAt (Rect.unit (s := S768x512) off S768x512.size inb).toLoadRect}
    {k : Vec F S768x512 .f32 → Prog (TpuEff nD τ sig (Elt F) Λ₀ .tc) α} (hr : StC I c n f R ⊢ WP c (k (wqS I c)) Q) :
    StC I c n f R ⊢ WP c (Prog.lift (.load wqM (Rect.unit (s := S768x512) off S768x512.size inb).toLoadRect hl) >>= k) Q := by
  refine load_step c (owns (c : Thread nD τ) wqM fullShare (wqS I c)) iprop(emp) _ ?_ (loads_all c fullShare (wqS I c)) hr
  unfold StC
  iintro ⟨Hc, Hx, Hk, Hv, Hq, HR⟩
  isplitl [Hq]; · iexact Hq
  iintro Hq
  isplitl [Hc]; · iexact Hc
  isplitl [Hx]; · iexact Hx
  isplitl [Hk]; · iexact Hk
  isplitl [Hv]; · iexact Hv
  isplitl [Hq]; · iexact Hq
  iexact HR

theorem ldWb (c : Dev nD) (n : ℕ) (f : Fin 8 → FVec F S512x64 .f32) (R : sProp 𝕄) {α : Type} {Q : α → sProp 𝕄} {off : Fin 2 → ℕ} {inb : ∀ a, off a + S512x768.size a ≤ S512x768.size a} {hl : wbM.view.LoadsAt (Rect.unit (s := S512x768) off S512x768.size inb).toLoadRect}
    {k : Vec F S512x768 .bf16 → Prog (TpuEff nD τ sig (Elt F) Λ₀ .tc) α} (hr : StC I c n f R ⊢ WP c (k (wbS I c)) Q) :
    StC I c n f R ⊢ WP c (Prog.lift (.load wbM (Rect.unit (s := S512x768) off S512x768.size inb).toLoadRect hl) >>= k) Q := by
  refine load_step c (owns (c : Thread nD τ) wbM fullShare (wbS I c)) iprop(emp) _ ?_ (loads_all c fullShare (wbS I c)) hr
  unfold StC
  iintro ⟨Hc, Hx, Hk, Hv, Hq, Hb, HR⟩
  isplitl [Hb]; · iexact Hb
  iintro Hb
  isplitl [Hc]; · iexact Hc
  isplitl [Hx]; · iexact Hx
  isplitl [Hk]; · iexact Hk
  isplitl [Hv]; · iexact Hv
  isplitl [Hq]; · iexact Hq
  isplitl [Hb]; · iexact Hb
  iexact HR

/-- A read of the head's columns whose value is not used. -/
theorem ldC (c : Dev nD) (n : ℕ) (f : Fin 8 → FVec F S512x64 .f32) (R : sProp 𝕄) {α : Type} {Q : α → sProp 𝕄} {r : Rect S512x512} {hl : ctxM.view.LoadsAt r.toLoadRect} {k : Prog (TpuEff nD τ sig (Elt F) Λ₀ .tc) α} (hr : StC I c n f R ⊢ WP c k Q) :
    StC I c n f R ⊢ WP c (Prog.lift (.load ctxM r.toLoadRect hl) >>= fun _ => k) Q := by
  unfold StC at hr ⊢
  exact dead_step c (loadsAny_ctx c n f) hr
theorem ldC8 (c : Dev nD) (f : Fin 8 → FVec F S512x64 .f32) (R : sProp 𝕄) {α : Type} {Q : α → sProp 𝕄} {off : Fin 2 → ℕ} {inb : ∀ a, off a + S512x512.size a ≤ S512x512.size a} {hl : ctxM.view.LoadsAt (Rect.unit (s := S512x512) off S512x512.size inb).toLoadRect}
    {k : Vec F S512x512 .f32 → Prog (TpuEff nD τ sig (Elt F) Λ₀ .tc) α} (hr : StC I c 8 f R ⊢ WP c (k (ctxOf f)) Q) :
    StC I c 8 f R ⊢ WP c (Prog.lift (.load ctxM (Rect.unit (s := S512x512) off S512x512.size inb).toLoadRect hl) >>= k) Q := by
  refine load_step c (CtxAt c 8 f) iprop(emp) _ ?_ (loads_ctx c f) hr
  unfold StC
  iintro ⟨Hc, HR⟩
  isplitl [Hc]; · iexact Hc
  iintro Hc
  isplitl [Hc]; · iexact Hc
  iexact HR
theorem stC (c : Dev nD) (f : Fin 8 → FVec F S512x64 .f32) (R : sProp 𝕄) {α : Type} {Q : α → sProp 𝕄} (h : Fin 8) {off : Fin 2 → ℕ} {inb : ∀ a, off a + S512x64.size a ≤ S512x512.size a}
    {w : S512x64.Idx → Elt F .f32}
    {hx : (ctxM.access (Rect.unit (s := S512x512) off S512x64.size inb)).Stores Finset.univ} {hm : (Finset.univ : Finset S512x64.Idx) = Finset.univ ∨ ∀ a, (Rect.unit (s := S512x512) off S512x64.size inb).stride a = 1}
    {k : PUnit → Prog (TpuEff nD τ sig (Elt F) Λ₀ .tc) α}
    (ho : off = ![0, 64 * h.val]) (hw : w = f h) (hr : StC I c (h.val + 1) f R ⊢ WP c (k ⟨⟩) Q) :
    StC I c h.val f R ⊢ WP c (Prog.lift (.store ctxM (Rect.unit (s := S512x512) off S512x64.size inb) w Finset.univ hx hm) >>= k) Q := by
  unfold StC at hr ⊢
  exact turn_step c (stores_ctx c f h ho hw) hr

end Cert.Exchange

end
-- ==== Proof.Gather.lean ====
/-
# The reduction's and the gather's steps, the weights' copies, the partial rows' store
-/
module

public import proofs.«01_k».proof.Proof.Compute

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## Waits by form -/

section Waits
variable (D : Cont F)
theorem waitsRA (c : Dev nD) (s : Fin 16) (b : Fin 2) {off₃ : Fin 1 → ℕ} {inb₃ : ∀ i, off₃ i + S1.size i ≤ S32.size i} {offd : Fin 4 → ℕ} {inbd : ∀ i, offd i + S1x1x32x768.size i ≤ S16x2x32x768.size i}
    {sp' : Space} {s' : Shape} {e' : EltTy} {src : Memref sig .tc sp' s' e'} {p₁ p₂} (h : off₃ = ![2 * s.val + b.val]) :
    WaitsAt D K c (some (.inr (1, s, b))) (.waitDma2 (semAt cc0_scratch10 off₃ inb₃) src (slotAAt offd inbd) p₁ p₂) :=
  waitsAt D K c _ (rA_sem s b h) (by rw [kamount_rA])
theorem waitsRB (c : Dev nD) (s : Fin 16) (b : Fin 2) {off₃ : Fin 1 → ℕ} {inb₃ : ∀ i, off₃ i + S1.size i ≤ S32.size i} {offd : Fin 4 → ℕ} {inbd : ∀ i, offd i + S1x1x32x768.size i ≤ S16x2x32x768.size i}
    {sp' : Space} {s' : Shape} {e' : EltTy} {src : Memref sig .tc sp' s' e'} {p₁ p₂} (h : off₃ = ![2 * s.val + b.val]) :
    WaitsAt D K c (some (.inr (3, s, b))) (.waitDma2 (semAt cc0_scratch12 off₃ inb₃) src (slotBAt offd inbd) p₁ p₂) :=
  waitsAt D K c _ (rB_sem s b h) (by rw [kamount_rB])
theorem waitsSA (c : Dev nD) (s : Fin 16) (b : Fin 2) {off₃ : Fin 1 → ℕ} {inb₃ : ∀ i, off₃ i + S1.size i ≤ S32.size i} {offd : Fin 3 → ℕ} {inbd : ∀ i, offd i + S1x32x768.size i ≤ S2x512x768.size i}
    {sp' : Space} {s' : Shape} {e' : EltTy} {src : Memref sig .tc sp' s' e'} {p₁ p₂} (h : off₃ = ![2 * s.val + b.val]) :
    WaitsAt D K c (some (.inr (0, s, b))) (.waitDma2 (semAt cc0_scratch9 off₃ inb₃) src (chunkAt offd inbd) p₁ p₂) :=
  waitsAt D K c _ (sA_sem s b h) (by rw [kamount_sA])
theorem waitsSB (c : Dev nD) (s : Fin 16) (b : Fin 2) {off₃ : Fin 1 → ℕ} {inb₃ : ∀ i, off₃ i + S1.size i ≤ S32.size i} {offd : Fin 3 → ℕ} {inbd : ∀ i, offd i + S1x32x768.size i ≤ S2x32x768.size i}
    {sp' : Space} {s' : Shape} {e' : EltTy} {src : Memref sig .tc sp' s' e'} {p₁ p₂} (h : off₃ = ![2 * s.val + b.val]) :
    WaitsAt D K c (some (.inr (2, s, b))) (.waitDma2 (semAt cc0_scratch11 off₃ inb₃) src (stgAt offd inbd) p₁ p₂) :=
  waitsAt D K c _ (sB_sem s b h) (by rw [kamount_sB])
end Waits

/-! ## The reduction -/

/-- All of a batch has landed: what the reduction reads. -/
def StR (c : Dev nD) (b : Fin 2) (O : OT) (R : sProp 𝕄) : sProp 𝕄 :=
  StRA (cont I) K X c b O 16 iprop((bigSep Finset.univ (sentAItem (cont I) c b)) ∗ R)

def slX (c : Dev nD) (b : Fin 2) (s : Fin 16) : Vec F S1x1x32x768 .bf16 := shapeCast S1x1x32x768 (landed (cont I) X c b s) squeezes_S1x1x32x768_S32x768.numel_eq.symm

theorem ldSlot (c : Dev nD) (b : Fin 2) (O : OT) (R : sProp 𝕄) {α : Type} {Q : α → sProp 𝕄} (s : Fin 16) {off : Fin 4 → ℕ} {inb : ∀ a, off a + S1x1x32x768.size a ≤ S16x2x32x768.size a}
    {hl : aM.view.LoadsAt (Rect.unit (s := S16x2x32x768) off S1x1x32x768.size inb).toLoadRect} {k : Vec F S1x1x32x768 .bf16 → Prog (TpuEff nD τ sig (Elt F) Λ₀ .tc) α}
    (ho : off = ![s.val, b.val, 0, 0]) (hr : StR I K X c b O R ⊢ WP c (k (slX I X c b s)) Q) :
    StR I K X c b O R ⊢ WP c (Prog.lift (.load aM (Rect.unit (s := S16x2x32x768) off S1x1x32x768.size inb).toLoadRect hl) >>= k) Q := by
  subst ho
  refine load_step c (owns (c : Thread nD τ) (slotA s b) fullShare (landed (cont I) X c b s)) iprop(emp) _ ?_
    (loads_squeezed (r := slotR (s, b)) (hr := fun _ => rfl) (h := squeezes_S1x1x32x768_S32x768) c fullShare _) hr
  unfold StR StRA GSt
  rw [fam_all, bigSep_univ_at (gotAItem (cont I) X c b) s,
    show gotAItem (cont I) X c b s = iprop(owns (c : Thread nD τ) (slotA s b) fullShare (landed (cont I) X c b s) ∗ ended (cont I) c (some (.inr (1, s, b)))) from rfl]
  iintro ⟨Hctx, ⟨⟨H, He⟩, HF⟩, HR⟩
  isplitl [H]; · iexact H
  iintro H
  isplitl [Hctx]; · iexact Hctx
  isplitl [H He HF]
  · isplitl [H He]
    · isplitl [H]; · iexact H
      iexact He
    iexact HF
  iexact HR

theorem ldOwn (c : Dev nD) (b : Fin 2) (O : OT) (R : sProp 𝕄) {α : Type} {Q : α → sProp 𝕄} {off : Fin 3 → ℕ} {inb : ∀ a, off a + S1x32x768.size a ≤ S2x512x768.size a}
    {hl : partM.view.LoadsAt (Rect.unit (s := S2x512x768) off S1x32x768.size inb).toLoadRect} {k : Vec F S1x32x768 .bf16 → Prog (TpuEff nD τ sig (Elt F) Λ₀ .tc) α}
    (ho : off = ![b.val, 32 * (mine c).val, 0]) (hr : StR I K X c b O R ⊢ WP c (k (ownV I c b)) Q) :
    StR I K X c b O R ⊢ WP c (Prog.lift (.load partM (Rect.unit (s := S2x512x768) off S1x32x768.size inb).toLoadRect hl) >>= k) Q := by
  subst ho
  refine load_step c (owns (c : Thread nD τ) (partC b (mine c)) fullShare ((cont I).pv c b (mine c))) iprop(emp) _ ?_
    (loads_squeezed (r := chunkR (b, mine c)) (hr := fun _ => rfl) (h := squeezes_S1x32x768_S32x768) c fullShare _) hr
  have hs : sentAItem (cont I) c b (mine c) = owns (c : Thread nD τ) (partC b (mine c)) fullShare ((cont I).pv c b (mine c)) := if_pos (owner_mine c)
  unfold StR StRA GSt
  rw [bigSep_univ_at (sentAItem (cont I) c b) (mine c), hs]
  iintro ⟨Hctx, HF, HO, ⟨H, HS⟩, HR⟩
  isplitl [H]; · iexact H
  iintro H
  isplitl [Hctx]; · iexact Hctx
  isplitl [HF]; · iexact HF
  isplitl [HO]; · iexact HO
  isplitl [H HS]
  · isplitl [H]; · iexact H
    iexact HS
  iexact HR

/-! ## The gather -/

/-- The rows in place once `n` of the thirty-two pieces are gathered: the device's own and those. -/
def Pn (c : Dev nD) (n : ℕ) (b : Fin 2) (k : Fin 16) : Prop := k = mine c ∨ 16 * b.val + (owner k).val < n

def waitBItem (c : Dev nD) (b : Fin 2) (s : Fin 16) : sProp 𝕄 :=
  if s = c then iprop(anyAt c (slotB s b) ∗ atPos ER (rBC c s b) 0 ∅ 0) else iprop(cred (tallyAt (rBC c s b) () NB) ∗ atPos ER (rBC c s b) 0 ∅ 0)
def gotBItem (c : Dev nD) (b : Fin 2) (s : Fin 16) : sProp 𝕄 := iprop(anyAt c (slotB s b) ∗ ended (cont I) c (some (.inr (3, s, b))))
/-- While batch `b` is gathered. -/
def StG (c : Dev nD) (b : Fin 2) (n : ℕ) (R : sProp 𝕄) : sProp 𝕄 :=
  GSt (cont I) K c (waitBItem c b) (gotBItem I c b) 0 n iprop(outAt c (outV I c) (Pn c (16 * b.val + n)) ∗ R)

/-- The operation writes device `s`'s rows of batch `b` into the result. -/
def Puts (c : Dev nD) (b : Fin 2) (s : Fin 16) (op : Vec F S1x1x32x768 .bf16 → TpuEff nD τ sig (Elt F) Λ₀ .tc PUnit) : Prop :=
  Turns c (outAt c (outV I c) (Pn c (16 * b.val + s.val))) (outAt c (outV I c) (Pn c (16 * b.val + (s.val + 1))))
    (op (shapeCast S1x1x32x768 (rvV I s b) squeezes_S1x1x32x768_S32x768.numel_eq.symm))

theorem owner_lt (k : Fin 16) : (owner k).val < 16 := (owner k).isLt

theorem puts (c : Dev nD) (b : Fin 2) (s : Fin 16) (hne : s ≠ c) {off : Fin 3 → ℕ} {inb : ∀ a, off a + S1x32x768.size a ≤ S2x512x768.size a} (h : off = ![b.val, 32 * (mine s).val, 0])
    {w : Vec F S1x1x32x768 .bf16 → (S1x32x768.Idx → Elt F .f32)}
    {hx : (oM.access (Rect.unit (s := S2x512x768) off S1x32x768.size inb)).Stores Finset.univ} {hm : (Finset.univ : Finset S1x32x768.Idx) = Finset.univ ∨ ∀ a, (Rect.unit (s := S2x512x768) off S1x32x768.size inb).stride a = 1}
    (hw : w = k0_pay62) : Puts I c b s (fun v => .store oM (Rect.unit (s := S2x512x768) off S1x32x768.size inb) (w v) Finset.univ hx hm) := by
  refine stores_out c _ _ _ b (mine s) h ?_ fun b' k' hp => ?_
  · unfold outV
    rw [if_neg (fun e => hne (by rw [← owner_mine s, e, owner_mine])), owner_mine, hw]
  · rcases hp with hp | hp
    · exact .inl (.inl hp)
    · rcases Nat.lt_or_ge (16 * b'.val + (owner k').val) (16 * b.val + s.val) with h' | h'
      · exact .inl (.inr h')
      · right
        have h1 := owner_lt k'; have h3 := b.isLt; have h2 := s.isLt
        have hb : b'.val = b.val := by omega
        have ho : (owner k').val = s.val := by omega
        rw [← mine_owner k', show owner k' = s from Fin.ext ho, Fin.ext hb]

theorem outAt_mono (c : Dev nD) (V : Fin 2 → Fin 16 → Vec F S1x32x768 .f32) {P P' : Fin 2 → Fin 16 → Prop} (h : ∀ b k, P' b k → P b k) : outAt c V P ⊢ outAt c V P' := by
  unfold outAt; iintro ⟨%Y, %hY, H⟩; iexists Y; isplitr
  · ipureintro; exact fun b k hp => hY b k (h b k hp)
  · iexact H

theorem gather_step (c : Dev nD) (b : Fin 2) (n : ℕ) (hn : n < 16) (R : sProp 𝕄)
    {C : Prop} {inst : Decidable C} {γ : Type} {op₁ : C → TpuEff nD τ sig (Elt F) Λ₀ .tc PUnit} {op₂ : C → TpuEff nD τ sig (Elt F) Λ₀ .tc (Vec F S1x1x32x768 .bf16)}
    {op₃ : C → TpuEff nD τ sig (Elt F) Λ₀ .tc γ} {op₄ : C → Vec F S1x1x32x768 .bf16 → TpuEff nD τ sig (Elt F) Λ₀ .tc PUnit}
    {α : Type} {Q : α → sProp 𝕄} {rest : Prog (TpuEff nD τ sig (Elt F) Λ₀ .tc) α}
    (hr : StG I K c b (n + 1) R ⊢ WP c rest Q)
    (hC : C ↔ (⟨n, hn⟩ : Fin 16) ≠ c) (h₁ : ∀ h : C, WaitsAt (cont I) K c (some (.inr (3, ⟨n, hn⟩, b))) (op₁ h))
    (h₂ : ∀ h : C, Loads c (owns (c : Thread nD τ) (slotB ⟨n, hn⟩ b) fullShare (rvV I ⟨n, hn⟩ b)) (shapeCast S1x1x32x768 (rvV I ⟨n, hn⟩ b) squeezes_S1x1x32x768_S32x768.numel_eq.symm) (op₂ h))
    (h₃ : ∀ h : C, LoadsAny c (outAt c (outV I c) (Pn c (16 * b.val + n))) (op₃ h))
    (h₄ : ∀ h : C, Puts I c b ⟨n, hn⟩ (op₄ h)) :
    StG I K c b n R ⊢ WP c (dite C (fun h => Prog.lift (op₁ h) >>= fun _ => Prog.lift (op₂ h) >>= fun v => Prog.lift (op₃ h) >>= fun _ => Prog.lift (op₄ h v) >>= fun _ => rest) (fun _ => rest)) Q := by
  unfold StG GSt
  by_cases hc : C
  · rw [dif_pos hc]
    have hne := hC.mp hc
    have hA : waitBItem (F := F) c b ⟨n, hn⟩ ⊢ iprop(cred (tallyAt (rBC c ⟨n, hn⟩ b) () (kamount (some (.inr (3, ⟨n, hn⟩, b))))) ∗ atPos ER (rBC c ⟨n, hn⟩ b) 0 ∅ 0) := by
      unfold waitBItem; rw [if_neg hne, kamount_rB]
    have hB : iprop(owns (c : Thread nD τ) (slotB ⟨n, hn⟩ b) fullShare (rvV I ⟨n, hn⟩ b) ∗ ended (cont I) c (some (.inr (3, ⟨n, hn⟩, b)))) ⊢ gotBItem I c b ⟨n, hn⟩ := by
      unfold gotBItem anyAt
      iintro ⟨H, He⟩
      isplitl [H]; · iexists _; iexact H
      iexact He
    have hP : kpay (cont I) c 0 (some (.inr (3, ⟨n, hn⟩, b))) ⊢ owns (c : Thread nD τ) (slotB ⟨n, hn⟩ b) fullShare (rvV I ⟨n, hn⟩ b) := Entails.of_eq (kpay_rB (cont I) c _ b)
    iintro ⟨#Hctx, HF, HO, Hout, HR⟩
    ihave H := (fam_step (waitBItem c b) (gotBItem I c b) n hn) $$ HF
    icases H with ⟨HA, Hcl⟩
    ihave HA := hA $$ HA
    icases HA with ⟨Hc, Hat⟩
    rw [show ((Prog.lift (op₁ hc) >>= fun _ => Prog.lift (op₂ hc) >>= fun v => Prog.lift (op₃ hc) >>= fun _ => Prog.lift (op₄ hc v) >>= fun _ => rest : Prog (TpuEff nD τ sig (Elt F) Λ₀ .tc) α))
      = .op (op₁ hc) (fun _ => .op (op₂ hc) (fun v => .op (op₃ hc) (fun _ => .op (op₄ hc v) (fun _ => rest)))) from rfl]
    iapply (h₁ hc 0 3 α Q _ (by dsimp only [klv]; decide) (Above.zero 3) (kduties_xfer c 3 _ b (by rw [skip_rB]; exact hne))) $$ [Hc Hat HO]
    · isplitr; · iexact Hctx
      isplitl [Hc]; · iexact Hc
      isplitl [Hat]; · iexact Hat
      iexact HO
    iintro ⟨Hp, He, HO⟩
    ihave Hp := hP $$ Hp
    iapply (h₂ hc α Q _) $$ Hp
    iintro Hp
    iapply (h₃ hc α Q _) $$ Hout
    iintro Hout
    iapply (h₄ hc α Q _) $$ Hout
    iintro Hout
    iapply hr
    unfold StG GSt
    isplitr; · iexact Hctx
    isplitl [Hcl Hp He]
    · iapply Hcl; iapply hB; isplitl [Hp]; · iexact Hp
      iexact He
    isplitl [HO]; · iexact HO
    isplitl [Hout]; · iexact Hout
    iexact HR
  · rw [dif_neg hc]
    have he : (⟨n, hn⟩ : Fin 16) = c := not_not.mp (fun h' => hc (hC.mpr h'))
    have hk := ended_skip (cont I) c (some (.inr (3, ⟨n, hn⟩, b))) (kduties_skip c 3 _ b (by rw [skip_rB]; exact he))
    have hAB : waitBItem (F := F) c b ⟨n, hn⟩ ⊢ gotBItem I c b ⟨n, hn⟩ := by
      unfold waitBItem gotBItem; rw [if_pos he]
      iintro ⟨H, Ha⟩
      isplitl [H]; · iexact H
      iapply hk; iexact Ha
    have hO : outAt c (outV I c) (Pn c (16 * b.val + n)) ⊢ outAt c (outV I c) (Pn c (16 * b.val + (n + 1))) := outAt_mono c _ fun b' k' hp => by
      rcases hp with hp | hp
      · exact .inl hp
      · by_cases hk : k' = mine c
        · exact .inl hk
        · right
          have hne : (owner k').val ≠ n := fun e => hk (by rw [← mine_owner k', ← he]; exact congrArg mine (Fin.ext e))
          have h1 := owner_lt k'; have h3 := b.isLt
          omega
    iintro ⟨#Hctx, HF, HO, Hout, HR⟩
    ihave H := (fam_step (waitBItem c b) (gotBItem I c b) n hn) $$ HF
    icases H with ⟨HA, Hcl⟩
    iapply hr
    unfold StG GSt
    isplitr; · iexact Hctx
    isplitl [Hcl HA]
    · iapply Hcl; iapply hAB; iexact HA
    isplitl [HO]; · iexact HO
    isplitl [Hout]; · iapply hO; iexact Hout
    iexact HR

/-! ## The weights' copies -/

theorem copy_step (D : Cont F) (c : Dev nD) (k : CK) (N : ℕ) {sp sp' : Space} {s : Shape} {e : EltTy}
    {src : Memref sig .tc sp s e} {dst : Memref sig .tc sp' s e} {q : PosShare TreeShare} (fs : Buf (Elt F) (src.view.loc (c : Thread nD τ))) (R : sProp 𝕄)
    {sR : SemLoc sig} (hsR : sR = csem k) {hsrc : src.view.WordExact} {hdst : dst.view.WordExact} {hsem : DmaTarget.Typed (nD := nD) (τ := τ) sp sR (DmaTarget.here (p := Proc.tc) dst)}
    (hd : kduties c k = {0}) (hk : kamount k = N) (hN : dst.view.amount sR = N)
    (hp : owns (c : Thread nD τ) dst fullShare (src.view.read (Elt F) fs) ⊢ kpay D c 0 k)
    {α : Type} {Q : α → sProp 𝕄} {rest : PUnit → Prog (TpuEff nD τ sig (Elt F) Λ₀ .tc) α}
    (hr : iprop(ctx D K ∗ cred (tallyAt (kcell c k) () N) ∗ R) ⊢ WP c (rest ⟨⟩) Q) :
    iprop(ctx D K ∗ (src.view.loc (c : Thread nD τ) ↦[src.view.set]{q} fs) ∗ anyAt c dst ∗ dutyTok ER (kcell c k) 0 0 ∗ R)
      ⊢ WP c (Prog.lift (.enqueueDma src (.here dst) sR hsrc hdst hsem) >>= rest) Q := by
  subst hsR
  unfold anyAt owns
  iintro ⟨#Hctx, Hs, ⟨%Y, %fd, %hfd, Hd⟩, Ht, HR⟩
  rw [show ((Prog.lift (.enqueueDma src (.here dst) (csem k) hsrc hdst hsem) >>= rest : Prog (TpuEff nD τ sig (Elt F) Λ₀ .tc) α)) = .op (.enqueueDma src (.here dst) (csem k) hsrc hdst hsem) rest from rfl]
  iapply (Rounds.wp_copy_pointsTo 𝒱₀ ER (Rd D) (c : Thread nD τ) none (κ := K (c, k)) (r := 0) (d := 0) (q := q) (fd := fd) (fs := fs)
    (by rw [duties_k, hd]; exact Finset.mem_singleton_self _) () N hN ((amount_k D c k 0).trans hk)
    (by rw [payload_k]
        refine BIBase.Entails.trans ?_ hp
        iintro ⟨H, -⟩
        iapply (owns_mk c dst fullShare (dst.view.write (Elt F) fd (src.view.read (Elt F) fs) Finset.univ) _ (by rw [View.read_write_univ])); iexact H)) $$ [Hs Hd Ht]
  · isplitr; · iapply (ctx_inv D K c k); iexact Hctx
    isplitl [Hs]; · iexact Hs
    isplitl [Hd]; · iexact Hd
    isplitl [Ht]; · iexact Ht
    iapply (ctx_reached D K c k); iexact Hctx
  iintro Hc
  iapply hr
  isplitr; · iexact Hctx
  isplitl [Hc]; · iexact Hc
  iexact HR

theorem plainwait_step (D : Cont F) (c : Dev nD) (k : CK) (O : OT) (m : ℕ) (hlv : klv k ≤ m) (hO : Above m O) (hd : kduties c k = {0}) (R : sProp 𝕄)
    {op : TpuEff nD τ sig (Elt F) Λ₀ .tc PUnit} (hop : WaitsAt D K c k op)
    {α : Type} {Q : α → sProp 𝕄} {rest : PUnit → Prog (TpuEff nD τ sig (Elt F) Λ₀ .tc) α}
    (hr : iprop(ctx D K ∗ owing c O ∗ kpay D c 0 k ∗ ended D c k ∗ R) ⊢ WP c (rest ⟨⟩) Q) :
    iprop(ctx D K ∗ owing c O ∗ cred (tallyAt (kcell c k) () (kamount k)) ∗ atPos ER (kcell c k) 0 ∅ 0 ∗ R) ⊢ WP c (Prog.lift op >>= rest) Q := by
  iintro ⟨#Hctx, HO, Hc, Ha, HR⟩
  rw [show ((Prog.lift op >>= rest : Prog (TpuEff nD τ sig (Elt F) Λ₀ .tc) α)) = .op op rest from rfl]
  iapply (hop O m α Q rest hlv hO hd) $$ [HO Hc Ha]
  · isplitr; · iexact Hctx
    isplitl [Hc]; · iexact Hc
    isplitl [Ha]; · iexact Ha
    iexact HO
  iintro ⟨Hp, He, HO⟩
  iapply hr
  isplitr; · iexact Hctx
  isplitl [HO]; · iexact HO
  isplitl [Hp]; · iexact Hp
  isplitl [He]; · iexact He
  iexact HR

end Cert.Exchange

end
-- ==== Proof.States.lean ====
/-
# What a device holds between the steps
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## What a device holds, by purpose -/

/-- Batch `b` of the partial sums' buffer. -/
def pA (c : Dev nD) (b : Fin 2) : sProp 𝕄 := anyAt c (partM.slice (batchR b) (fun _ => rfl))
def pW (c : Dev nD) (b : Fin 2) : sProp 𝕄 := owns (c : Thread nD τ) (partM.slice (batchR b) (fun _ => rfl)) fullShare (partW I c b)
/-- The stage for batch `b` of the broadcast. -/
def stE (c : Dev nD) (b : Fin 2) : sProp 𝕄 := anyAt c (stM.slice (stageR b) (fun _ => rfl))
/-- The other devices' landing slots for the exchange, and the right to land there. -/
def sideA (c : Dev nD) (b : Fin 2) (k : Fin 16) : sProp 𝕄 :=
  if owner k = c then iprop(emp) else iprop(anyAt (owner k) (slotA c b) ∗ dutyTok ER (sAC c k b) 0 0 ∗ dutyTok ER (rAC (owner k) c b) 0 0)
def sideB (c : Dev nD) (b : Fin 2) (d : Fin 16) : sProp 𝕄 :=
  if d = c then iprop(emp) else iprop(anyAt d (slotB c b) ∗ dutyTok ER (sBC c d b) 0 0 ∗ dutyTok ER (rBC d c b) 0 0)
def sA (c : Dev nD) (b : Fin 2) : sProp 𝕄 := bigSep Finset.univ (sideA c b)
def sB (c : Dev nD) (b : Fin 2) : sProp 𝕄 := bigSep Finset.univ (sideB c b)
def posSA (c : Dev nD) (b : Fin 2) : sProp 𝕄 := bigSep Finset.univ fun k : Fin 16 => atPos ER (sAC c k b) 0 ∅ 0
def posSB (c : Dev nD) (b : Fin 2) : sProp 𝕄 := bigSep Finset.univ fun k : Fin 16 => atPos ER (sBC c k b) 0 ∅ 0
def inA (c : Dev nD) (b : Fin 2) : sProp 𝕄 := bigSep Finset.univ (waitAItem X c b)
def inB (c : Dev nD) (b : Fin 2) : sProp 𝕄 := bigSep Finset.univ (waitBItem (F := F) c b)
def sentA (c : Dev nD) (b : Fin 2) : sProp 𝕄 := bigSep Finset.univ (sentAItem (cont I) c b)
def sentB (c : Dev nD) (b : Fin 2) : sProp 𝕄 := bigSep Finset.univ (sentBItem (cont I) c b)
def gotA (c : Dev nD) (b : Fin 2) : sProp 𝕄 := bigSep Finset.univ (gotAItem (cont I) X c b)
def gotB (c : Dev nD) (b : Fin 2) : sProp 𝕄 := bigSep Finset.univ (gotBItem I c b)
def doneA (c : Dev nD) (b : Fin 2) : sProp 𝕄 := bigSep Finset.univ (doneSAItem (cont I) c b)
def doneB (c : Dev nD) (b : Fin 2) : sProp 𝕄 := bigSep Finset.univ (doneSBItem (cont I) c b)
/-- What is left of the read share of the staged rows. -/
def drop (c : Dev nD) (b : Fin 2) : sProp 𝕄 := owns (c : Thread nD τ) (stgC b) (Transfers.shareDrop fullShare 16) (rvV I c b)
def stW (c : Dev nD) (b : Fin 2) : sProp 𝕄 := owns (c : Thread nD τ) (stgC b) fullShare (rvV I c b)
/-- The computation's buffers. -/
def bun (c : Dev nD) : sProp 𝕄 :=
  iprop(anyAt c ctxM ∗ owns (c : Thread nD τ) xM fullShare (I.x c) ∗ owns (c : Thread nD τ) kM fullShare (I.kk c) ∗ owns (c : Thread nD τ) vM fullShare (I.vv c)
    ∗ owns (c : Thread nD τ) wqM fullShare (wqS I c) ∗ owns (c : Thread nD τ) wbM fullShare (wbS I c))
/-- What stays aside from the weights' copies on. -/
def aside (c : Dev nD) : sProp 𝕄 :=
  iprop(ended (cont I) c none ∗ ended (cont I) c (some (.inl 0)) ∗ ended (cont I) c (some (.inl 1)) ∗ owns (c : Thread nD τ) woM fullShare (I.wo c))
/-- The result's rows, those for which `P` holds in place. -/
def outP (c : Dev nD) (P : Fin 2 → Fin 16 → Prop) : sProp 𝕄 := outAt c (outV I c) P

/-! ## Into and out of the states of the steps -/

theorem stC_in (c : Dev nD) (f : Fin 8 → FVec F S512x64 .f32) (R : sProp 𝕄) : iprop(bun I c ∗ R) ⊢ StC I c 0 f R := by
  unfold bun StC CtxAt anyAt
  iintro ⟨⟨⟨%Y, H1⟩, H2, H3, H4, H5, H6⟩, HR⟩
  isplitl [H1]
  · iexists Y; isplitr
    · ipureintro; exact fun h hh => absurd hh (Nat.not_lt_zero _)
    · iexact H1
  iframe
theorem stC_out (c : Dev nD) (n : ℕ) (f : Fin 8 → FVec F S512x64 .f32) (R : sProp 𝕄) : StC I c n f R ⊢ iprop(bun I c ∗ R) := by
  unfold bun StC CtxAt anyAt
  iintro ⟨⟨%Y, -, H1⟩, H2, H3, H4, H5, H6, HR⟩
  isplitr [HR]
  · isplitl [H1]
    · iexists Y; iexact H1
    iframe
  iexact HR

theorem stA_in (c : Dev nD) (b : Fin 2) {O O' : OT} (h : O' = OA c b 0 + O) (R : sProp 𝕄) :
    iprop(ctx (cont I) K ∗ pW I c b ∗ sA c b ∗ owing c O' ∗ R) ⊢ StA (cont I) K c b O 0 R := by
  subst h
  have hi : iprop(pW I c b ∗ sA c b) ⊢ bigSep Finset.univ (sendAItem (cont I) c b) := by
    have hj : iprop((bigSep Finset.univ fun k : Fin 16 => owns (c : Thread nD τ) (partC b k) fullShare (pvV I c b k)) ∗ sA c b) ⊢ bigSep Finset.univ (sendAItem (cont I) c b) := by
      refine Entails.of_eq ?_
      unfold sA; rw [← bigSep_sep']; rfl
    have hk : pW I c b ⊢ bigSep Finset.univ fun k : Fin 16 => owns (c : Thread nD τ) (partC b k) fullShare (pvV I c b k) := part_chunks c b (partW I c b)
    iintro ⟨HW, HS⟩
    iapply hj; isplitl [HW]
    · iapply hk; iexact HW
    · iexact HS
  unfold StA; rw [fam_zero]
  iintro ⟨#Hc, HW, HS, HO, HR⟩
  isplitr; · iexact Hc
  isplitl [HW HS]
  · iapply hi; isplitl [HW]; · iexact HW
    iexact HS
  isplitl [HO]; · iexact HO
  iexact HR
theorem stA_out (c : Dev nD) (b : Fin 2) (O : OT) (R : sProp 𝕄) : StA (cont I) K c b O 16 R ⊢ iprop(ctx (cont I) K ∗ sentA I c b ∗ owing c O ∗ R) := by
  unfold StA; rw [fam_all, show OA c b 16 = 0 from sum_from_end (p := fun k : Fin 16 => owner k ≠ c) (fun k => (tallyAt (rAC (owner k) c b) () NA : OT)), zero_add]
  exact .rfl
theorem stRA_in (c : Dev nD) (b : Fin 2) (O : OT) (R : sProp 𝕄) : iprop(ctx (cont I) K ∗ inA X c b ∗ owing c O ∗ R) ⊢ StRA (cont I) K X c b O 0 R := by
  unfold StRA GSt; rw [fam_zero]; exact .rfl
theorem stR_out (c : Dev nD) (b : Fin 2) (O : OT) (R : sProp 𝕄) : StR I K X c b O R ⊢ iprop(ctx (cont I) K ∗ gotA I X c b ∗ owing c O ∗ sentA I c b ∗ R) := by
  unfold StR StRA GSt; rw [fam_all]; exact .rfl

theorem stage_deal (c : Dev nD) (b : Fin 2) : stW I c b ⊢ iprop(drop I c b ∗ bigSep Finset.univ fun d : Fin 16 => owns (c : Thread nD τ) (stgC b) (bshare d) (rvV I c b)) := by
  unfold stW drop owns
  iintro ⟨%f, %hf, H⟩
  ihave H := (Transfers.pointsTo_toks_split fullShare 16) $$ H
  icases H with ⟨HD, HT⟩
  isplitl [HD]
  · iexists f; isplitr
    · ipureintro; exact hf
    · iexact HD
  iapply (bmono (s := (Finset.univ : Finset (Fin 16))) (fun d _ => show ((stgC b).view.loc (c : Thread nD τ) ↦[(stgC b).view.set]{bshare d} f : sProp 𝕄)
      ⊢ iprop(∃ f, ⌜(stgC b).view.read (Elt F) f = rvV I c b⌝ ∗ ((stgC b).view.loc (c : Thread nD τ) ↦[(stgC b).view.set]{bshare d} f)) from by
    iintro H; iexists f; isplitr
    · ipureintro; exact hf
    · iexact H)) $$ HT
theorem stB_in (c : Dev nD) (b : Fin 2) {O O' : OT} (h : O' = OC c b 0 + O) (R : sProp 𝕄) :
    iprop(ctx (cont I) K ∗ stW I c b ∗ sB c b ∗ owing c O' ∗ R) ⊢ StB (cont I) K c b O 0 iprop(drop I c b ∗ R) := by
  subst h
  have hi : iprop((bigSep Finset.univ fun d : Fin 16 => owns (c : Thread nD τ) (stgC b) (bshare d) (rvV I c b)) ∗ sB c b) ⊢ bigSep Finset.univ (sendBItem (cont I) c b) := by
    refine Entails.of_eq ?_
    unfold sB; rw [← bigSep_sep']; rfl
  unfold StB; rw [fam_zero]
  iintro ⟨#Hc, HW, HS, HO, HR⟩
  ihave HW := (stage_deal I c b) $$ HW
  icases HW with ⟨HD, HT⟩
  isplitr; · iexact Hc
  isplitl [HT HS]
  · iapply hi; isplitl [HT]; · iexact HT
    iexact HS
  isplitl [HO]; · iexact HO
  isplitl [HD]; · iexact HD
  iexact HR
theorem stB_out (c : Dev nD) (b : Fin 2) (O : OT) (R : sProp 𝕄) : StB (cont I) K c b O 16 R ⊢ iprop(ctx (cont I) K ∗ sentB I c b ∗ owing c O ∗ R) := by
  unfold StB; rw [fam_all, show OC c b 16 = 0 from sum_from_end (p := fun d : Fin 16 => d ≠ c) (fun d => (tallyAt (rBC d c b) () NB : OT)), zero_add]
  exact .rfl
theorem stG_in (c : Dev nD) (b : Fin 2) (R : sProp 𝕄) (P : Fin 2 → Fin 16 → Prop) (hP : ∀ b' k, Pn c (16 * b.val + 0) b' k → P b' k) :
    iprop(ctx (cont I) K ∗ inB c b ∗ owing c 0 ∗ outP I c P ∗ R) ⊢ StG I K c b 0 R := by
  have h : outP I c P ⊢ outAt c (outV I c) (Pn c (16 * b.val + 0)) := outAt_mono c _ hP
  unfold StG GSt inB; rw [fam_zero]
  iintro ⟨#Hc, HI, HO, HP, HR⟩
  isplitr; · iexact Hc
  isplitl [HI]; · iexact HI
  isplitl [HO]; · iexact HO
  isplitl [HP]; · iapply h; iexact HP
  iexact HR
theorem stG_out (c : Dev nD) (b : Fin 2) (R : sProp 𝕄) : StG I K c b 16 R ⊢ iprop(ctx (cont I) K ∗ gotB I c b ∗ owing c 0 ∗ outP I c (Pn c (16 * b.val + 16)) ∗ R) := by
  unfold StG GSt; rw [fam_all]; exact .rfl
theorem stSA_in (c : Dev nD) (b : Fin 2) (R : sProp 𝕄) : iprop(ctx (cont I) K ∗ sentA I c b ∗ posSA c b ∗ owing c 0 ∗ R) ⊢ StSA (cont I) K c b 0 R := by
  have hi : iprop(sentA I c b ∗ posSA c b) ⊢ bigSep Finset.univ (waitSAItem (cont I) c b) := by
    refine Entails.of_eq ?_
    unfold sentA posSA; rw [← bigSep_sep']; rfl
  unfold StSA GSt; rw [fam_zero]
  iintro ⟨#Hc, HW, HS, HO, HR⟩
  isplitr; · iexact Hc
  isplitl [HW HS]
  · iapply hi; isplitl [HW]; · iexact HW
    iexact HS
  isplitl [HO]; · iexact HO
  iexact HR
theorem stSA_out (c : Dev nD) (b : Fin 2) (R : sProp 𝕄) : StSA (cont I) K c b 16 R ⊢ iprop(ctx (cont I) K ∗ doneA I c b ∗ owing c 0 ∗ R) := by
  unfold StSA GSt; rw [fam_all]; exact .rfl
theorem stSB_in (c : Dev nD) (b : Fin 2) (R : sProp 𝕄) : iprop(ctx (cont I) K ∗ sentB I c b ∗ posSB c b ∗ owing c 0 ∗ R) ⊢ StSB (cont I) K c b 0 R := by
  have hi : iprop(sentB I c b ∗ posSB c b) ⊢ bigSep Finset.univ (waitSBItem (cont I) c b) := by
    refine Entails.of_eq ?_
    unfold sentB posSB; rw [← bigSep_sep']; rfl
  unfold StSB GSt; rw [fam_zero]
  iintro ⟨#Hc, HW, HS, HO, HR⟩
  isplitr; · iexact Hc
  isplitl [HW HS]
  · iapply hi; isplitl [HW]; · iexact HW
    iexact HS
  isplitl [HO]; · iexact HO
  iexact HR
theorem stSB_out (c : Dev nD) (b : Fin 2) (R : sProp 𝕄) : StSB (cont I) K c b 16 R ⊢ iprop(ctx (cont I) K ∗ doneB I c b ∗ owing c 0 ∗ R) := by
  unfold StSB GSt; rw [fam_all]; exact .rfl

end Cert.Exchange

end
-- ==== Proof.Phases.lean ====
/-
# From one run of steps to the next
-/
module

public import proofs.«01_k».proof.Proof.States

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## From one run of steps to the next -/

/-- The result's rows before anything is stored, after the device's own rows of the first batch, of both. -/
def P0 : Fin 2 → Fin 16 → Prop := fun _ _ => False
def P1 (c : Dev nD) : Fin 2 → Fin 16 → Prop := fun b k => b = 0 ∧ k = mine c
def P2 (c : Dev nD) : Fin 2 → Fin 16 → Prop := fun _ k => k = mine c

/-- What the last steps use: the semaphores' positions and the broadcast's landing slots. -/
def tail (c : Dev nD) : sProp 𝕄 := iprop(aside I c ∗ inB c 0 ∗ inB c 1 ∗ posSA c 0 ∗ posSA c 1 ∗ posSB c 0 ∗ posSB c 1)
/-- What the reductions use, with the last steps' part. -/
def mid (c : Dev nD) : sProp 𝕄 := iprop(tail I c ∗ inA X c 0 ∗ inA X c 1 ∗ sB c 0 ∗ sB c 1 ∗ stE c 0 ∗ stE c 1 ∗ outP I c P0)

def R₀ (c : Dev nD) : sProp 𝕄 := iprop(ctx (cont I) K ∗ owing c (O₁ c) ∗ pA c 0 ∗ pA c 1 ∗ sA c 0 ∗ sA c 1 ∗ mid I X c)
def O₁' (c : Dev nD) : OT := OA c 1 0 + O₂ c
def R₁ (c : Dev nD) : sProp 𝕄 := iprop(bun I c ∗ pA c 1 ∗ sA c 1 ∗ mid I X c)
def R₂ (c : Dev nD) : sProp 𝕄 := iprop(ctx (cont I) K ∗ owing c (O₁' c) ∗ sentA I c 0 ∗ pA c 1 ∗ sA c 1 ∗ mid I X c)
def R₃ (c : Dev nD) : sProp 𝕄 := iprop(bun I c ∗ sentA I c 0 ∗ mid I X c)
/-- Before the first reduction. -/
def R₄ (c : Dev nD) : sProp 𝕄 := iprop(sentA I c 1 ∗ bun I c ∗ tail I c ∗ inA X c 1 ∗ sB c 0 ∗ sB c 1 ∗ stE c 0 ∗ stE c 1 ∗ outP I c P0)
/-- What the first reduction and both exchanges leave. -/
def left₁ (c : Dev nD) : sProp 𝕄 := iprop(bun I c ∗ tail I c ∗ gotA I X c 0 ∗ sentA I c 0)
def R₅ (c : Dev nD) : sProp 𝕄 := iprop(left₁ I X c ∗ sentA I c 1 ∗ inA X c 1 ∗ sB c 1 ∗ stE c 1 ∗ outP I c (P1 c))
def left₂ (c : Dev nD) : sProp 𝕄 := iprop(left₁ I X c ∗ drop I c 0 ∗ sentB I c 0)
def R₆ (c : Dev nD) : sProp 𝕄 := iprop(left₂ I X c ∗ sB c 1 ∗ stE c 1 ∗ outP I c (P1 c))
def left₃ (c : Dev nD) : sProp 𝕄 := iprop(left₂ I X c ∗ gotA I X c 1 ∗ sentA I c 1)
def R₇ (c : Dev nD) : sProp 𝕄 := iprop(left₃ I X c ∗ outP I c (P2 c))
/-- Before the gather: everything sent. -/
def bag (c : Dev nD) : sProp 𝕄 :=
  iprop(bun I c ∗ aside I c ∗ gotA I X c 0 ∗ gotA I X c 1 ∗ drop I c 0 ∗ drop I c 1)
def R₈ (c : Dev nD) : sProp 𝕄 :=
  iprop(bag I X c ∗ sentA I c 0 ∗ sentA I c 1 ∗ sentB I c 0 ∗ sentB I c 1 ∗ posSA c 0 ∗ posSA c 1 ∗ posSB c 0 ∗ posSB c 1 ∗ inB c 1)
def R₉ (c : Dev nD) : sProp 𝕄 :=
  iprop(bag I X c ∗ gotB I c 0 ∗ sentA I c 0 ∗ sentA I c 1 ∗ sentB I c 0 ∗ sentB I c 1 ∗ posSA c 0 ∗ posSA c 1 ∗ posSB c 0 ∗ posSB c 1)
def bagO (c : Dev nD) : sProp 𝕄 := iprop(bag I X c ∗ gotB I c 0 ∗ gotB I c 1 ∗ outP I c (Pn c 32))
def R₁₀ (c : Dev nD) : sProp 𝕄 := iprop(bagO I X c ∗ sentA I c 1 ∗ sentB I c 0 ∗ sentB I c 1 ∗ posSA c 1 ∗ posSB c 0 ∗ posSB c 1)
def R₁₁ (c : Dev nD) : sProp 𝕄 := iprop(bagO I X c ∗ doneA I c 0 ∗ sentB I c 0 ∗ sentB I c 1 ∗ posSB c 0 ∗ posSB c 1)
def R₁₂ (c : Dev nD) : sProp 𝕄 := iprop(bagO I X c ∗ doneA I c 0 ∗ doneA I c 1 ∗ sentB I c 1 ∗ posSB c 1)
def R₁₃ (c : Dev nD) : sProp 𝕄 := iprop(bagO I X c ∗ doneA I c 0 ∗ doneA I c 1 ∗ doneB I c 0)
/-- What the body leaves. -/
def fin (c : Dev nD) : sProp 𝕄 := iprop(ctx (cont I) K ∗ owing c 0 ∗ bagO I X c ∗ doneA I c 0 ∗ doneA I c 1 ∗ doneB I c 0 ∗ doneB I c 1)

theorem t16 (c : Dev nD) : StC I c 8 (hs I c 0) (R₀ I K X c) ⊢ iprop(pA c 0 ∗ bun I c ∗ ctx (cont I) K ∗ owing c (O₁ c) ∗ pA c 1 ∗ sA c 0 ∗ sA c 1 ∗ mid I X c) := by
  refine (stC_out I c _ _ _).trans ?_
  unfold R₀
  iintro ⟨H1, H2, H3, H4, H5, H6, H7, H8⟩
  iframe
theorem t16' (c : Dev nD) : iprop(pW I c 0 ∗ bun I c ∗ ctx (cont I) K ∗ owing c (O₁ c) ∗ pA c 1 ∗ sA c 0 ∗ sA c 1 ∗ mid I X c) ⊢ StA (cont I) K c 0 (O₁' c) 0 (R₁ I X c) := by
  refine BIBase.Entails.trans ?_ (stA_in I K c 0 (O' := O₁ c) rfl (R₁ I X c))
  unfold R₁
  iintro ⟨H1, H2, H3, H4, H5, H6, H7, H8⟩
  iframe
theorem t19 (c : Dev nD) : StA (cont I) K c 0 (O₁' c) 16 (R₁ I X c) ⊢ StC I c 0 (hs I c 1) (R₂ I K X c) := by
  refine ((stA_out I K c 0 _ _).trans ?_).trans (stC_in I c _ _)
  unfold R₁ R₂
  iintro ⟨H1, H2, H3, H4, H5, H6, H7⟩
  iframe
theorem t24 (c : Dev nD) : StC I c 8 (hs I c 1) (R₂ I K X c) ⊢ iprop(pA c 1 ∗ bun I c ∗ ctx (cont I) K ∗ owing c (O₁' c) ∗ sentA I c 0 ∗ sA c 1 ∗ mid I X c) := by
  refine (stC_out I c _ _ _).trans ?_
  unfold R₂
  iintro ⟨H1, H2, H3, H4, H5, H6, H7⟩
  iframe
theorem t25 (c : Dev nD) : iprop(pW I c 1 ∗ bun I c ∗ ctx (cont I) K ∗ owing c (O₁' c) ∗ sentA I c 0 ∗ sA c 1 ∗ mid I X c) ⊢ StA (cont I) K c 1 (O₂ c) 0 (R₃ I X c) := by
  refine BIBase.Entails.trans ?_ (stA_in I K c 1 (O' := O₁' c) rfl (R₃ I X c))
  unfold R₃
  iintro ⟨H1, H2, H3, H4, H5, H6, H7⟩
  iframe
theorem t28 (c : Dev nD) : StA (cont I) K c 1 (O₂ c) 16 (R₃ I X c) ⊢ StRA (cont I) K X c 0 (O₂ c) 0 iprop(sentA I c 0 ∗ R₄ I X c) := by
  refine ((stA_out I K c 1 _ _).trans ?_).trans (stRA_in I K X c 0 _ _)
  unfold R₃ R₄ mid
  iintro ⟨H1, H2, H3, H4, H5, H6, H7, H8, H9, H10, H11, H12, H13⟩
  iframe
theorem t33 (c : Dev nD) : StR I K X c 0 (O₂ c) (R₄ I X c)
    ⊢ iprop(outP I c P0 ∗ stE c 0 ∗ ctx (cont I) K ∗ owing c (O₂ c) ∗ left₁ I X c ∗ sentA I c 1 ∗ inA X c 1 ∗ sB c 0 ∗ sB c 1 ∗ stE c 1) := by
  refine (stR_out I K X c 0 _ _).trans ?_
  unfold R₄ left₁
  iintro ⟨H1, H2, H3, H4, H5, H6, H7, H8, H9, H10, H11, H12, H13⟩
  iframe
theorem t33' (c : Dev nD) : iprop(stW I c 0 ∗ outP I c (P1 c) ∗ ctx (cont I) K ∗ owing c (O₂ c) ∗ left₁ I X c ∗ sentA I c 1 ∗ inA X c 1 ∗ sB c 0 ∗ sB c 1 ∗ stE c 1)
    ⊢ StB (cont I) K c 0 (O₃ c) 0 iprop(drop I c 0 ∗ R₅ I X c) := by
  refine BIBase.Entails.trans ?_ (stB_in I K c 0 (O' := O₂ c) rfl (R₅ I X c))
  unfold R₅
  iintro ⟨H1, H2, H3, H4, H5, H6, H7, H8, H9, H10⟩
  iframe
theorem t37 (c : Dev nD) : StB (cont I) K c 0 (O₃ c) 16 iprop(drop I c 0 ∗ R₅ I X c) ⊢ StRA (cont I) K X c 1 (O₃ c) 0 iprop(sentA I c 1 ∗ R₆ I X c) := by
  refine ((stB_out I K c 0 _ _).trans ?_).trans (stRA_in I K X c 1 _ _)
  unfold R₅ R₆ left₂
  iintro ⟨H1, H2, H3, H4, H5, H6, H7, H8, H9, H10⟩
  iframe
theorem t42 (c : Dev nD) : StR I K X c 1 (O₃ c) (R₆ I X c) ⊢ iprop(outP I c (P1 c) ∗ stE c 1 ∗ ctx (cont I) K ∗ owing c (O₃ c) ∗ left₃ I X c ∗ sB c 1) := by
  refine (stR_out I K X c 1 _ _).trans ?_
  unfold R₆ left₃
  iintro ⟨H1, H2, H3, H4, H5, H6, H7, H8⟩
  iframe
theorem t42' (c : Dev nD) : iprop(stW I c 1 ∗ outP I c (P2 c) ∗ ctx (cont I) K ∗ owing c (O₃ c) ∗ left₃ I X c ∗ sB c 1) ⊢ StB (cont I) K c 1 0 0 iprop(drop I c 1 ∗ R₇ I X c) := by
  refine BIBase.Entails.trans ?_ (stB_in I K c 1 (O' := O₃ c) (add_zero _).symm (R₇ I X c))
  unfold R₇
  iintro ⟨H1, H2, H3, H4, H5, H6⟩
  iframe
theorem t46 (c : Dev nD) : StB (cont I) K c 1 0 16 iprop(drop I c 1 ∗ R₇ I X c) ⊢ StG I K c 0 0 (R₈ I X c) := by
  refine ((stB_out I K c 1 _ _).trans ?_).trans (stG_in I K c 0 _ (P2 c) (fun b' k h => h.elim id (fun h => absurd h (by simp))))
  unfold R₇ left₃ left₂ left₁ tail R₈ bag
  iintro ⟨H1, H2, H3, H4, ⟨⟨⟨⟨G1, ⟨T1, T2, T3, T4, T5, T6, T7⟩, G3, G4⟩, G5, G6⟩, G7, G8⟩, H5⟩⟩
  iframe
theorem t47 (c : Dev nD) : StG I K c 0 16 (R₈ I X c) ⊢ StG I K c 1 0 (R₉ I X c) := by
  refine ((stG_out I K c 0 _).trans ?_).trans (stG_in I K c 1 _ (Pn c 16) (fun b' k h => h))
  unfold R₈ R₉
  iintro ⟨H1, H2, H3, H4, ⟨G0, G1, G2, G3, G4, G5, G6, G7, G8, G9⟩⟩
  iframe
theorem t49 (c : Dev nD) : StG I K c 1 16 (R₉ I X c) ⊢ StSA (cont I) K c 0 0 (R₁₀ I X c) := by
  refine ((stG_out I K c 1 _).trans ?_).trans (stSA_in I K c 0 _)
  unfold R₉ R₁₀ bagO
  iintro ⟨H1, H2, H3, H4, ⟨G0, G1, G2, G3, G4, G5, G6, G7, G8, G9⟩⟩
  iframe
theorem t51 (c : Dev nD) : StSA (cont I) K c 0 16 (R₁₀ I X c) ⊢ StSA (cont I) K c 1 0 (R₁₁ I X c) := by
  refine ((stSA_out I K c 0 _).trans ?_).trans (stSA_in I K c 1 _)
  unfold R₁₀ R₁₁
  iintro ⟨H1, H2, H3, ⟨G0, G1, G2, G3, G4, G5, G6⟩⟩
  iframe
theorem t54 (c : Dev nD) : StSA (cont I) K c 1 16 (R₁₁ I X c) ⊢ StSB (cont I) K c 0 0 (R₁₂ I X c) := by
  refine ((stSA_out I K c 1 _).trans ?_).trans (stSB_in I K c 0 _)
  unfold R₁₁ R₁₂
  iintro ⟨H1, H2, H3, ⟨G0, G1, G2, G3, G4, G5⟩⟩
  iframe
theorem t56 (c : Dev nD) : StSB (cont I) K c 0 16 (R₁₂ I X c) ⊢ StSB (cont I) K c 1 0 (R₁₃ I X c) := by
  refine ((stSB_out I K c 0 _).trans ?_).trans (stSB_in I K c 1 _)
  unfold R₁₂ R₁₃
  iintro ⟨H1, H2, H3, ⟨G0, G1, G2, G3, G4⟩⟩
  iframe
theorem t59 (c : Dev nD) : StSB (cont I) K c 1 16 (R₁₃ I X c) ⊢ fin I K X c := by
  refine (stSB_out I K c 1 _).trans ?_
  unfold R₁₃ fin
  iintro ⟨H1, H2, H3, ⟨G0, G1, G2, G3⟩⟩
  iframe

end Cert.Exchange

end
-- ==== Proof.BarParts.lean ====
/-
# The barrier and the weights' copies, part by part
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Cont F) (I : Inp F) (K : Dev nD × CK → ℕ)

/-! ## The barrier -/

theorem bar_step (c : Dev nD) (R : sProp 𝕄) {α : Type} {Q : α → sProp 𝕄} {rest : PUnit → Prog (TpuEff nD τ sig (Elt F) Λ₀ .tc) α}
    (hr : iprop(ctx D K ∗ (bigSep (Finset.univ.erase c) fun d => barPay c d) ∗ ended D c none ∗ owing c (O₁ c) ∗ R) ⊢ WP c (rest ⟨⟩) Q) :
    StSig D K c 16 iprop(cred (tallyAt (barC c) () 15) ∗ atPos ER (barC c) 0 ∅ 0 ∗ R)
      ⊢ WP c (semWaitWord (SemArray.scalar (sig.barrier 0 rfl) : Sems sig S_).sem 15#32 >>= rest) Q := by
  have hO : OB c 16 + O₁ c = O₁ c := by
    rw [show OB c 16 = 0 from sum_from_end (p := fun k : Fin 16 => k ≠ 0) (fun k => (tallyAt (barC (hop c k)) () 1 : OT)), zero_add]
  unfold StSig
  rw [hO]
  iintro ⟨#Hctx, -, HO, Hc, Ha, HR⟩
  iapply (wait_bar D K c (O₁ c) (above_O₁ c)) $$ [Hc Ha HO]
  · isplitr; · iexact Hctx
    isplitl [Hc]; · iexact Hc
    isplitl [Ha]; · iexact Ha
    iexact HO
  iintro ⟨Hp, He, HO⟩
  iapply hr
  isplitr; · iexact Hctx
  isplitl [Hp]; · iexact Hp
  isplitl [He]; · iexact He
  isplitl [HO]; · iexact HO
  iexact HR

theorem part1_ok (c : Dev nD) {P : sProp 𝕄} {Q : _ → sProp 𝕄} (hr : ∀ a b d, P ⊢ Q ⟨c, v2w c, a, b, d, 2#32⟩) :
    P ⊢ WP c (k0_part1 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12) Q := by
  rw [k0_part1_eq_skeleton]; unfold k0_part1_skel
  refine BIBase.Entails.trans ?_ (Entails.of_eq (wp_deviceId ..).symm)
  exact wp_end c (hr _ _ _)

theorem part2_ok (c : Dev nD) (v2 v29 v33 v35 c2 : BitVec 32) {P : sProp 𝕄} {Q : _ → sProp 𝕄} (hr : ∀ a b d, P ⊢ Q ⟨a, (SemArray.scalar (sig.barrier 0 rfl) : Sems sig S_), b, d, 0#32⟩) :
    P ⊢ WP c (k0_part2 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 v2 v29 v33 v35 c2) Q := by
  rw [k0_part2_eq_skeleton]; unfold k0_part2_skel
  exact wp_end c (hr _ _ _)

set_option maxHeartbeats 4000000 in
theorem part3_ok (c : Dev nD) (v2 : BitVec 32) (v73 : BitVec 32) (v74 : BitVec 32) (c0_i32_36 : BitVec 32) {R : sProp 𝕄} {Q : _ → sProp 𝕄} (hr : ∀ r, StSig D K c 3 R ⊢ Q r) :
    StSig D K c 1 R ⊢ WP c (k0_part3 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v73 v74 c0_i32_36) Q := by
  rw [k0_part3_eq_skeleton]; unfold k0_part3_skel
  refine sig_step D K c 1 (by decide) (by decide) _ k0_dev1 _ (by decide +kernel) ?_
  refine sig_step D K c 2 (by decide) (by decide) _ k0_dev2 _ (by decide +kernel) ?_
  exact wp_end c (hr _)

set_option maxHeartbeats 4000000 in
theorem part4_ok (c : Dev nD) (v2 : BitVec 32) (v108 : BitVec 32) {R : sProp 𝕄} {Q : _ → sProp 𝕄} (hr : ∀ r, StSig D K c 6 R ⊢ Q r) :
    StSig D K c 3 R ⊢ WP c (k0_part4 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v108) Q := by
  rw [k0_part4_eq_skeleton]; unfold k0_part4_skel
  refine sig_step D K c 3 (by decide) (by decide) _ k0_dev3 _ (by decide +kernel) ?_
  refine sig_step D K c 4 (by decide) (by decide) _ k0_dev4 _ (by decide +kernel) ?_
  refine sig_step D K c 5 (by decide) (by decide) _ k0_dev5 _ (by decide +kernel) ?_
  exact wp_end c (hr _)

set_option maxHeartbeats 4000000 in
theorem part5_ok (c : Dev nD) (v2 : BitVec 32) (v138 : BitVec 32) (v139 : BitVec 32) (c0_i32_83 : BitVec 32) {R : sProp 𝕄} {Q : _ → sProp 𝕄} (hr : ∀ r, StSig D K c 8 R ⊢ Q r) :
    StSig D K c 6 R ⊢ WP c (k0_part5 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v138 v139 c0_i32_83) Q := by
  rw [k0_part5_eq_skeleton]; unfold k0_part5_skel
  refine sig_step D K c 6 (by decide) (by decide) _ k0_dev6 _ (by decide +kernel) ?_
  refine sig_step D K c 7 (by decide) (by decide) _ k0_dev7 _ (by decide +kernel) ?_
  exact wp_end c (hr _)

set_option maxHeartbeats 4000000 in
theorem part6_ok (c : Dev nD) (v2 : BitVec 32) (v173 : BitVec 32) {R : sProp 𝕄} {Q : _ → sProp 𝕄} (hr : ∀ r, StSig D K c 11 R ⊢ Q r) :
    StSig D K c 8 R ⊢ WP c (k0_part6 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v173) Q := by
  rw [k0_part6_eq_skeleton]; unfold k0_part6_skel
  refine sig_step D K c 8 (by decide) (by decide) _ k0_dev8 _ (by decide +kernel) ?_
  refine sig_step D K c 9 (by decide) (by decide) _ k0_dev9 _ (by decide +kernel) ?_
  refine sig_step D K c 10 (by decide) (by decide) _ k0_dev10 _ (by decide +kernel) ?_
  exact wp_end c (hr _)

set_option maxHeartbeats 4000000 in
theorem part7_ok (c : Dev nD) (v2 : BitVec 32) (v203 : BitVec 32) (v204 : BitVec 32) (c0_i32_129 : BitVec 32) {R : sProp 𝕄} {Q : _ → sProp 𝕄} (hr : ∀ r, StSig D K c 13 R ⊢ Q r) :
    StSig D K c 11 R ⊢ WP c (k0_part7 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v203 v204 c0_i32_129) Q := by
  rw [k0_part7_eq_skeleton]; unfold k0_part7_skel
  refine sig_step D K c 11 (by decide) (by decide) _ k0_dev11 _ (by decide +kernel) ?_
  refine sig_step D K c 12 (by decide) (by decide) _ k0_dev12 _ (by decide +kernel) ?_
  exact wp_end c (hr _)

set_option maxHeartbeats 4000000 in
theorem part8_ok (c : Dev nD) (v2 : BitVec 32) (v238 : BitVec 32) {R : sProp 𝕄} {Q : _ → sProp 𝕄} (hr : iprop(ctx D K ∗ (bigSep (Finset.univ.erase c) fun d => barPay c d) ∗ ended D c none ∗ owing c (O₁ c) ∗ R) ⊢ Q ⟨⟩) :
    StSig D K c 13 iprop(cred (tallyAt (barC c) () 15) ∗ atPos ER (barC c) 0 ∅ 0 ∗ R) ⊢ WP c (k0_part8 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c v2 (SemArray.scalar (sig.barrier 0 rfl) : Sems sig S_) v238) Q := by
  rw [k0_part8_eq_skeleton]; unfold k0_part8_skel
  refine sig_step D K c 13 (by decide) (by decide) _ k0_dev13 _ (by decide +kernel) ?_
  refine sig_step D K c 14 (by decide) (by decide) _ k0_dev14 _ (by decide +kernel) ?_
  refine sig_step D K c 15 (by decide) (by decide) _ k0_dev15 _ (by decide +kernel) ?_
  refine bar_step D K c R ?_
  exact wp_end c hr

/-! ## The weights' copies -/

theorem wq_inb (c : Dev nD) : ∀ a, (![0, 512 * c.val] : Fin 2 → ℕ) a + S768x512.size a ≤ S768x8192.size a := by revert c; decide +kernel
theorem wo_inb (c : Dev nD) : ∀ a, (![512 * c.val, 0] : Fin 2 → ℕ) a + S512x768.size a ≤ S8192x768.size a := by revert c; decide +kernel
/-- Device `c`'s columns of the first weight matrix. -/
abbrev wqB (c : Dev nD) : Memref sig .tc .hbm S768x512 .f32 := wqH.slice (Rect.unit (s := S768x8192) ![0, 512 * c.val] S768x512.size (wq_inb c)) (fun _ => rfl)
/-- Device `c`'s rows of the second. -/
abbrev woB (c : Dev nD) : Memref sig .tc .hbm S512x768 .f32 := woH.slice (Rect.unit (s := S8192x768) ![512 * c.val, 0] S512x768.size (wo_inb c)) (fun _ => rfl)

/-- The operation copies, on the device, `X` to `dst`, completing at `k`. -/
def Copies (c : Dev nD) (k : CK) {sp sp' : Space} {s : Shape} {e : EltTy} (src : Memref sig .tc sp s e) (dst : Memref sig .tc sp' s e) (q : PosShare TreeShare) (X : Vec F s e)
    (op : TpuEff nD τ sig (Elt F) Λ₀ .tc PUnit) : Prop :=
  ∀ (R : sProp 𝕄) (α : Type) (Q : α → sProp 𝕄) (rest : PUnit → Prog (TpuEff nD τ sig (Elt F) Λ₀ .tc) α),
    (iprop(ctx D K ∗ cred (tallyAt (kcell c k) () (kamount k)) ∗ R) ⊢ WP c (rest ⟨⟩) Q) →
    iprop(ctx D K ∗ owns (c : Thread nD τ) src q X ∗ anyAt c dst ∗ dutyTok ER (kcell c k) 0 0 ∗ R) ⊢ WP c (Prog.lift op >>= rest) Q

theorem copies (c : Dev nD) (k : CK) {sp sp' : Space} {s : Shape} {e : EltTy}
    {src : Memref sig .tc sp s e} {dst : Memref sig .tc sp' s e} {q : PosShare TreeShare} {X : Vec F s e}
    {sR : SemLoc sig} (hsR : sR = csem k) {hsrc : src.view.WordExact} {hdst : dst.view.WordExact} {hsem : DmaTarget.Typed (nD := nD) (τ := τ) sp sR (DmaTarget.here (p := Proc.tc) dst)}
    (hd : kduties c k = {0}) (hN : dst.view.amount sR = kamount k)
    (hp : owns (c : Thread nD τ) dst fullShare X ⊢ kpay D c 0 k) : Copies D K c k src dst q X (.enqueueDma src (.here dst) sR hsrc hdst hsem) := by
  intro R α Q rest hr
  unfold owns at hp ⊢
  iintro ⟨#Hctx, ⟨%fs, %hfs, Hs⟩, Hd, Ht, HR⟩
  subst hfs
  iapply (copy_step K D c k (kamount k) fs R hsR hd rfl hN hp hr)
  isplitr; · iexact Hctx
  isplitl [Hs]; · iexact Hs
  isplitl [Hd]; · iexact Hd
  isplitl [Ht]; · iexact Ht
  iexact HR

theorem copiesQ (c : Dev nD) {q : PosShare TreeShare} {off : Fin 2 → ℕ} {inb : ∀ a, off a + S768x512.size a ≤ S768x8192.size a} {sm : DmaSem sig} (hs : SemLoc.dma sm = csem (some (.inl 0)))
    {p₁ p₂ p₃} (ho : off = ![0, 512 * c.val]) :
    Copies D K c (some (.inl 0)) (wqB c) wqM q (D.wq c) (.enqueueDma (wqH.slice (Rect.unit (s := S768x8192) off S768x512.size inb) (fun _ => rfl)) (.here wqM) (.dma sm) p₁ p₂ p₃) := by
  subst ho
  exact copies D K c (some (.inl 0)) hs rfl rfl (Entails.of_eq (by dsimp only [kpay]; unfold locPay; rw [if_pos rfl]))
theorem copiesO (c : Dev nD) {q : PosShare TreeShare} {off : Fin 2 → ℕ} {inb : ∀ a, off a + S512x768.size a ≤ S8192x768.size a} {sm : DmaSem sig} (hs : SemLoc.dma sm = csem (some (.inl 1)))
    {p₁ p₂ p₃} (ho : off = ![512 * c.val, 0]) :
    Copies D K c (some (.inl 1)) (woB c) woM q (D.wo c) (.enqueueDma (woH.slice (Rect.unit (s := S8192x768) off S512x768.size inb) (fun _ => rfl)) (.here woM) (.dma sm) p₁ p₂ p₃) := by
  subst ho
  exact copies D K c (some (.inl 1)) hs rfl rfl (Entails.of_eq (by dsimp only [kpay]; unfold locPay; rw [if_neg (by decide)]))

theorem Copies.step {c : Dev nD} {k : CK} {sp sp' : Space} {s : Shape} {e : EltTy} {src : Memref sig .tc sp s e} {dst : Memref sig .tc sp' s e} {q : PosShare TreeShare} {X : Vec F s e}
    {op : TpuEff nD τ sig (Elt F) Λ₀ .tc PUnit} (h : Copies D K c k src dst q X op) {P R : sProp 𝕄} {α : Type} {Q : α → sProp 𝕄} {rest : PUnit → Prog (TpuEff nD τ sig (Elt F) Λ₀ .tc) α}
    (hP : P ⊢ iprop(ctx D K ∗ owns (c : Thread nD τ) src q X ∗ anyAt c dst ∗ dutyTok ER (kcell c k) 0 0 ∗ R))
    (hr : iprop(ctx D K ∗ cred (tallyAt (kcell c k) () (kamount k)) ∗ R) ⊢ WP c (rest ⟨⟩) Q) : P ⊢ WP c (Prog.lift op >>= rest) Q :=
  hP.trans (h R α Q rest hr)
theorem WaitsAt.step {c : Dev nD} {k : CK} {op : TpuEff nD τ sig (Elt F) Λ₀ .tc PUnit} (hop : WaitsAt D K c k op) {O : OT} (m : ℕ) (hlv : klv k ≤ m) (hO : Above m O) (hd : kduties c k = {0}) {P R : sProp 𝕄}
    {α : Type} {Q : α → sProp 𝕄} {rest : PUnit → Prog (TpuEff nD τ sig (Elt F) Λ₀ .tc) α}
    (hP : P ⊢ iprop(ctx D K ∗ owing c O ∗ cred (tallyAt (kcell c k) () (kamount k)) ∗ atPos ER (kcell c k) 0 ∅ 0 ∗ R))
    (hr : iprop(ctx D K ∗ owing c O ∗ kpay D c 0 k ∗ ended D c k ∗ R) ⊢ WP c (rest ⟨⟩) Q) : P ⊢ WP c (Prog.lift op >>= rest) Q :=
  hP.trans (plainwait_step K D c k O m hlv hO hd R hop hr)

/-- What the weights' copies start from, besides the rest. -/
def copyPre (c : Dev nD) (q : PosShare TreeShare) (R : sProp 𝕄) : sProp 𝕄 :=
  iprop(ctx (cont I) K ∗ owing c (O₁ c) ∗ owns (c : Thread nD τ) (wqB c) q (I.wq c) ∗ owns (c : Thread nD τ) (woB c) q (I.wo c) ∗ anyAt c wqM ∗ anyAt c woM ∗ anyAt c wbM
    ∗ dutyTok ER (locC c 0) 0 0 ∗ dutyTok ER (locC c 1) 0 0 ∗ atPos ER (locC c 0) 0 ∅ 0 ∗ atPos ER (locC c 1) 0 ∅ 0 ∗ R)
def copyPost (c : Dev nD) (R : sProp 𝕄) : sProp 𝕄 :=
  iprop(ctx (cont I) K ∗ owing c (O₁ c) ∗ owns (c : Thread nD τ) wqM fullShare (wqS I c) ∗ owns (c : Thread nD τ) woM fullShare (I.wo c) ∗ owns (c : Thread nD τ) wbM fullShare (wbS I c)
    ∗ ended (cont I) c (some (.inl 0)) ∗ ended (cont I) c (some (.inl 1)) ∗ R)

set_option maxHeartbeats 4000000 in
theorem part9_ok (c : Dev nD) (q : PosShare TreeShare) {R : sProp 𝕄} {Q : _ → sProp 𝕄}
    (hr : copyPost I K c R ⊢ Q ⟨iota .tc S512x512 32 [0] iota_S512x512_d0_w32, 64#32, k0_pay3, k0_pay4, Scalar.extui (Scalar.cmpi .sgt 64#32 0#32)⟩) :
    copyPre I K c q R ⊢ WP c (k0_part9 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c) Q := by
  have hk0 : kpay (cont I) c 0 (some (.inl 0)) = owns (c : Thread nD τ) wqM fullShare (I.wq c) := by dsimp only [kpay]; unfold locPay; rw [if_pos rfl]; rfl
  have hk1 : kpay (cont I) c 0 (some (.inl 1)) = owns (c : Thread nD τ) woM fullShare (I.wo c) := by dsimp only [kpay]; unfold locPay; rw [if_neg (by decide)]; rfl
  rw [k0_part9_eq_skeleton]; unfold k0_part9_skel
  refine Copies.step (cont I) K (copiesQ (cont I) K c (q := q) (by decide) (by clear * -; revert c; decide +kernel))
    (R := iprop(owing c (O₁ c) ∗ owns (c : Thread nD τ) (woB c) q (I.wo c) ∗ anyAt c woM ∗ anyAt c wbM ∗ dutyTok ER (locC c 1) 0 0 ∗ atPos ER (locC c 0) 0 ∅ 0 ∗ atPos ER (locC c 1) 0 ∅ 0 ∗ R)) ?_ ?_
  · unfold copyPre
    iintro ⟨H1, H2, H3, H4, H5, H6, H7, H8, H9, H10, H11, HR⟩
    isplitl [H1]; · iexact H1
    isplitl [H3]; · iexact H3
    isplitl [H5]; · iexact H5
    isplitl [H8]; · iexact H8
    isplitl [H2]; · iexact H2
    isplitl [H4]; · iexact H4
    isplitl [H6]; · iexact H6
    isplitl [H7]; · iexact H7
    isplitl [H9]; · iexact H9
    isplitl [H10]; · iexact H10
    isplitl [H11]; · iexact H11
    iexact HR
  refine Copies.step (cont I) K (copiesO (cont I) K c (q := q) (by decide) (by clear * -; revert c; decide +kernel))
    (R := iprop(owing c (O₁ c) ∗ cred (tallyAt (locC c 0) () (kamount (some (.inl 0)))) ∗ anyAt c wbM ∗ atPos ER (locC c 0) 0 ∅ 0 ∗ atPos ER (locC c 1) 0 ∅ 0 ∗ R)) ?_ ?_
  · iintro ⟨H1, Hc, H2, H4, H6, H7, H9, H10, H11, HR⟩
    isplitl [H1]; · iexact H1
    isplitl [H4]; · iexact H4
    isplitl [H6]; · iexact H6
    isplitl [H9]; · iexact H9
    isplitl [H2]; · iexact H2
    isplitl [Hc]; · iexact Hc
    isplitl [H7]; · iexact H7
    isplitl [H10]; · iexact H10
    isplitl [H11]; · iexact H11
    iexact HR
  refine WaitsAt.step (cont I) K (waitsAt (cont I) K c (some (.inl 0)) (by decide) rfl) 0 (by decide) ((above_O₁ c).le (by decide)) rfl
    (R := iprop(cred (tallyAt (locC c 1) () (kamount (some (.inl 1)))) ∗ anyAt c wbM ∗ atPos ER (locC c 1) 0 ∅ 0 ∗ R)) ?_ ?_
  · iintro ⟨H1, Hc1, H2, Hc, H7, H10, H11, HR⟩
    isplitl [H1]; · iexact H1
    isplitl [H2]; · iexact H2
    isplitl [Hc]; · iexact Hc
    isplitl [H10]; · iexact H10
    isplitl [Hc1]; · iexact Hc1
    isplitl [H7]; · iexact H7
    isplitl [H11]; · iexact H11
    iexact HR
  rw [hk0]
  refine BIBase.Entails.trans (Q := iprop(owns (c : Thread nD τ) wqM fullShare (I.wq c) ∗ (ctx (cont I) K ∗ owing c (O₁ c) ∗ ended (cont I) c (some (.inl 0)) ∗ cred (tallyAt (locC c 1) () (kamount (some (.inl 1)))) ∗ anyAt c wbM ∗ atPos ER (locC c 1) 0 ∅ 0 ∗ R))) ?_ ?_
  · iintro ⟨H1, H2, H3, HR⟩
    isplitl [H3]; · iexact H3
    isplitl [H1]; · iexact H1
    isplitl [H2]; · iexact H2
    iexact HR
  refine load_step c (owns (c : Thread nD τ) wqM fullShare (I.wq c)) iprop(emp) _ ?_ (loads_all c fullShare (I.wq c)) ?_
  · iintro ⟨H, HR⟩
    isplitl [H]; · iexact H
    iintro H
    isplitl [H]; · iexact H
    iexact HR
  refine BIBase.Entails.trans (Q := iprop(anyAt c wqM ∗ (ctx (cont I) K ∗ owing c (O₁ c) ∗ ended (cont I) c (some (.inl 0)) ∗ cred (tallyAt (locC c 1) () (kamount (some (.inl 1)))) ∗ anyAt c wbM ∗ atPos ER (locC c 1) 0 ∅ 0 ∗ R))) ?_ ?_
  · unfold anyAt
    iintro ⟨H, HR⟩
    isplitl [H]; · iexists _; iexact H
    iexact HR
  refine dead_step c (loadsAny_whole c) ?_
  refine turn_step c (stores_whole c) ?_
  refine WaitsAt.step (cont I) K (waitsAt (cont I) K c (some (.inl 1)) (by decide) rfl) 0 (by decide) ((above_O₁ c).le (by decide)) rfl
    (R := iprop(owns (c : Thread nD τ) wqM fullShare (wqS I c) ∗ ended (cont I) c (some (.inl 0)) ∗ anyAt c wbM ∗ R)) ?_ ?_
  · iintro ⟨Hq, H1, H2, He, Hc, Hb, Ha, HR⟩
    isplitl [H1]; · iexact H1
    isplitl [H2]; · iexact H2
    isplitl [Hc]; · iexact Hc
    isplitl [Ha]; · iexact Ha
    isplitl [Hq]; · iexact Hq
    isplitl [He]; · iexact He
    isplitl [Hb]; · iexact Hb
    iexact HR
  rw [hk1]
  refine load_step c (owns (c : Thread nD τ) woM fullShare (I.wo c)) iprop(emp) _ ?_ (loads_all c fullShare (I.wo c)) ?_
  · iintro ⟨H1, H2, H, HR⟩
    isplitl [H]; · iexact H
    iintro H
    isplitl [H1]; · iexact H1
    isplitl [H2]; · iexact H2
    isplitl [H]; · iexact H
    iexact HR
  refine BIBase.Entails.trans (Q := iprop(anyAt c wbM ∗ (ctx (cont I) K ∗ owing c (O₁ c) ∗ owns (c : Thread nD τ) wqM fullShare (wqS I c) ∗ owns (c : Thread nD τ) woM fullShare (I.wo c) ∗ ended (cont I) c (some (.inl 0)) ∗ ended (cont I) c (some (.inl 1)) ∗ R))) ?_ ?_
  · iintro ⟨H1, H2, Ho, He1, Hq, He0, Hb, HR⟩
    isplitl [Hb]; · iexact Hb
    isplitl [H1]; · iexact H1
    isplitl [H2]; · iexact H2
    isplitl [Hq]; · iexact Hq
    isplitl [Ho]; · iexact Ho
    isplitl [He0]; · iexact He0
    isplitl [He1]; · iexact He1
    iexact HR
  refine dead_step c (loadsAny_whole c) ?_
  refine turn_step c (stores_whole c) ?_
  refine wp_end c (BIBase.Entails.trans ?_ hr)
  unfold copyPost
  iintro ⟨Hb, H1, H2, Hq, Ho, He0, He1, HR⟩
  isplitl [H1]; · iexact H1
  isplitl [H2]; · iexact H2
  isplitl [Hq]; · iexact Hq
  isplitl [Ho]; · iexact Ho
  isplitl [Hb]; · iexact Hb
  isplitl [He0]; · iexact He0
  isplitl [He1]; · iexact He1
  iexact HR

end Cert.Exchange

end
-- ==== Proof.Attn.lean ====
/-
# The attention of both batches, part by part
-/
module

public import proofs.«01_k».proof.Proof.Compute

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-- One head before it is stored. -/
def hd (c : Dev nD) (b : Fin 2) (h : Fin 8) : FVec F S512x64 .f32 := headV maskV (extractStridedSlice S512x64 ![0, 64 * h.val] (qV I c b) (col_slices h)) (kB I c b h) (vB I c b h)

theorem part10_ok (c : Dev nD) {P : sProp 𝕄} {Q : _ → sProp 𝕄} (hr : P ⊢ Q ⟨k0_pay7 (iota .tc S512x512 32 [0] iota_S512x512_d0_w32) 64#32 k0_pay3 k0_pay4 (Scalar.extui (Scalar.cmpi .sgt 64#32 0#32)), k0_pay8 (iota .tc S512x512 32 [0] iota_S512x512_d0_w32) 64#32 k0_pay3 k0_pay4 (Scalar.extui (Scalar.cmpi .sgt 64#32 0#32)), Scalar.select (Scalar.cmpi .eq 3#32 0#32) 1#32 3#32, k0_pay9⟩) :
    P ⊢ WP c (k0_part10 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (iota .tc S512x512 32 [0] iota_S512x512_d0_w32) 64#32 k0_pay3 k0_pay4 (Scalar.extui (Scalar.cmpi .sgt 64#32 0#32))) Q := by
  rw [k0_part10_eq_skeleton]; unfold k0_part10_skel
  exact wp_end c hr

theorem part11_ok (c : Dev nD) {R : sProp 𝕄} {Q : _ → sProp 𝕄} (hr : StC I c 0 (hs I c 0) R ⊢ Q ⟨maskV, qV I c 0, hd I c 0 0⟩) :
    StC I c 0 (hs I c 0) R ⊢ WP c (k0_part11 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (k0_pay7 (iota .tc S512x512 32 [0] iota_S512x512_d0_w32) 64#32 k0_pay3 k0_pay4 (Scalar.extui (Scalar.cmpi .sgt 64#32 0#32))) (k0_pay8 (iota .tc S512x512 32 [0] iota_S512x512_d0_w32) 64#32 k0_pay3 k0_pay4 (Scalar.extui (Scalar.cmpi .sgt 64#32 0#32))) (Scalar.select (Scalar.cmpi .eq 3#32 0#32) 1#32 3#32) k0_pay9) Q := by
  rw [k0_part11_eq_skeleton]; unfold k0_part11_skel
  refine ldX I c _ _ R 0 rfl ?_
  refine ldWq I c _ _ R ?_
  refine ldK I c _ _ R 0 0 rfl ?_
  refine ldV I c _ _ R 0 0 rfl ?_
  exact wp_end c hr

theorem part12_ok (c : Dev nD) {R : sProp 𝕄} {Q : _ → sProp 𝕄} (hr : StC I c 2 (hs I c 0) R ⊢ Q ⟨k0_pay15 maskV (qV I c 0) (kB I c 0 2), k0_pay16 maskV (qV I c 0) (kB I c 0 2)⟩) :
    StC I c 0 (hs I c 0) R ⊢ WP c (k0_part12 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 0) (hd I c 0 0)) Q := by
  rw [k0_part12_eq_skeleton]; unfold k0_part12_skel
  refine ldC I c _ _ R ?_
  refine stC I c _ R 0 rfl rfl ?_
  refine ldK I c _ _ R 0 1 rfl ?_
  refine ldV I c _ _ R 0 1 rfl ?_
  refine ldC I c _ _ R ?_
  refine stC I c _ R 1 rfl rfl ?_
  refine ldK I c _ _ R 0 2 rfl ?_
  exact wp_end c hr

theorem part13_ok (c : Dev nD) {R : sProp 𝕄} {Q : _ → sProp 𝕄} (hr : StC I c 4 (hs I c 0) R ⊢ Q ⟨k0_pay19 (qV I c 0) (kB I c 0 4), Scalar.ofBits .f32 0xCE6E6B28#32⟩) :
    StC I c 2 (hs I c 0) R ⊢ WP c (k0_part13 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 0) (k0_pay15 maskV (qV I c 0) (kB I c 0 2)) (k0_pay16 maskV (qV I c 0) (kB I c 0 2))) Q := by
  rw [k0_part13_eq_skeleton]; unfold k0_part13_skel
  refine ldV I c _ _ R 0 2 rfl ?_
  refine ldC I c _ _ R ?_
  refine stC I c _ R 2 rfl rfl ?_
  refine ldK I c _ _ R 0 3 rfl ?_
  refine ldV I c _ _ R 0 3 rfl ?_
  refine ldC I c _ _ R ?_
  refine stC I c _ R 3 rfl rfl ?_
  refine ldK I c _ _ R 0 4 rfl ?_
  exact wp_end c hr

theorem part14_ok (c : Dev nD) {R : sProp 𝕄} {Q : _ → sProp 𝕄} (hr : StC I c 6 (hs I c 0) R ⊢ Q ⟨⟩) :
    StC I c 4 (hs I c 0) R ⊢ WP c (k0_part14 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 0) (k0_pay19 (qV I c 0) (kB I c 0 4)) (Scalar.ofBits .f32 0xCE6E6B28#32)) Q := by
  rw [k0_part14_eq_skeleton]; unfold k0_part14_skel
  refine ldV I c _ _ R 0 4 rfl ?_
  refine ldC I c _ _ R ?_
  refine stC I c _ R 4 rfl rfl ?_
  refine ldK I c _ _ R 0 5 rfl ?_
  refine ldV I c _ _ R 0 5 rfl ?_
  refine ldC I c _ _ R ?_
  refine stC I c _ R 5 rfl rfl ?_
  exact wp_end c hr

theorem part15_ok (c : Dev nD) {R : sProp 𝕄} {Q : _ → sProp 𝕄} (hr : StC I c 7 (hs I c 0) R ⊢ Q ⟨k0_pay23 maskV (qV I c 0) (kB I c 0 7), k0_pay24 maskV (qV I c 0) (kB I c 0 7), k0_pay25 (vB I c 0 7)⟩) :
    StC I c 6 (hs I c 0) R ⊢ WP c (k0_part15 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 0)) Q := by
  rw [k0_part15_eq_skeleton]; unfold k0_part15_skel
  refine ldK I c _ _ R 0 6 rfl ?_
  refine ldV I c _ _ R 0 6 rfl ?_
  refine ldC I c _ _ R ?_
  refine stC I c _ R 6 rfl rfl ?_
  refine ldK I c _ _ R 0 7 rfl ?_
  refine ldV I c _ _ R 0 7 rfl ?_
  exact wp_end c hr

theorem part20_ok (c : Dev nD) {R : sProp 𝕄} {Q : _ → sProp 𝕄} (hr : StC I c 1 (hs I c 1) R ⊢ Q ⟨(qV I c 1), k0_pay31 maskV (k0_pay28 (xB I c 1)) (wqS I c) (kB I c 1 1), k0_pay32 maskV (k0_pay28 (xB I c 1)) (wqS I c) (kB I c 1 1)⟩) :
    StC I c 0 (hs I c 1) R ⊢ WP c (k0_part20 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (k0_pay28 (xB I c 1))) Q := by
  rw [k0_part20_eq_skeleton]; unfold k0_part20_skel
  refine ldWq I c _ _ R ?_
  refine ldK I c _ _ R 1 0 rfl ?_
  refine ldV I c _ _ R 1 0 rfl ?_
  refine ldC I c _ _ R ?_
  refine stC I c _ R 0 rfl rfl ?_
  refine ldK I c _ _ R 1 1 rfl ?_
  exact wp_end c hr

theorem part21_ok (c : Dev nD) {R : sProp 𝕄} {Q : _ → sProp 𝕄} (hr : StC I c 3 (hs I c 1) R ⊢ Q ⟨k0_pay35 (qV I c 1) (kB I c 1 3), Scalar.ofBits .f32 0xCE6E6B28#32⟩) :
    StC I c 1 (hs I c 1) R ⊢ WP c (k0_part21 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 1) (k0_pay31 maskV (k0_pay28 (xB I c 1)) (wqS I c) (kB I c 1 1)) (k0_pay32 maskV (k0_pay28 (xB I c 1)) (wqS I c) (kB I c 1 1))) Q := by
  rw [k0_part21_eq_skeleton]; unfold k0_part21_skel
  refine ldV I c _ _ R 1 1 rfl ?_
  refine ldC I c _ _ R ?_
  refine stC I c _ R 1 rfl rfl ?_
  refine ldK I c _ _ R 1 2 rfl ?_
  refine ldV I c _ _ R 1 2 rfl ?_
  refine ldC I c _ _ R ?_
  refine stC I c _ R 2 rfl rfl ?_
  refine ldK I c _ _ R 1 3 rfl ?_
  exact wp_end c hr

theorem part22_ok (c : Dev nD) {R : sProp 𝕄} {Q : _ → sProp 𝕄} (hr : StC I c 5 (hs I c 1) R ⊢ Q ⟨⟩) :
    StC I c 3 (hs I c 1) R ⊢ WP c (k0_part22 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 1) (k0_pay35 (qV I c 1) (kB I c 1 3)) (Scalar.ofBits .f32 0xCE6E6B28#32)) Q := by
  rw [k0_part22_eq_skeleton]; unfold k0_part22_skel
  refine ldV I c _ _ R 1 3 rfl ?_
  refine ldC I c _ _ R ?_
  refine stC I c _ R 3 rfl rfl ?_
  refine ldK I c _ _ R 1 4 rfl ?_
  refine ldV I c _ _ R 1 4 rfl ?_
  refine ldC I c _ _ R ?_
  refine stC I c _ R 4 rfl rfl ?_
  exact wp_end c hr

theorem part23_ok (c : Dev nD) {R : sProp 𝕄} {Q : _ → sProp 𝕄} (hr : StC I c 6 (hs I c 1) R ⊢ Q ⟨k0_pay39 maskV (qV I c 1) (kB I c 1 6), k0_pay40 maskV (qV I c 1) (kB I c 1 6), k0_pay41 (vB I c 1 6)⟩) :
    StC I c 5 (hs I c 1) R ⊢ WP c (k0_part23 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 1)) Q := by
  rw [k0_part23_eq_skeleton]; unfold k0_part23_skel
  refine ldK I c _ _ R 1 5 rfl ?_
  refine ldV I c _ _ R 1 5 rfl ?_
  refine ldC I c _ _ R ?_
  refine stC I c _ R 5 rfl rfl ?_
  refine ldK I c _ _ R 1 6 rfl ?_
  refine ldV I c _ _ R 1 6 rfl ?_
  exact wp_end c hr

end Cert.Exchange

end
-- ==== Proof.MixParts.lean ====
/-
# Ends of the batches, and the reduction, part by part
-/
module

public import proofs.«01_k».proof.Proof.Attn
public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## The end of a batch's computation and the first sends -/

set_option maxHeartbeats 4000000 in
theorem part16_ok (c : Dev nD) {R R₁ R₂ : sProp 𝕄} {O : OT} {Q : _ → sProp 𝕄}
    (ht₀ : StC I c 8 (hs I c 0) R ⊢ iprop(anyAt c (partM.slice (batchR 0) (fun _ => rfl)) ∗ R₁))
    (ht₁ : iprop(owns (c : Thread nD τ) (partM.slice (batchR 0) (fun _ => rfl)) fullShare (partW I c 0) ∗ R₁) ⊢ StA (cont I) K c 0 O 0 R₂)
    (hr : ∀ r, StA (cont I) K c 0 O 2 R₂ ⊢ Q r) :
    StC I c 7 (hs I c 0) R ⊢ WP c (k0_part16 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) (k0_pay23 maskV (qV I c 0) (kB I c 0 7)) (k0_pay24 maskV (qV I c 0) (kB I c 0 7)) (k0_pay25 (vB I c 0 7))) Q := by
  rw [k0_part16_eq_skeleton]; unfold k0_part16_skel
  refine ldC I c _ _ R ?_
  refine stC I c _ R 7 rfl rfl ?_
  refine ldC8 I c _ R ?_
  refine ldWb I c _ _ R ?_
  refine BIBase.Entails.trans ht₀ ?_
  refine dead_step c (loadsAny_slice (r := batchR 0) c) ?_
  refine turn_step c (stores_slice (r := batchR 0) c) ?_
  refine BIBase.Entails.trans ht₁ ?_
  refine sendA_step (cont I) K c 0 O 0 (by decide) R₂ ?_ (by clear * -; revert c; decide +kernel) (fun h => sendsA (cont I) K c 0 _ _ (by decide) (by decide) (by decide) (by clear * -; revert c; decide +kernel) (by clear * -; revert c; decide +kernel))
  refine sendA_step (cont I) K c 0 O 1 (by decide) R₂ ?_ (by clear * -; revert c; decide +kernel) (fun h => sendsA (cont I) K c 0 _ _ (by decide) (by decide) (by decide) (by clear * -; revert c; decide +kernel) (by clear * -; revert c; decide +kernel))
  exact wp_end c (hr _)

set_option maxHeartbeats 4000000 in
theorem part19_ok (c : Dev nD) (v587 : BitVec 32) {R R₁ : sProp 𝕄} {O : OT} {Q : _ → sProp 𝕄}
    (ht : StA (cont I) K c 0 O 16 R ⊢ StC I c 0 (hs I c 1) R₁) (hr : StC I c 0 (hs I c 1) R₁ ⊢ Q (k0_pay28 (xB I c 1))) :
    StA (cont I) K c 0 O 11 R ⊢ WP c (k0_part19 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v587) Q := by
  rw [k0_part19_eq_skeleton]; unfold k0_part19_skel
  refine sendA_step (cont I) K c 0 O 11 (by decide) R ?_ (by clear * -; revert c; decide +kernel) (fun h => sendsA (cont I) K c 0 _ _ (by decide) (by decide) (by decide) (by clear * -; revert c; decide +kernel) (by clear * -; revert c; decide +kernel))
  refine sendA_step (cont I) K c 0 O 12 (by decide) R ?_ (by clear * -; revert c; decide +kernel) (fun h => sendsA (cont I) K c 0 _ _ (by decide) (by decide) (by decide) (by clear * -; revert c; decide +kernel) (by clear * -; revert c; decide +kernel))
  refine sendA_step (cont I) K c 0 O 13 (by decide) R ?_ (by clear * -; revert c; decide +kernel) (fun h => sendsA (cont I) K c 0 _ _ (by decide) (by decide) (by decide) (by clear * -; revert c; decide +kernel) (by clear * -; revert c; decide +kernel))
  refine sendA_step (cont I) K c 0 O 14 (by decide) R ?_ (by clear * -; revert c; decide +kernel) (fun h => sendsA (cont I) K c 0 _ _ (by decide) (by decide) (by decide) (by clear * -; revert c; decide +kernel) (by clear * -; revert c; decide +kernel))
  refine sendA_step (cont I) K c 0 O 15 (by decide) R ?_ (by clear * -; revert c; decide +kernel) (fun h => sendsA (cont I) K c 0 _ _ (by decide) (by decide) (by decide) (by clear * -; revert c; decide +kernel) (by clear * -; revert c; decide +kernel))
  refine BIBase.Entails.trans ht ?_
  refine ldX I c _ _ R₁ 1 rfl ?_
  exact wp_end c hr

set_option maxHeartbeats 4000000 in
theorem part24_ok (c : Dev nD) {R R₁ : sProp 𝕄} {Q : _ → sProp 𝕄}
    (ht : StC I c 8 (hs I c 1) R ⊢ iprop(anyAt c (partM.slice (batchR 1) (fun _ => rfl)) ∗ R₁))
    (hr : iprop(anyAt c (partM.slice (batchR 1) (fun _ => rfl)) ∗ R₁) ⊢ Q (k0_pay44 (ctxOf (hs I c 1)) (wbS I c))) :
    StC I c 6 (hs I c 1) R ⊢ WP c (k0_part24 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 maskV (qV I c 1) (k0_pay39 maskV (qV I c 1) (kB I c 1 6)) (k0_pay40 maskV (qV I c 1) (kB I c 1 6)) (k0_pay41 (vB I c 1 6))) Q := by
  rw [k0_part24_eq_skeleton]; unfold k0_part24_skel
  refine ldC I c _ _ R ?_
  refine stC I c _ R 6 rfl rfl ?_
  refine ldK I c _ _ R 1 7 rfl ?_
  refine ldV I c _ _ R 1 7 rfl ?_
  refine ldC I c _ _ R ?_
  refine stC I c _ R 7 rfl rfl ?_
  refine ldC8 I c _ R ?_
  refine ldWb I c _ _ R ?_
  refine BIBase.Entails.trans ht ?_
  refine dead_step c (loadsAny_slice (r := batchR 1) c) ?_
  exact wp_end c hr

set_option maxHeartbeats 4000000 in
theorem part25_ok (c : Dev nD) {R₁ R₂ : sProp 𝕄} {O : OT} {Q : _ → sProp 𝕄}
    (ht : iprop(owns (c : Thread nD τ) (partM.slice (batchR 1) (fun _ => rfl)) fullShare (partW I c 1) ∗ R₁) ⊢ StA (cont I) K c 1 O 0 R₂)
    (hr : ∀ r, StA (cont I) K c 1 O 4 R₂ ⊢ Q r) :
    iprop(anyAt c (partM.slice (batchR 1) (fun _ => rfl)) ∗ R₁) ⊢ WP c (k0_part25 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) (k0_pay44 (ctxOf (hs I c 1)) (wbS I c))) Q := by
  rw [k0_part25_eq_skeleton]; unfold k0_part25_skel
  refine turn_step c (stores_slice (r := batchR 1) c) ?_
  refine BIBase.Entails.trans ht ?_
  refine sendA_step (cont I) K c 1 O 0 (by decide) R₂ ?_ (by clear * -; revert c; decide +kernel) (fun h => sendsA (cont I) K c 1 _ _ (by decide) (by decide) (by decide) (by clear * -; revert c; decide +kernel) (by clear * -; revert c; decide +kernel))
  refine sendA_step (cont I) K c 1 O 1 (by decide) R₂ ?_ (by clear * -; revert c; decide +kernel) (fun h => sendsA (cont I) K c 1 _ _ (by decide) (by decide) (by decide) (by clear * -; revert c; decide +kernel) (by clear * -; revert c; decide +kernel))
  refine sendA_step (cont I) K c 1 O 2 (by decide) R₂ ?_ (by clear * -; revert c; decide +kernel) (fun h => sendsA (cont I) K c 1 _ _ (by decide) (by decide) (by decide) (by clear * -; revert c; decide +kernel) (by clear * -; revert c; decide +kernel))
  refine sendA_step (cont I) K c 1 O 3 (by decide) R₂ ?_ (by clear * -; revert c; decide +kernel) (fun h => sendsA (cont I) K c 1 _ _ (by decide) (by decide) (by decide) (by clear * -; revert c; decide +kernel) (by clear * -; revert c; decide +kernel))
  exact wp_end c (hr _)

/-! ## The reduction -/

theorem acc_slX (c : Dev nD) (b : Fin 2) : accV (v2w c) (ownV I c b) (slX I X c b) = redV I c b := acc_landed I X c b

set_option maxHeartbeats 4000000 in
theorem part30_ok (c : Dev nD) (v69 : BitVec 32) {R : sProp 𝕄} {O : OT} (hO : Above 2 O) {Q : _ → sProp 𝕄}
    (hr : StR I K X c 0 O R ⊢ Q ⟨k0_pay46 (v2w c) (ownV I c 0) (slX I X c 0 0) (slX I X c 0 1) (slX I X c 0 2), Scalar.cmpi .eq (v2w c) 3#32, k0_pay47 (slX I X c 0 3)⟩) :
    StRA (cont I) K X c 0 O 15 iprop((bigSep Finset.univ (sentAItem (cont I) c 0)) ∗ R) ⊢ WP c (k0_part30 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v69) Q := by
  rw [k0_part30_eq_skeleton]; unfold k0_part30_skel
  refine recvA_step (cont I) K X c 0 O hO 15 (by decide) _ ?_ (by clear * -; revert c; decide +kernel) (fun h => waitsRA K (cont I) c 15 0 (by decide))
  change StR I K X c 0 O R ⊢ _
  refine ldOwn I K X c 0 O R (by clear * -; revert c; decide +kernel) ?_
  refine ldSlot I K X c 0 O R 0 rfl ?_
  refine ldSlot I K X c 0 O R 1 rfl ?_
  refine ldSlot I K X c 0 O R 2 rfl ?_
  refine ldSlot I K X c 0 O R 3 rfl ?_
  exact wp_end c hr

set_option maxHeartbeats 4000000 in
theorem part31_ok (c : Dev nD) (v925 : FVec F S32x768 .f32) (v926 : BitVec 1) (v929 : FVec F S32x768 .f32) {R : sProp 𝕄} {O : OT} {Q : _ → sProp 𝕄}
    (hr : StR I K X c 0 O R ⊢ Q ⟨k0_pay48 (v2w c) v925 v926 v929 (slX I X c 0 4) (slX I X c 0 5) (slX I X c 0 6) (slX I X c 0 7), Scalar.cmpi .eq (v2w c) 8#32⟩) :
    StR I K X c 0 O R ⊢ WP c (k0_part31 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) v925 v926 v929) Q := by
  rw [k0_part31_eq_skeleton]; unfold k0_part31_skel
  refine ldSlot I K X c 0 O R 4 rfl ?_
  refine ldSlot I K X c 0 O R 5 rfl ?_
  refine ldSlot I K X c 0 O R 6 rfl ?_
  refine ldSlot I K X c 0 O R 7 rfl ?_
  exact wp_end c hr

set_option maxHeartbeats 4000000 in
theorem part32_ok (c : Dev nD) (v960 : FVec F S32x768 .f32) (v961 : BitVec 1) {R : sProp 𝕄} {O : OT} {Q : _ → sProp 𝕄}
    (hr : StR I K X c 0 O R ⊢ Q ⟨k0_pay49 (v2w c) v960 v961 (slX I X c 0 8) (slX I X c 0 9) (slX I X c 0 10) (slX I X c 0 11), k0_pay50 (v2w c) (slX I X c 0 12)⟩) :
    StR I K X c 0 O R ⊢ WP c (k0_part32 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) v960 v961) Q := by
  rw [k0_part32_eq_skeleton]; unfold k0_part32_skel
  refine ldSlot I K X c 0 O R 8 rfl ?_
  refine ldSlot I K X c 0 O R 9 rfl ?_
  refine ldSlot I K X c 0 O R 10 rfl ?_
  refine ldSlot I K X c 0 O R 11 rfl ?_
  refine ldSlot I K X c 0 O R 12 rfl ?_
  exact wp_end c hr

/-- The reduced rows are stored: in the result and, rounded, in the stage. -/
theorem stage_rv (c : Dev nD) (b : Fin 2) (v : FVec F S32x768 .f32) (hv : v = redV I c b) {R : sProp 𝕄} :
    iprop(owns (c : Thread nD τ) (stM.slice (stageR b) (fun _ => rfl)) fullShare (shapeCast S1x32x768 (truncf .bf16 v bitsLt_bf16_f32) shapeCasts_S32x768_S1x32x768) ∗ R)
      ⊢ iprop(owns (c : Thread nD τ) (stgC b) fullShare (rvV I c b) ∗ R) := by
  subst hv
  iintro ⟨H, HR⟩
  isplitl [H]; · iapply (owns_squeeze c (stM.slice (stageR b) (fun _ => rfl)) squeezes_S1x32x768_S32x768 fullShare _); iexact H
  iexact HR

theorem swap_front {A B R : sProp 𝕄} {P : sProp 𝕄} (h : iprop(B ∗ A ∗ R) ⊢ P) : iprop(A ∗ B ∗ R) ⊢ P := by
  refine BIBase.Entails.trans ?_ h
  iintro ⟨HA, HB, HR⟩
  isplitl [HB]; · iexact HB
  isplitl [HA]; · iexact HA
  iexact HR

set_option maxHeartbeats 4000000 in
theorem part33_ok (c : Dev nD) (v69 : BitVec 32) (v988 : FVec F S32x768 .f32) (v994 : FVec F S32x768 .f32) {R R₁ : sProp 𝕄} {O : OT} {P P' : Fin 2 → Fin 16 → Prop} {Q : _ → sProp 𝕄}
    (hv : k0_pay51 (v2w c) v988 v994 (slX I X c 0 13) (slX I X c 0 14) (slX I X c 0 15) = accV (v2w c) (ownV I c 0) (slX I X c 0))
    (hP : ∀ b' k', P' b' k' → P b' k' ∨ (b', k') = (0, mine c))
    (ht : StR I K X c 0 O R ⊢ iprop(outAt c (outV I c) P ∗ anyAt c (stM.slice (stageR 0) (fun _ => rfl)) ∗ R₁))
    (hr : iprop(owns (c : Thread nD τ) (stgC 0) fullShare (rvV I c 0) ∗ outAt c (outV I c) P' ∗ R₁) ⊢ Q (0#32)) :
    StR I K X c 0 O R ⊢ WP c (k0_part33 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v69 v988 v994) Q := by
  rw [k0_part33_eq_skeleton]; unfold k0_part33_skel
  refine ldSlot I K X c 0 O R 13 rfl ?_
  refine ldSlot I K X c 0 O R 14 rfl ?_
  refine ldSlot I K X c 0 O R 15 rfl ?_
  refine BIBase.Entails.trans ht ?_
  refine dead_step c (loadsAny_out c _ _) ?_
  refine turn_step c (stores_out c _ _ P' 0 (mine c) (by clear * -; revert c; decide +kernel) ?_ hP) ?_
  · unfold outV; rw [if_pos rfl]
    exact congrArg (fun v => shapeCast S1x32x768 v shapeCasts_S32x768_S1x32x768) (hv.trans (acc_slX I X c 0))
  refine swap_front ?_
  refine dead_step c (loadsAny_slice (r := stageR 0) c) ?_
  refine turn_step c (stores_slice (r := stageR 0) c) ?_
  exact wp_end c ((stage_rv I c 0 _ (hv.trans (acc_slX I X c 0))).trans hr)

set_option maxHeartbeats 4000000 in
theorem part39_ok (c : Dev nD) (v69 : BitVec 32) {R : sProp 𝕄} {O : OT} {Q : _ → sProp 𝕄}
    (hr : StR I K X c 1 O R ⊢ Q ⟨k0_pay54 (v2w c) (ownV I c 1) (slX I X c 1 0) (slX I X c 1 1) (slX I X c 1 2) (slX I X c 1 3), Scalar.cmpi .eq (v2w c) 4#32⟩) :
    StR I K X c 1 O R ⊢ WP c (k0_part39 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v69) Q := by
  rw [k0_part39_eq_skeleton]; unfold k0_part39_skel
  refine ldOwn I K X c 1 O R (by clear * -; revert c; decide +kernel) ?_
  refine ldSlot I K X c 1 O R 0 rfl ?_
  refine ldSlot I K X c 1 O R 1 rfl ?_
  refine ldSlot I K X c 1 O R 2 rfl ?_
  refine ldSlot I K X c 1 O R 3 rfl ?_
  exact wp_end c hr

set_option maxHeartbeats 4000000 in
theorem part40_ok (c : Dev nD) (v1184 : FVec F S32x768 .f32) (v1185 : BitVec 1) {R : sProp 𝕄} {O : OT} {Q : _ → sProp 𝕄}
    (hr : StR I K X c 1 O R ⊢ Q ⟨k0_pay55 (v2w c) v1184 v1185 (slX I X c 1 4) (slX I X c 1 5) (slX I X c 1 6) (slX I X c 1 7), Scalar.cmpi .eq (v2w c) 8#32, k0_pay56 (slX I X c 1 8), k0_pay57 (F := F)⟩) :
    StR I K X c 1 O R ⊢ WP c (k0_part40 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) v1184 v1185) Q := by
  rw [k0_part40_eq_skeleton]; unfold k0_part40_skel
  refine ldSlot I K X c 1 O R 4 rfl ?_
  refine ldSlot I K X c 1 O R 5 rfl ?_
  refine ldSlot I K X c 1 O R 6 rfl ?_
  refine ldSlot I K X c 1 O R 7 rfl ?_
  refine ldSlot I K X c 1 O R 8 rfl ?_
  exact wp_end c hr

set_option maxHeartbeats 4000000 in
theorem part41_ok (c : Dev nD) (v1212 : FVec F S32x768 .f32) (v1213 : BitVec 1) (v1216 v1217 : FVec F S32x768 .f32) {R : sProp 𝕄} {O : OT} {Q : _ → sProp 𝕄}
    (hr : StR I K X c 1 O R ⊢ Q ⟨k0_pay58 (v2w c) v1212 v1213 v1216 v1217 (slX I X c 1 9) (slX I X c 1 10) (slX I X c 1 11) (slX I X c 1 12), Scalar.cmpi .eq (v2w c) 13#32⟩) :
    StR I K X c 1 O R ⊢ WP c (k0_part41 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) v1212 v1213 v1216 v1217) Q := by
  rw [k0_part41_eq_skeleton]; unfold k0_part41_skel
  refine ldSlot I K X c 1 O R 9 rfl ?_
  refine ldSlot I K X c 1 O R 10 rfl ?_
  refine ldSlot I K X c 1 O R 11 rfl ?_
  refine ldSlot I K X c 1 O R 12 rfl ?_
  exact wp_end c hr

set_option maxHeartbeats 4000000 in
theorem part42_ok (c : Dev nD) (v69 : BitVec 32) (v1247 : FVec F S32x768 .f32) (v1248 : BitVec 1) {R R₁ : sProp 𝕄} {O : OT} {P P' : Fin 2 → Fin 16 → Prop} {Q : _ → sProp 𝕄}
    (hv : k0_pay59 (v2w c) v1247 v1248 (slX I X c 1 13) (slX I X c 1 14) (slX I X c 1 15) = accV (v2w c) (ownV I c 1) (slX I X c 1))
    (hP : ∀ b' k', P' b' k' → P b' k' ∨ (b', k') = (1, mine c))
    (ht : StR I K X c 1 O R ⊢ iprop(outAt c (outV I c) P ∗ anyAt c (stM.slice (stageR 1) (fun _ => rfl)) ∗ R₁))
    (hr : iprop(owns (c : Thread nD τ) (stgC 1) fullShare (rvV I c 1) ∗ outAt c (outV I c) P' ∗ R₁) ⊢ Q ⟨⟩) :
    StR I K X c 1 O R ⊢ WP c (k0_part42 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v69 v1247 v1248) Q := by
  rw [k0_part42_eq_skeleton]; unfold k0_part42_skel
  refine ldSlot I K X c 1 O R 13 rfl ?_
  refine ldSlot I K X c 1 O R 14 rfl ?_
  refine ldSlot I K X c 1 O R 15 rfl ?_
  refine BIBase.Entails.trans ht ?_
  refine dead_step c (loadsAny_out c _ _) ?_
  refine turn_step c (stores_out c _ _ P' 1 (mine c) (by clear * -; revert c; decide +kernel) ?_ hP) ?_
  · unfold outV; rw [if_pos rfl]
    exact congrArg (fun v => shapeCast S1x32x768 v shapeCasts_S32x768_S1x32x768) (hv.trans (acc_slX I X c 1))
  refine swap_front ?_
  refine dead_step c (loadsAny_slice (r := stageR 1) c) ?_
  refine turn_step c (stores_slice (r := stageR 1) c) ?_
  exact wp_end c ((stage_rv I c 1 _ (hv.trans (acc_slX I X c 1))).trans hr)

end Cert.Exchange

end
-- ==== Proof.SendParts.lean ====
/-
# The exchange's sends and waits, part by part
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

set_option maxHeartbeats 4000000 in
theorem part17_ok (c : Dev nD) (v542 : BitVec 32) {R : sProp 𝕄} {Q : _ → sProp 𝕄} {O : OT} (hr : ∀ r, StA (cont I) K c 0 O 7 R ⊢ Q r) :
    StA (cont I) K c 0 O 2 R ⊢ WP c (k0_part17 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v542) Q := by
  rw [k0_part17_eq_skeleton]; unfold k0_part17_skel
  refine sendA_step (cont I) K c 0 O 2 (by decide) R ?_ (by clear * -; revert c; decide +kernel) (fun h => sendsA (cont I) K c 0 _ _ (by decide) (by decide) (by decide) (by clear * -; revert c; decide +kernel) (by clear * -; revert c; decide +kernel))
  refine sendA_step (cont I) K c 0 O 3 (by decide) R ?_ (by clear * -; revert c; decide +kernel) (fun h => sendsA (cont I) K c 0 _ _ (by decide) (by decide) (by decide) (by clear * -; revert c; decide +kernel) (by clear * -; revert c; decide +kernel))
  refine sendA_step (cont I) K c 0 O 4 (by decide) R ?_ (by clear * -; revert c; decide +kernel) (fun h => sendsA (cont I) K c 0 _ _ (by decide) (by decide) (by decide) (by clear * -; revert c; decide +kernel) (by clear * -; revert c; decide +kernel))
  refine sendA_step (cont I) K c 0 O 5 (by decide) R ?_ (by clear * -; revert c; decide +kernel) (fun h => sendsA (cont I) K c 0 _ _ (by decide) (by decide) (by decide) (by clear * -; revert c; decide +kernel) (by clear * -; revert c; decide +kernel))
  refine sendA_step (cont I) K c 0 O 6 (by decide) R ?_ (by clear * -; revert c; decide +kernel) (fun h => sendsA (cont I) K c 0 _ _ (by decide) (by decide) (by decide) (by clear * -; revert c; decide +kernel) (by clear * -; revert c; decide +kernel))
  exact wp_end c (hr _)

set_option maxHeartbeats 4000000 in
theorem part18_ok (c : Dev nD) (v564 : BitVec 32) {R : sProp 𝕄} {Q : _ → sProp 𝕄} {O : OT} (hr : ∀ r, StA (cont I) K c 0 O 11 R ⊢ Q r) :
    StA (cont I) K c 0 O 7 R ⊢ WP c (k0_part18 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v564) Q := by
  rw [k0_part18_eq_skeleton]; unfold k0_part18_skel
  refine sendA_step (cont I) K c 0 O 7 (by decide) R ?_ (by clear * -; revert c; decide +kernel) (fun h => sendsA (cont I) K c 0 _ _ (by decide) (by decide) (by decide) (by clear * -; revert c; decide +kernel) (by clear * -; revert c; decide +kernel))
  refine sendA_step (cont I) K c 0 O 8 (by decide) R ?_ (by clear * -; revert c; decide +kernel) (fun h => sendsA (cont I) K c 0 _ _ (by decide) (by decide) (by decide) (by clear * -; revert c; decide +kernel) (by clear * -; revert c; decide +kernel))
  refine sendA_step (cont I) K c 0 O 9 (by decide) R ?_ (by clear * -; revert c; decide +kernel) (fun h => sendsA (cont I) K c 0 _ _ (by decide) (by decide) (by decide) (by clear * -; revert c; decide +kernel) (by clear * -; revert c; decide +kernel))
  refine sendA_step (cont I) K c 0 O 10 (by decide) R ?_ (by clear * -; revert c; decide +kernel) (fun h => sendsA (cont I) K c 0 _ _ (by decide) (by decide) (by decide) (by clear * -; revert c; decide +kernel) (by clear * -; revert c; decide +kernel))
  exact wp_end c (hr _)

set_option maxHeartbeats 4000000 in
theorem part26_ok (c : Dev nD) (v795 : BitVec 1) {R : sProp 𝕄} {Q : _ → sProp 𝕄} {O : OT} (hr : ∀ r, StA (cont I) K c 1 O 9 R ⊢ Q r) :
    StA (cont I) K c 1 O 4 R ⊢ WP c (k0_part26 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v795) Q := by
  rw [k0_part26_eq_skeleton]; unfold k0_part26_skel
  refine sendA_step (cont I) K c 1 O 4 (by decide) R ?_ (by clear * -; revert c; decide +kernel) (fun h => sendsA (cont I) K c 1 _ _ (by decide) (by decide) (by decide) (by clear * -; revert c; decide +kernel) (by clear * -; revert c; decide +kernel))
  refine sendA_step (cont I) K c 1 O 5 (by decide) R ?_ (by clear * -; revert c; decide +kernel) (fun h => sendsA (cont I) K c 1 _ _ (by decide) (by decide) (by decide) (by clear * -; revert c; decide +kernel) (by clear * -; revert c; decide +kernel))
  refine sendA_step (cont I) K c 1 O 6 (by decide) R ?_ (by clear * -; revert c; decide +kernel) (fun h => sendsA (cont I) K c 1 _ _ (by decide) (by decide) (by decide) (by clear * -; revert c; decide +kernel) (by clear * -; revert c; decide +kernel))
  refine sendA_step (cont I) K c 1 O 7 (by decide) R ?_ (by clear * -; revert c; decide +kernel) (fun h => sendsA (cont I) K c 1 _ _ (by decide) (by decide) (by decide) (by clear * -; revert c; decide +kernel) (by clear * -; revert c; decide +kernel))
  refine sendA_step (cont I) K c 1 O 8 (by decide) R ?_ (by clear * -; revert c; decide +kernel) (fun h => sendsA (cont I) K c 1 _ _ (by decide) (by decide) (by decide) (by clear * -; revert c; decide +kernel) (by clear * -; revert c; decide +kernel))
  exact wp_end c (hr _)

set_option maxHeartbeats 4000000 in
theorem part27_ok (c : Dev nD) (c2_i32_630 : BitVec 32) {R : sProp 𝕄} {Q : _ → sProp 𝕄} {O : OT} (hr : ∀ r, StA (cont I) K c 1 O 13 R ⊢ Q r) :
    StA (cont I) K c 1 O 9 R ⊢ WP c (k0_part27 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) c2_i32_630) Q := by
  rw [k0_part27_eq_skeleton]; unfold k0_part27_skel
  refine sendA_step (cont I) K c 1 O 9 (by decide) R ?_ (by clear * -; revert c; decide +kernel) (fun h => sendsA (cont I) K c 1 _ _ (by decide) (by decide) (by decide) (by clear * -; revert c; decide +kernel) (by clear * -; revert c; decide +kernel))
  refine sendA_step (cont I) K c 1 O 10 (by decide) R ?_ (by clear * -; revert c; decide +kernel) (fun h => sendsA (cont I) K c 1 _ _ (by decide) (by decide) (by decide) (by clear * -; revert c; decide +kernel) (by clear * -; revert c; decide +kernel))
  refine sendA_step (cont I) K c 1 O 11 (by decide) R ?_ (by clear * -; revert c; decide +kernel) (fun h => sendsA (cont I) K c 1 _ _ (by decide) (by decide) (by decide) (by clear * -; revert c; decide +kernel) (by clear * -; revert c; decide +kernel))
  refine sendA_step (cont I) K c 1 O 12 (by decide) R ?_ (by clear * -; revert c; decide +kernel) (fun h => sendsA (cont I) K c 1 _ _ (by decide) (by decide) (by decide) (by clear * -; revert c; decide +kernel) (by clear * -; revert c; decide +kernel))
  exact wp_end c (hr _)

set_option maxHeartbeats 4000000 in
theorem part28_ok (c : Dev nD) (v841 : BitVec 32) {R0 R1 : sProp 𝕄} {Q : _ → sProp 𝕄} {O0 O1 : OT} (hO1 : Above 2 O1) (ht0 : StA (cont I) K c 1 O0 16 R0 ⊢ StRA (cont I) K X c 0 O1 0 R1) (hr : ∀ r, StRA (cont I) K X c 0 O1 5 R1 ⊢ Q r) :
    StA (cont I) K c 1 O0 13 R0 ⊢ WP c (k0_part28 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v841) Q := by
  rw [k0_part28_eq_skeleton]; unfold k0_part28_skel
  refine sendA_step (cont I) K c 1 O0 13 (by decide) R0 ?_ (by clear * -; revert c; decide +kernel) (fun h => sendsA (cont I) K c 1 _ _ (by decide) (by decide) (by decide) (by clear * -; revert c; decide +kernel) (by clear * -; revert c; decide +kernel))
  refine sendA_step (cont I) K c 1 O0 14 (by decide) R0 ?_ (by clear * -; revert c; decide +kernel) (fun h => sendsA (cont I) K c 1 _ _ (by decide) (by decide) (by decide) (by clear * -; revert c; decide +kernel) (by clear * -; revert c; decide +kernel))
  refine sendA_step (cont I) K c 1 O0 15 (by decide) R0 ?_ (by clear * -; revert c; decide +kernel) (fun h => sendsA (cont I) K c 1 _ _ (by decide) (by decide) (by decide) (by clear * -; revert c; decide +kernel) (by clear * -; revert c; decide +kernel))
  refine BIBase.Entails.trans ht0 ?_
  refine recvA_step (cont I) K X c 0 O1 hO1 0 (by decide) R1 ?_ (by clear * -; revert c; decide +kernel) (fun h => waitsRA K (cont I) c 0 0 (by decide))
  refine recvA_step (cont I) K X c 0 O1 hO1 1 (by decide) R1 ?_ (by clear * -; revert c; decide +kernel) (fun h => waitsRA K (cont I) c 1 0 (by decide))
  refine recvA_step (cont I) K X c 0 O1 hO1 2 (by decide) R1 ?_ (by clear * -; revert c; decide +kernel) (fun h => waitsRA K (cont I) c 2 0 (by decide))
  refine recvA_step (cont I) K X c 0 O1 hO1 3 (by decide) R1 ?_ (by clear * -; revert c; decide +kernel) (fun h => waitsRA K (cont I) c 3 0 (by decide))
  refine recvA_step (cont I) K X c 0 O1 hO1 4 (by decide) R1 ?_ (by clear * -; revert c; decide +kernel) (fun h => waitsRA K (cont I) c 4 0 (by decide))
  exact wp_end c (hr _)

set_option maxHeartbeats 4000000 in
theorem part29_ok (c : Dev nD)  {R : sProp 𝕄} {Q : _ → sProp 𝕄} {O : OT} (hO : Above 2 O) (hr : ∀ r, StRA (cont I) K X c 0 O 15 R ⊢ Q r) :
    StRA (cont I) K X c 0 O 5 R ⊢ WP c (k0_part29 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c)) Q := by
  rw [k0_part29_eq_skeleton]; unfold k0_part29_skel
  refine recvA_step (cont I) K X c 0 O hO 5 (by decide) R ?_ (by clear * -; revert c; decide +kernel) (fun h => waitsRA K (cont I) c 5 0 (by decide))
  refine recvA_step (cont I) K X c 0 O hO 6 (by decide) R ?_ (by clear * -; revert c; decide +kernel) (fun h => waitsRA K (cont I) c 6 0 (by decide))
  refine recvA_step (cont I) K X c 0 O hO 7 (by decide) R ?_ (by clear * -; revert c; decide +kernel) (fun h => waitsRA K (cont I) c 7 0 (by decide))
  refine recvA_step (cont I) K X c 0 O hO 8 (by decide) R ?_ (by clear * -; revert c; decide +kernel) (fun h => waitsRA K (cont I) c 8 0 (by decide))
  refine recvA_step (cont I) K X c 0 O hO 9 (by decide) R ?_ (by clear * -; revert c; decide +kernel) (fun h => waitsRA K (cont I) c 9 0 (by decide))
  refine recvA_step (cont I) K X c 0 O hO 10 (by decide) R ?_ (by clear * -; revert c; decide +kernel) (fun h => waitsRA K (cont I) c 10 0 (by decide))
  refine recvA_step (cont I) K X c 0 O hO 11 (by decide) R ?_ (by clear * -; revert c; decide +kernel) (fun h => waitsRA K (cont I) c 11 0 (by decide))
  refine recvA_step (cont I) K X c 0 O hO 12 (by decide) R ?_ (by clear * -; revert c; decide +kernel) (fun h => waitsRA K (cont I) c 12 0 (by decide))
  refine recvA_step (cont I) K X c 0 O hO 13 (by decide) R ?_ (by clear * -; revert c; decide +kernel) (fun h => waitsRA K (cont I) c 13 0 (by decide))
  refine recvA_step (cont I) K X c 0 O hO 14 (by decide) R ?_ (by clear * -; revert c; decide +kernel) (fun h => waitsRA K (cont I) c 14 0 (by decide))
  exact wp_end c (hr _)

end Cert.Exchange

end
-- ==== Proof.CastParts.lean ====
/-
# The broadcast's sends, and the second batch's arrival, part by part
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

set_option maxHeartbeats 4000000 in
theorem part34_ok (c : Dev nD) (c0_i32_801 : BitVec 32) {R : sProp 𝕄} {Q : _ → sProp 𝕄} {O : OT} (hr : ∀ r, StB (cont I) K c 0 O 5 R ⊢ Q r) :
    StB (cont I) K c 0 O 0 R ⊢ WP c (k0_part34 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) c0_i32_801) Q := by
  rw [k0_part34_eq_skeleton]; unfold k0_part34_skel
  refine sendB_step (cont I) K c 0 O 0 (by decide) R ?_ (by clear * -; revert c; decide +kernel) (fun h => sendsB (cont I) K c 0 _ _ (by decide) (by decide) (by decide) (by clear * -; revert c; decide +kernel) (by clear * -; revert c; decide +kernel))
  refine sendB_step (cont I) K c 0 O 1 (by decide) R ?_ (by clear * -; revert c; decide +kernel) (fun h => sendsB (cont I) K c 0 _ _ (by decide) (by decide) (by decide) (by clear * -; revert c; decide +kernel) (by clear * -; revert c; decide +kernel))
  refine sendB_step (cont I) K c 0 O 2 (by decide) R ?_ (by clear * -; revert c; decide +kernel) (fun h => sendsB (cont I) K c 0 _ _ (by decide) (by decide) (by decide) (by clear * -; revert c; decide +kernel) (by clear * -; revert c; decide +kernel))
  refine sendB_step (cont I) K c 0 O 3 (by decide) R ?_ (by clear * -; revert c; decide +kernel) (fun h => sendsB (cont I) K c 0 _ _ (by decide) (by decide) (by decide) (by clear * -; revert c; decide +kernel) (by clear * -; revert c; decide +kernel))
  refine sendB_step (cont I) K c 0 O 4 (by decide) R ?_ (by clear * -; revert c; decide +kernel) (fun h => sendsB (cont I) K c 0 _ _ (by decide) (by decide) (by decide) (by clear * -; revert c; decide +kernel) (by clear * -; revert c; decide +kernel))
  exact wp_end c (hr _)

set_option maxHeartbeats 4000000 in
theorem part35_ok (c : Dev nD)  {R : sProp 𝕄} {Q : _ → sProp 𝕄} {O : OT} (hr : ∀ r, StB (cont I) K c 0 O 9 R ⊢ Q r) :
    StB (cont I) K c 0 O 5 R ⊢ WP c (k0_part35 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c)) Q := by
  rw [k0_part35_eq_skeleton]; unfold k0_part35_skel
  refine sendB_step (cont I) K c 0 O 5 (by decide) R ?_ (by clear * -; revert c; decide +kernel) (fun h => sendsB (cont I) K c 0 _ _ (by decide) (by decide) (by decide) (by clear * -; revert c; decide +kernel) (by clear * -; revert c; decide +kernel))
  refine sendB_step (cont I) K c 0 O 6 (by decide) R ?_ (by clear * -; revert c; decide +kernel) (fun h => sendsB (cont I) K c 0 _ _ (by decide) (by decide) (by decide) (by clear * -; revert c; decide +kernel) (by clear * -; revert c; decide +kernel))
  refine sendB_step (cont I) K c 0 O 7 (by decide) R ?_ (by clear * -; revert c; decide +kernel) (fun h => sendsB (cont I) K c 0 _ _ (by decide) (by decide) (by decide) (by clear * -; revert c; decide +kernel) (by clear * -; revert c; decide +kernel))
  refine sendB_step (cont I) K c 0 O 8 (by decide) R ?_ (by clear * -; revert c; decide +kernel) (fun h => sendsB (cont I) K c 0 _ _ (by decide) (by decide) (by decide) (by clear * -; revert c; decide +kernel) (by clear * -; revert c; decide +kernel))
  exact wp_end c (hr _)

set_option maxHeartbeats 4000000 in
theorem part36_ok (c : Dev nD) (v1073 : BitVec 32) {R : sProp 𝕄} {Q : _ → sProp 𝕄} {O : OT} (hr : ∀ r, StB (cont I) K c 0 O 14 R ⊢ Q r) :
    StB (cont I) K c 0 O 9 R ⊢ WP c (k0_part36 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1073) Q := by
  rw [k0_part36_eq_skeleton]; unfold k0_part36_skel
  refine sendB_step (cont I) K c 0 O 9 (by decide) R ?_ (by clear * -; revert c; decide +kernel) (fun h => sendsB (cont I) K c 0 _ _ (by decide) (by decide) (by decide) (by clear * -; revert c; decide +kernel) (by clear * -; revert c; decide +kernel))
  refine sendB_step (cont I) K c 0 O 10 (by decide) R ?_ (by clear * -; revert c; decide +kernel) (fun h => sendsB (cont I) K c 0 _ _ (by decide) (by decide) (by decide) (by clear * -; revert c; decide +kernel) (by clear * -; revert c; decide +kernel))
  refine sendB_step (cont I) K c 0 O 11 (by decide) R ?_ (by clear * -; revert c; decide +kernel) (fun h => sendsB (cont I) K c 0 _ _ (by decide) (by decide) (by decide) (by clear * -; revert c; decide +kernel) (by clear * -; revert c; decide +kernel))
  refine sendB_step (cont I) K c 0 O 12 (by decide) R ?_ (by clear * -; revert c; decide +kernel) (fun h => sendsB (cont I) K c 0 _ _ (by decide) (by decide) (by decide) (by clear * -; revert c; decide +kernel) (by clear * -; revert c; decide +kernel))
  refine sendB_step (cont I) K c 0 O 13 (by decide) R ?_ (by clear * -; revert c; decide +kernel) (fun h => sendsB (cont I) K c 0 _ _ (by decide) (by decide) (by decide) (by clear * -; revert c; decide +kernel) (by clear * -; revert c; decide +kernel))
  exact wp_end c (hr _)

set_option maxHeartbeats 4000000 in
theorem part37_ok (c : Dev nD) (v1095 : BitVec 32) (c0_i32_898 : BitVec 32) {R0 R1 : sProp 𝕄} {Q : _ → sProp 𝕄} {O0 O1 : OT} (hO1 : Above 2 O1) (ht0 : StB (cont I) K c 0 O0 16 R0 ⊢ StRA (cont I) K X c 1 O1 0 R1) (hr : StRA (cont I) K X c 1 O1 6 R1 ⊢ Q (6#32)) :
    StB (cont I) K c 0 O0 14 R0 ⊢ WP c (k0_part37 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1095 c0_i32_898) Q := by
  rw [k0_part37_eq_skeleton]; unfold k0_part37_skel
  refine sendB_step (cont I) K c 0 O0 14 (by decide) R0 ?_ (by clear * -; revert c; decide +kernel) (fun h => sendsB (cont I) K c 0 _ _ (by decide) (by decide) (by decide) (by clear * -; revert c; decide +kernel) (by clear * -; revert c; decide +kernel))
  refine sendB_step (cont I) K c 0 O0 15 (by decide) R0 ?_ (by clear * -; revert c; decide +kernel) (fun h => sendsB (cont I) K c 0 _ _ (by decide) (by decide) (by decide) (by clear * -; revert c; decide +kernel) (by clear * -; revert c; decide +kernel))
  refine BIBase.Entails.trans ht0 ?_
  refine recvA_step (cont I) K X c 1 O1 hO1 0 (by decide) R1 ?_ (by clear * -; revert c; decide +kernel) (fun h => waitsRA K (cont I) c 0 1 (by decide))
  refine recvA_step (cont I) K X c 1 O1 hO1 1 (by decide) R1 ?_ (by clear * -; revert c; decide +kernel) (fun h => waitsRA K (cont I) c 1 1 (by decide))
  refine recvA_step (cont I) K X c 1 O1 hO1 2 (by decide) R1 ?_ (by clear * -; revert c; decide +kernel) (fun h => waitsRA K (cont I) c 2 1 (by decide))
  refine recvA_step (cont I) K X c 1 O1 hO1 3 (by decide) R1 ?_ (by clear * -; revert c; decide +kernel) (fun h => waitsRA K (cont I) c 3 1 (by decide))
  refine recvA_step (cont I) K X c 1 O1 hO1 4 (by decide) R1 ?_ (by clear * -; revert c; decide +kernel) (fun h => waitsRA K (cont I) c 4 1 (by decide))
  refine recvA_step (cont I) K X c 1 O1 hO1 5 (by decide) R1 ?_ (by clear * -; revert c; decide +kernel) (fun h => waitsRA K (cont I) c 5 1 (by decide))
  exact wp_end c hr

set_option maxHeartbeats 4000000 in
theorem part38_ok (c : Dev nD)  {R : sProp 𝕄} {Q : _ → sProp 𝕄} {O : OT} (hO : Above 2 O) (hr : ∀ r, StRA (cont I) K X c 1 O 16 R ⊢ Q r) :
    StRA (cont I) K X c 1 O 6 R ⊢ WP c (k0_part38 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) 6#32) Q := by
  rw [k0_part38_eq_skeleton]; unfold k0_part38_skel
  refine recvA_step (cont I) K X c 1 O hO 6 (by decide) R ?_ (by clear * -; revert c; decide +kernel) (fun h => waitsRA K (cont I) c 6 1 (by decide))
  refine recvA_step (cont I) K X c 1 O hO 7 (by decide) R ?_ (by clear * -; revert c; decide +kernel) (fun h => waitsRA K (cont I) c 7 1 (by decide))
  refine recvA_step (cont I) K X c 1 O hO 8 (by decide) R ?_ (by clear * -; revert c; decide +kernel) (fun h => waitsRA K (cont I) c 8 1 (by decide))
  refine recvA_step (cont I) K X c 1 O hO 9 (by decide) R ?_ (by clear * -; revert c; decide +kernel) (fun h => waitsRA K (cont I) c 9 1 (by decide))
  refine recvA_step (cont I) K X c 1 O hO 10 (by decide) R ?_ (by clear * -; revert c; decide +kernel) (fun h => waitsRA K (cont I) c 10 1 (by decide))
  refine recvA_step (cont I) K X c 1 O hO 11 (by decide) R ?_ (by clear * -; revert c; decide +kernel) (fun h => waitsRA K (cont I) c 11 1 (by decide))
  refine recvA_step (cont I) K X c 1 O hO 12 (by decide) R ?_ (by clear * -; revert c; decide +kernel) (fun h => waitsRA K (cont I) c 12 1 (by decide))
  refine recvA_step (cont I) K X c 1 O hO 13 (by decide) R ?_ (by clear * -; revert c; decide +kernel) (fun h => waitsRA K (cont I) c 13 1 (by decide))
  refine recvA_step (cont I) K X c 1 O hO 14 (by decide) R ?_ (by clear * -; revert c; decide +kernel) (fun h => waitsRA K (cont I) c 14 1 (by decide))
  refine recvA_step (cont I) K X c 1 O hO 15 (by decide) R ?_ (by clear * -; revert c; decide +kernel) (fun h => waitsRA K (cont I) c 15 1 (by decide))
  exact wp_end c (hr _)

set_option maxHeartbeats 4000000 in
theorem part43_ok (c : Dev nD)  {R : sProp 𝕄} {Q : _ → sProp 𝕄} {O : OT} (hr : ∀ r, StB (cont I) K c 1 O 5 R ⊢ Q r) :
    StB (cont I) K c 1 O 0 R ⊢ WP c (k0_part43 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c)) Q := by
  rw [k0_part43_eq_skeleton]; unfold k0_part43_skel
  refine sendB_step (cont I) K c 1 O 0 (by decide) R ?_ (by clear * -; revert c; decide +kernel) (fun h => sendsB (cont I) K c 1 _ _ (by decide) (by decide) (by decide) (by clear * -; revert c; decide +kernel) (by clear * -; revert c; decide +kernel))
  refine sendB_step (cont I) K c 1 O 1 (by decide) R ?_ (by clear * -; revert c; decide +kernel) (fun h => sendsB (cont I) K c 1 _ _ (by decide) (by decide) (by decide) (by clear * -; revert c; decide +kernel) (by clear * -; revert c; decide +kernel))
  refine sendB_step (cont I) K c 1 O 2 (by decide) R ?_ (by clear * -; revert c; decide +kernel) (fun h => sendsB (cont I) K c 1 _ _ (by decide) (by decide) (by decide) (by clear * -; revert c; decide +kernel) (by clear * -; revert c; decide +kernel))
  refine sendB_step (cont I) K c 1 O 3 (by decide) R ?_ (by clear * -; revert c; decide +kernel) (fun h => sendsB (cont I) K c 1 _ _ (by decide) (by decide) (by decide) (by clear * -; revert c; decide +kernel) (by clear * -; revert c; decide +kernel))
  refine sendB_step (cont I) K c 1 O 4 (by decide) R ?_ (by clear * -; revert c; decide +kernel) (fun h => sendsB (cont I) K c 1 _ _ (by decide) (by decide) (by decide) (by clear * -; revert c; decide +kernel) (by clear * -; revert c; decide +kernel))
  exact wp_end c (hr _)

set_option maxHeartbeats 4000000 in
theorem part44_ok (c : Dev nD) (v1305 : BitVec 32) {R : sProp 𝕄} {Q : _ → sProp 𝕄} {O : OT} (hr : ∀ r, StB (cont I) K c 1 O 10 R ⊢ Q r) :
    StB (cont I) K c 1 O 5 R ⊢ WP c (k0_part44 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1305) Q := by
  rw [k0_part44_eq_skeleton]; unfold k0_part44_skel
  refine sendB_step (cont I) K c 1 O 5 (by decide) R ?_ (by clear * -; revert c; decide +kernel) (fun h => sendsB (cont I) K c 1 _ _ (by decide) (by decide) (by decide) (by clear * -; revert c; decide +kernel) (by clear * -; revert c; decide +kernel))
  refine sendB_step (cont I) K c 1 O 6 (by decide) R ?_ (by clear * -; revert c; decide +kernel) (fun h => sendsB (cont I) K c 1 _ _ (by decide) (by decide) (by decide) (by clear * -; revert c; decide +kernel) (by clear * -; revert c; decide +kernel))
  refine sendB_step (cont I) K c 1 O 7 (by decide) R ?_ (by clear * -; revert c; decide +kernel) (fun h => sendsB (cont I) K c 1 _ _ (by decide) (by decide) (by decide) (by clear * -; revert c; decide +kernel) (by clear * -; revert c; decide +kernel))
  refine sendB_step (cont I) K c 1 O 8 (by decide) R ?_ (by clear * -; revert c; decide +kernel) (fun h => sendsB (cont I) K c 1 _ _ (by decide) (by decide) (by decide) (by clear * -; revert c; decide +kernel) (by clear * -; revert c; decide +kernel))
  refine sendB_step (cont I) K c 1 O 9 (by decide) R ?_ (by clear * -; revert c; decide +kernel) (fun h => sendsB (cont I) K c 1 _ _ (by decide) (by decide) (by decide) (by clear * -; revert c; decide +kernel) (by clear * -; revert c; decide +kernel))
  exact wp_end c (hr _)

set_option maxHeartbeats 4000000 in
theorem part45_ok (c : Dev nD) (v1327 : BitVec 32) {R : sProp 𝕄} {Q : _ → sProp 𝕄} {O : OT} (hr : ∀ r, StB (cont I) K c 1 O 14 R ⊢ Q r) :
    StB (cont I) K c 1 O 10 R ⊢ WP c (k0_part45 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1327) Q := by
  rw [k0_part45_eq_skeleton]; unfold k0_part45_skel
  refine sendB_step (cont I) K c 1 O 10 (by decide) R ?_ (by clear * -; revert c; decide +kernel) (fun h => sendsB (cont I) K c 1 _ _ (by decide) (by decide) (by decide) (by clear * -; revert c; decide +kernel) (by clear * -; revert c; decide +kernel))
  refine sendB_step (cont I) K c 1 O 11 (by decide) R ?_ (by clear * -; revert c; decide +kernel) (fun h => sendsB (cont I) K c 1 _ _ (by decide) (by decide) (by decide) (by clear * -; revert c; decide +kernel) (by clear * -; revert c; decide +kernel))
  refine sendB_step (cont I) K c 1 O 12 (by decide) R ?_ (by clear * -; revert c; decide +kernel) (fun h => sendsB (cont I) K c 1 _ _ (by decide) (by decide) (by decide) (by clear * -; revert c; decide +kernel) (by clear * -; revert c; decide +kernel))
  refine sendB_step (cont I) K c 1 O 13 (by decide) R ?_ (by clear * -; revert c; decide +kernel) (fun h => sendsB (cont I) K c 1 _ _ (by decide) (by decide) (by decide) (by clear * -; revert c; decide +kernel) (by clear * -; revert c; decide +kernel))
  exact wp_end c (hr _)

end Cert.Exchange

end
-- ==== Proof.GatherParts.lean ====
/-
# The gather, part by part
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

set_option maxHeartbeats 4000000 in
theorem part46_ok (c : Dev nD) (v1350 : BitVec 32) {R0 R1 : sProp 𝕄} {Q : _ → sProp 𝕄} {O0 : OT} (ht0 : StB (cont I) K c 1 O0 16 R0 ⊢ StG I K c 0 0 R1) (hr : StG I K c 0 7 R1 ⊢ Q (Scalar.cmpi .ne (v2w c) 7#32)) :
    StB (cont I) K c 1 O0 14 R0 ⊢ WP c (k0_part46 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1350) Q := by
  rw [k0_part46_eq_skeleton]; unfold k0_part46_skel
  refine sendB_step (cont I) K c 1 O0 14 (by decide) R0 ?_ (by clear * -; revert c; decide +kernel) (fun h => sendsB (cont I) K c 1 _ _ (by decide) (by decide) (by decide) (by clear * -; revert c; decide +kernel) (by clear * -; revert c; decide +kernel))
  refine sendB_step (cont I) K c 1 O0 15 (by decide) R0 ?_ (by clear * -; revert c; decide +kernel) (fun h => sendsB (cont I) K c 1 _ _ (by decide) (by decide) (by decide) (by clear * -; revert c; decide +kernel) (by clear * -; revert c; decide +kernel))
  refine BIBase.Entails.trans ht0 ?_
  refine gather_step I K c 0 0 (by decide) R1 ?_ (by clear * -; revert c; decide +kernel) (fun h => waitsRB K (cont I) c 0 0 (by decide)) (fun h => loads_squeezed (r := slotR (0, 0)) (hr := fun _ => rfl) (h := squeezes_S1x1x32x768_S32x768) c fullShare _) (fun h => loadsAny_out c _ _) (fun h => puts I c 0 0 (by clear * - h; revert c; decide +kernel) (by decide) rfl)
  refine gather_step I K c 0 1 (by decide) R1 ?_ (by clear * -; revert c; decide +kernel) (fun h => waitsRB K (cont I) c 1 0 (by decide)) (fun h => loads_squeezed (r := slotR (1, 0)) (hr := fun _ => rfl) (h := squeezes_S1x1x32x768_S32x768) c fullShare _) (fun h => loadsAny_out c _ _) (fun h => puts I c 0 1 (by clear * - h; revert c; decide +kernel) (by decide) rfl)
  refine gather_step I K c 0 2 (by decide) R1 ?_ (by clear * -; revert c; decide +kernel) (fun h => waitsRB K (cont I) c 2 0 (by decide)) (fun h => loads_squeezed (r := slotR (2, 0)) (hr := fun _ => rfl) (h := squeezes_S1x1x32x768_S32x768) c fullShare _) (fun h => loadsAny_out c _ _) (fun h => puts I c 0 2 (by clear * - h; revert c; decide +kernel) (by decide) rfl)
  refine gather_step I K c 0 3 (by decide) R1 ?_ (by clear * -; revert c; decide +kernel) (fun h => waitsRB K (cont I) c 3 0 (by decide)) (fun h => loads_squeezed (r := slotR (3, 0)) (hr := fun _ => rfl) (h := squeezes_S1x1x32x768_S32x768) c fullShare _) (fun h => loadsAny_out c _ _) (fun h => puts I c 0 3 (by clear * - h; revert c; decide +kernel) (by decide) rfl)
  refine gather_step I K c 0 4 (by decide) R1 ?_ (by clear * -; revert c; decide +kernel) (fun h => waitsRB K (cont I) c 4 0 (by decide)) (fun h => loads_squeezed (r := slotR (4, 0)) (hr := fun _ => rfl) (h := squeezes_S1x1x32x768_S32x768) c fullShare _) (fun h => loadsAny_out c _ _) (fun h => puts I c 0 4 (by clear * - h; revert c; decide +kernel) (by decide) rfl)
  refine gather_step I K c 0 5 (by decide) R1 ?_ (by clear * -; revert c; decide +kernel) (fun h => waitsRB K (cont I) c 5 0 (by decide)) (fun h => loads_squeezed (r := slotR (5, 0)) (hr := fun _ => rfl) (h := squeezes_S1x1x32x768_S32x768) c fullShare _) (fun h => loadsAny_out c _ _) (fun h => puts I c 0 5 (by clear * - h; revert c; decide +kernel) (by decide) rfl)
  refine gather_step I K c 0 6 (by decide) R1 ?_ (by clear * -; revert c; decide +kernel) (fun h => waitsRB K (cont I) c 6 0 (by decide)) (fun h => loads_squeezed (r := slotR (6, 0)) (hr := fun _ => rfl) (h := squeezes_S1x1x32x768_S32x768) c fullShare _) (fun h => loadsAny_out c _ _) (fun h => puts I c 0 6 (by clear * - h; revert c; decide +kernel) (by decide) rfl)
  exact wp_end c hr

set_option maxHeartbeats 4000000 in
theorem part47_ok (c : Dev nD)  {R0 R1 : sProp 𝕄} {Q : _ → sProp 𝕄} (ht0 : StG I K c 0 16 R0 ⊢ StG I K c 1 0 R1) (hr : StG I K c 1 1 R1 ⊢ Q (Scalar.cmpi .ne (v2w c) 1#32)) :
    StG I K c 0 7 R0 ⊢ WP c (k0_part47 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) (Scalar.cmpi .ne (v2w c) 7#32)) Q := by
  rw [k0_part47_eq_skeleton]; unfold k0_part47_skel
  refine gather_step I K c 0 7 (by decide) R0 ?_ (by clear * -; revert c; decide +kernel) (fun h => waitsRB K (cont I) c 7 0 (by decide)) (fun h => loads_squeezed (r := slotR (7, 0)) (hr := fun _ => rfl) (h := squeezes_S1x1x32x768_S32x768) c fullShare _) (fun h => loadsAny_out c _ _) (fun h => puts I c 0 7 (by clear * - h; revert c; decide +kernel) (by decide) rfl)
  refine gather_step I K c 0 8 (by decide) R0 ?_ (by clear * -; revert c; decide +kernel) (fun h => waitsRB K (cont I) c 8 0 (by decide)) (fun h => loads_squeezed (r := slotR (8, 0)) (hr := fun _ => rfl) (h := squeezes_S1x1x32x768_S32x768) c fullShare _) (fun h => loadsAny_out c _ _) (fun h => puts I c 0 8 (by clear * - h; revert c; decide +kernel) (by decide) rfl)
  refine gather_step I K c 0 9 (by decide) R0 ?_ (by clear * -; revert c; decide +kernel) (fun h => waitsRB K (cont I) c 9 0 (by decide)) (fun h => loads_squeezed (r := slotR (9, 0)) (hr := fun _ => rfl) (h := squeezes_S1x1x32x768_S32x768) c fullShare _) (fun h => loadsAny_out c _ _) (fun h => puts I c 0 9 (by clear * - h; revert c; decide +kernel) (by decide) rfl)
  refine gather_step I K c 0 10 (by decide) R0 ?_ (by clear * -; revert c; decide +kernel) (fun h => waitsRB K (cont I) c 10 0 (by decide)) (fun h => loads_squeezed (r := slotR (10, 0)) (hr := fun _ => rfl) (h := squeezes_S1x1x32x768_S32x768) c fullShare _) (fun h => loadsAny_out c _ _) (fun h => puts I c 0 10 (by clear * - h; revert c; decide +kernel) (by decide) rfl)
  refine gather_step I K c 0 11 (by decide) R0 ?_ (by clear * -; revert c; decide +kernel) (fun h => waitsRB K (cont I) c 11 0 (by decide)) (fun h => loads_squeezed (r := slotR (11, 0)) (hr := fun _ => rfl) (h := squeezes_S1x1x32x768_S32x768) c fullShare _) (fun h => loadsAny_out c _ _) (fun h => puts I c 0 11 (by clear * - h; revert c; decide +kernel) (by decide) rfl)
  refine gather_step I K c 0 12 (by decide) R0 ?_ (by clear * -; revert c; decide +kernel) (fun h => waitsRB K (cont I) c 12 0 (by decide)) (fun h => loads_squeezed (r := slotR (12, 0)) (hr := fun _ => rfl) (h := squeezes_S1x1x32x768_S32x768) c fullShare _) (fun h => loadsAny_out c _ _) (fun h => puts I c 0 12 (by clear * - h; revert c; decide +kernel) (by decide) rfl)
  refine gather_step I K c 0 13 (by decide) R0 ?_ (by clear * -; revert c; decide +kernel) (fun h => waitsRB K (cont I) c 13 0 (by decide)) (fun h => loads_squeezed (r := slotR (13, 0)) (hr := fun _ => rfl) (h := squeezes_S1x1x32x768_S32x768) c fullShare _) (fun h => loadsAny_out c _ _) (fun h => puts I c 0 13 (by clear * - h; revert c; decide +kernel) (by decide) rfl)
  refine gather_step I K c 0 14 (by decide) R0 ?_ (by clear * -; revert c; decide +kernel) (fun h => waitsRB K (cont I) c 14 0 (by decide)) (fun h => loads_squeezed (r := slotR (14, 0)) (hr := fun _ => rfl) (h := squeezes_S1x1x32x768_S32x768) c fullShare _) (fun h => loadsAny_out c _ _) (fun h => puts I c 0 14 (by clear * - h; revert c; decide +kernel) (by decide) rfl)
  refine gather_step I K c 0 15 (by decide) R0 ?_ (by clear * -; revert c; decide +kernel) (fun h => waitsRB K (cont I) c 15 0 (by decide)) (fun h => loads_squeezed (r := slotR (15, 0)) (hr := fun _ => rfl) (h := squeezes_S1x1x32x768_S32x768) c fullShare _) (fun h => loadsAny_out c _ _) (fun h => puts I c 0 15 (by clear * - h; revert c; decide +kernel) (by decide) rfl)
  refine BIBase.Entails.trans ht0 ?_
  refine gather_step I K c 1 0 (by decide) R1 ?_ (by clear * -; revert c; decide +kernel) (fun h => waitsRB K (cont I) c 0 1 (by decide)) (fun h => loads_squeezed (r := slotR (0, 1)) (hr := fun _ => rfl) (h := squeezes_S1x1x32x768_S32x768) c fullShare _) (fun h => loadsAny_out c _ _) (fun h => puts I c 1 0 (by clear * - h; revert c; decide +kernel) (by decide) rfl)
  exact wp_end c hr

set_option maxHeartbeats 4000000 in
theorem part48_ok (c : Dev nD)  {R : sProp 𝕄} {Q : _ → sProp 𝕄} (hr : StG I K c 1 11 R ⊢ Q (Scalar.cmpi .ne (v2w c) 11#32)) :
    StG I K c 1 1 R ⊢ WP c (k0_part48 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 (v2w c) (Scalar.cmpi .ne (v2w c) 1#32)) Q := by
  rw [k0_part48_eq_skeleton]; unfold k0_part48_skel
  refine gather_step I K c 1 1 (by decide) R ?_ (by clear * -; revert c; decide +kernel) (fun h => waitsRB K (cont I) c 1 1 (by decide)) (fun h => loads_squeezed (r := slotR (1, 1)) (hr := fun _ => rfl) (h := squeezes_S1x1x32x768_S32x768) c fullShare _) (fun h => loadsAny_out c _ _) (fun h => puts I c 1 1 (by clear * - h; revert c; decide +kernel) (by decide) rfl)
  refine gather_step I K c 1 2 (by decide) R ?_ (by clear * -; revert c; decide +kernel) (fun h => waitsRB K (cont I) c 2 1 (by decide)) (fun h => loads_squeezed (r := slotR (2, 1)) (hr := fun _ => rfl) (h := squeezes_S1x1x32x768_S32x768) c fullShare _) (fun h => loadsAny_out c _ _) (fun h => puts I c 1 2 (by clear * - h; revert c; decide +kernel) (by decide) rfl)
  refine gather_step I K c 1 3 (by decide) R ?_ (by clear * -; revert c; decide +kernel) (fun h => waitsRB K (cont I) c 3 1 (by decide)) (fun h => loads_squeezed (r := slotR (3, 1)) (hr := fun _ => rfl) (h := squeezes_S1x1x32x768_S32x768) c fullShare _) (fun h => loadsAny_out c _ _) (fun h => puts I c 1 3 (by clear * - h; revert c; decide +kernel) (by decide) rfl)
  refine gather_step I K c 1 4 (by decide) R ?_ (by clear * -; revert c; decide +kernel) (fun h => waitsRB K (cont I) c 4 1 (by decide)) (fun h => loads_squeezed (r := slotR (4, 1)) (hr := fun _ => rfl) (h := squeezes_S1x1x32x768_S32x768) c fullShare _) (fun h => loadsAny_out c _ _) (fun h => puts I c 1 4 (by clear * - h; revert c; decide +kernel) (by decide) rfl)
  refine gather_step I K c 1 5 (by decide) R ?_ (by clear * -; revert c; decide +kernel) (fun h => waitsRB K (cont I) c 5 1 (by decide)) (fun h => loads_squeezed (r := slotR (5, 1)) (hr := fun _ => rfl) (h := squeezes_S1x1x32x768_S32x768) c fullShare _) (fun h => loadsAny_out c _ _) (fun h => puts I c 1 5 (by clear * - h; revert c; decide +kernel) (by decide) rfl)
  refine gather_step I K c 1 6 (by decide) R ?_ (by clear * -; revert c; decide +kernel) (fun h => waitsRB K (cont I) c 6 1 (by decide)) (fun h => loads_squeezed (r := slotR (6, 1)) (hr := fun _ => rfl) (h := squeezes_S1x1x32x768_S32x768) c fullShare _) (fun h => loadsAny_out c _ _) (fun h => puts I c 1 6 (by clear * - h; revert c; decide +kernel) (by decide) rfl)
  refine gather_step I K c 1 7 (by decide) R ?_ (by clear * -; revert c; decide +kernel) (fun h => waitsRB K (cont I) c 7 1 (by decide)) (fun h => loads_squeezed (r := slotR (7, 1)) (hr := fun _ => rfl) (h := squeezes_S1x1x32x768_S32x768) c fullShare _) (fun h => loadsAny_out c _ _) (fun h => puts I c 1 7 (by clear * - h; revert c; decide +kernel) (by decide) rfl)
  refine gather_step I K c 1 8 (by decide) R ?_ (by clear * -; revert c; decide +kernel) (fun h => waitsRB K (cont I) c 8 1 (by decide)) (fun h => loads_squeezed (r := slotR (8, 1)) (hr := fun _ => rfl) (h := squeezes_S1x1x32x768_S32x768) c fullShare _) (fun h => loadsAny_out c _ _) (fun h => puts I c 1 8 (by clear * - h; revert c; decide +kernel) (by decide) rfl)
  refine gather_step I K c 1 9 (by decide) R ?_ (by clear * -; revert c; decide +kernel) (fun h => waitsRB K (cont I) c 9 1 (by decide)) (fun h => loads_squeezed (r := slotR (9, 1)) (hr := fun _ => rfl) (h := squeezes_S1x1x32x768_S32x768) c fullShare _) (fun h => loadsAny_out c _ _) (fun h => puts I c 1 9 (by clear * - h; revert c; decide +kernel) (by decide) rfl)
  refine gather_step I K c 1 10 (by decide) R ?_ (by clear * -; revert c; decide +kernel) (fun h => waitsRB K (cont I) c 10 1 (by decide)) (fun h => loads_squeezed (r := slotR (10, 1)) (hr := fun _ => rfl) (h := squeezes_S1x1x32x768_S32x768) c fullShare _) (fun h => loadsAny_out c _ _) (fun h => puts I c 1 10 (by clear * - h; revert c; decide +kernel) (by decide) rfl)
  exact wp_end c hr

set_option maxHeartbeats 4000000 in
theorem part49_ok (c : Dev nD)  {R0 R1 : sProp 𝕄} {Q : _ → sProp 𝕄} (ht0 : StG I K c 1 16 R0 ⊢ StSA (cont I) K c 0 0 R1) (hr : ∀ r, StSA (cont I) K c 0 3 R1 ⊢ Q r) :
    StG I K c 1 11 R0 ⊢ WP c (k0_part49 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) (Scalar.cmpi .ne (v2w c) 11#32)) Q := by
  rw [k0_part49_eq_skeleton]; unfold k0_part49_skel
  refine gather_step I K c 1 11 (by decide) R0 ?_ (by clear * -; revert c; decide +kernel) (fun h => waitsRB K (cont I) c 11 1 (by decide)) (fun h => loads_squeezed (r := slotR (11, 1)) (hr := fun _ => rfl) (h := squeezes_S1x1x32x768_S32x768) c fullShare _) (fun h => loadsAny_out c _ _) (fun h => puts I c 1 11 (by clear * - h; revert c; decide +kernel) (by decide) rfl)
  refine gather_step I K c 1 12 (by decide) R0 ?_ (by clear * -; revert c; decide +kernel) (fun h => waitsRB K (cont I) c 12 1 (by decide)) (fun h => loads_squeezed (r := slotR (12, 1)) (hr := fun _ => rfl) (h := squeezes_S1x1x32x768_S32x768) c fullShare _) (fun h => loadsAny_out c _ _) (fun h => puts I c 1 12 (by clear * - h; revert c; decide +kernel) (by decide) rfl)
  refine gather_step I K c 1 13 (by decide) R0 ?_ (by clear * -; revert c; decide +kernel) (fun h => waitsRB K (cont I) c 13 1 (by decide)) (fun h => loads_squeezed (r := slotR (13, 1)) (hr := fun _ => rfl) (h := squeezes_S1x1x32x768_S32x768) c fullShare _) (fun h => loadsAny_out c _ _) (fun h => puts I c 1 13 (by clear * - h; revert c; decide +kernel) (by decide) rfl)
  refine gather_step I K c 1 14 (by decide) R0 ?_ (by clear * -; revert c; decide +kernel) (fun h => waitsRB K (cont I) c 14 1 (by decide)) (fun h => loads_squeezed (r := slotR (14, 1)) (hr := fun _ => rfl) (h := squeezes_S1x1x32x768_S32x768) c fullShare _) (fun h => loadsAny_out c _ _) (fun h => puts I c 1 14 (by clear * - h; revert c; decide +kernel) (by decide) rfl)
  refine gather_step I K c 1 15 (by decide) R0 ?_ (by clear * -; revert c; decide +kernel) (fun h => waitsRB K (cont I) c 15 1 (by decide)) (fun h => loads_squeezed (r := slotR (15, 1)) (hr := fun _ => rfl) (h := squeezes_S1x1x32x768_S32x768) c fullShare _) (fun h => loadsAny_out c _ _) (fun h => puts I c 1 15 (by clear * - h; revert c; decide +kernel) (by decide) rfl)
  refine BIBase.Entails.trans ht0 ?_
  refine doneA_step (cont I) K c 0 0 (by decide) R1 ?_ (by clear * -; revert c; decide +kernel) (fun h => waitsSA K (cont I) c 0 0 (by decide))
  refine doneA_step (cont I) K c 0 1 (by decide) R1 ?_ (by clear * -; revert c; decide +kernel) (fun h => waitsSA K (cont I) c 1 0 (by decide))
  refine doneA_step (cont I) K c 0 2 (by decide) R1 ?_ (by clear * -; revert c; decide +kernel) (fun h => waitsSA K (cont I) c 2 0 (by decide))
  exact wp_end c (hr _)

end Cert.Exchange

end
-- ==== Proof.DoneParts.lean ====
/-
# The waits for the sends, part by part
-/
module

public import proofs.«01_k».proof.Proof.Gather

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

set_option maxHeartbeats 4000000 in
theorem part50_ok (c : Dev nD) (v1463 : BitVec 32) {R : sProp 𝕄} {Q : _ → sProp 𝕄} (hr : ∀ r, StSA (cont I) K c 0 10 R ⊢ Q r) :
    StSA (cont I) K c 0 3 R ⊢ WP c (k0_part50 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1463) Q := by
  rw [k0_part50_eq_skeleton]; unfold k0_part50_skel
  refine doneA_step (cont I) K c 0 3 (by decide) R ?_ (by clear * -; revert c; decide +kernel) (fun h => waitsSA K (cont I) c 3 0 (by decide))
  refine doneA_step (cont I) K c 0 4 (by decide) R ?_ (by clear * -; revert c; decide +kernel) (fun h => waitsSA K (cont I) c 4 0 (by decide))
  refine doneA_step (cont I) K c 0 5 (by decide) R ?_ (by clear * -; revert c; decide +kernel) (fun h => waitsSA K (cont I) c 5 0 (by decide))
  refine doneA_step (cont I) K c 0 6 (by decide) R ?_ (by clear * -; revert c; decide +kernel) (fun h => waitsSA K (cont I) c 6 0 (by decide))
  refine doneA_step (cont I) K c 0 7 (by decide) R ?_ (by clear * -; revert c; decide +kernel) (fun h => waitsSA K (cont I) c 7 0 (by decide))
  refine doneA_step (cont I) K c 0 8 (by decide) R ?_ (by clear * -; revert c; decide +kernel) (fun h => waitsSA K (cont I) c 8 0 (by decide))
  refine doneA_step (cont I) K c 0 9 (by decide) R ?_ (by clear * -; revert c; decide +kernel) (fun h => waitsSA K (cont I) c 9 0 (by decide))
  exact wp_end c (hr _)

set_option maxHeartbeats 4000000 in
theorem part51_ok (c : Dev nD) (v1483 : BitVec 1) {R : sProp 𝕄} {Q : _ → sProp 𝕄} (hr : ∀ r, StSA (cont I) K c 0 16 R ⊢ Q r) :
    StSA (cont I) K c 0 10 R ⊢ WP c (k0_part51 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1483) Q := by
  rw [k0_part51_eq_skeleton]; unfold k0_part51_skel
  refine doneA_step (cont I) K c 0 10 (by decide) R ?_ (by clear * -; revert c; decide +kernel) (fun h => waitsSA K (cont I) c 10 0 (by decide))
  refine doneA_step (cont I) K c 0 11 (by decide) R ?_ (by clear * -; revert c; decide +kernel) (fun h => waitsSA K (cont I) c 11 0 (by decide))
  refine doneA_step (cont I) K c 0 12 (by decide) R ?_ (by clear * -; revert c; decide +kernel) (fun h => waitsSA K (cont I) c 12 0 (by decide))
  refine doneA_step (cont I) K c 0 13 (by decide) R ?_ (by clear * -; revert c; decide +kernel) (fun h => waitsSA K (cont I) c 13 0 (by decide))
  refine doneA_step (cont I) K c 0 14 (by decide) R ?_ (by clear * -; revert c; decide +kernel) (fun h => waitsSA K (cont I) c 14 0 (by decide))
  refine doneA_step (cont I) K c 0 15 (by decide) R ?_ (by clear * -; revert c; decide +kernel) (fun h => waitsSA K (cont I) c 15 0 (by decide))
  exact wp_end c (hr _)

set_option maxHeartbeats 4000000 in
theorem part52_ok (c : Dev nD)  {R : sProp 𝕄} {Q : _ → sProp 𝕄} (hr : ∀ r, StSA (cont I) K c 1 7 R ⊢ Q r) :
    StSA (cont I) K c 1 0 R ⊢ WP c (k0_part52 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c)) Q := by
  rw [k0_part52_eq_skeleton]; unfold k0_part52_skel
  refine doneA_step (cont I) K c 1 0 (by decide) R ?_ (by clear * -; revert c; decide +kernel) (fun h => waitsSA K (cont I) c 0 1 (by decide))
  refine doneA_step (cont I) K c 1 1 (by decide) R ?_ (by clear * -; revert c; decide +kernel) (fun h => waitsSA K (cont I) c 1 1 (by decide))
  refine doneA_step (cont I) K c 1 2 (by decide) R ?_ (by clear * -; revert c; decide +kernel) (fun h => waitsSA K (cont I) c 2 1 (by decide))
  refine doneA_step (cont I) K c 1 3 (by decide) R ?_ (by clear * -; revert c; decide +kernel) (fun h => waitsSA K (cont I) c 3 1 (by decide))
  refine doneA_step (cont I) K c 1 4 (by decide) R ?_ (by clear * -; revert c; decide +kernel) (fun h => waitsSA K (cont I) c 4 1 (by decide))
  refine doneA_step (cont I) K c 1 5 (by decide) R ?_ (by clear * -; revert c; decide +kernel) (fun h => waitsSA K (cont I) c 5 1 (by decide))
  refine doneA_step (cont I) K c 1 6 (by decide) R ?_ (by clear * -; revert c; decide +kernel) (fun h => waitsSA K (cont I) c 6 1 (by decide))
  exact wp_end c (hr _)

set_option maxHeartbeats 4000000 in
theorem part53_ok (c : Dev nD) (v1523 : BitVec 32) {R : sProp 𝕄} {Q : _ → sProp 𝕄} (hr : ∀ r, StSA (cont I) K c 1 14 R ⊢ Q r) :
    StSA (cont I) K c 1 7 R ⊢ WP c (k0_part53 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1523) Q := by
  rw [k0_part53_eq_skeleton]; unfold k0_part53_skel
  refine doneA_step (cont I) K c 1 7 (by decide) R ?_ (by clear * -; revert c; decide +kernel) (fun h => waitsSA K (cont I) c 7 1 (by decide))
  refine doneA_step (cont I) K c 1 8 (by decide) R ?_ (by clear * -; revert c; decide +kernel) (fun h => waitsSA K (cont I) c 8 1 (by decide))
  refine doneA_step (cont I) K c 1 9 (by decide) R ?_ (by clear * -; revert c; decide +kernel) (fun h => waitsSA K (cont I) c 9 1 (by decide))
  refine doneA_step (cont I) K c 1 10 (by decide) R ?_ (by clear * -; revert c; decide +kernel) (fun h => waitsSA K (cont I) c 10 1 (by decide))
  refine doneA_step (cont I) K c 1 11 (by decide) R ?_ (by clear * -; revert c; decide +kernel) (fun h => waitsSA K (cont I) c 11 1 (by decide))
  refine doneA_step (cont I) K c 1 12 (by decide) R ?_ (by clear * -; revert c; decide +kernel) (fun h => waitsSA K (cont I) c 12 1 (by decide))
  refine doneA_step (cont I) K c 1 13 (by decide) R ?_ (by clear * -; revert c; decide +kernel) (fun h => waitsSA K (cont I) c 13 1 (by decide))
  exact wp_end c (hr _)

set_option maxHeartbeats 4000000 in
theorem part54_ok (c : Dev nD) (v1543 : BitVec 1) {R0 R1 : sProp 𝕄} {Q : _ → sProp 𝕄} (ht0 : StSA (cont I) K c 1 16 R0 ⊢ StSB (cont I) K c 0 0 R1) (hr : ∀ r, StSB (cont I) K c 0 4 R1 ⊢ Q r) :
    StSA (cont I) K c 1 14 R0 ⊢ WP c (k0_part54 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1543) Q := by
  rw [k0_part54_eq_skeleton]; unfold k0_part54_skel
  refine doneA_step (cont I) K c 1 14 (by decide) R0 ?_ (by clear * -; revert c; decide +kernel) (fun h => waitsSA K (cont I) c 14 1 (by decide))
  refine doneA_step (cont I) K c 1 15 (by decide) R0 ?_ (by clear * -; revert c; decide +kernel) (fun h => waitsSA K (cont I) c 15 1 (by decide))
  refine BIBase.Entails.trans ht0 ?_
  refine doneB_step (cont I) K c 0 0 (by decide) R1 ?_ (by clear * -; revert c; decide +kernel) (fun h => waitsSB K (cont I) c 0 0 (by decide))
  refine doneB_step (cont I) K c 0 1 (by decide) R1 ?_ (by clear * -; revert c; decide +kernel) (fun h => waitsSB K (cont I) c 1 0 (by decide))
  refine doneB_step (cont I) K c 0 2 (by decide) R1 ?_ (by clear * -; revert c; decide +kernel) (fun h => waitsSB K (cont I) c 2 0 (by decide))
  refine doneB_step (cont I) K c 0 3 (by decide) R1 ?_ (by clear * -; revert c; decide +kernel) (fun h => waitsSB K (cont I) c 3 0 (by decide))
  exact wp_end c (hr _)

set_option maxHeartbeats 4000000 in
theorem part55_ok (c : Dev nD)  {R : sProp 𝕄} {Q : _ → sProp 𝕄} (hr : ∀ r, StSB (cont I) K c 0 11 R ⊢ Q r) :
    StSB (cont I) K c 0 4 R ⊢ WP c (k0_part55 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c)) Q := by
  rw [k0_part55_eq_skeleton]; unfold k0_part55_skel
  refine doneB_step (cont I) K c 0 4 (by decide) R ?_ (by clear * -; revert c; decide +kernel) (fun h => waitsSB K (cont I) c 4 0 (by decide))
  refine doneB_step (cont I) K c 0 5 (by decide) R ?_ (by clear * -; revert c; decide +kernel) (fun h => waitsSB K (cont I) c 5 0 (by decide))
  refine doneB_step (cont I) K c 0 6 (by decide) R ?_ (by clear * -; revert c; decide +kernel) (fun h => waitsSB K (cont I) c 6 0 (by decide))
  refine doneB_step (cont I) K c 0 7 (by decide) R ?_ (by clear * -; revert c; decide +kernel) (fun h => waitsSB K (cont I) c 7 0 (by decide))
  refine doneB_step (cont I) K c 0 8 (by decide) R ?_ (by clear * -; revert c; decide +kernel) (fun h => waitsSB K (cont I) c 8 0 (by decide))
  refine doneB_step (cont I) K c 0 9 (by decide) R ?_ (by clear * -; revert c; decide +kernel) (fun h => waitsSB K (cont I) c 9 0 (by decide))
  refine doneB_step (cont I) K c 0 10 (by decide) R ?_ (by clear * -; revert c; decide +kernel) (fun h => waitsSB K (cont I) c 10 0 (by decide))
  exact wp_end c (hr _)

set_option maxHeartbeats 4000000 in
theorem part56_ok (c : Dev nD) (v1583 : BitVec 32) {R0 R1 : sProp 𝕄} {Q : _ → sProp 𝕄} (ht0 : StSB (cont I) K c 0 16 R0 ⊢ StSB (cont I) K c 1 0 R1) (hr : ∀ r, StSB (cont I) K c 1 2 R1 ⊢ Q r) :
    StSB (cont I) K c 0 11 R0 ⊢ WP c (k0_part56 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1583) Q := by
  rw [k0_part56_eq_skeleton]; unfold k0_part56_skel
  refine doneB_step (cont I) K c 0 11 (by decide) R0 ?_ (by clear * -; revert c; decide +kernel) (fun h => waitsSB K (cont I) c 11 0 (by decide))
  refine doneB_step (cont I) K c 0 12 (by decide) R0 ?_ (by clear * -; revert c; decide +kernel) (fun h => waitsSB K (cont I) c 12 0 (by decide))
  refine doneB_step (cont I) K c 0 13 (by decide) R0 ?_ (by clear * -; revert c; decide +kernel) (fun h => waitsSB K (cont I) c 13 0 (by decide))
  refine doneB_step (cont I) K c 0 14 (by decide) R0 ?_ (by clear * -; revert c; decide +kernel) (fun h => waitsSB K (cont I) c 14 0 (by decide))
  refine doneB_step (cont I) K c 0 15 (by decide) R0 ?_ (by clear * -; revert c; decide +kernel) (fun h => waitsSB K (cont I) c 15 0 (by decide))
  refine BIBase.Entails.trans ht0 ?_
  refine doneB_step (cont I) K c 1 0 (by decide) R1 ?_ (by clear * -; revert c; decide +kernel) (fun h => waitsSB K (cont I) c 0 1 (by decide))
  refine doneB_step (cont I) K c 1 1 (by decide) R1 ?_ (by clear * -; revert c; decide +kernel) (fun h => waitsSB K (cont I) c 1 1 (by decide))
  exact wp_end c (hr _)

set_option maxHeartbeats 4000000 in
theorem part57_ok (c : Dev nD) (v1603 : BitVec 1) {R : sProp 𝕄} {Q : _ → sProp 𝕄} (hr : ∀ r, StSB (cont I) K c 1 8 R ⊢ Q r) :
    StSB (cont I) K c 1 2 R ⊢ WP c (k0_part57 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c) v1603) Q := by
  rw [k0_part57_eq_skeleton]; unfold k0_part57_skel
  refine doneB_step (cont I) K c 1 2 (by decide) R ?_ (by clear * -; revert c; decide +kernel) (fun h => waitsSB K (cont I) c 2 1 (by decide))
  refine doneB_step (cont I) K c 1 3 (by decide) R ?_ (by clear * -; revert c; decide +kernel) (fun h => waitsSB K (cont I) c 3 1 (by decide))
  refine doneB_step (cont I) K c 1 4 (by decide) R ?_ (by clear * -; revert c; decide +kernel) (fun h => waitsSB K (cont I) c 4 1 (by decide))
  refine doneB_step (cont I) K c 1 5 (by decide) R ?_ (by clear * -; revert c; decide +kernel) (fun h => waitsSB K (cont I) c 5 1 (by decide))
  refine doneB_step (cont I) K c 1 6 (by decide) R ?_ (by clear * -; revert c; decide +kernel) (fun h => waitsSB K (cont I) c 6 1 (by decide))
  refine doneB_step (cont I) K c 1 7 (by decide) R ?_ (by clear * -; revert c; decide +kernel) (fun h => waitsSB K (cont I) c 7 1 (by decide))
  exact wp_end c (hr _)

set_option maxHeartbeats 4000000 in
theorem part58_ok (c : Dev nD)  {R : sProp 𝕄} {Q : _ → sProp 𝕄} (hr : ∀ r, StSB (cont I) K c 1 15 R ⊢ Q r) :
    StSB (cont I) K c 1 8 R ⊢ WP c (k0_part58 xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12 c (v2w c)) Q := by
  rw [k0_part58_eq_skeleton]; unfold k0_part58_skel
  refine doneB_step (cont I) K c 1 8 (by decide) R ?_ (by clear * -; revert c; decide +kernel) (fun h => waitsSB K (cont I) c 8 1 (by decide))
  refine doneB_step (cont I) K c 1 9 (by decide) R ?_ (by clear * -; revert c; decide +kernel) (fun h => waitsSB K (cont I) c 9 1 (by decide))
  refine doneB_step (cont I) K c 1 10 (by decide) R ?_ (by clear * -; revert c; decide +kernel) (fun h => waitsSB K (cont I) c 10 1 (by decide))
  refine doneB_step (cont I) K c 1 11 (by decide) R ?_ (by clear * -; revert c; decide +kernel) (fun h => waitsSB K (cont I) c 11 1 (by decide))
  refine doneB_step (cont I) K c 1 12 (by decide) R ?_ (by clear * -; revert c; decide +kernel) (fun h => waitsSB K (cont I) c 12 1 (by decide))
  refine doneB_step (cont I) K c 1 13 (by decide) R ?_ (by clear * -; revert c; decide +kernel) (fun h => waitsSB K (cont I) c 13 1 (by decide))
  refine doneB_step (cont I) K c 1 14 (by decide) R ?_ (by clear * -; revert c; decide +kernel) (fun h => waitsSB K (cont I) c 14 1 (by decide))
  exact wp_end c (hr _)

end Cert.Exchange

end
-- ==== Proof.Body.lean ====
/-
# The kernel's body
-/
module

public import proofs.«01_k».proof.Proof.Phases
public import proofs.«01_k».proof.Proof.BarParts
public import proofs.«01_k».proof.Proof.MixParts
public import proofs.«01_k».proof.Proof.SendParts
public import proofs.«01_k».proof.Proof.CastParts
public import proofs.«01_k».proof.Proof.GatherParts
public import proofs.«01_k».proof.Proof.DoneParts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## The start -/

def toksA (c : Dev nD) (b : Fin 2) : sProp 𝕄 := bigSep Finset.univ fun k : Fin 16 =>
  if owner k = c then iprop(emp) else iprop(dutyTok ER (sAC c k b) 0 0 ∗ dutyTok ER (rAC (owner k) c b) 0 0)
def toksB (c : Dev nD) (b : Fin 2) : sProp 𝕄 := bigSep Finset.univ fun d : Fin 16 =>
  if d = c then iprop(emp) else iprop(dutyTok ER (sBC c d b) 0 0 ∗ dutyTok ER (rBC d c b) 0 0)
def fA (c : Dev nD) (b : Fin 2) (d : Fin 16) : sProp 𝕄 := if d = c then iprop(emp) else anyAt d (slotA c b)
def fB (c : Dev nD) (b : Fin 2) (d : Fin 16) : sProp 𝕄 := if d = c then iprop(emp) else anyAt d (slotB c b)

/-- What the other devices' signals hand over, sorted by use. -/
theorem bar_slots (c : Dev nD) : (bigSep (Finset.univ.erase c) fun d => barPay (F := F) c d)
    ⊢ iprop((bigSep Finset.univ (fA c 0) ∗ bigSep Finset.univ (fA c 1)) ∗ (bigSep Finset.univ (fB c 0) ∗ bigSep Finset.univ (fB (F := F) c 1))) := by
  rw [← bigSep_sep', ← bigSep_sep', ← bigSep_sep', bigSep_univ_at _ c]
  iintro H
  isplitr
  · unfold fA fB; rw [if_pos rfl, if_pos rfl, if_pos rfl, if_pos rfl]
    isplitl
    · isplitl <;> iempintro
    · isplitl <;> iempintro
  · iapply (bmono (s := Finset.univ.erase c) (fun d hd => show barPay (F := F) c d ⊢ iprop((fA c 0 d ∗ fA c 1 d) ∗ (fB c 0 d ∗ fB c 1 d)) from by
      have hne := (Finset.mem_erase.mp hd).1
      unfold fA fB barPay; rw [if_neg hne, if_neg hne, if_neg hne, if_neg hne])) $$ H

theorem sideA_in (c : Dev nD) (b : Fin 2) : iprop(bigSep Finset.univ (fA (F := F) c b) ∗ toksA c b) ⊢ sA c b := by
  unfold toksA sA
  rw [bigSep_univ_equiv ownerEquiv (fA (F := F) c b), ← bigSep_sep']
  refine bmono (s := (Finset.univ : Finset (Fin 16))) fun k _ => ?_
  show iprop(fA c b (owner k) ∗ _) ⊢ _
  unfold fA sideA
  by_cases h : owner k = c
  · rw [if_pos h, if_pos h, if_pos h]; iintro -; iempintro
  · rw [if_neg h, if_neg h, if_neg h]
theorem sideB_in (c : Dev nD) (b : Fin 2) : iprop(bigSep Finset.univ (fB (F := F) c b) ∗ toksB c b) ⊢ sB c b := by
  unfold toksB sB
  rw [← bigSep_sep']
  refine bmono (s := (Finset.univ : Finset (Fin 16))) fun d _ => ?_
  unfold fB sideB
  by_cases h : d = c
  · rw [if_pos h, if_pos h, if_pos h]; iintro -; iempintro
  · rw [if_neg h, if_neg h, if_neg h]

/-- What the weights' copies use, and what the computation starts with. -/
def copyRes (c : Dev nD) (q : PosShare TreeShare) : sProp 𝕄 :=
  iprop(owns (c : Thread nD τ) (wqB c) q (I.wq c) ∗ owns (c : Thread nD τ) (woB c) q (I.wo c) ∗ anyAt c wqM ∗ anyAt c woM ∗ anyAt c wbM
    ∗ dutyTok ER (locC c 0) 0 0 ∗ dutyTok ER (locC c 1) 0 0 ∗ atPos ER (locC c 0) 0 ∅ 0 ∗ atPos ER (locC c 1) 0 ∅ 0)
def inRes (c : Dev nD) : sProp 𝕄 :=
  iprop(anyAt c ctxM ∗ owns (c : Thread nD τ) xM fullShare (I.x c) ∗ owns (c : Thread nD τ) kM fullShare (I.kk c) ∗ owns (c : Thread nD τ) vM fullShare (I.vv c))
/-- What waits for its use. -/
def bufRes (c : Dev nD) : sProp 𝕄 :=
  iprop(pA c 0 ∗ pA c 1 ∗ inA X c 0 ∗ inA X c 1 ∗ stE c 0 ∗ stE c 1 ∗ outP I c P0 ∗ inB c 0 ∗ inB c 1 ∗ posSA c 0 ∗ posSA c 1 ∗ posSB c 0 ∗ posSB c 1)
def tokRes (c : Dev nD) : sProp 𝕄 := iprop(toksA c 0 ∗ toksA c 1 ∗ toksB (F := F) c 0 ∗ toksB c 1)
def pre (c : Dev nD) (q : PosShare TreeShare) : sProp 𝕄 := iprop(copyRes I c q ∗ inRes I c ∗ bufRes I X c ∗ tokRes c)
def Rc (c : Dev nD) : sProp 𝕄 := iprop(ended (cont I) c none ∗ inRes I c ∗ bufRes I X c ∗ sA c 0 ∗ sA c 1 ∗ sB c 0 ∗ sB c 1)

theorem t8 (c : Dev nD) (q : PosShare TreeShare) :
    iprop(ctx (cont I) K ∗ (bigSep (Finset.univ.erase c) fun d => barPay c d) ∗ ended (cont I) c none ∗ owing c (O₁ c) ∗ pre I X c q) ⊢ copyPre I K c q (Rc I X c) := by
  unfold copyPre Rc pre copyRes tokRes
  iintro ⟨H1, H2, H3, H4, ⟨C1, C2, C3, C4, C5, C6, C7, C8, C9⟩, H6, H7, T1, T2, T3, T4⟩
  ihave H2 := (bar_slots c) $$ H2
  icases H2 with ⟨⟨A0, A1⟩, B0, B1⟩
  ihave A0 := (sideA_in c 0) $$ [A0 T1]
  · iframe
  ihave A1 := (sideA_in c 1) $$ [A1 T2]
  · iframe
  ihave B0 := (sideB_in c 0) $$ [B0 T3]
  · iframe
  ihave B1 := (sideB_in c 1) $$ [B1 T4]
  · iframe
  iframe
theorem t9 (c : Dev nD) : copyPost I K c (Rc I X c) ⊢ StC I c 0 (hs I c 0) (R₀ I K X c) := by
  refine BIBase.Entails.trans ?_ (stC_in I c _ _)
  unfold copyPost Rc inRes bufRes bun R₀ mid tail aside
  iintro ⟨H1, H2, H3, H4, H5, H6, H7, H8, ⟨H9, H10, H11, H12⟩, ⟨G1, G2, G3, G4, G5, G6, G7, G8, G9, G10, G11, G12, G13⟩, F1, F2, F3, F4⟩
  iframe

theorem p2_of (c : Dev nD) (b' : Fin 2) (k' : Fin 16) (h : P2 c b' k') : P1 c b' k' ∨ (b', k') = (1, mine c) := by
  rcases Fin.exists_fin_two.mp ⟨b', rfl⟩ with e | e
  · exact .inl ⟨e, h⟩
  · exact .inr (Prod.ext e h)

/-! ## The body -/

set_option maxHeartbeats 4000000 in
theorem body_core (c : Dev nD) (q : PosShare TreeShare) :
    StSig (cont I) K c 1 iprop(cred (tallyAt (barC c) () 15) ∗ atPos ER (barC c) 0 ∅ 0 ∗ pre I X c q)
      ⊢ WP c (cc0_body (F := F) xM (Memref.isWhole_whole _) wqH (Memref.isWhole_whole _) kM (Memref.isWhole_whole _) vM (Memref.isWhole_whole _) woH (Memref.isWhole_whole _) oM (Memref.isWhole_whole _) wqM (Memref.isWhole_whole _) woM (Memref.isWhole_whole _) wbM (Memref.isWhole_whole _) ctxM (Memref.isWhole_whole _) partM (Memref.isWhole_whole _) aM (Memref.isWhole_whole _) stM (Memref.isWhole_whole _) bM (Memref.isWhole_whole _) cc0_scratch8 cc0_scratch9 cc0_scratch10 cc0_scratch11 cc0_scratch12) (fun _ => fin I K X c) := by
  rw [cc0_body_eq_skeleton]; unfold cc0_body_skel
  rw [k0_part59_eq_skeleton]; unfold k0_part59_skel
  refine seq c ?_
  refine seq c (part1_ok c fun _ _ _ => ?_)
  refine seq c (part2_ok c _ _ _ _ _ fun _ _ _ => ?_)
  refine seq c (part3_ok (cont I) K c _ _ _ _ fun _ => ?_)
  refine seq c (part4_ok (cont I) K c _ _ fun _ => ?_)
  refine seq c (part5_ok (cont I) K c _ _ _ _ fun _ => ?_)
  refine seq c (part6_ok (cont I) K c _ _ fun _ => ?_)
  refine seq c (part7_ok (cont I) K c _ _ _ _ fun _ => ?_)
  refine seq c (part8_ok (cont I) K c _ _ ?_)
  refine (t8 I K X c q).trans ?_
  refine seq c (part9_ok I K c q ?_)
  refine (t9 I K X c).trans ?_
  refine seq c (part10_ok c ?_)
  refine seq c (part11_ok I c ?_)
  refine seq c (part12_ok I c ?_)
  refine seq c (part13_ok I c ?_)
  refine seq c (part14_ok I c ?_)
  refine seq c (part15_ok I c ?_)
  refine seq c (part16_ok I K c (t16 I K X c) (t16' I K X c) fun _ => ?_)
  refine seq c (part17_ok I K c _ fun _ => ?_)
  refine seq c (part18_ok I K c _ fun _ => ?_)
  refine seq c (part19_ok I K c _ (t19 I K X c) ?_)
  refine seq c (part20_ok I c ?_)
  refine seq c (part21_ok I c ?_)
  refine seq c (part22_ok I c ?_)
  refine seq c (part23_ok I c ?_)
  refine seq c (part24_ok I c (t24 I K X c) ?_)
  refine seq c (part25_ok I K c (t25 I K X c) fun _ => ?_)
  refine seq c (part26_ok I K c _ fun _ => ?_)
  refine seq c (part27_ok I K c _ fun _ => ?_)
  refine seq c (part28_ok I K X c _ (above_O₂ c) (t28 I K X c) fun _ => ?_)
  refine seq c (part29_ok I K X c (above_O₂ c) fun _ => ?_)
  refine seq c (part30_ok I K X c _ (above_O₂ c) ?_)
  refine seq c (part31_ok I K X c _ _ _ ?_)
  refine seq c (part32_ok I K X c _ _ ?_)
  refine seq c (part33_ok I K X c _ _ _ rfl (P := P0) (P' := P1 c) (fun b' k' h => .inr (Prod.ext h.1 h.2)) (t33 I K X c) ?_)
  refine (t33' I K X c).trans ?_
  refine seq c (part34_ok I K c _ fun _ => ?_)
  refine seq c (part35_ok I K c fun _ => ?_)
  refine seq c (part36_ok I K c _ fun _ => ?_)
  refine seq c (part37_ok I K X c _ _ (above_O₃ c) (t37 I K X c) ?_)
  refine seq c (part38_ok I K X c (above_O₃ c) fun _ => ?_)
  refine seq c (part39_ok I K X c _ ?_)
  refine seq c (part40_ok I K X c _ _ ?_)
  refine seq c (part41_ok I K X c _ _ _ _ ?_)
  refine seq c (part42_ok I K X c _ _ _ rfl (P := P1 c) (P' := P2 c) (p2_of c) (t42 I K X c) ?_)
  refine (t42' I K X c).trans ?_
  refine seq c (part43_ok I K c fun _ => ?_)
  refine seq c (part44_ok I K c _ fun _ => ?_)
  refine seq c (part45_ok I K c _ fun _ => ?_)
  refine seq c (part46_ok I K c _ (t46 I K X c) ?_)
  refine seq c (part47_ok I K c (t47 I K X c) ?_)
  refine seq c (part48_ok I K c ?_)
  refine seq c (part49_ok I K c (t49 I K X c) fun _ => ?_)
  refine seq c (part50_ok I K c _ fun _ => ?_)
  refine seq c (part51_ok I K c _ fun _ => ?_)
  refine (t51 I K X c).trans ?_
  refine seq c (part52_ok I K c fun _ => ?_)
  refine seq c (part53_ok I K c _ fun _ => ?_)
  refine seq c (part54_ok I K c _ (t54 I K X c) fun _ => ?_)
  refine seq c (part55_ok I K c fun _ => ?_)
  refine seq c (part56_ok I K c _ (t56 I K X c) fun _ => ?_)
  refine seq c (part57_ok I K c _ fun _ => ?_)
  refine seq c (part58_ok I K c fun _ => ?_)
  refine wp_end c ?_
  refine doneB_step (cont I) K c 1 15 (by decide) (R₁₃ I X c) ?_ (by clear * -; revert c; decide +kernel) (fun h => waitsSB K (cont I) c 15 1 (by decide))
  exact wp_end c (t59 I K X c)

end Cert.Exchange

end
-- ==== Proof.Close.lean ====
/-
# The kernel's exit: every cell closed, every buffer whole again
-/
module

public import proofs.«01_k».proof.Proof.Body
public import Idealize.ShloMosaic.Lib.Pipeline.TableIdle

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the cells -/

/-- One kind of the kernel's own cells, both batches. -/
def fam2 (Φ : OK → sProp 𝕄) (t : Fin 4) : sProp 𝕄 :=
  iprop((bigSep Finset.univ fun i : Fin 16 => Φ (.inr (t, i, 0))) ∗ bigSep Finset.univ fun i : Fin 16 => Φ (.inr (t, i, 1)))

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_two (Φ : Fin 2 → sProp 𝕄) : bigSep Finset.univ Φ = iprop(Φ 0 ∗ Φ 1) := BI.bigSep_fin_two Φ
omit [FloatOps F] in
theorem bigSep_rows {T : Type} [Fintype T] [DecidableEq T] (Φ : T × Fin 2 → sProp 𝕄) :
    bigSep Finset.univ Φ = iprop((bigSep Finset.univ fun i : T => Φ (i, 0)) ∗ bigSep Finset.univ fun i : T => Φ (i, 1)) := by
  rw [bigSep_univ_prod, ← bigSep_sep']
  exact bigSep_congr fun i _ => bigSep_two _
omit [FloatOps F] in
theorem ok_split (Φ : OK → sProp 𝕄) :
    bigSep Finset.univ Φ = iprop((Φ (.inl 0) ∗ Φ (.inl 1)) ∗ (fam2 Φ 0 ∗ fam2 Φ 1 ∗ fam2 Φ 2 ∗ fam2 Φ 3)) := by
  rw [bigSep_univ_sum, bigSep_two, bigSep_univ_prod, bigSep_four]
  simp only [bigSep_rows]; rfl
omit [FloatOps F] in
theorem ck_split (Φ : CK → sProp 𝕄) : bigSep Finset.univ Φ = iprop(Φ none ∗ bigSep Finset.univ fun k : OK => Φ (some k)) := by
  rw [bigSep_univ_at _ none, show (Finset.univ.erase (none : CK)) = Finset.univ.map Function.Embedding.some from by
    ext k; cases k <;> simp, bigSep_map]
  rfl

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (I : Inp F) (K : Dev nD × CK → ℕ) (X : Fin 2 → Vec F S32x768 .bf16)

/-! ## Closing the cells -/

theorem close_one (D : Cont F) (c : Dev nD) (k : CK) : iprop(ctx D K ∗ ended D c k) ⊢ |={Set.univ}=> semVal (kcell c k) 0 := by
  unfold ended
  iintro ⟨#Hc, ⟨%R, %hR, Ha⟩⟩
  ihave HI := (ctx_inv D K c k) $$ Hc
  iapply (Rounds.cell_close ER (Rd D) (Set.mem_univ (K (c, k))) (fun h => h) (R := R) hR)
  isplitr [Ha]; · iexact HI
  iexact Ha
theorem close_all (D : Cont F) (c : Dev nD) : iprop(ctx D K ∗ bigSep Finset.univ fun k : CK => ended D c k) ⊢ |={Set.univ}=> bigSep Finset.univ fun k : CK => semVal (kcell c k) 0 :=
  (with_persistent fun k _ => close_one K D c k).trans (bigSep_fupd _ _)

/-! ## Joining the buffers -/

instance elt_nonempty (e : EltTy) : Nonempty (Elt F e) := inferInstance

theorem gotA_out (c : Dev nD) (b : Fin 2) : gotA I X c b ⊢ iprop((bigSep Finset.univ fun s : Fin 16 => anyAt c (slotA s b)) ∗ bigSep Finset.univ fun s : Fin 16 => ended (cont I) c (some (.inr (1, s, b)))) := by
  unfold gotA; rw [← bigSep_sep']
  refine bmono (s := (Finset.univ : Finset (Fin 16))) fun s _ => ?_
  unfold gotAItem anyAt
  iintro ⟨H, He⟩
  isplitl [H]; · iexists _; iexact H
  iexact He
theorem gotB_out (c : Dev nD) (b : Fin 2) : gotB I c b ⊢ iprop((bigSep Finset.univ fun s : Fin 16 => anyAt c (slotB s b)) ∗ bigSep Finset.univ fun s : Fin 16 => ended (cont I) c (some (.inr (3, s, b)))) := by
  unfold gotB; rw [← bigSep_sep']
  exact bmono (s := (Finset.univ : Finset (Fin 16))) fun s _ => .rfl
theorem doneA_out (c : Dev nD) (b : Fin 2) : doneA I c b ⊢ iprop((bigSep Finset.univ fun s : Fin 16 => anyAt c (partC b s)) ∗ bigSep Finset.univ fun s : Fin 16 => ended (cont I) c (some (.inr (0, s, b)))) := by
  unfold doneA; rw [← bigSep_sep']
  exact bmono (s := (Finset.univ : Finset (Fin 16))) fun s _ => .rfl
theorem doneB_out (c : Dev nD) (b : Fin 2) : iprop(doneB I c b ∗ drop I c b) ⊢ iprop(anyAt c (stgC b) ∗ bigSep Finset.univ fun s : Fin 16 => ended (cont I) c (some (.inr (2, s, b)))) := by
  have h1 : doneB I c b ⊢ iprop((bigSep Finset.univ fun d : Fin 16 => owns (c : Thread nD τ) (stgC b) (bshare d) (rvV I c b)) ∗ bigSep Finset.univ fun s : Fin 16 => ended (cont I) c (some (.inr (2, s, b)))) := by
    unfold doneB; rw [← bigSep_sep']
    exact bmono (s := (Finset.univ : Finset (Fin 16))) fun s _ => .rfl
  have h2 : iprop(drop I c b ∗ bigSep Finset.univ fun d : Fin 16 => owns (c : Thread nD τ) (stgC b) (bshare d) (rvV I c b)) ⊢ owns (c : Thread nD τ) (stgC b) fullShare (rvV I c b) := by
    unfold drop; simp only [owns_eq_rep]
    exact Transfers.pointsTo_toks_join fullShare 16
  iintro ⟨H, HD⟩
  ihave H := h1 $$ H
  icases H with ⟨HT, HE⟩
  isplitr [HE]
  · unfold anyAt; iexists _; iapply h2
    isplitl [HD]; · iexact HD
    iexact HT
  iexact HE

theorem slots_join (c : Dev nD) (m : Memref sig .tc .vmem S16x2x32x768 .bf16) :
    iprop((bigSep Finset.univ fun s : Fin 16 => anyAt (F := F) c ((m.slice (slotR (s, 0)) (fun _ => rfl)).squeeze S32x768 squeezes_S1x1x32x768_S32x768))
      ∗ bigSep Finset.univ fun s : Fin 16 => anyAt (F := F) c ((m.slice (slotR (s, 1)) (fun _ => rfl)).squeeze S32x768 squeezes_S1x1x32x768_S32x768)) ⊢ anyAt c m := by
  refine BIBase.Entails.trans ?_ (any_join c m slotR (fun _ _ => rfl) slot_disj slot_cov (fun _ => Classical.choice (elt_nonempty _)))
  rw [bigSep_rows]
  iintro ⟨H0, H1⟩
  isplitl [H0]
  · iapply (bmono (s := (Finset.univ : Finset (Fin 16))) fun s _ => any_unsqueeze c (m.slice (slotR (s, 0)) (fun _ => rfl)) squeezes_S1x1x32x768_S32x768) $$ H0
  · iapply (bmono (s := (Finset.univ : Finset (Fin 16))) fun s _ => any_unsqueeze c (m.slice (slotR (s, 1)) (fun _ => rfl)) squeezes_S1x1x32x768_S32x768) $$ H1
theorem part_join (c : Dev nD) : iprop((bigSep Finset.univ fun s : Fin 16 => anyAt (F := F) c (partC 0 s)) ∗ bigSep Finset.univ fun s : Fin 16 => anyAt (F := F) c (partC 1 s)) ⊢ anyAt c partM := by
  refine BIBase.Entails.trans ?_ (any_join c partM chunkR (fun _ _ => rfl) chunk_disj chunk_cov (fun _ => Classical.choice (elt_nonempty _)))
  rw [bigSep_univ_prod, bigSep_two]
  iintro ⟨H0, H1⟩
  isplitl [H0]
  · iapply (bmono (s := (Finset.univ : Finset (Fin 16))) fun s _ => any_unsqueeze c (partM.slice (chunkR (0, s)) (fun _ => rfl)) squeezes_S1x32x768_S32x768) $$ H0
  · iapply (bmono (s := (Finset.univ : Finset (Fin 16))) fun s _ => any_unsqueeze c (partM.slice (chunkR (1, s)) (fun _ => rfl)) squeezes_S1x32x768_S32x768) $$ H1
theorem stage_join (c : Dev nD) : iprop(anyAt (F := F) c (stgC 0) ∗ anyAt (F := F) c (stgC 1)) ⊢ anyAt c stM := by
  refine BIBase.Entails.trans ?_ (any_join c stM stageR (fun _ _ => rfl) stage_disj stage_cov (fun _ => Classical.choice (elt_nonempty _)))
  rw [bigSep_two]
  iintro ⟨H0, H1⟩
  isplitl [H0]
  · iapply (any_unsqueeze c (stM.slice (stageR 0) (fun _ => rfl)) squeezes_S1x32x768_S32x768); iexact H0
  · iapply (any_unsqueeze c (stM.slice (stageR 1) (fun _ => rfl)) squeezes_S1x32x768_S32x768); iexact H1

/-! ## The result -/

/-- The result's staged contents: chunk by chunk. -/
def outF (c : Dev nD) : Vec F S2x512x768 .f32 := fun i =>
  outV I c (⟨(i 0).val, (i 0).isLt⟩ : Fin 2) ⟨(i 1).val / 32, by have h : (i 1).val < 512 := (i 1).isLt; omega⟩
    (ValueIdx.ix3 (0 : Fin 1) (⟨(i 1).val % 32, by omega⟩ : Fin 32) (⟨(i 2).val, (i 2).isLt⟩ : Fin 768))

theorem outF_eq (c : Dev nD) (Y : Vec F S2x512x768 .f32) (h : ∀ b k, Pn c 32 b k → ∀ j, Y ((chunkR (b, k)).emb j) = outV I c b k j) : Y = outF I c := by
  funext i
  have h1 : (i 1).val < 512 := (i 1).isLt
  unfold outF
  rw [← h _ _ (.inr (by
    show 16 * (i 0).val + (owner _).val < 32
    have h0 : (i 0).val < 2 := (i 0).isLt
    have := owner_lt (⟨(i 1).val / 32, by omega⟩ : Fin 16); omega))]
  congr 1
  refine funext fun a => Fin.ext ?_
  fin_cases a
  · show (i 0).val = (i 0).val + 1 * 0; omega
  · show (i 1).val = 32 * ((i 1).val / 32) + 1 * ((i 1).val % 32); omega
  · show (i 2).val = 0 + 1 * (i 2).val; omega
theorem out_done (c : Dev nD) : outP I c (Pn c 32) ⊢ owns (c : Thread nD τ) oM fullShare (outF I c) := by
  unfold outP outAt
  iintro ⟨%Y, %hY, H⟩
  rw [outF_eq I c Y hY]
  iexact H

/-! ## What the body leaves, sorted -/

/-- The kernel's scratch buffers, whole. -/
def scr (c : Dev nD) : sProp 𝕄 :=
  iprop(anyAt (F := F) c wqM ∗ anyAt c woM ∗ anyAt c wbM ∗ anyAt c ctxM ∗ anyAt c partM ∗ anyAt c aM ∗ anyAt c stM ∗ anyAt c bM)

theorem any_of (c : Dev nD) {sp : Space} {s : Shape} {e : EltTy} (m : Memref sig .tc sp s e) (Y : Vec F s e) : (owns (c : Thread nD τ) m fullShare Y : sProp 𝕄) ⊢ anyAt c m := by
  unfold anyAt; iintro H; iexists Y; iexact H

set_option maxHeartbeats 1000000 in
theorem fin_sorted (c : Dev nD) : fin I K X c ⊢ iprop((ctx (cont I) K ∗ bigSep Finset.univ fun k : CK => ended (cont I) c k) ∗ owing c 0 ∗ scr c
    ∗ owns (c : Thread nD τ) xM fullShare (I.x c) ∗ owns (c : Thread nD τ) kM fullShare (I.kk c) ∗ owns (c : Thread nD τ) vM fullShare (I.vv c) ∗ owns (c : Thread nD τ) oM fullShare (outF I c)) := by
  rw [ck_split, ok_split]
  unfold fin bagO bag bun aside scr fam2
  iintro ⟨#Hc, HO, ⟨⟨⟨B1, B2, B3, B4, B5, B6⟩, ⟨A1, A2, A3, A4⟩, GA0, GA1, D0, D1⟩, GB0, GB1, HP⟩, DA0, DA1, DB0, DB1⟩
  ihave GA0 := (gotA_out I X c 0) $$ GA0
  icases GA0 with ⟨a0, ea0⟩
  ihave GA1 := (gotA_out I X c 1) $$ GA1
  icases GA1 with ⟨a1, ea1⟩
  ihave GB0 := (gotB_out I c 0) $$ GB0
  icases GB0 with ⟨b0, eb0⟩
  ihave GB1 := (gotB_out I c 1) $$ GB1
  icases GB1 with ⟨b1, eb1⟩
  ihave DA0 := (doneA_out I c 0) $$ DA0
  icases DA0 with ⟨p0, ep0⟩
  ihave DA1 := (doneA_out I c 1) $$ DA1
  icases DA1 with ⟨p1, ep1⟩
  ihave DB0 := (doneB_out I c 0) $$ [DB0 D0]
  · iframe
  icases DB0 with ⟨s0, es0⟩
  ihave DB1 := (doneB_out I c 1) $$ [DB1 D1]
  · iframe
  icases DB1 with ⟨s1, es1⟩
  ihave HA := (slots_join c aM) $$ [a0 a1]
  · iframe
  ihave HB := (slots_join c bM) $$ [b0 b1]
  · iframe
  ihave HPt := (part_join c) $$ [p0 p1]
  · iframe
  ihave HS := (stage_join c) $$ [s0 s1]
  · iframe
  ihave HP := (out_done I c) $$ HP
  ihave B5 := (any_of c wqM _) $$ B5
  ihave B6 := (any_of c wbM _) $$ B6
  ihave A4 := (any_of c woM _) $$ A4
  iframe
  iexact Hc

/-- What the body leaves: every cell closed, the inputs as they were, the result in place, the scratch buffers whole. -/
theorem fin_close (c : Dev nD) : fin I K X c ⊢ |={Set.univ}=> iprop((bigSep Finset.univ fun k : CK => semVal (kcell c k) 0) ∗ owing c 0 ∗ scr c
    ∗ owns (c : Thread nD τ) xM fullShare (I.x c) ∗ owns (c : Thread nD τ) kM fullShare (I.kk c) ∗ owns (c : Thread nD τ) vM fullShare (I.vv c) ∗ owns (c : Thread nD τ) oM fullShare (outF I c)) := by
  refine (fin_sorted I K X c).trans ?_
  iintro ⟨HE, HR⟩
  imod (close_all K (cont I) c) $$ HE with HE
  imodintro
  isplitl [HE]; · iexact HE
  iexact HR

end Cert.Exchange

end
-- ==== Proof.Deal.lean ====
/-
# What each device starts with: its positions, tokens, credits and landing slots, dealt from the launch
-/
module

public import proofs.«01_k».proof.Proof.Close

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ) (X : Fin 2 → Vec F S32x768 .bf16)

/-! ## The duty tokens -/

/-- Every token of a device's own cells. -/
def tokAll (c : Dev nD) : sProp 𝕄 := bigSep Finset.univ fun k : CK => bigSep Finset.univ fun d : Fin 16 => dutyTok ER (kcell c k) 0 d
/-- The tokens of its signals. -/
def barToks (c : Dev nD) : sProp 𝕄 := bigSep Finset.univ fun j : Fin 16 => dutyTok ER (barC (hop c j)) 0 c
/-- The tokens a device pays with. -/
def dealt (c : Dev nD) : sProp 𝕄 := iprop(barToks (F := F) c ∗ (dutyTok ER (locC c 0) 0 0 ∗ dutyTok ER (locC c 1) 0 0) ∗ tokRes c)

/-- The first token of a device's cell. -/
abbrev tok0 (c : Dev nD) (k : OK) : sProp 𝕄 := dutyTok ER (kcell c (some k)) 0 0

theorem tokAll_out (c : Dev nD) : tokAll (F := F) c ⊢ iprop((bigSep Finset.univ fun d : Dev nD => dutyTok ER (barC c) 0 d)
    ∗ (tok0 c (.inl 0) ∗ tok0 c (.inl 1)) ∗ (fam2 (tok0 c) 0 ∗ fam2 (tok0 c) 1 ∗ fam2 (tok0 c) 2 ∗ fam2 (tok0 c) 3)) := by
  unfold tokAll
  rw [ck_split]
  have h : (bigSep Finset.univ fun k : OK => bigSep Finset.univ fun d : Fin 16 => dutyTok ER (kcell c (some k)) 0 d) ⊢ (bigSep Finset.univ (tok0 (F := F) c)) :=
    bmono (s := (Finset.univ : Finset OK)) fun k _ => bigSep_elim (Finset.mem_univ (0 : Fin 16))
  rw [ok_split (tok0 c)] at h
  iintro ⟨H1, H2⟩
  isplitl [H1]; · iexact H1
  iapply h; iexact H2

def hopEquiv (c : Dev nD) : Fin 16 ≃ Dev nD := Equiv.addLeft (show Fin 16 from c)

theorem swap (Φ : Dev nD → Dev nD → sProp 𝕄) : (bigSep Finset.univ fun c : Dev nD => bigSep Finset.univ fun i : Dev nD => Φ c i)
    = bigSep Finset.univ fun c : Dev nD => bigSep Finset.univ fun i : Dev nD => Φ i c := BI.bigSep_univ_comm _

/-- One family of tokens, handed to the device its index names. -/
theorem swap_fam (t : Fin 4) (b : Fin 2) : (bigSep Finset.univ fun c : Dev nD => bigSep Finset.univ fun i : Fin 16 => tok0 (F := F) c (.inr (t, i, b)))
    = bigSep Finset.univ fun c : Dev nD => bigSep Finset.univ fun i : Dev nD => tok0 (F := F) i (.inr (t, c, b)) :=
  swap fun c i => tok0 c (.inr (t, i, b))

theorem toksA_in (c : Dev nD) (b : Fin 2) :
    iprop((bigSep Finset.univ fun i : Fin 16 => tok0 (F := F) c (.inr (0, i, b))) ∗ bigSep Finset.univ fun i : Dev nD => tok0 (F := F) i (.inr (1, c, b))) ⊢ toksA c b := by
  unfold toksA
  rw [bigSep_univ_equiv ownerEquiv (fun i : Dev nD => tok0 (F := F) i (.inr (1, c, b))), ← bigSep_sep']
  refine bmono (s := (Finset.univ : Finset (Fin 16))) fun k _ => ?_
  split
  · iintro -; iempintro
  · exact .rfl
theorem toksB_in (c : Dev nD) (b : Fin 2) :
    iprop((bigSep Finset.univ fun i : Fin 16 => tok0 (F := F) c (.inr (2, i, b))) ∗ bigSep Finset.univ fun i : Dev nD => tok0 (F := F) i (.inr (3, c, b))) ⊢ toksB c b := by
  unfold toksB
  have h : iprop((bigSep Finset.univ fun i : Fin 16 => tok0 (F := F) c (.inr (2, i, b))) ∗ bigSep Finset.univ fun i : Fin 16 => tok0 (F := F) i (.inr (3, c, b)))
      ⊢ bigSep Finset.univ fun d : Fin 16 => if d = c then iprop(emp) else iprop(dutyTok ER (sBC c d b) 0 0 ∗ dutyTok ER (rBC d c b) 0 0) := by
    rw [← bigSep_sep']
    refine bmono (s := (Finset.univ : Finset (Fin 16))) fun k _ => ?_
    split
    · iintro -; iempintro
    · exact .rfl
  exact h

theorem toks_around : (bigSep Finset.univ fun c : Dev nD => tokAll (F := F) c) ⊢ bigSep Finset.univ fun c : Dev nD => dealt (F := F) c := by
  refine (bmono (s := (Finset.univ : Finset (Dev nD))) fun c _ => tokAll_out c).trans ?_
  unfold fam2
  simp only [bigSep_sep']
  rw [swap fun c d => dutyTok ER (barC c) 0 d, swap_fam 1 0, swap_fam 1 1, swap_fam 3 0, swap_fam 3 1]
  simp only [← bigSep_sep']
  refine bmono (s := (Finset.univ : Finset (Dev nD))) fun c _ => ?_
  unfold dealt barToks tokRes
  rw [bigSep_univ_equiv (hopEquiv c) (fun d : Dev nD => dutyTok ER (barC d) 0 c)]
  simp only [bigSep_sep']
  iintro ⟨H1, ⟨H2, H3⟩, ⟨⟨s0, s1⟩, ⟨r0, r1⟩, ⟨t0, t1⟩, ⟨u0, u1⟩⟩⟩
  ihave A0 := (toksA_in c 0) $$ [s0 r0]
  · iframe
  ihave A1 := (toksA_in c 1) $$ [s1 r1]
  · iframe
  ihave B0 := (toksB_in c 0) $$ [t0 u0]
  · iframe
  ihave B1 := (toksB_in c 1) $$ [t1 u1]
  · iframe
  isplitl [H1]; · iexact H1
  iframe

/-! ## The credits -/

omit [FloatOps F] in
theorem kcell_eq {c c' : Dev nD} {k k' : CK} : Iff (kcell c k = kcell c' k') (c = c' ∧ k = k') :=
  ⟨fun h => by have := kcell_injective (a₁ := (c, k)) (a₂ := (c', k')) h; exact ⟨congrArg Prod.fst this, congrArg Prod.snd this⟩, fun ⟨h, h'⟩ => by rw [h, h']⟩

theorem tally_at (S : Finset (Fin 16)) (f : Fin 16 → Dev nD) (k k' : Fin 16 → CK) (n : ℕ) (c : Dev nD) (k₀ : CK) :
    (∑ j ∈ S, (tallyAt (kcell (f j) (k j)) () n : OT)) (kcell c k₀) () = ∑ j ∈ S, if c = f j ∧ k₀ = k j then n else 0 := by
  rw [Finset.sum_apply, Finsupp.finset_sum_apply]
  refine Finset.sum_congr rfl fun j _ => ?_
  rw [tallyAt_apply]
  exact if_congr ⟨fun h => kcell_eq.mp h.1, fun h => ⟨kcell_eq.mpr h, rfl⟩⟩ rfl rfl

theorem OB_at (d c : Dev nD) (k : CK) : OB d 0 (kcell c k) () = if k = none ∧ d ≠ c then 1 else 0 := by
  unfold OB
  rw [tally_at _ (fun j => hop d j) (fun _ => none) (fun _ => none)]
  by_cases hk : k = none
  · subst hk
    have h : ∀ j, (if c = hop d j ∧ (none : CK) = none then 1 else 0) = (if c = hop d j then 1 else 0 : ℕ) := fun j => if_congr ⟨fun h => h.1, fun h => ⟨h, rfl⟩⟩ rfl rfl
    have h' : (if (none : CK) = none ∧ d ≠ c then 1 else 0) = (if d ≠ c then 1 else 0 : ℕ) := if_congr ⟨fun h => h.2, fun h => ⟨rfl, h⟩⟩ rfl rfl
    rw [h']; simp only [h]
    revert d c; decide +kernel
  · rw [if_neg (fun h => hk h.1)]
    exact Finset.sum_eq_zero fun j _ => if_neg fun h => hk h.2

theorem OA_at (d c : Dev nD) (b' : Fin 2) (k : CK) : OA d b' 0 (kcell c k) () = if k = some (.inr (1, d, b')) ∧ d ≠ c then NA else 0 := by
  unfold OA
  rw [tally_at _ (fun k => owner k) (fun _ => some (.inr (1, d, b'))) (fun _ => none)]
  by_cases hk : k = some (.inr (1, d, b')) ∧ d ≠ c
  · obtain ⟨rfl, hc⟩ := hk
    rw [if_pos ⟨rfl, hc⟩, Finset.sum_eq_single (mine c)]
    · rw [if_pos ⟨(owner_mine c).symm, rfl⟩]
    · intro j _ hj; exact if_neg fun h => hj (by rw [h.1, mine_owner])
    · intro h; refine absurd (Finset.mem_filter.mpr ⟨Finset.mem_univ _, Nat.zero_le _, ?_⟩) h
      rw [owner_mine]; exact fun h => hc h.symm
  · rw [if_neg hk]
    refine Finset.sum_eq_zero fun j hj => if_neg fun h => hk ⟨h.2, ?_⟩
    have := (Finset.mem_filter.mp hj).2.2
    rw [h.1]; exact fun e => this e.symm

theorem OC_at (d c : Dev nD) (b' : Fin 2) (k : CK) : OC d b' 0 (kcell c k) () = if k = some (.inr (3, d, b')) ∧ d ≠ c then NB else 0 := by
  unfold OC
  rw [tally_at _ (fun k => k) (fun _ => some (.inr (3, d, b'))) (fun _ => none)]
  by_cases hk : k = some (.inr (3, d, b')) ∧ d ≠ c
  · obtain ⟨rfl, hc⟩ := hk
    rw [if_pos ⟨rfl, hc⟩, Finset.sum_eq_single (show Fin 16 from c)]
    · rw [if_pos ⟨rfl, rfl⟩]
    · intro j _ hj; exact if_neg fun h => hj h.1.symm
    · intro h; exact absurd (Finset.mem_filter.mpr ⟨Finset.mem_univ _, Nat.zero_le _, fun h => hc h.symm⟩) h
  · rw [if_neg hk]
    refine Finset.sum_eq_zero fun j hj => if_neg fun h => hk ⟨h.2, ?_⟩
    have := (Finset.mem_filter.mp hj).2.2
    rw [h.1]; exact fun e => this e.symm

theorem O₀_at (d c : Dev nD) (k : CK) : O₀ d (kcell c k) () = (if k = none ∧ d ≠ c then 1 else 0) + ((if k = some (.inr (1, d, 0)) ∧ d ≠ c then NA else 0)
    + ((if k = some (.inr (1, d, 1)) ∧ d ≠ c then NA else 0) + ((if k = some (.inr (3, d, 0)) ∧ d ≠ c then NB else 0) + (if k = some (.inr (3, d, 1)) ∧ d ≠ c then NB else 0)))) := by
  unfold O₀ O₁ O₂ O₃
  simp only [Pi.add_apply, Finsupp.add_apply, OB_at, OA_at, OC_at]

theorem owed_bar (c : Dev nD) : (∑ d : Dev nD, O₀ d (barC c) ()) = 15 := by
  have h : ∀ d, O₀ d (barC c) () = if d ≠ c then 1 else 0 := fun d => by
    rw [O₀_at]; simp
  rw [Finset.sum_congr rfl fun d _ => h d]
  clear h; revert c; decide +kernel
theorem owed_rA (c s : Dev nD) (b : Fin 2) (hs : s ≠ c) : (∑ d : Dev nD, O₀ d (rAC c s b) ()) = NA := by
  rw [Finset.sum_eq_single s]
  · rw [O₀_at]
    rcases Fin.exists_fin_two.mp ⟨b, rfl⟩ with rfl | rfl <;> simp [hs]
  · intro d _ hd
    rw [O₀_at]
    simp only [Option.some.injEq, Sum.inr.injEq, Prod.mk.injEq]
    simp [Ne.symm hd]
  · intro h; exact absurd (Finset.mem_univ _) h
theorem owed_rB (c s : Dev nD) (b : Fin 2) (hs : s ≠ c) : (∑ d : Dev nD, O₀ d (rBC c s b) ()) = NB := by
  rw [Finset.sum_eq_single s]
  · rw [O₀_at]
    rcases Fin.exists_fin_two.mp ⟨b, rfl⟩ with rfl | rfl <;> simp [hs]
  · intro d _ hd
    rw [O₀_at]
    simp only [Option.some.injEq, Sum.inr.injEq, Prod.mk.injEq]
    simp [Ne.symm hd]
  · intro h; exact absurd (Finset.mem_univ _) h

/-- The credit of one cell at launch. -/
def credOf (c : Dev nD) (k : CK) : sProp 𝕄 :=
  cred (tallyOn (kcell c k) (launchCredit (Pipeline.owing O₀) 0 (kcell c k)))
theorem cred_at (c : Dev nD) (k : CK) (n : ℕ) (h : (∑ d : Dev nD, O₀ d (kcell c k) ()) = n) : credOf (F := F) c k ⊢ cred (tallyAt (kcell c k) () n) := by
  unfold credOf
  refine Entails.of_eq (congrArg _ ?_)
  unfold tallyAt; refine congrArg _ (Finsupp.ext fun u => ?_); cases u
  rw [Pipeline.launchCredit_owing, Finsupp.single_eq_same, h]

/-- The credits of a receive family: one from each other device. -/
def credFam (c : Dev nD) (t : Fin 4) (N : ℕ) (b : Fin 2) : sProp 𝕄 :=
  bigSep Finset.univ fun s : Fin 16 => if s = c then iprop(emp) else cred (tallyAt (kcell c (some (.inr (t, s, b)))) () N)
def creds (c : Dev nD) : sProp 𝕄 :=
  iprop(cred (tallyAt (barC c) () 15) ∗ (credFam (F := F) c 1 NA 0 ∗ credFam c 1 NA 1) ∗ (credFam c 3 NB 0 ∗ credFam c 3 NB 1))

theorem credFam_in (c : Dev nD) (t : Fin 4) (N : ℕ) (b : Fin 2) (h : ∀ s : Fin 16, s ≠ c → (∑ d : Dev nD, O₀ d (kcell c (some (.inr (t, s, b)))) ()) = N) :
    (bigSep Finset.univ fun s : Fin 16 => credOf (F := F) c (some (.inr (t, s, b)))) ⊢ credFam c t N b := by
  unfold credFam
  refine bmono (s := (Finset.univ : Finset (Fin 16))) fun s _ => ?_
  by_cases hs : s = c
  · rw [if_pos hs]; iintro -; iempintro
  · rw [if_neg hs]; exact cred_at c _ N (h s hs)

theorem creds_in (c : Dev nD) : (Pipeline.launchCred O₀ c : sProp 𝕄) ⊢ creds c := by
  have h : (Pipeline.launchCred O₀ c : sProp 𝕄) ⊢ bigSep Finset.univ (credOf (F := F) c) := by
    unfold Pipeline.launchCred
    refine (BI.bigSep_subset (Finset.subset_univ (Finset.univ.map ⟨csem, csem_injective⟩))).trans ?_
    rw [bigSep_map]
    exact bmono (s := (Finset.univ : Finset CK)) fun k _ => .rfl
  refine h.trans ?_
  rw [ck_split, ok_split]
  unfold fam2 creds
  iintro ⟨H0, -, -, ⟨A0, A1⟩, -, B0, B1⟩
  ihave H0 := (cred_at c none 15 (owed_bar c)) $$ H0
  ihave A0 := (credFam_in c 1 NA 0 fun s hs => owed_rA c s 0 hs) $$ A0
  ihave A1 := (credFam_in c 1 NA 1 fun s hs => owed_rA c s 1 hs) $$ A1
  ihave B0 := (credFam_in c 3 NB 0 fun s hs => owed_rB c s 0 hs) $$ B0
  ihave B1 := (credFam_in c 3 NB 1 fun s hs => owed_rB c s 1 hs) $$ B1
  iframe

/-! ## The landing slots -/

theorem slots_split (c : Dev nD) (m : Memref sig .tc .vmem S16x2x32x768 .bf16) : anyAt (F := F) c m
    ⊢ iprop((bigSep Finset.univ fun s : Fin 16 => anyAt (F := F) c ((m.slice (slotR (s, 0)) (fun _ => rfl)).squeeze S32x768 squeezes_S1x1x32x768_S32x768))
      ∗ bigSep Finset.univ fun s : Fin 16 => anyAt (F := F) c ((m.slice (slotR (s, 1)) (fun _ => rfl)).squeeze S32x768 squeezes_S1x1x32x768_S32x768)) := by
  refine (any_split c m slotR (fun _ _ => rfl) slot_disj slot_cov).trans ?_
  rw [bigSep_rows]
  iintro ⟨H0, H1⟩
  isplitl [H0]
  · iapply (bmono (s := (Finset.univ : Finset (Fin 16))) fun s _ => any_squeeze c (m.slice (slotR (s, 0)) (fun _ => rfl)) squeezes_S1x1x32x768_S32x768) $$ H0
  · iapply (bmono (s := (Finset.univ : Finset (Fin 16))) fun s _ => any_squeeze c (m.slice (slotR (s, 1)) (fun _ => rfl)) squeezes_S1x1x32x768_S32x768) $$ H1

/-- The device's own slots, and what its signals hand over. -/
theorem slots_deal (c : Dev nD) : iprop(anyAt (F := F) c aM ∗ anyAt c bM ∗ barToks c) ⊢ iprop(barPay c c ∗ fam 1 (sigItem c) (fun _ => iprop(emp))) := by
  have hA : iprop(anyAt (F := F) c aM ∗ anyAt c bM) ⊢ bigSep Finset.univ fun s : Dev nD => barPay (F := F) s c := by
    have h' : iprop(((bigSep Finset.univ fun s : Fin 16 => anyAt (F := F) c (slotA s 0)) ∗ bigSep Finset.univ fun s : Fin 16 => anyAt (F := F) c (slotA s 1))
        ∗ ((bigSep Finset.univ fun s : Fin 16 => anyAt (F := F) c (slotB s 0)) ∗ bigSep Finset.univ fun s : Fin 16 => anyAt (F := F) c (slotB s 1)))
        ⊢ bigSep Finset.univ fun s : Fin 16 => barPay (F := F) s c := by
      simp only [← bigSep_sep']; exact .rfl
    iintro ⟨HA, HB⟩
    ihave HA := (slots_split c aM) $$ HA
    ihave HB := (slots_split c bM) $$ HB
    iapply h'
    isplitl [HA]; · iexact HA
    iexact HB
  have hB : iprop(barToks c ∗ bigSep Finset.univ fun s : Dev nD => barPay (F := F) s c) ⊢ iprop(barPay c c ∗ fam 1 (sigItem c) (fun _ => iprop(emp))) := by
    have h0 : hopEquiv c 0 = c := by clear hA; revert c; decide
    rw [bigSep_univ_equiv (hopEquiv c) (fun s : Dev nD => barPay (F := F) s c), bigSep_univ_at (fun j : Fin 16 => barPay (F := F) (hopEquiv c j) c) 0, h0]
    unfold barToks fam
    rw [bigSep_univ_at (fun j : Fin 16 => (dutyTok ER (barC (hop c j)) 0 c : sProp 𝕄)) 0, bigSep_univ_at (fun k : Fin 16 => if k.val < 1 then iprop(emp) else sigItem (F := F) c k) 0]
    have h2 : iprop((bigSep (Finset.univ.erase (0 : Fin 16)) fun j : Fin 16 => (dutyTok ER (barC (hop c j)) 0 c : sProp 𝕄))
        ∗ bigSep (Finset.univ.erase (0 : Fin 16)) fun j : Fin 16 => barPay (F := F) (hopEquiv c j) c)
        ⊢ bigSep (Finset.univ.erase (0 : Fin 16)) fun k : Fin 16 => if k.val < 1 then iprop(emp) else sigItem (F := F) c k := by
      rw [← bigSep_sep']
      refine bmono (s := Finset.univ.erase (0 : Fin 16)) fun k hk => ?_
      have hk0 := (Finset.mem_erase.mp hk).1
      rw [if_neg (fun h => hk0 (Fin.ext (by omega)))]
      unfold sigItem; rw [if_neg hk0]; exact .rfl
    iintro ⟨⟨-, H1⟩, H0, H2⟩
    isplitl [H0]; · iexact H0
    isplitr
    · rw [if_pos (by decide)]; iempintro
    · iapply h2; isplitl [H1]; · iexact H1
      iexact H2
  iintro ⟨H1, H2, H3⟩
  iapply hB
  isplitl [H3]; · iexact H3
  iapply hA
  iframe

theorem inA_in (c : Dev nD) (b : Fin 2) : iprop(owns (c : Thread nD τ) (slotA c b) fullShare (X b) ∗ credFam c 1 NA b ∗ bigSep Finset.univ fun s : Fin 16 => atPos ER (rAC c s b) 0 ∅ 0) ⊢ inA X c b := by
  unfold inA credFam
  rw [← bigSep_sep', bigSep_univ_at _ (show Fin 16 from c), bigSep_univ_at (waitAItem X c b) (show Fin 16 from c)]
  have h : (bigSep (Finset.univ.erase (show Fin 16 from c)) fun s : Fin 16 => iprop((if s = c then iprop(emp) else cred (tallyAt (kcell c (some (.inr (1, s, b)))) () NA)) ∗ atPos ER (rAC c s b) 0 ∅ 0))
      ⊢ bigSep (Finset.univ.erase (show Fin 16 from c)) (waitAItem X c b) := by
    refine bmono (s := Finset.univ.erase (show Fin 16 from c)) fun s hs => ?_
    have hs' : s ≠ c := (Finset.mem_erase.mp hs).1
    unfold waitAItem
    rw [if_neg hs', if_neg hs']
  have h1 : iprop(owns (c : Thread nD τ) (slotA c b) fullShare (X b) ∗ atPos ER (rAC c c b) 0 ∅ 0) ⊢ waitAItem X c b c := by
    unfold waitAItem; rw [if_pos rfl]
  iintro ⟨H1, ⟨-, H2⟩, H3⟩
  isplitl [H1 H2]
  · iapply h1; isplitl [H1]; · iexact H1
    iexact H2
  · iapply h; iexact H3
theorem inB_in (c : Dev nD) (b : Fin 2) : iprop(anyAt c (slotB c b) ∗ credFam c 3 NB b ∗ bigSep Finset.univ fun s : Fin 16 => atPos ER (rBC c s b) 0 ∅ 0) ⊢ inB (F := F) c b := by
  unfold inB credFam
  rw [← bigSep_sep', bigSep_univ_at _ (show Fin 16 from c), bigSep_univ_at (waitBItem (F := F) c b) (show Fin 16 from c)]
  have h : (bigSep (Finset.univ.erase (show Fin 16 from c)) fun s : Fin 16 => iprop((if s = c then iprop(emp) else cred (tallyAt (kcell c (some (.inr (3, s, b)))) () NB)) ∗ atPos ER (rBC c s b) 0 ∅ 0))
      ⊢ bigSep (Finset.univ.erase (show Fin 16 from c)) (waitBItem (F := F) c b) := by
    refine bmono (s := Finset.univ.erase (show Fin 16 from c)) fun s hs => ?_
    have hs' : s ≠ c := (Finset.mem_erase.mp hs).1
    unfold waitBItem
    rw [if_neg hs', if_neg hs']
  have h1 : iprop(anyAt c (slotB c b) ∗ atPos ER (rBC c c b) 0 ∅ 0) ⊢ waitBItem (F := F) c b c := by
    unfold waitBItem; rw [if_pos rfl]
  iintro ⟨H1, ⟨-, H2⟩, H3⟩
  isplitl [H1 H2]
  · iapply h1; isplitl [H1]; · iexact H1
    iexact H2
  · iapply h; iexact H3

/-! ## The start of the body -/

theorem part_split (c : Dev nD) : anyAt (F := F) c partM ⊢ iprop(pA c 0 ∗ pA c 1) := by
  refine (any_split c partM batchR (fun _ _ => rfl) batch_disj batch_cov).trans ?_
  rw [bigSep_two]; exact .rfl
theorem stage_split (c : Dev nD) : anyAt (F := F) c stM ⊢ iprop(stE c 0 ∗ stE c 1) := by
  refine (any_split c stM stageR (fun _ _ => rfl) stage_disj stage_cov).trans ?_
  rw [bigSep_two]; exact .rfl
theorem out_start (c : Dev nD) : anyAt c oM ⊢ outP I c P0 := by
  unfold outP outAt anyAt
  iintro ⟨%Y, H⟩; iexists Y; isplitr
  · ipureintro; exact fun b k h => h.elim
  · iexact H

/-- The positions of a device's cells. -/
def poss (c : Dev nD) : sProp 𝕄 := bigSep Finset.univ fun k : CK => atPos ER (kcell c k) 0 ∅ 0

set_option maxHeartbeats 1000000 in
/-- What the body starts from, out of what the launch gives. -/
theorem start_sorted (c : Dev nD) (q : PosShare TreeShare) :
    iprop(ctx (cont I) K ∗ owing c (O₀ c) ∗ scr c ∗ anyAt c oM ∗ owns (c : Thread nD τ) xM fullShare (I.x c) ∗ owns (c : Thread nD τ) kM fullShare (I.kk c) ∗ owns (c : Thread nD τ) vM fullShare (I.vv c)
      ∗ owns (c : Thread nD τ) (wqB c) q (I.wq c) ∗ owns (c : Thread nD τ) (woB c) q (I.wo c) ∗ poss c ∗ dealt c ∗ creds c)
      ⊢ ∃ X, StSig (cont I) K c 1 iprop(cred (tallyAt (barC c) () 15) ∗ atPos ER (barC c) 0 ∅ 0 ∗ pre I X c q) := by
  have hO : O₀ c = OB c 1 + O₁ c := by
    have h := sum_from_skip (p := fun k : Fin 16 => k ≠ 0) (fun k => (tallyAt (barC (hop c k)) () 1 : OT)) 0 (by simp)
    exact congrArg (· + O₁ c) h
  have hx : anyAt c (slotA c 0) ∗ anyAt (F := F) c (slotA c 1) ⊢ iprop(∃ X : Fin 2 → Vec F S32x768 .bf16, owns (c : Thread nD τ) (slotA c 0) fullShare (X 0) ∗ owns (c : Thread nD τ) (slotA c 1) fullShare (X 1)) := by
    unfold anyAt
    iintro ⟨⟨%X0, H0⟩, ⟨%X1, H1⟩⟩
    iexists (fun b => if b = 0 then X0 else X1)
    isplitl [H0]; · iexact H0
    iexact H1
  unfold poss dealt creds scr
  rw [ck_split, ok_split, hO]
  unfold fam2
  iintro ⟨#Hc, HO, ⟨s1, s2, s3, s4, s5, s6, s7, s8⟩, Ho, Hx, Hk, Hv, Hq, Hw, ⟨P0, ⟨P1, P2⟩, ⟨pa0, pa1⟩, ⟨pb0, pb1⟩, ⟨pc0, pc1⟩, ⟨pd0, pd1⟩⟩, ⟨T1, ⟨T2, T3⟩, T4⟩, C0, ⟨ca0, ca1⟩, ⟨cb0, cb1⟩⟩
  ihave HS := (slots_deal c) $$ [s6 s8 T1]
  · iframe
  icases HS with ⟨Hown, HS⟩
  unfold barPay
  icases Hown with ⟨HA, HB0, HB1⟩
  ihave HA := hx $$ HA
  icases HA with ⟨%X, HA0, HA1⟩
  iexists X
  ihave HA0 := (inA_in X c 0) $$ [HA0 ca0 pb0]
  · iframe
  ihave HA1 := (inA_in X c 1) $$ [HA1 ca1 pb1]
  · iframe
  ihave HB0 := (inB_in c 0) $$ [HB0 cb0 pd0]
  · iframe
  ihave HB1 := (inB_in c 1) $$ [HB1 cb1 pd1]
  · iframe
  ihave Hp := (part_split c) $$ s5
  icases Hp with ⟨p0, p1⟩
  ihave Hst := (stage_split c) $$ s7
  icases Hst with ⟨t0, t1⟩
  ihave Ho := (out_start I c) $$ Ho
  unfold StSig pre copyRes inRes bufRes posSA posSB
  isplitr; · iexact Hc
  iframe

end Cert.Exchange

end
-- ==== Proof.Launch.lean ====
/-
# The launch: every device's body run, from any memory, to the computed result
-/
module

public import proofs.«01_k».proof.Proof.Deal
public import proofs.«01_k».proof.Proof.Gen.KernelIdeal.Frame
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the launch reads, and the run's data -/

variable (m : (ℓ : Loc nD τ sig) → Buf (Elt F) ℓ) (ρ : Dev nD → PrngReg)

/-- The one grid point. -/
abbrev pt : Fin cfg0.N := t0_0
theorem fin_pt (t : Fin cfg0.N) : t = pt := fin_N0 t

/-- What the body reads of the launch's memory. -/
def inp : Inp F where
  x c := iblk m c 0 pt
  kk c := iblk m c 1 pt
  vv c := iblk m c 2 pt
  wq c := (wqB c).view.read (Elt F) (m ((c : Thread nD τ).loc main_arg1))
  wo c := (woB c).view.read (Elt F) (m ((c : Thread nD τ).loc main_arg4))

/-- The ghost state a device starts from, but the levels. -/
def ghost (K : Dev nD × CK → ℕ) (c : Dev nD) : sProp 𝕄 :=
  iprop((bigSep Finset.univ fun ck : Dev nD × CK => cellInv ER (Rd (cont (inp m))) (K ck) (kcell ck.1 ck.2))
    ∗ (bigSep Finset.univ fun ck : Dev nD × CK => reached ER (kcell ck.1 ck.2) 0) ∗ poss c ∗ dealt c)

/-- The weights' columns and rows the device copies, at half the share. -/
def wts (c : Dev nD) : sProp 𝕄 :=
  iprop(owns (c : Thread nD τ) (wqB c) fullShare.left ((inp m).wq c) ∗ owns (c : Thread nD τ) (woB c) fullShare.left ((inp m).wo c))

def start (c : Dev nD) : sProp 𝕄 := iprop((∃ K, ghost m K c) ∗ creds c ∗ levAts L lv ∗ wts m c)
def Φ₀ (c : Dev nD) : sProp 𝕄 := iprop(start m c ∗ scr c)
def Φ₁ (c : Dev nD) : sProp 𝕄 := iprop(scr c ∗ bigSep Finset.univ fun k : CK => semVal (kcell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).kk c
    | ⟨2, _⟩ => (inp m).vv c
    | ⟨3, _⟩ => outF (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (c : Dev nD) (t : Fin cfg0.N) (d) : (dats m ρ 0 c).before 0 t d = (inp m).x c := by
  rw [fin_pt t]
  exact ((dats m ρ 0 c).before_in_eq_fetched 0 rfl (fun _ => rfl) (fun _ _ _ => rfl) (fun t => by rw [fin_pt t]; rfl) pt d).trans rfl
theorem before_1 (c : Dev nD) (t : Fin cfg0.N) (d) : (dats m ρ 0 c).before 1 t d = (inp m).kk c := by
  rw [fin_pt t]
  exact ((dats m ρ 0 c).before_in_eq_fetched 1 rfl (fun _ => rfl) (fun _ _ _ => rfl) (fun t => by rw [fin_pt t]; rfl) pt d).trans rfl
theorem before_2 (c : Dev nD) (t : Fin cfg0.N) (d) : (dats m ρ 0 c).before 2 t d = (inp m).vv c := by
  rw [fin_pt t]
  exact ((dats m ρ 0 c).before_in_eq_fetched 2 rfl (fun _ => rfl) (fun _ _ _ => rfl) (fun t => by rw [fin_pt t]; rfl) pt d).trans rfl

/-! ## The body obligation -/

def bodyPre (c : Dev nD) : sProp 𝕄 :=
  iprop(Φ₀ m c ∗ (dats m ρ 0 c).owesAt () pt.castSucc
    ∗ (∃ d, owns (c : Thread nD τ) xM fullShare ((dats m ρ 0 c).before (0 : Fin 4) pt d))
    ∗ (∃ d, owns (c : Thread nD τ) kM fullShare ((dats m ρ 0 c).before (1 : Fin 4) pt d))
    ∗ (∃ d, owns (c : Thread nD τ) vM fullShare ((dats m ρ 0 c).before (2 : Fin 4) pt d))
    ∗ (∃ d, owns (c : Thread nD τ) oM fullShare ((dats m ρ 0 c).before (3 : Fin 4) pt d)))
def bodyPost (c : Dev nD) : sProp 𝕄 :=
  iprop(Φ₁ c ∗ (dats m ρ 0 c).owesAt () pt.succ
    ∗ owns (c : Thread nD τ) xM fullShare ((inp m).x c) ∗ owns (c : Thread nD τ) kM fullShare ((inp m).kk c)
    ∗ owns (c : Thread nD τ) vM fullShare ((inp m).vv c) ∗ owns (c : Thread nD τ) oM fullShare (outF (inp m) c))

theorem owing_in (c : Dev nD) : (dats m ρ 0 c).owesAt () pt.castSucc ⊢ owing c (O₀ c) := by
  unfold Dat.owesAt Pipeline.owesWithin owing
  rw [show (dats m ρ 0 c).owed pt.castSucc = O₀ c from rfl]
  iintro ⟨%W, -, H⟩; iexists W; iexact H
theorem owing_out (c : Dev nD) : owing c 0 ⊢ (dats m ρ 0 c).owesAt () pt.succ := by
  unfold Dat.owesAt Pipeline.owesWithin owing
  rw [show (dats m ρ 0 c).owed pt.succ = 0 from rfl]
  iintro ⟨%W, H⟩; iexists W; isplitr
  · ipureintro; exact fun _ _ => Or.inl trivial
  · iexact H

theorem fin_post (K : Dev nD × CK → ℕ) (X : Fin 2 → Vec F S32x768 .bf16) (c : Dev nD) : fin (inp m) K X c ⊢ |={Set.univ}=> bodyPost m ρ c := by
  iintro H
  imod (fin_close (inp m) K X c) $$ H with ⟨H1, H2, H3, H4, H5, H6, H7⟩
  ihave H2 := (owing_out m ρ c) $$ H2
  imodintro
  unfold bodyPost Φ₁
  iframe

theorem body_start (c : Dev nD) : bodyPre m ρ c ⊢ iprop(∃ K X, StSig (cont (inp m)) K c 1 iprop(cred (tallyAt (barC c) () 15) ∗ atPos ER (barC c) 0 ∅ 0 ∗ pre (inp m) X c fullShare.left)) := by
  have hc (K : Dev nD × CK → ℕ) : iprop((bigSep Finset.univ fun ck : Dev nD × CK => cellInv ER (Rd (cont (inp m))) (K ck) (kcell ck.1 ck.2))
      ∗ (bigSep Finset.univ fun ck : Dev nD × CK => reached ER (kcell ck.1 ck.2) 0) ∗ levAts L lv) ⊢ ctx (cont (inp m)) K := .rfl
  unfold bodyPre Φ₀ start ghost wts
  simp only [before_0, before_1, before_2]
  iintro ⟨⟨⟨⟨%K, HI, HR, HP, HD⟩, Hcr, Hl, Hq, Hw⟩, Hs⟩, HO, ⟨%d0, H0⟩, ⟨%d1, H1⟩, ⟨%d2, H2⟩, ⟨%d3, H3⟩⟩
  ihave HO := (owing_in m ρ c) $$ HO
  ihave H3 := (any_of c oM _) $$ H3
  ihave Hc := (hc K) $$ [HI HR Hl]
  · iframe
  iexists K
  iapply (start_sorted (inp m) K c fullShare.left)
  iframe

set_option maxRecDepth 4000 in
set_option maxHeartbeats 2000000 in
/-- The library's body obligation on device `c`. -/
theorem body_obligation (c : Dev nD) : BodyObligation (dats (F := F) m ρ 0 c) (defs₀ (F := F)) 𝒱₀ () Set.univ := fun t => by
  rw [fin_pt t]
  rw [bigSep_W0, bigSep_W0]
  show bodyPre m ρ c ⊢ WP c (bodyAt0 pt) (fun _ => bodyPost m ρ c)
  refine (body_start m ρ c).trans ?_
  iintro ⟨%K, %X, H⟩
  have h : StSig (cont (inp m)) K c 1 iprop(cred (tallyAt (barC c) () 15) ∗ atPos ER (barC c) 0 ∅ 0 ∗ pre (inp m) X c fullShare.left)
      ⊢ WP c (bodyAt0 pt) (fun _ => fin (inp m) K X c) := body_core (inp m) K X c fullShare.left
  iapply (wp_fupd (Fr := frame) (wpE := wpE (defs₀ (F := F)) 𝒱₀ (c : Thread nD τ) none) (E := Set.univ) _ _)
  iapply (wp_mono (Fr := frame) (wpE := wpE (defs₀ (F := F)) 𝒱₀ (c : Thread nD τ) none) (E := Set.univ) fun _ => fin_post m ρ K X c)
  iapply h; iexact H

/-! ## The launch -/

theorem ownSemFacts : Pipeline.OwnSemFacts cfg0.spec osem := by decide
theorem share_eq (c : Dev nD) (w : Fin cfg0.W) : (dats m ρ 0 c).share w = fullShare := by unfold Dat.share; split <;> rfl

def ringCells : Finset (GSem nD τ sig) := Finset.univ.map ⟨fun ck : Dev nD × CK => kcell ck.1 ck.2, kcell_injective⟩
abbrev tokOf (x : Dev nD × (CK × Fin 16)) : GSem nD τ sig × ℕ × Fin 16 := (kcell x.1 x.2.1, 0, x.2.2)
theorem tokOf_injective : Function.Injective tokOf := by
  rintro ⟨c, k, d⟩ ⟨c', k', d'⟩ h
  have h1 := kcell_eq.mp (congrArg Prod.fst h)
  have h2 : d = d' := congrArg (fun x : GSem nD τ sig × ℕ × Fin 16 => x.2.2) h
  obtain ⟨rfl, rfl⟩ : c = c' ∧ k = k' := h1
  rw [h2]
def ringToks : Finset (GSem nD τ sig × ℕ × Fin 16) := Finset.univ.map ⟨tokOf, tokOf_injective⟩

def u₀ : UU := (initOf (Pipeline.cells cfgs cellOf_inj) (Pipeline.launchToks cfgs cellOf_inj), initOf ringCells ringToks)

/-- What the launch element deals a device. -/
def G (c : Dev nD) : sProp 𝕄 :=
  iprop((bigSep Finset.univ fun k : CK => roundState ER (Rd (cont (inp m))) (kcell c k) 0)
    ∗ (poss c ∗ bigSep Finset.univ fun k : CK => reached ER (kcell c k) 0) ∗ tokAll c)
/-- What the global step makes of it. -/
def G' (c : Dev nD) : sProp 𝕄 := iprop(∃ K, ghost m K c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hT : bigSep ringToks (fun x => (dutyTok ER x.1 x.2.1 x.2.2 : sProp 𝕄)) = bigSep Finset.univ fun c : Dev nD => tokAll c := by
    unfold ringToks; rw [bigSep_map, bigSep_univ_prod]
    exact bigSep_congr fun c _ => by unfold tokAll; rw [bigSep_univ_prod]; rfl
  iintro HX
  imod (Rounds.fund ER (Rd (cont (inp m))) ringCells ringToks) $$ HX with ⟨Hst, Hr, Hat, Htok⟩
  imodintro
  ihave Hst' := (Entails.of_eq (hX fun g => roundState ER (Rd (cont (inp m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

/-- The kernel's own semaphores and the runtime's, all of the cells. -/
theorem sems0_eq (c : Dev nD) : (bigSep Finset.univ fun k : CK => semVal (kcell c k) 0 : sProp 𝕄)
    = iprop(unscopedSems0 c ∗ Pipeline.ownSems0 (Ix := Unit) (Name := ℕ) (U := UU) (Lvl := ℕ) (Val := Elt F) (τ := τ) osem c) := by
  rw [ck_split, unscopedSems0_eq]; unfold Pipeline.ownSems0; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (cont (inp m))) κ (kcell c k)))
          ∗ (poss c ∗ bigSep Finset.univ fun k : CK => reached ER (kcell c k) 0) ∗ tokAll c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell c k) 0) ∗ bigSep Finset.univ fun k : CK => roundState ER (Rd (cont (inp m))) (kcell c k) 0)
      ⊢ (|={Set.univ}=> bigSep Finset.univ fun k : CK => iprop(∃ κ : ℕ, cellInv ER (Rd (cont (inp m))) κ (kcell c k)) : sProp 𝕄) from by
        rw [← bigSep_sep']
        exact (bmono (s := (Finset.univ : Finset CK)) fun k _ => (Rounds.body_intro ER (Rd (cont (inp m))) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The invariants and the reached marks of all cells. -/
def records (K : Dev nD × CK → ℕ) : sProp 𝕄 :=
  iprop((bigSep Finset.univ fun ck : Dev nD × CK => cellInv ER (Rd (cont (inp m))) (K ck) (kcell ck.1 ck.2))
    ∗ bigSep Finset.univ fun ck : Dev nD × CK => reached ER (kcell ck.1 ck.2) 0)
instance records_persistent (K : Dev nD × CK → ℕ) : BI.Persistent (records m K) := by unfold records; infer_instance

theorem ghost_intro (K : Dev nD × CK → ℕ) (c : Dev nD) : iprop(records m K ∗ poss c ∗ dealt c) ⊢ G' m c := by
  unfold records G' ghost
  iintro ⟨⟨#HI, #HR⟩, Hp, Hd⟩
  iexists K
  isplitr; · iexact HI
  isplitr; · iexact HR
  isplitl [Hp]; · iexact Hp
  iexact Hd

theorem regroup :
    (bigSep Finset.univ fun c : Dev nD => iprop((bigSep Finset.univ fun k : CK => iprop(∃ κ : ℕ, cellInv ER (Rd (cont (inp m))) κ (kcell c k)))
          ∗ (poss c ∗ bigSep Finset.univ fun k : CK => reached ER (kcell c k) 0) ∗ tokAll c) : sProp 𝕄)
      ⊢ bigSep Finset.univ (G' m) := by
  simp only [bigSep_sep']
  rw [← bigSep_univ_prod (fun ck : Dev nD × CK => iprop(∃ κ : ℕ, cellInv ER (Rd (cont (inp m))) κ (kcell ck.1 ck.2))),
    ← bigSep_univ_prod (fun ck : Dev nD × CK => (reached ER (kcell ck.1 ck.2) 0 : sProp 𝕄))]
  have h (K : Dev nD × CK → ℕ) : iprop(records m K ∗ (bigSep Finset.univ fun c : Dev nD => poss (F := F) c) ∗ bigSep Finset.univ fun c : Dev nD => dealt (F := F) c) ⊢ bigSep Finset.univ (G' m) := by
    rw [← bigSep_sep']
    exact with_persistent fun c _ => ghost_intro m K c
  iintro ⟨HI, ⟨Hat, #HR⟩, Htok⟩
  ihave HK := (BI.bigSep_exists_pi Finset.univ (fun (ck : Dev nD × CK) (κ : ℕ) => (cellInv ER (Rd (cont (inp m))) κ (kcell ck.1 ck.2) : sProp 𝕄))) $$ HI
  icases HK with ⟨%K, #HI⟩
  ihave Htk := (toks_around (F := F)) $$ Htok
  iapply (h K)
  isplitr
  · unfold records; isplitl; · iexact HI
    iexact HR
  isplitl [Hat]; · iexact Hat
  iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bmono (s := (Finset.univ : Finset (Dev nD))) fun c _ => core_alloc m c).trans (bigSep_fupd _ _)).trans (BI.fupd_mono (regroup m))

/-! ### The side conditions -/

/-- Half of the whole weights, kept aside: the run leaves them unchanged. -/
def kept (c : Dev nD) : sProp 𝕄 :=
  iprop((((c : Thread nD τ).loc main_arg1) ↦{fullShare.right} m ((c : Thread nD τ).loc main_arg1)) ∗ (((c : Thread nD τ).loc main_arg4) ↦{fullShare.right} m ((c : Thread nD τ).loc main_arg4)))

theorem whole_split {b : Ref sig .tc} (c : Dev nD) (f : Buf (Elt F) ((c : Thread nD τ).loc b)) (S : Finset (Idx ((c : Thread nD τ).loc b))) :
    (((c : Thread nD τ).loc b) ↦{fullShare} f : sProp 𝕄) ⊢ iprop((((c : Thread nD τ).loc b) ↦[S]{fullShare.left} f) ∗ (((c : Thread nD τ).loc b) ↦{fullShare.right} f)) := by
  refine (pointsTo_share (PosShare.mem_left_op_right fullShare)).1.trans ?_
  iintro ⟨H1, H2⟩
  ihave H := (pointsTo_split_subset (Finset.subset_univ S)).1 $$ H1
  icases H with ⟨H, -⟩
  isplitl [H]; · iexact H
  iexact H2

theorem weights_split (c : Dev nD) : (Pipeline.unscopedRestP Pipeline.Prefetch.none cfg0.spec c (fun b => m ((c : Thread nD τ).loc b)) : sProp 𝕄) ⊢ iprop(wts m c ∗ kept m c) := by
  rw [Pipeline.unscopedRestP_eq_of_list Pipeline.Prefetch.none (win := cfg0.spec) (c := c) _ [main_arg1, main_arg4] (by decide) (by decide)]
  have h : iprop((((c : Thread nD τ).loc main_arg1) ↦{fullShare} m ((c : Thread nD τ).loc main_arg1)) ∗ (((c : Thread nD τ).loc main_arg4) ↦{fullShare} m ((c : Thread nD τ).loc main_arg4)) : sProp 𝕄)
      ⊢ iprop(wts m c ∗ kept m c) := by
    unfold wts kept
    iintro ⟨H1, H4⟩
    ihave H1 := (whole_split (b := main_arg1) c _ (wqB c).view.set) $$ H1
    ihave H4 := (whole_split (b := main_arg4) c _ (woB c).view.set) $$ H4
    icases H1 with ⟨Q, R1⟩
    icases H4 with ⟨W, R4⟩
    ihave Q := (owns_mk c (wqB c) fullShare.left (m ((c : Thread nD τ).loc main_arg1)) _ rfl) $$ Q
    ihave W := (owns_mk c (woB c) fullShare.left (m ((c : Thread nD τ).loc main_arg4)) _ rfl) $$ W
    isplitl [Q W]
    · isplitl [Q]; · iexact Q
      iexact W
    · isplitl [R1]; · iexact R1
      iexact R4
  exact h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  unfold start G'
  iintro ⟨Hu, Hl, Hcr, -, HG⟩
  ihave Hc := (creds_in (F := F) c) $$ Hcr
  ihave Hu := (weights_split m c) $$ Hu
  icases Hu with ⟨Hw, Hk⟩
  imodintro
  isplitr [Hk]
  · isplitl [HG]; · iexact HG
    isplitl [Hc]; · iexact Hc
    isplitl [Hl]; · iexact Hl
    iexact Hw
  · iexact Hk

theorem any_whole (c : Dev nD) (b : Ref sig .tc) : anyAt (F := F) c (Memref.whole b) = iprop(∃ f : Buf (Elt F) ((c : Thread nD τ).loc b), ((c : Thread nD τ).loc b) ↦{fullShare} f) := by
  unfold anyAt; simp only [owns_whole]
theorem scr_eq (c : Dev nD) : scr (F := F) c = Pipeline.scopedRest spec0 c := by
  rw [scopedRest0_eq]
  unfold scr
  simp only [any_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [scr_eq]
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [scr_eq, sems0_eq]
  iintro ⟨H, Hu, Ho⟩
  isplitl [Hu]; · iexact Hu
  isplitl [Ho]; · iexact Ho
  iexact H

theorem lv_stage (c : Dev nD) {sm : SemLoc sig} (h : dec sm = none) : lv ((c : Thread nD τ), sm) () ≤ 0 := by
  unfold lv; rw [h]
theorem waits (c : Dev nD) : (levAts L lv : sProp 𝕄) ⊢ Pipeline.cellsWaits cfgs (dats m ρ) () 0 c :=
  Pipeline.cellsWaits_intro cfgs (dats m ρ) () 0 c fun w s t =>
    mayWait_above c _ 0 (lv_stage c (by fin_cases w <;> fin_cases s <;> decide)) (by
      rcases t with ⟨_ | _, ht⟩
      · exact above_O₀ c
      · exact Above.zero 0)

theorem read_one (ℓ : Loc nD τ sig) (f : Buf (Elt F) ℓ) (q : PosShare TreeShare) (s' : Phys nD τ sig (Elt F)) :
    iprop((ℓ ↦{q} f : sProp 𝕄) ∗ SI s') ⊢ iprop(⌜s'.mem.mem ℓ = f⌝ ∗ SI s') := by
  have h := Idealize.ShloMosaic.pointsTo_read_all (Ix := Unit) (Name := ℕ) (U := UU) (Lvl := ℕ) ({()} : Finset Unit) (fun _ => ℓ) (fun _ => f) s' q
  rw [bigSep_singleton] at h
  refine h.trans ?_
  iintro ⟨%h, H⟩
  isplitr
  · ipureintro; exact h () (Finset.mem_singleton_self _)
  · iexact H

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)
    ∧ r.2.mem ((c : Thread nD τ).loc main_arg4) = m ((c : Thread nD τ).loc main_arg4)

set_option maxRecDepth 8000 in
/-- For any float values, from any memory with zero counters: every weakly fair execution of @main on the sixteen
    devices terminates, and every final state has each device's result array at the computed contents, the arguments
    unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg4) = m ((c : Thread nD τ).loc main_arg4))
    (hY := fun c s' => by
      unfold kept
      iintro ⟨Hu, ⟨H1, H4⟩, HSI⟩
      ihave H := (read_one _ _ _ s') $$ [H1 HSI]
      · isplitl [H1] <;> iassumption
      icases H with ⟨%h1, HSI⟩
      ihave H := (read_one _ _ _ s') $$ [H4 HSI]
      · isplitl [H4] <;> iassumption
      icases H with ⟨%h4, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, h1, h4⟩
      · iexact HSI)
    (hQ := fun _ h hs => ⟨fun c => ⟨fun w => (h c).1 w, (h c).2.2.2⟩, sem_eq_zero hs fun c => (h c).2.2.1⟩)

/-- An input window's array ends as it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Exchange

end
-- ==== Proof.Frames.lean ====
/-
# The frames: each program ends, its arguments unchanged and every counter back at zero
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Exchange

open Idealize.ShloMosaic Idealize.SL.Sem

/-- What a final state of the kernel's run says of the arguments and of the counters. -/
theorem frame_post {F : FTy → Type} [FloatOps F]
    (m : (ℓ : Loc Cert.KernelIdeal.nD Cert.KernelIdeal.τ Cert.KernelIdeal.sig) → Buf (Elt F) ℓ) (ρ : Dev Cert.KernelIdeal.nD → PrngReg)
    {r : _ × MemSt Cert.KernelIdeal.nD Cert.KernelIdeal.τ Cert.KernelIdeal.sig (Elt F)} (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨((h c).1 0).trans (finalA_in m ρ c 0 rfl), (h c).2.1, ((h c).1 1).trans (finalA_in m ρ c 1 rfl),
    ((h c).1 2).trans (finalA_in m ρ c 2 rfl), (h c).2.2⟩

/-- The frame, whatever the float values are. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  (θ_run Cert.KernelIdeal.defs _ _).mono (fun _ h => ⟨frame_post m ρ h.1, h.2⟩) (run_main (F := F) m ρ)

theorem frame_kernelIdeal : Cert.quiescent_KernelIdeal := fun m ρ _ => frame_any m ρ

/-- The two programs have one text: their tables of bodies agree, label by label. -/
theorem defs₀_eq : Cert.Kernel.defs₀ (F := Bits) = Cert.KernelIdeal.defs₀ (F := Bits) := by
  unfold Cert.Kernel.defs₀ Cert.KernelIdeal.defs₀
  congr 1
  funext l
  match l with
  | 0 => funext x; rfl
  | ⟨_ + 1, h⟩ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

/-- So the kernel's frame over machine floats is the same run, read there. -/
theorem frame_kernel : Cert.quiescent_Kernel := fun m ρ _ => by
  rw [defs_eq]
  exact frame_any (F := Bits) m ρ

theorem frame_referenceIdeal : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

end Cert.Exchange

end
-- ==== Proof.KVal.lean ====
/-
# The kernel's values at an index, over the extended reals
-/
module

public import proofs.«01_k».proof.Proof.Close
public import Idealize.ShloMosaic.Lib.Pointwise
public import Idealize.ShloMosaic.Lib.IdealHost

@[expose] public section

set_option maxRecDepth 16384

noncomputable section

namespace Cert.Exchange

open Cert.KernelIdeal Cert.KernelIdeal.Gen
open Idealize.ShloMosaic

variable (I : Inp Ideal)

theorem batch_emb (b : Fin 2) (r : Fin 512) (e : Fin 768) : (batchR b).emb (ix3 0 r e) = ix3 b r e := by
  refine funext fun a => Fin.ext ?_
  match a with
  | ⟨0, _⟩ => show b.val + 1 * 0 = b.val; omega
  | ⟨1, _⟩ => show 0 + 1 * r.val = r.val; omega
  | ⟨2, _⟩ => show 0 + 1 * e.val = e.val; omega
theorem head_emb (b : Fin 2) (h : Fin 8) (j : Fin 512) (k : Fin 64) : (headR b h).emb (ix4 0 j 0 k) = ix4 b j h k := by
  refine funext fun a => Fin.ext ?_
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * k.val = k.val; omega
theorem sub_emb (k : Fin 16) (p : Fin 32) (d : Fin 768) : (subR k).emb (ix3 0 p d) = ix3 0 (⟨32 * k.val + p.val, by omega⟩ : Fin 512) d := by
  refine funext fun a => Fin.ext ?_
  match a with
  | ⟨0, _⟩ => rfl
  | ⟨1, _⟩ => show 32 * k.val + 1 * p.val = 32 * k.val + p.val; omega
  | ⟨2, _⟩ => show 0 + 1 * d.val = d.val; omega

/-! ## One head -/

/-- The queries of one device. -/
def qE (c : Dev nD) (b : Fin 2) (r t : Fin 512) : EReal :=
  ∑ e : Fin 768, I.x c (ix3 b r e) * (I.wq c (ix2 e t) * Ideal.ofBits .f32 0x3E000000#32)

theorem qV_apply (c : Dev nD) (b : Fin 2) (r t : Fin 512) : qV I c b (ix2 r t) = qE I c b r t := by
  unfold qE
  pointwise [qV, k0_pay11, xB, wqS, k0_pay1, Ideal.ofBits_zero_f32]
  simp only [batch_emb]

/-- One masked score. -/
def scE (c : Dev nD) (b : Fin 2) (h : Fin 8) (r j : Fin 512) : EReal :=
  Scalar.select (maskV (ix2 r j)) (∑ k : Fin 64, qE I c b r ⟨64 * h.val + k.val, by omega⟩ * I.kk c (ix4 b j h k)) (Ideal.ofBits .f32 0xCE6E6B28#32)

theorem hs_apply (c : Dev nD) (b : Fin 2) (h : Fin 8) (r : Fin 512) (d : Fin 64) :
    hs I c b h (ix2 r d) = (∑ j : Fin 512, Ideal.exp (scE I c b h r j) * I.vv c (ix4 b j h d)) * Ideal.div 1 (∑ j : Fin 512, Ideal.exp (scE I c b h r j)) := by
  unfold scE
  simp only [← qV_apply]
  pointwise [hs, headV, kB, vB, Ideal.ofBits_zero_f32, Ideal.ofBits_one_f32]
  simp only [head_emb]

/-! ## One device's partial sums -/

/-- What device `s` contributes to one element of the result. -/
def paE (s : Dev nD) (b : Fin 2) (r : Fin 512) (d : Fin 768) : EReal :=
  ∑ t : Fin 512, hs I s b ⟨t.val / 64, by omega⟩ (ix2 r ⟨t.val % 64, by omega⟩) * I.wo s (ix2 t d)

theorem part_apply (s : Dev nD) (b : Fin 2) (r : Fin 512) (d : Fin 768) : partW I s b (ix3 0 r d) = paE I s b r d := by
  unfold paE
  have h : ∀ t : Fin 512, ctxOf (hs I s b) (ix2 r t) = hs I s b ⟨t.val / 64, by omega⟩ (ix2 r ⟨t.val % 64, by omega⟩) := fun t => rfl
  simp only [← h]
  unfold partW
  generalize ctxOf (hs I s b) = X
  pointwise [ k0_pay27, wbS, k0_pay2, Ideal.ofBits_zero_f32]

theorem pv_apply (s : Dev nD) (b : Fin 2) (k : Fin 16) (p : Fin 32) (d : Fin 768) :
    pvV I s b k (ix2 p d) = paE I s b ⟨32 * k.val + p.val, by omega⟩ d := by
  rw [← part_apply, ← sub_emb]
  generalize hX : partW I s b = X
  pointwise [pvV, hX]

/-! ## The sum over the devices -/

theorem v2w_ne : ∀ c n : Fin 16, n ≠ c → Scalar.cmpi .eq (v2w c) (BitVec.ofNat 32 n.val) = 0#1 := by decide +kernel

theorem acc_apply (c : Dev nD) (b : Fin 2) (p : Fin 32) (d : Fin 768) : ∀ n (hn : n ≤ 16),
    accN (v2w c) (ownV I c b) (slV I c b) n hn (ix2 p d)
      = pvV I c b (mine c) (ix2 p d) + ∑ s : Fin n, if s.val = c.val then 0 else pvV I (⟨s.val, lt_of_lt_of_le s.isLt hn⟩ : Fin 16) b (mine c) (ix2 p d)
  | 0, _ => by
    rw [Finset.univ_eq_empty, Finset.sum_empty, add_zero]
    generalize hX : pvV I c b (mine c) = X
    pointwise [accN, ownV, hX]
  | n + 1, hn => by
    rw [Fin.sum_univ_castSucc, ← add_assoc]
    refine (show accN (v2w c) (ownV I c b) (slV I c b) (n + 1) hn (ix2 p d) = accN (v2w c) (ownV I c b) (slV I c b) n (by omega) (ix2 p d)
      + Scalar.select (Scalar.cmpi .eq (v2w c) (BitVec.ofNat 32 n)) (broadcast S32x768 (Scalar.ofBits .f32 0x00000000#32))
        (extf .f32 (shapeCast S32x768 (slV I c b ⟨n, hn⟩) shapeCasts_S1x1x32x768_S32x768) bitsLt_bf16_f32) (ix2 p d) from rfl).trans ?_
    rw [acc_apply c b p d n]
    refine congrArg₂ (· + ·) rfl ?_
    by_cases h : n = c.val
    · subst h
      rw [v2w_eq, if_pos (show (Fin.last c.val).val = c.val from rfl)]
      exact Ideal.ofBits_zero_f32
    · rw [v2w_ne c ⟨n, hn⟩ (fun e => h (congrArg Fin.val e)), if_neg (show ¬ (Fin.last n).val = c.val from h)]
      generalize hX : pvV I (⟨n, hn⟩ : Fin 16) b (mine c) = X
      show _ = pvV I (⟨n, hn⟩ : Fin 16) b (mine c) (ix2 p d)
      rw [hX]
      pointwise [slV, hX]

theorem red_apply (c : Dev nD) (b : Fin 2) (p : Fin 32) (d : Fin 768) :
    redV I c b (ix2 p d) = ∑ s : Fin 16, paE I s b ⟨32 * (mine c).val + p.val, by omega⟩ d := by
  unfold redV accV
  rw [acc_apply I c b p d 16 le_rfl]
  simp only [pv_apply]
  rw [← Finset.add_sum_erase Finset.univ (fun s : Fin 16 => paE I s b ⟨32 * (mine c).val + p.val, by omega⟩ d) (Finset.mem_univ c),
    ← Finset.add_sum_erase Finset.univ _ (Finset.mem_univ (c : Fin 16)), if_pos rfl, zero_add]
  exact congrArg₂ (· + ·) rfl (Finset.sum_congr rfl fun s hs => if_neg fun e => (Finset.mem_erase.1 hs).1 (Fin.ext e))

theorem out_apply (c : Dev nD) (b : Fin 2) (r : Fin 512) (d : Fin 768) : outF I c (ix3 b r d) = ∑ s : Fin 16, paE I s b r d := by
  have hr : (⟨32 * (r.val / 32) + r.val % 32, by omega⟩ : Fin 512) = r := Fin.ext (by show 32 * (r.val / 32) + r.val % 32 = r.val; omega)
  have hk : r.val / 32 < 16 := by omega
  have key : ∀ c', mine c' = ⟨r.val / 32, hk⟩ → redV I c' b (ix2 (⟨r.val % 32, by omega⟩ : Fin 32) d) = ∑ s : Fin 16, paE I s b r d := by
    intro c' h
    rw [red_apply]
    simp only [h, hr]
  refine (show outF I c (ix3 b r d) = outV I c b ⟨r.val / 32, hk⟩ (ix3 0 ⟨r.val % 32, by omega⟩ d) from rfl).trans ?_
  unfold outV
  split
  · rename_i h
    rw [← key c h.symm]
    generalize redV I c b = X
    pointwise
  · rw [← key (owner ⟨r.val / 32, hk⟩) (mine_owner _)]
    unfold rvV
    generalize redV I (owner ⟨r.val / 32, hk⟩) b = X
    pointwise [k0_pay62]

end Cert.Exchange

end
-- ==== Proof.Mask.lean ====
/-
# Which positions attend to which

The kernel and the reference build one mask, each by its own words.
-/
module

public import proofs.«01_k».proof.Proof.Values
public import proofs.«01_k».proof.Proof.Gen.ReferenceIdeal.Read
public import Idealize.ShloMosaic.Lib.Pointwise
public import Idealize.ShloMosaic.Lib.Routing.OpsOrder

@[expose] public section

set_option maxRecDepth 16384

noncomputable section

namespace Cert.Exchange

open Cert.KernelIdeal Cert.KernelIdeal.Gen
open Idealize.ShloMosaic

/-- The block of 64 rows or columns a position lies in, as a word. -/
abbrev blkW (i : Fin 512) : BitVec 32 := BitVec.ofNat 32 (i.val / 64)

/-- The mask, from the two blocks' words. -/
def maskW (a b : BitVec 32) : BitVec 1 :=
  IntOp.ori (IntOp.ori (IntOp.cmpi .eq a b) (IntOp.cmpi .eq b 0#32)) (IntOp.cmpi .eq (BitVec.ofNat 32 ((a + b).toNat % 3)) 0#32)

/-! ## The kernel's -/

abbrev rowIota : IVec S512x512 32 := iota .tc S512x512 32 [0] iota_S512x512_d0_w32
abbrev rowBlk : IVec S512x512 32 := k0_pay5 rowIota 64#32 k0_pay3 k0_pay4 (Scalar.extui (Scalar.cmpi .sgt 64#32 0#32))

theorem rowBlk_apply (i j : Fin 512) : rowBlk (ix2 i j) = blkW i := by
  have h : rowBlk (ix2 i j) = rowBlk (ix2 i 0) := rfl
  rw [h]; clear h
  revert i
  decide +kernel
theorem colBlk_apply (i j : Fin 512) : k0_pay6 (ix2 i j) = blkW j := by
  have h : k0_pay6 (ix2 i j) = k0_pay6 (ix2 0 j) := rfl
  rw [h]; clear h
  revert j
  decide +kernel

/-- The kernel's words on one pair of blocks. -/
def kMask (a b : BitVec 32) : BitVec 1 :=
  k0_pay10 (ori (cmpi .eq (fun _ => a) (fun _ => b)) (cmpi .eq (fun _ => b) (broadcast S512x512 0#32))) (addi (fun _ => a) (fun _ => b))
    (Scalar.select (Scalar.cmpi .eq 3#32 0#32) 1#32 3#32) k0_pay9 (ix2 0 0)
theorem kMask_eq : ∀ a b : Fin 8, kMask (BitVec.ofNat 32 a.val) (BitVec.ofNat 32 b.val) = maskW (BitVec.ofNat 32 a.val) (BitVec.ofNat 32 b.val) := by
  decide +kernel

theorem kMask_at (R C : IVec S512x512 32) (x : S512x512.Idx) :
    k0_pay10 (ori (cmpi .eq R C) (cmpi .eq C (broadcast S512x512 0#32))) (addi R C)
      (Scalar.select (Scalar.cmpi .eq 3#32 0#32) 1#32 3#32) k0_pay9 x = kMask (R x) (C x) := by
  unfold kMask k0_pay10 k0_pay9
  rfl
theorem maskV_apply (i j : Fin 512) : maskV (ix2 i j) = maskW (blkW i) (blkW j) := by
  have h : maskV (ix2 i j) = kMask (rowBlk (ix2 i j)) (k0_pay6 (ix2 i j)) := kMask_at rowBlk k0_pay6 _
  rw [h, rowBlk_apply, colBlk_apply]
  exact kMask_eq ⟨i.val / 64, by omega⟩ ⟨j.val / 64, by omega⟩

/-! ## The reference's -/

open Cert.ReferenceIdeal.Read in
theorem refRow_apply (i : Fin 512) : val_main_v3 (F := Ideal) (ix1 i) = blkW i := by
  revert i
  show ∀ i : Fin 512, (val_main_v3 (F := Ideal) (ix1 i) : BitVec 32) = blkW i
  decide +kernel
open Cert.ReferenceIdeal.Read in
theorem refCol_apply (i : Fin 512) : val_main_v6 (F := Ideal) (ix1 i) = blkW i := by
  revert i
  show ∀ i : Fin 512, (val_main_v6 (F := Ideal) (ix1 i) : BitVec 32) = blkW i
  decide +kernel

/-- The reference's words on one pair of blocks. -/
def rMask (a b : BitVec 32) : BitVec 1 :=
  let m := Scalar.select (IntOp.cmpi .eq 3#32 0#32) 1#32 3#32
  let r := IntOp.remsi .host (IntOp.addi a b) m
  IntOp.ori (IntOp.ori (IntOp.cmpi .eq a b) (IntOp.cmpi .eq b 0#32))
    (IntOp.cmpi .eq (Scalar.select (IntOp.andi (IntOp.cmpi .ne (IntOp.cmpi .slt r 0#32) (IntOp.cmpi .slt m 0#32)) (IntOp.cmpi .ne r 0#32)) (IntOp.addi r m) r) 0#32)
theorem rMask_eq : ∀ a b : Fin 8, rMask (BitVec.ofNat 32 a.val) (BitVec.ofNat 32 b.val) = maskW (BitVec.ofNat 32 a.val) (BitVec.ofNat 32 b.val) := by
  decide +kernel

open Cert.ReferenceIdeal.Read in
theorem refMask_apply (i j : Fin 512) : val_main_v21 (F := Ideal) (ix2 i j) = maskW (blkW i) (blkW j) := by
  have ha : idx_main_v4 (idx_main_v8 (ix2 i j)) = ix1 i := funext fun a => match a with | ⟨0, _⟩ => rfl
  have hb : idx_main_v7 (idx_main_v9 (ix2 i j)) = ix1 j := funext fun a => match a with | ⟨0, _⟩ => rfl
  have h : val_main_v21 (F := Ideal) (ix2 i j) = rMask (val_main_v3 (F := Ideal) (ix1 i)) (val_main_v6 (F := Ideal) (ix1 j)) := by
    rw [← ha, ← hb, val_main_v21_apply, val_main_v14_apply, val_main_v10_apply, val_main_v8_apply, val_main_v9_apply, val_main_v4_apply,
      val_main_v7_apply, val_main_v13_apply, val_main_v12_apply, val_main_v7_apply, val_main_v11_apply, val_main_v20_apply, val_main_v19_apply,
      val_main_v18_apply, val_main_call2_v12_apply, val_main_call2_v11_apply, val_main_call2_v14_apply, val_main_call2_v6_apply, val_main_call2_v8_apply,
      val_main_call2_v4_apply, val_main_call2_v3_apply, val_main_call2_v5_apply, val_main_call2_v7_apply, val_main_call2_v10_apply, val_main_call2_v13_apply,
      val_main_v17_apply, val_main_v15_apply, val_main_v16_apply, val_main_v4_apply, val_main_v7_apply]
    rfl
  rw [h, refRow_apply, refCol_apply]
  exact rMask_eq ⟨i.val / 64, by omega⟩ ⟨j.val / 64, by omega⟩

/-- Both masks are one. -/
theorem refMask_eq (i j : Fin 512) : Cert.ReferenceIdeal.Read.val_main_v21 (F := Ideal) (ix2 i j) = maskV (ix2 i j) := by
  rw [refMask_apply, maskV_apply]

theorem maskW_self : ∀ a : Fin 8, maskW (BitVec.ofNat 32 a.val) (BitVec.ofNat 32 a.val) = 1#1 := by decide +kernel

open Cert.ReferenceIdeal.Read in
/-- Every row attends to something. -/
theorem refKeep (i : Fin 512) : val_main_v32 (F := Ideal) (ix1 i) = 1#1 := by
  unfold val_main_v32
  rw [Host.reduce_eq_fold_single IntOp.ori _ _ Cert.ReferenceIdeal.Gen.reducesTo_S512x512_S512_d1 (show Shape.Reduces _ [1] _ by decide)]
  refine (Routing.fold_ori _ _).2 ⟨i, Finset.mem_univ _, ?_⟩
  have h := refMask_apply i i
  rw [maskW_self ⟨i.val / 64, by omega⟩] at h
  exact (congrArg _ (funext fun a => Fin.ext (by match a with | ⟨0, _⟩ => rfl | ⟨1, _⟩ => rfl))).trans h

end Cert.Exchange

end
-- ==== Proof.RVal.lean ====
/-
# The reference's values at an index, over the extended reals
-/
module

public import proofs.«01_k».proof.Proof.Mask
public import Idealize.ShloMosaic.Lib.IdealHost

@[expose] public section

set_option maxRecDepth 16384

noncomputable section

namespace Cert.Exchange

open Cert.ReferenceIdeal.Read
open Idealize.ShloMosaic

variable (x0 : Cert.ReferenceIdeal.S2x512x768.Idx → EReal) (x1 : Cert.ReferenceIdeal.S768x8192.Idx → EReal)
  (x2 x3 : Cert.ReferenceIdeal.S2x512x128x64.Idx → EReal) (x4 : Cert.ReferenceIdeal.S8192x768.Idx → EReal)

/-- The queries. -/
def rqE (b : Fin 2) (r : Fin 512) (n : Fin 8192) : EReal := ∑ e : Fin 768, x0 (ix3 b r e) * x1 (ix2 e n)

theorem rq_apply (b : Fin 2) (r : Fin 512) (H : Fin 128) (k : Fin 64) :
    val_main_v1 (F := Ideal) x0 x1 (ix4 b r H k) = rqE x0 x1 b r ⟨64 * H.val + k.val, by omega⟩ := by
  rw [val_main_v1_apply, val_main_v0_apply]
  unfold rqE
  refine Finset.sum_congr rfl fun e _ => congrArg₂ (· * ·) (congrArg x0 (funext fun a => Fin.ext ?_)) (congrArg x1 (funext fun a => Fin.ext ?_))
  · match a with
    | ⟨0, _⟩ => show (((b.val * 512 + r.val) * 128 + H.val) * 64 + k.val) / 4194304 = b.val; omega
    | ⟨1, _⟩ => show (((b.val * 512 + r.val) * 128 + H.val) * 64 + k.val) / 8192 % 512 = r.val; omega
    | ⟨2, _⟩ => rfl
  · match a with
    | ⟨0, _⟩ => rfl
    | ⟨1, _⟩ => show (((b.val * 512 + r.val) * 128 + H.val) * 64 + k.val) % 8192 = 64 * H.val + k.val; omega

/-- One masked score. -/
def rsE (b : Fin 2) (H : Fin 128) (r j : Fin 512) : EReal :=
  Scalar.select (maskV (ix2 r j)) ((∑ k : Fin 64, rqE x0 x1 b r ⟨64 * H.val + k.val, by omega⟩ * x2 (ix4 b j H k)) * Ideal.ofBits .f32 0x3E000000#32)
    (Ideal.ofBits .f32 0xCE6E6B28#32)

theorem rs_apply (b : Fin 2) (H : Fin 128) (r j : Fin 512) :
    val_main_v26 (F := Ideal) x0 x1 x2 (ix4 b H r j) = rsE x0 x1 x2 b H r j := by
  rw [val_main_v26_apply, val_main_call3_v1_apply, val_main_v25_apply, val_main_v24_apply, val_main_v23_apply, val_main_call3_v2_apply, val_main_v22_apply]
  have hm : idx_main_v25 (idx_main_call3_v1 (ix4 b H r j)) = ix2 r j := funext fun a => match a with | ⟨0, _⟩ => rfl | ⟨1, _⟩ => rfl
  have hl : ∀ k, lidx_main_v22 (ix4 b H r j) k = ix4 b r H k := fun k => funext fun a => match a with | ⟨0, _⟩ => rfl | ⟨1, _⟩ => rfl | ⟨2, _⟩ => rfl | ⟨3, _⟩ => rfl
  have hr : ∀ k, ridx_main_v22 (ix4 b H r j) k = ix4 b j H k := fun k => funext fun a => match a with | ⟨0, _⟩ => rfl | ⟨1, _⟩ => rfl | ⟨2, _⟩ => rfl | ⟨3, _⟩ => rfl
  simp only [hm, hl, hr, refMask_eq, rq_apply]
  rfl

/-- The greatest score of a row. -/
def rmE (b : Fin 2) (H : Fin 128) (r : Fin 512) : EReal := Finset.univ.fold max ⊥ fun j : Fin 512 => rsE x0 x1 x2 b H r j

theorem ofBits_neg_inf : Ideal.ofBits .f32 0xFF800000#32 = ⊥ := by
  simp [Ideal.ofBits, Ideal.ieee]

theorem rm_apply (b : Fin 2) (H : Fin 128) (r : Fin 512) :
    val_main_v27 (F := Ideal) x0 x1 x2 (ix3 b H r) = rmE x0 x1 x2 b H r := by
  unfold val_main_v27 rmE
  rw [Host.reduce_eq_fold_single FloatOps.maximumf _ _ Cert.ReferenceIdeal.Gen.reducesTo_S2x128x512x512_S2x128x512_d3 (show Shape.Reduces _ [3] _ by decide)]
  rw [show val_main_cst_5 (F := Ideal) (Shape.Idx.first Cert.ReferenceIdeal.Gen.h_S_) = (⊥ : EReal) from ofBits_neg_inf]
  refine congrArg (fun f => Finset.fold max (⊥ : EReal) f Finset.univ) (funext fun j => ?_)
  refine Eq.trans ?_ (rs_apply x0 x1 x2 b H r j)
  exact congrArg (val_main_v26 (F := Ideal) x0 x1 x2) (funext fun a => Fin.ext (by match a with | ⟨0, _⟩ => rfl | ⟨1, _⟩ => rfl | ⟨2, _⟩ => rfl | ⟨3, _⟩ => rfl))

/-- One exponential. -/
def reE (b : Fin 2) (H : Fin 128) (r j : Fin 512) : EReal := Ideal.exp (rsE x0 x1 x2 b H r j - rmE x0 x1 x2 b H r)

theorem re_apply (b : Fin 2) (H : Fin 128) (r j : Fin 512) :
    val_main_v31 (F := Ideal) x0 x1 x2 (ix4 b H r j) = reE x0 x1 x2 b H r j := by
  rw [val_main_v31_apply, val_main_v30_apply, val_main_v29_apply, val_main_v28_apply, rs_apply]
  have hm : idx_main_v28 (idx_main_v29 (ix4 b H r j)) = ix3 b H r := funext fun a => match a with | ⟨0, _⟩ => rfl | ⟨1, _⟩ => rfl | ⟨2, _⟩ => rfl
  rw [hm, rm_apply]
  rfl

/-- One weight of the attention. -/
def rwE (b : Fin 2) (H : Fin 128) (r j : Fin 512) : EReal := Ideal.div (reE x0 x1 x2 b H r j) (∑ k : Fin 512, reE x0 x1 x2 b H r k)

theorem rsum_apply (b : Fin 2) (H : Fin 128) (r : Fin 512) :
    val_main_v34 (F := Ideal) x0 x1 x2 (ix3 b H r) = ∑ k : Fin 512, reE x0 x1 x2 b H r k := by
  rw [val_main_v34_apply]
  have hm : ∀ k, idx_main_v34 (ix3 b H r) k = ix4 b H r k := fun k => funext fun a => match a with | ⟨0, _⟩ => rfl | ⟨1, _⟩ => rfl | ⟨2, _⟩ => rfl | ⟨3, _⟩ => rfl
  simp only [hm, re_apply]
  rw [show val_main_cst_7 (F := Ideal) (Shape.Idx.first Cert.ReferenceIdeal.Gen.h_S_) = (0 : EReal) from Ideal.ofBits_zero_f32, zero_add]

theorem rw_apply (b : Fin 2) (H : Fin 128) (r j : Fin 512) :
    val_main_v40 (F := Ideal) x0 x1 x2 (ix4 b H r j) = rwE x0 x1 x2 b H r j := by
  rw [val_main_v40_apply, val_main_call5_v1_apply, val_main_v39_apply, val_main_v38_apply, val_main_v37_apply, val_main_v36_apply, val_main_call4_v1_apply,
    val_main_v33_apply, val_main_v35_apply, re_apply]
  have h1 : idx_main_v39 (idx_main_call5_v1 (ix4 b H r j)) = ix1 r := funext fun a => match a with | ⟨0, _⟩ => rfl
  have h2 : idx_main_v33 (idx_main_call4_v1 (idx_main_v37 (ix4 b H r j))) = ix1 r := funext fun a => match a with | ⟨0, _⟩ => rfl
  have h3 : idx_main_v35 (idx_main_v37 (ix4 b H r j)) = ix3 b H r := funext fun a => match a with | ⟨0, _⟩ => rfl | ⟨1, _⟩ => rfl | ⟨2, _⟩ => rfl
  rw [h1, h2, h3, refKeep, rsum_apply]
  rfl

/-- One element of the attention's output. -/
def rcE (b : Fin 2) (r : Fin 512) (H : Fin 128) (k : Fin 64) : EReal := ∑ j : Fin 512, x3 (ix4 b j H k) * rwE x0 x1 x2 b H r j

theorem rc_apply (b : Fin 2) (r : Fin 512) (n : Fin 8192) :
    val_main_v43 (F := Ideal) x0 x1 x2 x3 (ix3 b r n) = rcE x0 x1 x2 x3 b r ⟨n.val / 64, by omega⟩ ⟨n.val % 64, by omega⟩ := by
  rw [val_main_v43_apply, val_main_v42_apply, val_main_v41_apply]
  unfold rcE
  have h0 : idx_main_v42 (idx_main_v43 (ix3 b r n)) = ix4 b (⟨n.val / 64, by omega⟩ : Fin 128) (⟨n.val % 64, by omega⟩ : Fin 64) r := funext fun a => Fin.ext (by
    match a with
    | ⟨0, _⟩ => show ((b.val * 512 + r.val) * 8192 + n.val) / 4194304 = b.val; omega
    | ⟨1, _⟩ => show ((b.val * 512 + r.val) * 8192 + n.val) / 64 % 128 = n.val / 64; omega
    | ⟨2, _⟩ => show ((b.val * 512 + r.val) * 8192 + n.val) % 64 = n.val % 64; omega
    | ⟨3, _⟩ => show ((b.val * 512 + r.val) * 8192 + n.val) / 8192 % 512 = r.val; omega)
  rw [h0]
  refine Finset.sum_congr rfl fun j _ => congrArg₂ (· * ·) (congrArg x3 (funext fun a => ?_)) ?_
  · match a with | ⟨0, _⟩ => rfl | ⟨1, _⟩ => rfl | ⟨2, _⟩ => rfl | ⟨3, _⟩ => rfl
  · rw [← rw_apply]
    exact congrArg _ (funext fun a => match a with | ⟨0, _⟩ => rfl | ⟨1, _⟩ => rfl | ⟨2, _⟩ => rfl | ⟨3, _⟩ => rfl)

theorem ref_apply (b : Fin 2) (r : Fin 512) (d : Fin 768) :
    val_main_v44 (F := Ideal) x0 x1 x2 x3 x4 (ix3 b r d)
      = ∑ n : Fin 8192, rcE x0 x1 x2 x3 b r ⟨n.val / 64, by omega⟩ ⟨n.val % 64, by omega⟩ * x4 (ix2 n d) := by
  rw [val_main_v44_apply]
  refine Finset.sum_congr rfl fun n _ => congrArg₂ (· * ·) ?_ (congrArg x4 (funext fun a => match a with | ⟨0, _⟩ => rfl | ⟨1, _⟩ => rfl))
  rw [← rc_apply]
  exact congrArg _ (funext fun a => match a with | ⟨0, _⟩ => rfl | ⟨1, _⟩ => rfl | ⟨2, _⟩ => rfl)

end Cert.Exchange

end
-- ==== Proof.Soft.lean ====
/-
# A weighted average by exponentials, on extended reals

Exponentials of real scores, divided by their sum, do not change when a real is subtracted from every score.
The values that are averaged may be infinite.
-/
module

public import Idealize.ShloMosaic.PureOps.Ideal.Laws
public import Idealize.ShloMosaic.Lib.IdealHost

@[expose] public section

noncomputable section

namespace Cert.Exchange

open Idealize.ShloMosaic

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Multiplying by a real that is not negative distributes over sums, infinite terms included. -/
theorem sum_mul_coe {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top r) _ _

theorem div_coe (x : EReal) (r : ℝ) (h : r ≠ 0) : Ideal.div x (r : EReal) = x * ((r⁻¹ : ℝ) : EReal) := by
  unfold Ideal.div
  rw [if_neg (by exact_mod_cast h), ← EReal.coe_inv]

/-- The largest of finitely many reals is a real. -/
theorem fold_max_coe {n : ℕ} (hn : 0 < n) (f : Fin n → EReal) (hf : ∀ k, ∃ r : ℝ, f k = (r : EReal)) :
    ∃ M : ℝ, Finset.univ.fold max (⊥ : EReal) f = (M : EReal) := by
  have key : ∀ s : Finset (Fin n), s.fold max (⊥ : EReal) f = ⊥ ∨ ∃ M : ℝ, s.fold max (⊥ : EReal) f = (M : EReal) := by
    intro s
    induction s using Finset.induction_on with
    | empty => exact .inl rfl
    | insert a s ha ih =>
      rw [Finset.fold_insert ha]
      obtain ⟨r, hr⟩ := hf a
      right
      rcases ih with h | ⟨M, h⟩
      · exact ⟨r, by rw [h, hr]; exact max_eq_left bot_le⟩
      · exact ⟨max r M, by rw [h, hr]; exact (EReal.coe_strictMono.monotone.map_max).symm⟩
  rcases key Finset.univ with h | h
  · exfalso
    obtain ⟨r, hr⟩ := hf ⟨0, hn⟩
    have hins := Finset.insert_erase (Finset.mem_univ (⟨0, hn⟩ : Fin n))
    rw [← hins, Finset.fold_insert (Finset.notMem_erase _ _), hr] at h
    exact absurd (lt_of_lt_of_le (EReal.bot_lt_coe r) (le_max_left _ _)) (by rw [h]; exact lt_irrefl _)
  · exact h

/-- The two ways of averaging agree. -/
theorem soft {n : ℕ} (hn : 0 < n) (t : Fin n → ℝ) (v : Fin n → EReal) (M : ℝ) :
    (∑ j, Ideal.exp (t j : EReal) * v j) * Ideal.div 1 (∑ j, Ideal.exp (t j : EReal))
      = ∑ j, v j * Ideal.div (Ideal.exp ((t j : EReal) - (M : EReal))) (∑ k, Ideal.exp ((t k : EReal) - (M : EReal))) := by
  have hne : (Finset.univ : Finset (Fin n)).Nonempty := ⟨⟨0, hn⟩, Finset.mem_univ _⟩
  have e1 : ∀ j, Ideal.exp (t j : EReal) = ((Real.exp (t j) : ℝ) : EReal) := fun j => rfl
  have e2 : ∀ j, Ideal.exp ((t j : EReal) - (M : EReal)) = ((Real.exp (t j - M) : ℝ) : EReal) := fun j => by
    rw [← EReal.coe_sub]; rfl
  have h1 : 0 < ∑ j, Real.exp (t j) := Finset.sum_pos (fun j _ => Real.exp_pos _) hne
  have h2 : 0 < ∑ j, Real.exp (t j - M) := Finset.sum_pos (fun j _ => Real.exp_pos _) hne
  simp only [e1, e2]
  rw [sum_coe, sum_coe, div_coe _ _ h1.ne', one_mul, sum_mul_coe _ _ _ (inv_nonneg.mpr h1.le)]
  refine Finset.sum_congr rfl fun j _ => ?_
  rw [div_coe _ _ h2.ne', mul_comm _ (v j), mul_assoc, ← EReal.coe_mul, ← EReal.coe_mul]
  congr 2
  have hs : ∑ k, Real.exp (t k) = Real.exp M * ∑ k, Real.exp (t k - M) := by
    rw [Finset.mul_sum]
    exact Finset.sum_congr rfl fun k _ => by rw [← Real.exp_add]; congr 1; ring
  rw [hs, mul_inv, Real.exp_sub, div_eq_mul_inv]
  ring

end Cert.Exchange

end
-- ==== Proof.Equation.lean ====
/-
# The equation: the kernel's sum over the devices is the reference's sum over the heads
-/
module

public import proofs.«01_k».proof.Proof.KVal
public import proofs.«01_k».proof.Proof.RVal
public import proofs.«01_k».proof.Proof.Soft

@[expose] public section

set_option maxRecDepth 16384

noncomputable section

namespace Cert.Exchange

open Idealize.ShloMosaic

theorem ofBits_eighth : Ideal.ofBits .f32 0x3E000000#32 = ((1 / 8 : ℝ) : EReal) := by
  simp [Ideal.ofBits, Ideal.ieee, -EReal.coe_mul]; norm_num
theorem ofBits_low : ∃ r : ℝ, Ideal.ofBits .f32 0xCE6E6B28#32 = (r : EReal) := by
  simp [Ideal.ofBits, Ideal.ieee, -EReal.coe_mul]
  exact ⟨-(15625000 * 2 ^ 6 : ℝ), (EReal.coe_neg _).symm⟩

/-- A choice between reals is a real. -/
theorem select_coe (m : BitVec 1) (a b : EReal) (ha : ∃ r : ℝ, a = (r : EReal)) (hb : ∃ r : ℝ, b = (r : EReal)) :
    ∃ r : ℝ, Scalar.select m a b = (r : EReal) := by
  unfold Scalar.select
  split
  · exact ha
  · exact hb

theorem sum_heads (f : Fin 8192 → EReal) : ∑ n : Fin 8192, f n = ∑ s : Fin 16, ∑ t : Fin 512, f ⟨512 * s.val + t.val, by omega⟩ := by
  rw [← Fintype.sum_prod_type' (f := fun (s : Fin 16) (t : Fin 512) => f ⟨512 * s.val + t.val, by omega⟩)]
  exact (Fintype.sum_equiv (finProdFinEquiv : Fin 16 × Fin 512 ≃ Fin 8192) _ _ (fun p => congrArg f (Fin.ext (Nat.add_comm _ _)))).symm

variable (I : Inp Ideal)
  (x0 : Cert.ReferenceIdeal.S2x512x768.Idx → EReal) (x1 : Cert.ReferenceIdeal.S768x8192.Idx → EReal)
  (x2 x3 : Cert.ReferenceIdeal.S2x512x128x64.Idx → EReal) (x4 : Cert.ReferenceIdeal.S8192x768.Idx → EReal)

/-- The devices' inputs are blocks of the reference's, and the first three arrays hold reals. -/
structure Fits : Prop where
  x : ∀ s b r e, I.x s (ix3 b r e) = x0 (ix3 b r e)
  wq : ∀ (s : Fin 16) (e : Fin 768) (t : Fin 512), I.wq s (ix2 e t) = x1 (ix2 e (⟨512 * s.val + t.val, by omega⟩ : Fin 8192))
  kk : ∀ (s : Fin 16) (b : Fin 2) (j : Fin 512) (h : Fin 8) (k : Fin 64), I.kk s (ix4 b j h k) = x2 (ix4 b j (⟨8 * s.val + h.val, by omega⟩ : Fin 128) k)
  vv : ∀ (s : Fin 16) (b : Fin 2) (j : Fin 512) (h : Fin 8) (k : Fin 64), I.vv s (ix4 b j h k) = x3 (ix4 b j (⟨8 * s.val + h.val, by omega⟩ : Fin 128) k)
  wo : ∀ (s : Fin 16) (t : Fin 512) (d : Fin 768), I.wo s (ix2 t d) = x4 (ix2 (⟨512 * s.val + t.val, by omega⟩ : Fin 8192) d)
  fx : ∀ i, ∃ r : ℝ, x0 i = (r : EReal)
  fw : ∀ i, ∃ r : ℝ, x1 i = (r : EReal)
  fk : ∀ i, ∃ r : ℝ, x2 i = (r : EReal)

variable {I x0 x1 x2 x3 x4}

theorem Fits.score (H : Fits I x0 x1 x2 x3 x4) (s : Fin 16) (b : Fin 2) (h : Fin 8) (r j : Fin 512) :
    scE I s b h r j = rsE x0 x1 x2 b ⟨8 * s.val + h.val, by omega⟩ r j ∧ ∃ t : ℝ, rsE x0 x1 x2 b ⟨8 * s.val + h.val, by omega⟩ r j = (t : EReal) := by
  choose xr hx using H.fx
  choose wr hw using H.fw
  choose kr hk using H.fk
  have hq : ∀ n, rqE x0 x1 b r n = ((∑ e : Fin 768, xr (ix3 b r e) * wr (ix2 e n) : ℝ) : EReal) := fun n => by
    unfold rqE
    rw [← sum_coe]
    exact Finset.sum_congr rfl fun e _ => by rw [hx, hw, EReal.coe_mul]
  have hq' : ∀ t : Fin 512, qE I s b r t = ((∑ e : Fin 768, xr (ix3 b r e) * (wr (ix2 e (⟨512 * s.val + t.val, by omega⟩ : Fin 8192)) * (1 / 8)) : ℝ) : EReal) := fun t => by
    unfold qE
    rw [← sum_coe]
    exact Finset.sum_congr rfl fun e _ => by rw [H.x, H.wq, hx, hw, ofBits_eighth, EReal.coe_mul, EReal.coe_mul]
  have hs : (∑ k : Fin 64, rqE x0 x1 b r ⟨64 * (8 * s.val + h.val) + k.val, by omega⟩ * x2 (ix4 b j (⟨8 * s.val + h.val, by omega⟩ : Fin 128) k)) * Ideal.ofBits .f32 0x3E000000#32
      = (((∑ k : Fin 64, (∑ e : Fin 768, xr (ix3 b r e) * wr (ix2 e (⟨64 * (8 * s.val + h.val) + k.val, by omega⟩ : Fin 8192))) * kr (ix4 b j (⟨8 * s.val + h.val, by omega⟩ : Fin 128) k)) * (1 / 8) : ℝ) : EReal) := by
    rw [ofBits_eighth, EReal.coe_mul, ← sum_coe]
    refine congrArg (· * _) (Finset.sum_congr rfl fun k _ => ?_)
    rw [hq, hk, EReal.coe_mul]
  refine ⟨?_, ?_⟩
  · unfold scE rsE
    refine congrArg (fun z => Scalar.select _ z _) ?_
    refine Eq.trans ?_ hs.symm
    have e : ∀ k : Fin 64, (⟨512 * s.val + (64 * h.val + k.val), by omega⟩ : Fin 8192) = ⟨64 * (8 * s.val + h.val) + k.val, by omega⟩ := fun k => Fin.ext (by show 512 * s.val + (64 * h.val + k.val) = 64 * (8 * s.val + h.val) + k.val; omega)
    rw [Finset.sum_mul, ← sum_coe]
    refine Finset.sum_congr rfl fun k _ => ?_
    rw [hq', H.kk, hk, ← EReal.coe_mul]
    refine congrArg _ ?_
    simp only [e]
    rw [Finset.sum_mul, Finset.sum_mul, Finset.sum_mul]
    exact Finset.sum_congr rfl fun e _ => by ring
  · unfold rsE
    exact select_coe _ _ _ ⟨_, hs⟩ ofBits_low

theorem Fits.head (H : Fits I x0 x1 x2 x3 x4) (s : Fin 16) (b : Fin 2) (h : Fin 8) (r : Fin 512) (d : Fin 64) :
    hs I s b h (ix2 r d) = rcE x0 x1 x2 x3 b r ⟨8 * s.val + h.val, by omega⟩ d := by
  rw [hs_apply]
  choose t ht using fun j => (H.score s b h r j).2
  obtain ⟨M, hM⟩ := fold_max_coe (n := 512) (by decide) (fun j => rsE x0 x1 x2 b ⟨8 * s.val + h.val, by omega⟩ r j) (fun j => ⟨t j, ht j⟩)
  have hm : rmE x0 x1 x2 b ⟨8 * s.val + h.val, by omega⟩ r = (M : EReal) := hM
  unfold rcE rwE reE
  simp only [(H.score s b h r _).1, H.vv, ht, hm]
  exact soft (by decide) t _ M

theorem Fits.out (H : Fits I x0 x1 x2 x3 x4) (c : Fin 16) : outF I c = Cert.ReferenceIdeal.Read.val_main_v44 (F := Ideal) x0 x1 x2 x3 x4 := by
  funext i
  idx_vars i
  rw [out_apply, ref_apply, sum_heads]
  refine Finset.sum_congr rfl fun s _ => ?_
  unfold paE
  refine Finset.sum_congr rfl fun t _ => ?_
  rw [H.head, H.wo]
  refine congrArg (· * _) ?_
  congr 1
  · exact Fin.ext (by show 8 * s.val + t.val / 64 = (512 * s.val + t.val) / 64; omega)
  · exact Fin.ext (by show t.val % 64 = (512 * s.val + t.val) % 64; omega)

end Cert.Exchange

end
-- ==== Proof.KArr.lean ====
/-
# What the launch's memory gives the body, and what the result array ends with
-/
module

public import proofs.«01_k».proof.Proof.KVal
public import proofs.«01_k».proof.Proof.Launch
public import Idealize.ShloMosaic.Lib.Pipeline.ValueKit

@[expose] public section

set_option maxRecDepth 16384

noncomputable section

namespace Cert.Exchange

open Cert.KernelIdeal Cert.KernelIdeal.Gen
open Idealize.ShloMosaic
open Idealize.ShloMosaic.TcCoe

variable (m : (ℓ : Loc nD τ sig) → Buf (Elt Ideal) ℓ) (ρ : Dev nD → PrngReg)

theorem at_0 : ∀ a, win0_0.index pt a = 0 := by decide +kernel
theorem at_1 : ∀ a, win0_1.index pt a = 0 := by decide +kernel
theorem at_2 : ∀ a, win0_2.index pt a = 0 := by decide +kernel

theorem inp_x (c : Dev nD) (b : Fin 2) (r : Fin 512) (e : Fin 768) :
    (inp m).x c (ix3 b r e) = (m ((c.tc : Thread nD τ).loc main_arg0) : Vec Ideal S2x512x768 .f32) (ix3 b r e) := by
  show iblk m c 0 pt (ix3 b r e) = _
  blk_ext [iblk] <;> first | (rw [at_0]; omega) | (rw [at_1]; omega) | (rw [at_2]; omega)
theorem inp_k (c : Dev nD) (b : Fin 2) (j : Fin 512) (h : Fin 8) (k : Fin 64) :
    (inp m).kk c (ix4 b j h k) = (m ((c.tc : Thread nD τ).loc main_arg2) : Vec Ideal S2x512x8x64 .f32) (ix4 b j h k) := by
  show iblk m c 1 pt (ix4 b j h k) = _
  blk_ext [iblk] <;> first | (rw [at_0]; omega) | (rw [at_1]; omega) | (rw [at_2]; omega)
theorem inp_v (c : Dev nD) (b : Fin 2) (j : Fin 512) (h : Fin 8) (k : Fin 64) :
    (inp m).vv c (ix4 b j h k) = (m ((c.tc : Thread nD τ).loc main_arg3) : Vec Ideal S2x512x8x64 .f32) (ix4 b j h k) := by
  show iblk m c 2 pt (ix4 b j h k) = _
  blk_ext [iblk] <;> first | (rw [at_0]; omega) | (rw [at_1]; omega) | (rw [at_2]; omega)
theorem inp_wq (c : Dev nD) (e : Fin 768) (t : Fin 512) :
    (inp m).wq c (ix2 e t) = (m ((c.tc : Thread nD τ).loc main_arg1) : Vec Ideal S768x8192 .f32) (ix2 e (⟨512 * c.val + t.val, by have := c.isLt; have : nD = 16 := rfl; omega⟩ : Fin 8192)) := by
  show (wqB c).view.read (Elt Ideal) (m ((c.tc : Thread nD τ).loc main_arg1)) (ix2 e t) = _
  refine congrArg (m ((c.tc : Thread nD τ).loc main_arg1)) (funext fun a => Fin.ext ?_)
  match a with
  | ⟨0, _⟩ => show 0 + 1 * e.val = e.val; omega
  | ⟨1, _⟩ => show 512 * c.val + 1 * t.val = 512 * c.val + t.val; omega
theorem inp_wo (c : Dev nD) (t : Fin 512) (d : Fin 768) :
    (inp m).wo c (ix2 t d) = (m ((c.tc : Thread nD τ).loc main_arg4) : Vec Ideal S8192x768 .f32) (ix2 (⟨512 * c.val + t.val, by have := c.isLt; have : nD = 16 := rfl; omega⟩ : Fin 8192) d) := by
  show (woB c).view.read (Elt Ideal) (m ((c.tc : Thread nD τ).loc main_arg4)) (ix2 t d) = _
  refine congrArg (m ((c.tc : Thread nD τ).loc main_arg4)) (funext fun a => Fin.ext ?_)
  match a with
  | ⟨0, _⟩ => show 512 * c.val + 1 * t.val = 512 * c.val + t.val; omega
  | ⟨1, _⟩ => show 0 + 1 * d.val = d.val; omega

theorem final_out (c : Dev nD) : finalA m ρ c 3 = outF (inp m) c :=
  (dats m ρ 0 c).arrAt_eq_of_after_last 3 pt (by decide +kernel) _ fun j => by
    blk_simp
    rfl

end Cert.Exchange

end
-- ==== Proof.Algebraic.lean ====
/-
# The value claim: every device ends with the reference's result
-/
module

public import proofs.«01_k».proof.Defs
public import proofs.«01_k».proof.Proof.Equation
public import proofs.«01_k».proof.Proof.KArr
public import proofs.«01_k».proof.Proof.Frames
public import proofs.«01_k».proof.Proof.Gen.ReferenceIdeal.Run
public import Idealize.ShloMosaic.Lib.Layout

@[expose] public section

set_option maxRecDepth 16384

noncomputable section

namespace Cert.Exchange

open Idealize.ShloMosaic

theorem preFacts : Cert.Pre_finite_KernelIdeal.Facts := ⟨by decide, by decide, by decide⟩
theorem preFacts' : Cert.Pre_finite_ReferenceIdeal.Facts := ⟨by decide, by decide, by decide⟩

/-! ## What the precondition says -/

theorem ofBits_inf : Ideal.ofBits .f32 0x7F800000#32 = ⊤ := by
  simp [Ideal.ofBits, Ideal.ieee]

/-- A number whose magnitude is below infinity is a real. -/
theorem real_of_lt (x : EReal) (h : BitVec.ofBool (decide (max x (-x) < Ideal.ofBits .f32 0x7F800000#32)) = 1#1) : ∃ r : ℝ, x = (r : EReal) := by
  rw [ofBits_inf] at h
  have h' : max x (-x) < ⊤ := by
    by_contra hn
    rw [decide_eq_false hn] at h
    exact absurd h (by decide)
  induction x using EReal.rec with
  | bot => exact absurd h' (by simp)
  | coe r => exact ⟨r, rfl⟩
  | top => exact absurd h' (by simp)

section

variable (m : (ℓ : Loc Cert.KernelIdeal.nD Cert.KernelIdeal.τ Cert.KernelIdeal.sig) → Buf (Elt Ideal) ℓ)

abbrev kArg0 (c : Dev Cert.KernelIdeal.nD) : Cert.KernelIdeal.S2x512x768.Idx → EReal := m ((c.tc : Thread Cert.KernelIdeal.nD Cert.KernelIdeal.τ).loc Cert.KernelIdeal.main_arg0)
abbrev kArg1 (c : Dev Cert.KernelIdeal.nD) : Cert.KernelIdeal.S768x8192.Idx → EReal := m ((c.tc : Thread Cert.KernelIdeal.nD Cert.KernelIdeal.τ).loc Cert.KernelIdeal.main_arg1)
abbrev kArg2 (c : Dev Cert.KernelIdeal.nD) : Cert.KernelIdeal.S2x512x8x64.Idx → EReal := m ((c.tc : Thread Cert.KernelIdeal.nD Cert.KernelIdeal.τ).loc Cert.KernelIdeal.main_arg2)

theorem pre_real (h : Cert.Pre_KernelIdeal_finite_KernelIdeal (hPre_finite_KernelIdeal := preFacts) m) (c : Dev Cert.KernelIdeal.nD) :
    (∀ i, ∃ r : ℝ, kArg0 m c i = (r : EReal)) ∧ (∀ i, ∃ r : ℝ, kArg1 m c i = (r : EReal)) ∧ (∀ i, ∃ r : ℝ, kArg2 m c i = (r : EReal)) := by
  obtain ⟨h0, h1, h2⟩ := h c
  exact ⟨fun i => real_of_lt _ (congrFun h0 i), fun i => real_of_lt _ (congrFun h1 i), fun i => real_of_lt _ (congrFun h2 i)⟩

end

/-! ## The blocks of the keys and values -/

theorem block_at (v : Cert.ReferenceIdeal.S2x512x128x64.Idx → EReal) (s : Fin 16) (b : Fin 2) (j : Fin 512) (h : Fin 8) (k : Fin 64) :
    Layout.block ⟨4, ![2, 512, 8, 64]⟩ ⟨4, ![2, 512, 128, 64]⟩ 2 16 s v (by decide) (ix4 b j h k) = v (ix4 b j (⟨8 * s.val + h.val, by omega⟩ : Fin 128) k) := by
  rw [Layout.block_apply]
  refine congrArg v (funext fun a => Fin.ext ?_)
  match a with
  | ⟨0, _⟩ => rfl
  | ⟨1, _⟩ => rfl
  | ⟨2, _⟩ => show s.val * 8 + h.val = 8 * s.val + h.val; omega
  | ⟨3, _⟩ => rfl

/-! ## The claim -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev rArg0 : Cert.ReferenceIdeal.S2x512x768.Idx → EReal := m' (((0 : Dev Cert.ReferenceIdeal.nD).tc : Thread Cert.ReferenceIdeal.nD Cert.ReferenceIdeal.τ).loc Cert.ReferenceIdeal.main_arg0)
abbrev rArg1 : Cert.ReferenceIdeal.S768x8192.Idx → EReal := m' (((0 : Dev Cert.ReferenceIdeal.nD).tc : Thread Cert.ReferenceIdeal.nD Cert.ReferenceIdeal.τ).loc Cert.ReferenceIdeal.main_arg1)
abbrev rArg2 : Cert.ReferenceIdeal.S2x512x128x64.Idx → EReal := m' (((0 : Dev Cert.ReferenceIdeal.nD).tc : Thread Cert.ReferenceIdeal.nD Cert.ReferenceIdeal.τ).loc Cert.ReferenceIdeal.main_arg2)
abbrev rArg3 : Cert.ReferenceIdeal.S2x512x128x64.Idx → EReal := m' (((0 : Dev Cert.ReferenceIdeal.nD).tc : Thread Cert.ReferenceIdeal.nD Cert.ReferenceIdeal.τ).loc Cert.ReferenceIdeal.main_arg3)
abbrev rArg4 : Cert.ReferenceIdeal.S8192x768.Idx → EReal := m' (((0 : Dev Cert.ReferenceIdeal.nD).tc : Thread Cert.ReferenceIdeal.nD Cert.ReferenceIdeal.τ).loc Cert.ReferenceIdeal.main_arg4)

theorem fits (hp : Cert.Pre_KernelIdeal_finite_KernelIdeal (hPre_finite_KernelIdeal := preFacts) m)
    (h0 : ∀ c : Dev Cert.KernelIdeal.nD, m ((c.tc : Thread Cert.KernelIdeal.nD Cert.KernelIdeal.τ).loc Cert.KernelIdeal.main_arg0) = rArg0 m')
    (h1 : ∀ c : Dev Cert.KernelIdeal.nD, m ((c.tc : Thread Cert.KernelIdeal.nD Cert.KernelIdeal.τ).loc Cert.KernelIdeal.main_arg1) = rArg1 m')
    (h2 : ∀ c : Dev Cert.KernelIdeal.nD, m ((c.tc : Thread Cert.KernelIdeal.nD Cert.KernelIdeal.τ).loc Cert.KernelIdeal.main_arg2) = Layout.block ⟨4, ![2, 512, 8, 64]⟩ ⟨4, ![2, 512, 128, 64]⟩ 2 16 c (rArg2 m') (by decide))
    (h3 : ∀ c : Dev Cert.KernelIdeal.nD, m ((c.tc : Thread Cert.KernelIdeal.nD Cert.KernelIdeal.τ).loc Cert.KernelIdeal.main_arg3) = Layout.block ⟨4, ![2, 512, 8, 64]⟩ ⟨4, ![2, 512, 128, 64]⟩ 2 16 c (rArg3 m') (by decide))
    (h4 : ∀ c : Dev Cert.KernelIdeal.nD, m ((c.tc : Thread Cert.KernelIdeal.nD Cert.KernelIdeal.τ).loc Cert.KernelIdeal.main_arg4) = rArg4 m') :
    Fits (inp m) (rArg0 m') (rArg1 m') (rArg2 m') (rArg3 m') (rArg4 m') where
  x s b r e := (inp_x m s b r e).trans (congrFun (h0 s) _)
  wq s e t := (inp_wq m s e t).trans (congrFun (h1 s) _)
  kk s b j h k := ((inp_k m s b j h k).trans (congrFun (h2 s) _)).trans (block_at _ s b j h k)
  vv s b j h k := ((inp_v m s b j h k).trans (congrFun (h3 s) _)).trans (block_at _ s b j h k)
  wo s t d := (inp_wo m s t d).trans (congrFun (h4 s) _)
  fx i := by
    rw [← h0 0]; exact (pre_real m hp 0).1 i
  fw i := by
    rw [← h1 0]; exact (pre_real m hp 0).2.1 i
  fk i := by
    idx_vars i
    obtain ⟨r, hr⟩ := (pre_real m hp (⟨i2.val / 8, by omega⟩ : Fin 16)).2.2 (ix4 i0 i1 (⟨i2.val % 8, by omega⟩ : Fin 8) i3)
    refine ⟨r, Eq.trans ?_ hr⟩
    refine Eq.trans ?_ ((congrFun (h2 (⟨i2.val / 8, by omega⟩ : Fin 16)) _).trans (block_at _ _ _ _ _ _)).symm
    exact congrArg (fun H => rArg2 m' (ix4 i0 i1 H i3)) (Fin.ext (by show i2.val = 8 * (i2.val / 8) + i2.val % 8; omega))

/-- A final state of the kernel's run has the result at every device. -/
theorem out_post (ρ : Dev Cert.KernelIdeal.nD → PrngReg) {r : _ × MemSt Cert.KernelIdeal.nD Cert.KernelIdeal.τ Cert.KernelIdeal.sig (Elt Ideal)} (h : QC m ρ r)
    (c : Dev Cert.KernelIdeal.nD) : r.2.mem ((c.tc : Thread Cert.KernelIdeal.nD Cert.KernelIdeal.τ).loc Cert.KernelIdeal.main_v1) = outF (inp m) c :=
  ((h c).1 3).trans (final_out m ρ c)

theorem algebraic : Cert.algebraic_KernelIdeal_ReferenceIdeal_pre_finite_KernelIdeal (hPre_finite_KernelIdeal := preFacts) := by
  intro m g m' g' hp ha
  have hf := fits m m' hp (fun c => (ha c).1) (fun c => (ha c).2.1) (fun c => (ha c).2.2.1) (fun c => (ha c).2.2.2.1) (fun c => (ha c).2.2.2.2)
  refine ⟨Cert.ReferenceIdeal.Value.res_main_v44 m' 0, ?_, ?_⟩
  · refine (θ_run Cert.KernelIdeal.defs _ _).mono (fun r h c => ⟨?_, frame_post m g h.1 c⟩) (run_main (F := Ideal) m g)
    refine (out_post m g h.1 c).trans ((hf.out c).trans ?_)
    exact (Cert.ReferenceIdeal.Read.val_main_v44_eq (F := Ideal) m' 0).symm
  · exact (θ_run Cert.ReferenceIdeal.defs _ _).mono (fun r h => h 0) (Cert.ReferenceIdeal.Value.run (F := Ideal) m' g')

end Cert.Exchange

end
-- ==== Proof.lean ====
/-
# The certificate

The programs' frames come from `Proof/Frames.lean`, which reads them off the kernel's run (`Proof/Launch.lean`);
the value claim from `Proof/Algebraic.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Cert.Exchange

theorem claim : Cert.Claim :=
  ⟨Cert.Kernel.Gen.facts, Cert.KernelIdeal.Gen.facts, Cert.ReferenceIdeal.Gen.facts, preFacts, preFacts',
    frame_kernel, frame_kernelIdeal, fun m ρ _ => frame_any m ρ, frame_referenceIdeal, fun m ρ _ => frame_referenceIdeal m ρ trivial, trivial, algebraic⟩

end Cert.Proof

end
